-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gates [hPre_finite_gates : Cert.Pre_finite_gates.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).1 = (fun _ => 1#1)
    ∧ (Cert.Pre_finite_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gates [hPre_finite_gates : Cert.Pre_finite_gates.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).1 = (fun _ => 1#1)
    ∧ (Cert.Pre_finite_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite_gates [hKernel2Ideal : Cert.Kernel2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gates m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite_gates [hReference2Ideal : Cert.Reference2Ideal.Facts] [hPre_finite_gates : Cert.Pre_finite_gates.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gates m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v31_6) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_gates [hKernel2Ideal : Cert.Kernel2Ideal.Facts] [hReference2Ideal : Cert.Reference2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gates m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v4) = v3 c
          ∧ r.2.mem ((c.tc : Thread Cert.Reference2Ideal.nD Cert.Reference2Ideal.τ).loc Cert.Reference2Ideal.main_v10) = v4 c
          ∧ r.2.mem ((c.tc : Thread Cert.Reference2Ideal.nD Cert.Reference2Ideal.τ).loc Cert.Reference2Ideal.main_v6) = v5 c
          ∧ r.2.mem ((c.tc : Thread Cert.Reference2Ideal.nD Cert.Reference2Ideal.τ).loc Cert.Reference2Ideal.main_v7) = v6 c
          ∧ r.2.mem ((c.tc : Thread Cert.Reference2Ideal.nD Cert.Reference2Ideal.τ).loc Cert.Reference2Ideal.main_v18) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v30)) (v1 : (c : Dev Cert.Kernel4Ideal.nD) → Buf (Elt Ideal) ((c.tc : Thread Cert.Kernel4Ideal.nD Cert.Kernel4Ideal.τ).loc Cert.Kernel4Ideal.main_v32)) (v2 : (c : Dev Cert.Kernel4Ideal.nD) → Buf (Elt Ideal) ((c.tc : Thread Cert.Kernel4Ideal.nD Cert.Kernel4Ideal.τ).loc Cert.Kernel4Ideal.main_v22_0)) (v3 : (c : Dev Cert.Kernel4Ideal.nD) → Buf (Elt Ideal) ((c.tc : Thread Cert.Kernel4Ideal.nD Cert.Kernel4Ideal.τ).loc Cert.Kernel4Ideal.main_v22_3)) (v4 : (c : Dev Cert.Kernel4Ideal.nD) → Buf (Elt Ideal) ((c.tc : Thread Cert.Kernel4Ideal.nD Cert.Kernel4Ideal.τ).loc Cert.Kernel4Ideal.main_v22_4)) (v5 : (c : Dev Cert.Kernel4Ideal.nD) → Buf (Elt Ideal) ((c.tc : Thread Cert.Kernel4Ideal.nD Cert.Kernel4Ideal.τ).loc Cert.Kernel4Ideal.main_v22_5)) (v6 : (c : Dev Cert.Kernel4Ideal.nD) → Buf (Elt Ideal) ((c.tc : Thread Cert.Kernel4Ideal.nD Cert.Kernel4Ideal.τ).loc Cert.Kernel4Ideal.main_v22_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_v32) = v1 c
          ∧ r.2.mem ((c.tc : Thread Cert.Kernel4Ideal.nD Cert.Kernel4Ideal.τ).loc Cert.Kernel4Ideal.main_v22_0) = v2 c
          ∧ r.2.mem ((c.tc : Thread Cert.Kernel4Ideal.nD Cert.Kernel4Ideal.τ).loc Cert.Kernel4Ideal.main_v22_3) = v3 c
          ∧ r.2.mem ((c.tc : Thread Cert.Kernel4Ideal.nD Cert.Kernel4Ideal.τ).loc Cert.Kernel4Ideal.main_v22_4) = v4 c
          ∧ r.2.mem ((c.tc : Thread Cert.Kernel4Ideal.nD Cert.Kernel4Ideal.τ).loc Cert.Kernel4Ideal.main_v22_5) = v5 c
          ∧ r.2.mem ((c.tc : Thread Cert.Kernel4Ideal.nD Cert.Kernel4Ideal.τ).loc Cert.Kernel4Ideal.main_v22_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_v15) = v5 c
          ∧ r.2.mem ((c.tc : Thread Cert.Reference4Ideal.nD Cert.Reference4Ideal.τ).loc Cert.Reference4Ideal.main_v18) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v10)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v125) = v0 c
          ∧ r.2.mem ((c.tc : Thread Cert.Reference5Ideal.nD Cert.Reference5Ideal.τ).loc Cert.Reference5Ideal.main_v87) = v1 c
          ∧ r.2.mem ((c.tc : Thread Cert.Reference5Ideal.nD Cert.Reference5Ideal.τ).loc Cert.Reference5Ideal.main_v126) = v2 c
          ∧ r.2.mem ((c.tc : Thread Cert.Reference5Ideal.nD Cert.Reference5Ideal.τ).loc Cert.Reference5Ideal.main_v128) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_gates : Cert.Pre_finite_gates.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_gates (hKernel2Ideal := hKernel2Ideal) (hPre_finite_gates := hPre_finite_gates)
    ∧ quiescent_Reference2Ideal (hReference2Ideal := hReference2Ideal)
    ∧ quiescent_Reference2Ideal_pre_finite_gates (hReference2Ideal := hReference2Ideal) (hPre_finite_gates := hPre_finite_gates)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_gates (hKernel2Ideal := hKernel2Ideal) (hReference2Ideal := hReference2Ideal) (hPre_finite_gates := hPre_finite_gates)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_gates.lean ====
abbrev S16384x1024 : Shape := ⟨2, ![16384, 1024]⟩
abbrev S1024x2824 : Shape := ⟨2, ![1024, 2824]⟩
abbrev S_ : Shape := ⟨0, ![]⟩
abbrev S1024x8 : Shape := ⟨2, ![1024, 8]⟩

class Facts : Prop where
  bcast_S_S16384x1024 : S_.BroadcastsInDim S16384x1024 (![] : Fin 0 → Fin S16384x1024.rank)
  slices_S1024x2824_S1024x8_0_2816 : S1024x2824.Slices ![0, 2816] S1024x8
  bcast_S_S1024x8 : S_.BroadcastsInDim S1024x8 (![] : Fin 0 → Fin S1024x8.rank)

variable [Facts]

def fn {F : FTy → Type} [FloatOps F] (main_arg0 : FVec F S16384x1024 .f32) (main_arg1 : FVec F S1024x2824 .f32) : IVec S16384x1024 1 × IVec S1024x8 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x8 .f32 := (extractStridedSlice S1024x8 ![0, 2816] · slices_S1024x2824_S1024x8_0_2816) main_arg1
  let main_v4 : FVec F S1024x8 .f32 := Host.absf main_v3
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  (main_v2, main_v6)
-- ==== Kernel.lean ====
abbrev S16384x512 : Shape := ⟨2, ![16384, 512]⟩
abbrev S16384x128 : Shape := ⟨2, ![16384, 128]⟩
abbrev S1x8 : Shape := ⟨2, ![1, 8]⟩
abbrev S1x4x128 : Shape := ⟨3, ![1, 4, 128]⟩
abbrev S8 : Shape := ⟨1, ![8]⟩
abbrev S_ : Shape := ⟨0, ![]⟩
abbrev S128 : Shape := ⟨1, ![128]⟩
abbrev S1x128 : Shape := ⟨2, ![1, 128]⟩
abbrev S4x128 : Shape := ⟨2, ![4, 128]⟩
abbrev S1x512 : Shape := ⟨2, ![1, 512]⟩
abbrev S1x4x128x128 : Shape := ⟨4, ![1, 4, 128, 128]⟩
abbrev S1x4x1x128 : Shape := ⟨4, ![1, 4, 1, 128]⟩
abbrev S128x512 : Shape := ⟨2, ![128, 512]⟩
abbrev S128x128 : Shape := ⟨2, ![128, 128]⟩
abbrev S1x128x128 : Shape := ⟨3, ![1, 128, 128]⟩
abbrev S1x1x128 : Shape := ⟨3, ![1, 1, 128]⟩
abbrev S1x128x1 : Shape := ⟨3, ![1, 128, 1]⟩
abbrev S4x128x1 : Shape := ⟨3, ![4, 128, 1]⟩
abbrev S1x128x512 : Shape := ⟨3, ![1, 128, 512]⟩
abbrev S4x128x128 : Shape := ⟨3, ![4, 128, 128]⟩
abbrev S4x1x128 : Shape := ⟨3, ![4, 1, 128]⟩
abbrev S1x1x128x128 : Shape := ⟨4, ![1, 1, 128, 128]⟩
abbrev S1x1x1x128 : Shape := ⟨4, ![1, 1, 1, 128]⟩
abbrev S4x1x1 : Shape := ⟨3, ![4, 1, 1]⟩

abbrev nBuf : Space → Nat
  | .hbm => 22
  | .vmem => 23
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x128, .f32⟩
  | .hbm, ⟨5, _⟩ => ⟨S1x8, .f32⟩
  | .hbm, ⟨6, _⟩ => ⟨S1x4x128, .f32⟩
  | .hbm, ⟨7, _⟩ => ⟨S8, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S4x128, .f32⟩
  | .hbm, ⟨13, _⟩ => ⟨S1x512, .f32⟩
  | .hbm, ⟨14, _⟩ => ⟨S_, .f32⟩
  | .hbm, ⟨15, _⟩ => ⟨S1x4x128x128, .f32⟩
  | .hbm, ⟨16, _⟩ => ⟨S_, .f32⟩
  | .hbm, ⟨17, _⟩ => ⟨S1x4x1x128, .f32⟩
  | .hbm, ⟨18, _⟩ => ⟨S16384x512, .f32⟩
  | .hbm, ⟨19, _⟩ => ⟨S1x4x128x128, .f32⟩
  | .hbm, ⟨20, _⟩ => ⟨S1x4x1x128, .f32⟩
  | .hbm, ⟨21, _⟩ => ⟨S1x4x1x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x512, .f32⟩
  | .local _ .vmem, ⟨12, _⟩ => ⟨S1x4x128x128, .f32⟩
  | .local _ .vmem, ⟨13, _⟩ => ⟨S1x4x1x128, .f32⟩
  | .local _ .vmem, ⟨14, _⟩ => ⟨S1x4x1x128, .f32⟩
  | .local _ .vmem, ⟨15, _⟩ => ⟨S128x512, .f32⟩
  | .local _ .vmem, ⟨16, _⟩ => ⟨S128x512, .f32⟩
  | .local _ .vmem, ⟨17, _⟩ => ⟨S1x4x128x128, .f32⟩
  | .local _ .vmem, ⟨18, _⟩ => ⟨S1x4x1x128, .f32⟩
  | .local _ .vmem, ⟨19, _⟩ => ⟨S1x4x1x128, .f32⟩
  | .local _ .vmem, ⟨20, _⟩ => ⟨S1x4x128x128, .f32⟩
  | .local _ .vmem, ⟨21, _⟩ => ⟨S1x4x1x128, .f32⟩
  | .local _ .vmem, ⟨22, _⟩ => ⟨S1x4x1x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32 : BitVec 32 := 127#32
  let v318 : BitVec 1 := Scalar.cmpi .eq arg1 c127_i32
  let v319 : BitVec 32 := Scalar.extui v318
  let c0_i32_158 : BitVec 32 := 0#32
  let v320 : BitVec 1 := Scalar.cmpi .ne v319 c0_i32_158
  v320

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x4x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x4x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== ReferenceIdeal.lean ====
abbrev S16384x512 : Shape := ⟨2, ![16384, 512]⟩
abbrev S16384x128 : Shape := ⟨2, ![16384, 128]⟩
abbrev S1x8 : Shape := ⟨2, ![1, 8]⟩
abbrev S1x4x128 : Shape := ⟨3, ![1, 4, 128]⟩
abbrev S1x16384x128 : Shape := ⟨3, ![1, 16384, 128]⟩
abbrev S1x16384x4 : Shape := ⟨3, ![1, 16384, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩
abbrev S1x4x128x128 : Shape := ⟨4, ![1, 4, 128, 128]⟩
abbrev S1x16384x4x128 : Shape := ⟨4, ![1, 16384, 4, 128]⟩
abbrev S1x128x128x4x128 : Shape := ⟨5, ![1, 128, 128, 4, 128]⟩
abbrev S128x1x128x4x128 : Shape := ⟨5, ![128, 1, 128, 4, 128]⟩
abbrev S1x128x128x4 : Shape := ⟨4, ![1, 128, 128, 4]⟩
abbrev S128x1x128x4 : Shape := ⟨4, ![128, 1, 128, 4]⟩
abbrev S1x1x128x4x128 : Shape := ⟨5, ![1, 1, 128, 4, 128]⟩
abbrev S1x128x4x128 : Shape := ⟨4, ![1, 128, 4, 128]⟩
abbrev S1x1x128x4 : Shape := ⟨4, ![1, 1, 128, 4]⟩
abbrev S1x128x4 : Shape := ⟨3, ![1, 128, 4]⟩
abbrev S128x128 : Shape := ⟨2, ![128, 128]⟩
abbrev S1x4x128x1 : Shape := ⟨4, ![1, 4, 128, 1]⟩
abbrev S1x4x1x128 : Shape := ⟨4, ![1, 4, 1, 128]⟩
abbrev S1x4x1 : Shape := ⟨3, ![1, 4, 1]⟩
abbrev S1x4x1x1 : Shape := ⟨4, ![1, 4, 1, 1]⟩
abbrev S1x128x4x1 : Shape := ⟨4, ![1, 128, 4, 1]⟩
abbrev S4x128 : Shape := ⟨2, ![4, 128]⟩
abbrev S1x16384x4x1 : Shape := ⟨4, ![1, 16384, 4, 1]⟩
abbrev S1x1x4x128 : Shape := ⟨4, ![1, 1, 4, 128]⟩
abbrev S1x16384x512 : Shape := ⟨3, ![1, 16384, 512]⟩

abbrev nBuf : Space → Nat
  | .hbm => 240
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S16384x128, .f32⟩
  | 5 => ⟨S1x8, .f32⟩
  | 6 => ⟨S1x4x128, .f32⟩
  | 7 => ⟨S1x16384x128, .f32⟩
  | 8 => ⟨S1x16384x4, .f32⟩
  | 9 => ⟨S1x4, .f32⟩
  | 10 => ⟨S4, .f32⟩
  | 11 => ⟨S1x1x4, .f32⟩
  | 12 => ⟨S1x16384x4, .f32⟩
  | 13 => ⟨S1x16384x4, .f32⟩
  | 14 => ⟨S1x16384x4, .f32⟩
  | 15 => ⟨S1x4, .f32⟩
  | 16 => ⟨S4, .f32⟩
  | 17 => ⟨S1x1x4, .f32⟩
  | 18 => ⟨S1x16384x4, .f32⟩
  | 19 => ⟨S1x16384x4, .f32⟩
  | 20 => ⟨S1x16384x4, .f32⟩
  | 21 => ⟨S_, .f32⟩
  | 22 => ⟨S1x16384x4, .f32⟩
  | 23 => ⟨S1x16384x4, .f32⟩
  | 24 => ⟨S1x16384x4, .f32⟩
  | 25 => ⟨S1x16384x4, .f32⟩
  | 26 => ⟨S1x16384x4, .i1⟩
  | 27 => ⟨S1x16384x4, .f32⟩
  | 28 => ⟨S1x16384x4, .f32⟩
  | 29 => ⟨S1x16384x4, .f32⟩
  | 30 => ⟨S1x16384x4, .f32⟩
  | 31 => ⟨S1x16384x4, .f32⟩
  | 32 => ⟨S1x16384x4, .f32⟩
  | 33 => ⟨S1x16384x4, .f32⟩
  | 34 => ⟨S1x16384x4, .f32⟩
  | 35 => ⟨S1x16384x4, .f32⟩
  | 36 => ⟨S_, .f32⟩
  | 37 => ⟨S1x4x128x128, .f32⟩
  | 38 => ⟨S_, .f32⟩
  | 39 => ⟨S1x4x128, .f32⟩
  | 40 => ⟨S_, .f32⟩
  | 41 => ⟨S1x4, .f32⟩
  | 42 => ⟨S1x16384x4x128, .f32⟩
  | 43 => ⟨S1x16384x4x128, .f32⟩
  | 44 => ⟨S1x16384x4x128, .f32⟩
  | 45 => ⟨S1x128x128x4x128, .f32⟩
  | 46 => ⟨S128x1x128x4x128, .f32⟩
  | 47 => ⟨S1x128x128x4x128, .f32⟩
  | 48 => ⟨S128x1x128x4x128, .f32⟩
  | 49 => ⟨S1x128x128x4x128, .f32⟩
  | 50 => ⟨S128x1x128x4x128, .f32⟩
  | 51 => ⟨S1x128x128x4, .f32⟩
  | 52 => ⟨S128x1x128x4, .f32⟩
  | 53 => ⟨S1x128x128x4, .f32⟩
  | 54 => ⟨S128x1x128x4, .f32⟩
  | 55 => ⟨S_, .f32⟩
  | 56 => ⟨S128x1x128x4x128, .f32⟩
  | 57 => ⟨S_, .i32⟩
  | 58 => ⟨S128x1x128x4x128, .f32⟩
  | 59 => ⟨S128x1x128x4x128, .f32⟩
  | 60 => ⟨S128x1x128x4x128, .f32⟩
  | 61 => ⟨S128x1x128x4, .f32⟩
  | 62 => ⟨S128x1x128x4, .f32⟩
  | 63 => ⟨S_, .i32⟩
  | 64 => ⟨S1x4x128x128, .f32⟩
  | 65 => ⟨S1x4x128, .f32⟩
  | 66 => ⟨S1x4, .f32⟩
  | 67 => ⟨S128x1x128x4x128, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S1x1x128x4x128, .f32⟩
  | 75 => ⟨S1x128x4x128, .f32⟩
  | 76 => ⟨S_, .i32⟩
  | 77 => ⟨S_, .i32⟩
  | 78 => ⟨S_, .i32⟩
  | 79 => ⟨S_, .i32⟩
  | 80 => ⟨S1x1x128x4x128, .f32⟩
  | 81 => ⟨S1x128x4x128, .f32⟩
  | 82 => ⟨S_, .i32⟩
  | 83 => ⟨S_, .i32⟩
  | 84 => ⟨S_, .i32⟩
  | 85 => ⟨S_, .i32⟩
  | 86 => ⟨S1x1x128x4x128, .f32⟩
  | 87 => ⟨S1x128x4x128, .f32⟩
  | 88 => ⟨S_, .i32⟩
  | 89 => ⟨S_, .i32⟩
  | 90 => ⟨S_, .i32⟩
  | 91 => ⟨S1x1x128x4, .f32⟩
  | 92 => ⟨S1x128x4, .f32⟩
  | 93 => ⟨S_, .i32⟩
  | 94 => ⟨S_, .i32⟩
  | 95 => ⟨S_, .i32⟩
  | 96 => ⟨S1x1x128x4, .f32⟩
  | 97 => ⟨S1x128x4, .f32⟩
  | 98 => ⟨S_, .f32⟩
  | 99 => ⟨S_, .f32⟩
  | 100 => ⟨S1x128x4, .f32⟩
  | 101 => ⟨S1x4x128, .f32⟩
  | 102 => ⟨S1x4x128, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S1x4x128x1, .f32⟩
  | 115 => ⟨S1x4x1x128, .f32⟩
  | 116 => ⟨S1x4x128x128, .f32⟩
  | 117 => ⟨S1x4x128x128, .f32⟩
  | 118 => ⟨S1x4x128x128, .f32⟩
  | 119 => ⟨S1x4x1x128, .f32⟩
  | 120 => ⟨S1x4x128x128, .f32⟩
  | 121 => ⟨S1x4x128x128, .f32⟩
  | 122 => ⟨S_, .f32⟩
  | 123 => ⟨S_, .f32⟩
  | 124 => ⟨S1x4x128x128, .i1⟩
  | 125 => ⟨S1x4x128x128, .f32⟩
  | 126 => ⟨S1x4x128x128, .f32⟩
  | 127 => ⟨S1x4x1, .f32⟩
  | _ => ⟨S16384x512, .f32⟩

abbrev hbmTy0_1 (i : Nat) : BufTy := match i % 128 with
  | 0 => ⟨S1x4x128, .f32⟩
  | 1 => ⟨S1x4x128, .f32⟩
  | 2 => ⟨S_, .f32⟩
  | 3 => ⟨S1x4x128, .f32⟩
  | 4 => ⟨S1x4x128, .f32⟩
  | 5 => ⟨S1x4x128, .f32⟩
  | 6 => ⟨S1x4x128, .f32⟩
  | 7 => ⟨S1x4x128x1, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x1, .f32⟩
  | 15 => ⟨S1x4x128x128, .f32⟩
  | 16 => ⟨S1x4x128x128, .f32⟩
  | 17 => ⟨S1x4x128x128, .f32⟩
  | 18 => ⟨S1x4x128x128, .f32⟩
  | 19 => ⟨S_, .f32⟩
  | 20 => ⟨S1x4x128, .f32⟩
  | 21 => ⟨S1x4x128, .f32⟩
  | 22 => ⟨S1x4x128, .f32⟩
  | 23 => ⟨S1x4x128, .f32⟩
  | 24 => ⟨S1x4x128, .f32⟩
  | 25 => ⟨S1x4x128, .f32⟩
  | 26 => ⟨S1x4x128, .f32⟩
  | 27 => ⟨S1x4x128, .f32⟩
  | 28 => ⟨S1x4x128x1, .f32⟩
  | 29 => ⟨S1x4x128x128, .f32⟩
  | 30 => ⟨S1x4x128x128, .f32⟩
  | 31 => ⟨S1x4x1, .f32⟩
  | 32 => ⟨S1x4, .f32⟩
  | 33 => ⟨S1x4x1, .f32⟩
  | 34 => ⟨S1x4, .f32⟩
  | 35 => ⟨S1x4, .f32⟩
  | 36 => ⟨S1x4, .f32⟩
  | 37 => ⟨S1x4x1, .f32⟩
  | 38 => ⟨S1x4x128, .f32⟩
  | 39 => ⟨S1x4x128, .f32⟩
  | 40 => ⟨S1x4x128, .f32⟩
  | 41 => ⟨S1x4x1, .f32⟩
  | 42 => ⟨S1x4x128, .f32⟩
  | 43 => ⟨S1x4x128, .f32⟩
  | 44 => ⟨S1x4x128, .f32⟩
  | 45 => ⟨S1x4x1x1, .f32⟩
  | 46 => ⟨S1x4x128x128, .f32⟩
  | 47 => ⟨S1x4x128x128, .f32⟩
  | 48 => ⟨S1x128x4, .f32⟩
  | 49 => ⟨S1x128x4x1, .f32⟩
  | 50 => ⟨S1x128x4x128, .f32⟩
  | 51 => ⟨S1x128x4x128, .f32⟩
  | 52 => ⟨S1x4x128x128, .f32⟩
  | 53 => ⟨S1x4x128x128, .f32⟩
  | 54 => ⟨S1x4x1, .f32⟩
  | 55 => ⟨S1x4x128, .f32⟩
  | 56 => ⟨S1x4x128, .f32⟩
  | 57 => ⟨S1x4x128, .f32⟩
  | 58 => ⟨S1x4x128, .f32⟩
  | 59 => ⟨S1x128x4x128, .f32⟩
  | 60 => ⟨S1x1x128x4x128, .f32⟩
  | 61 => ⟨S_, .i32⟩
  | 62 => ⟨S_, .i32⟩
  | 63 => ⟨S_, .i32⟩
  | 64 => ⟨S_, .i32⟩
  | 65 => ⟨S128x1x128x4x128, .f32⟩
  | 66 => ⟨S_, .i32⟩
  | 67 => ⟨S_, .i32⟩
  | 68 => ⟨S1x128x128x4x128, .f32⟩
  | 69 => ⟨S1x16384x4x128, .f32⟩
  | 70 => ⟨S1x16384x4x128, .f32⟩
  | 71 => ⟨S4x128, .f32⟩
  | 72 => ⟨S_, .f32⟩
  | 73 => ⟨S1x16384x4, .f32⟩
  | 74 => ⟨S1x16384x4x1, .f32⟩
  | 75 => ⟨S_, .f32⟩
  | 76 => ⟨S1x16384x4x1, .f32⟩
  | 77 => ⟨S1x16384x4x1, .f32⟩
  | 78 => ⟨S1x16384x4x128, .f32⟩
  | 79 => ⟨S1x16384x4x128, .f32⟩
  | 80 => ⟨S1x16384x4x128, .f32⟩
  | 81 => ⟨S_, .f32⟩
  | 82 => ⟨S1x16384x4, .f32⟩
  | 83 => ⟨S1x16384x4x1, .f32⟩
  | 84 => ⟨S_, .f32⟩
  | 85 => ⟨S1x16384x4x1, .f32⟩
  | 86 => ⟨S1x16384x4x1, .f32⟩
  | 87 => ⟨S1x16384x4x128, .f32⟩
  | 88 => ⟨S1x16384x4x128, .f32⟩
  | 89 => ⟨S_, .f32⟩
  | 90 => ⟨S1x16384x4x1, .f32⟩
  | 91 => ⟨S1x16384x4x1, .f32⟩
  | 92 => ⟨S1x16384x4x1, .f32⟩
  | 93 => ⟨S1x16384x4x128, .f32⟩
  | 94 => ⟨S1x16384x4x128, .f32⟩
  | 95 => ⟨S1x1x4x128, .f32⟩
  | 96 => ⟨S1x16384x4x128, .f32⟩
  | 97 => ⟨S1x16384x4x128, .f32⟩
  | 98 => ⟨S1x16384x4x128, .f32⟩
  | 99 => ⟨S1x16384x4x128, .f32⟩
  | 100 => ⟨S_, .f32⟩
  | 101 => ⟨S1x16384x4x128, .f32⟩
  | 102 => ⟨S1x16384x4x128, .f32⟩
  | 103 => ⟨S_, .f32⟩
  | 104 => ⟨S1x16384x4x128, .f32⟩
  | 105 => ⟨S1x16384x4x128, .f32⟩
  | 106 => ⟨S1x16384x4x128, .f32⟩
  | 107 => ⟨S1x16384x512, .f32⟩
  | 108 => ⟨S16384x512, .f32⟩
  | 109 => ⟨S1x4x1x1, .f32⟩
  | 110 => ⟨S1x4x1x128, .f32⟩
  | 111 => ⟨S1x4x1x128, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_c : Ref sig .tc := ⟨.hbm, 57, rfl⟩
abbrev main_v31_0 : Ref sig .tc := ⟨.hbm, 58, rfl⟩
abbrev main_v31_1 : Ref sig .tc := ⟨.hbm, 59, rfl⟩
abbrev main_v31_2 : Ref sig .tc := ⟨.hbm, 60, rfl⟩
abbrev main_v31_3 : Ref sig .tc := ⟨.hbm, 61, rfl⟩
abbrev main_v31_4 : Ref sig .tc := ⟨.hbm, 62, rfl⟩
abbrev main_v31_5 : Ref sig .tc := ⟨.hbm, 63, rfl⟩
abbrev main_v31_6 : Ref sig .tc := ⟨.hbm, 64, rfl⟩
abbrev main_v31_7 : Ref sig .tc := ⟨.hbm, 65, rfl⟩
abbrev main_v31_8 : Ref sig .tc := ⟨.hbm, 66, rfl⟩
abbrev main_v31_9 : Ref sig .tc := ⟨.hbm, 67, rfl⟩
abbrev main_while0c_c_19 : Ref sig .tc := ⟨.hbm, 68, rfl⟩
abbrev main_while0c_v69 : Ref sig .tc := ⟨.hbm, 69, rfl⟩
abbrev main_while0b_call1_c : Ref sig .tc := ⟨.hbm, 70, rfl⟩
abbrev main_while0b_call1_c_0 : Ref sig .tc := ⟨.hbm, 71, rfl⟩
abbrev main_while0b_call1_c_1 : Ref sig .tc := ⟨.hbm, 72, rfl⟩
abbrev main_while0b_call1_c_2 : Ref sig .tc := ⟨.hbm, 73, rfl⟩
abbrev main_while0b_call1_v0 : Ref sig .tc := ⟨.hbm, 74, rfl⟩
abbrev main_while0b_v69 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v0 : Ref sig .tc := ⟨.hbm, 80, rfl⟩
abbrev main_while0b_v70 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_call3_v0 : Ref sig .tc := ⟨.hbm, 86, rfl⟩
abbrev main_while0b_v71 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_call4_v0 : Ref sig .tc := ⟨.hbm, 91, rfl⟩
abbrev main_while0b_v72 : Ref sig .tc := ⟨.hbm, 92, rfl⟩
abbrev main_while0b_call5_c : Ref sig .tc := ⟨.hbm, 93, rfl⟩
abbrev main_while0b_call5_c_0 : Ref sig .tc := ⟨.hbm, 94, rfl⟩
abbrev main_while0b_call5_c_1 : Ref sig .tc := ⟨.hbm, 95, rfl⟩
abbrev main_while0b_call5_v0 : Ref sig .tc := ⟨.hbm, 96, rfl⟩
abbrev main_while0b_v73 : Ref sig .tc := ⟨.hbm, 97, rfl⟩
abbrev main_while0b_call6_call0_cst : Ref sig .tc := ⟨.hbm, 98, rfl⟩
abbrev main_while0b_call6_call0_v0 : Ref sig .tc := ⟨.hbm, 99, rfl⟩
abbrev main_while0b_v74 : Ref sig .tc := ⟨.hbm, 100, rfl⟩
abbrev main_while0b_v75 : Ref sig .tc := ⟨.hbm, 101, rfl⟩
abbrev main_while0b_v76 : Ref sig .tc := ⟨.hbm, 102, rfl⟩
abbrev main_while0b_c_19 : Ref sig .tc := ⟨.hbm, 103, rfl⟩
abbrev main_while0b_v77 : Ref sig .tc := ⟨.hbm, 104, rfl⟩
abbrev main_while0b_call7_v0 : Ref sig .tc := ⟨.hbm, 105, rfl⟩
abbrev main_while0b_call7_c : Ref sig .tc := ⟨.hbm, 106, rfl⟩
abbrev main_while0b_call7_v1 : Ref sig .tc := ⟨.hbm, 107, rfl⟩
abbrev main_while0b_call7_v2 : Ref sig .tc := ⟨.hbm, 108, rfl⟩
abbrev main_while0b_call7_v3 : Ref sig .tc := ⟨.hbm, 109, rfl⟩
abbrev main_while0b_call7_v4 : Ref sig .tc := ⟨.hbm, 110, rfl⟩
abbrev main_while0b_call7_c_0 : Ref sig .tc := ⟨.hbm, 111, rfl⟩
abbrev main_while0b_call7_v5 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_cst_20 : Ref sig .tc := ⟨.hbm, 122, rfl⟩
abbrev main_while0b_call8_v0 : Ref sig .tc := ⟨.hbm, 123, rfl⟩
abbrev main_while0b_call8_v1 : Ref sig .tc := ⟨.hbm, 124, rfl⟩
abbrev main_while0b_call8_v2 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_cst_21 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_v95 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_v106 : Ref sig .tc := ⟨.hbm, 146, rfl⟩
abbrev main_while0b_cst_22 : Ref sig .tc := ⟨.hbm, 147, rfl⟩
abbrev main_while0b_v107 : Ref sig .tc := ⟨.hbm, 148, rfl⟩
abbrev main_while0b_v108 : Ref sig .tc := ⟨.hbm, 149, rfl⟩
abbrev main_while0b_v109 : Ref sig .tc := ⟨.hbm, 150, rfl⟩
abbrev main_while0b_v110 : Ref sig .tc := ⟨.hbm, 151, rfl⟩
abbrev main_while0b_v111 : Ref sig .tc := ⟨.hbm, 152, rfl⟩
abbrev main_while0b_v112 : Ref sig .tc := ⟨.hbm, 153, rfl⟩
abbrev main_while0b_v113 : Ref sig .tc := ⟨.hbm, 154, rfl⟩
abbrev main_while0b_v114 : Ref sig .tc := ⟨.hbm, 155, rfl⟩
abbrev main_while0b_v115 : Ref sig .tc := ⟨.hbm, 156, rfl⟩
abbrev main_while0b_v116 : Ref sig .tc := ⟨.hbm, 157, rfl⟩
abbrev main_while0b_v117 : Ref sig .tc := ⟨.hbm, 158, rfl⟩
abbrev main_while0b_v118 : Ref sig .tc := ⟨.hbm, 159, rfl⟩
abbrev main_while0b_v119 : Ref sig .tc := ⟨.hbm, 160, rfl⟩
abbrev main_while0b_v120 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_v133 : Ref sig .tc := ⟨.hbm, 174, rfl⟩
abbrev main_while0b_v134 : Ref sig .tc := ⟨.hbm, 175, rfl⟩
abbrev main_while0b_v135 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_v139 : Ref sig .tc := ⟨.hbm, 180, rfl⟩
abbrev main_while0b_v140 : Ref sig .tc := ⟨.hbm, 181, rfl⟩
abbrev main_while0b_v141 : Ref sig .tc := ⟨.hbm, 182, rfl⟩
abbrev main_while0b_v142 : Ref sig .tc := ⟨.hbm, 183, rfl⟩
abbrev main_while0b_v143 : Ref sig .tc := ⟨.hbm, 184, rfl⟩
abbrev main_while0b_v144 : Ref sig .tc := ⟨.hbm, 185, rfl⟩
abbrev main_while0b_v145 : Ref sig .tc := ⟨.hbm, 186, rfl⟩
abbrev main_while0b_v146 : Ref sig .tc := ⟨.hbm, 187, rfl⟩
abbrev main_while0b_call9_v0 : Ref sig .tc := ⟨.hbm, 188, rfl⟩
abbrev main_while0b_call9_c : Ref sig .tc := ⟨.hbm, 189, rfl⟩
abbrev main_while0b_call9_c_0 : Ref sig .tc := ⟨.hbm, 190, rfl⟩
abbrev main_while0b_call9_c_1 : Ref sig .tc := ⟨.hbm, 191, rfl⟩
abbrev main_while0b_call9_c_2 : Ref sig .tc := ⟨.hbm, 192, rfl⟩
abbrev main_while0b_v147 : Ref sig .tc := ⟨.hbm, 193, rfl⟩
abbrev main_while0b_c_23 : Ref sig .tc := ⟨.hbm, 194, rfl⟩
abbrev main_while0b_v148 : Ref sig .tc := ⟨.hbm, 195, rfl⟩
abbrev main_v32 : Ref sig .tc := ⟨.hbm, 196, rfl⟩
abbrev main_v33 : Ref sig .tc := ⟨.hbm, 197, rfl⟩
abbrev main_v34 : Ref sig .tc := ⟨.hbm, 198, rfl⟩
abbrev main_v35 : Ref sig .tc := ⟨.hbm, 199, rfl⟩
abbrev main_cst_3 : Ref sig .tc := ⟨.hbm, 200, rfl⟩
abbrev main_v36 : Ref sig .tc := ⟨.hbm, 201, rfl⟩
abbrev main_v37 : Ref sig .tc := ⟨.hbm, 202, rfl⟩
abbrev main_cst_4 : Ref sig .tc := ⟨.hbm, 203, rfl⟩
abbrev main_v38 : Ref sig .tc := ⟨.hbm, 204, rfl⟩
abbrev main_v39 : Ref sig .tc := ⟨.hbm, 205, rfl⟩
abbrev main_v40 : Ref sig .tc := ⟨.hbm, 206, rfl⟩
abbrev main_v41 : Ref sig .tc := ⟨.hbm, 207, rfl⟩
abbrev main_v42 : Ref sig .tc := ⟨.hbm, 208, rfl⟩
abbrev main_cst_5 : Ref sig .tc := ⟨.hbm, 209, rfl⟩
abbrev main_v43 : Ref sig .tc := ⟨.hbm, 210, rfl⟩
abbrev main_v44 : Ref sig .tc := ⟨.hbm, 211, rfl⟩
abbrev main_cst_6 : Ref sig .tc := ⟨.hbm, 212, rfl⟩
abbrev main_v45 : Ref sig .tc := ⟨.hbm, 213, rfl⟩
abbrev main_v46 : Ref sig .tc := ⟨.hbm, 214, rfl⟩
abbrev main_v47 : Ref sig .tc := ⟨.hbm, 215, rfl⟩
abbrev main_v48 : Ref sig .tc := ⟨.hbm, 216, rfl⟩
abbrev main_cst_7 : Ref sig .tc := ⟨.hbm, 217, rfl⟩
abbrev main_v49 : Ref sig .tc := ⟨.hbm, 218, rfl⟩
abbrev main_v50 : Ref sig .tc := ⟨.hbm, 219, rfl⟩
abbrev main_v51 : Ref sig .tc := ⟨.hbm, 220, rfl⟩
abbrev main_v52 : Ref sig .tc := ⟨.hbm, 221, rfl⟩
abbrev main_v53 : Ref sig .tc := ⟨.hbm, 222, rfl⟩
abbrev main_v54 : Ref sig .tc := ⟨.hbm, 223, rfl⟩
abbrev main_v55 : Ref sig .tc := ⟨.hbm, 224, rfl⟩
abbrev main_v56 : Ref sig .tc := ⟨.hbm, 225, rfl⟩
abbrev main_v57 : Ref sig .tc := ⟨.hbm, 226, rfl⟩
abbrev main_v58 : Ref sig .tc := ⟨.hbm, 227, rfl⟩
abbrev main_cst_8 : Ref sig .tc := ⟨.hbm, 228, rfl⟩
abbrev main_v59 : Ref sig .tc := ⟨.hbm, 229, rfl⟩
abbrev main_v60 : Ref sig .tc := ⟨.hbm, 230, rfl⟩
abbrev main_cst_9 : Ref sig .tc := ⟨.hbm, 231, rfl⟩
abbrev main_v61 : Ref sig .tc := ⟨.hbm, 232, rfl⟩
abbrev main_v62 : Ref sig .tc := ⟨.hbm, 233, rfl⟩
abbrev main_v63 : Ref sig .tc := ⟨.hbm, 234, rfl⟩
abbrev main_v64 : Ref sig .tc := ⟨.hbm, 235, rfl⟩
abbrev main_v65 : Ref sig .tc := ⟨.hbm, 236, rfl⟩
abbrev main_v66 : Ref sig .tc := ⟨.hbm, 237, rfl⟩
abbrev main_v67 : Ref sig .tc := ⟨.hbm, 238, rfl⟩
abbrev main_v68 : Ref sig .tc := ⟨.hbm, 239, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x1024 : Shape := ⟨2, ![16384, 1024]⟩
abbrev S1024x2824 : Shape := ⟨2, ![1024, 2824]⟩
abbrev S1024x512 : Shape := ⟨2, ![1024, 512]⟩
abbrev S1024x128 : Shape := ⟨2, ![1024, 128]⟩
abbrev S1024x2048 : Shape := ⟨2, ![1024, 2048]⟩
abbrev S1024x8 : Shape := ⟨2, ![1024, 8]⟩
abbrev S_ : Shape := ⟨0, ![]⟩
abbrev S1024x64 : Shape := ⟨2, ![1024, 64]⟩
abbrev S1024x3584 : Shape := ⟨2, ![1024, 3584]⟩
abbrev S1024x256 : Shape := ⟨2, ![1024, 256]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩

abbrev nBuf : Space → Nat
  | .hbm => 33
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024x2824, .f32⟩
  | .hbm, ⟨2, _⟩ => ⟨S1024x512, .f32⟩
  | .hbm, ⟨3, _⟩ => ⟨S1024x128, .f32⟩
  | .hbm, ⟨4, _⟩ => ⟨S1024x128, .f32⟩
  | .hbm, ⟨5, _⟩ => ⟨S1024x2048, .f32⟩
  | .hbm, ⟨6, _⟩ => ⟨S1024x8, .f32⟩
  | .hbm, ⟨7, _⟩ => ⟨S_, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x512, .f32⟩
  | .hbm, ⟨12, _⟩ => ⟨S1024x64, .f32⟩
  | .hbm, ⟨13, _⟩ => ⟨S1024x64, .f32⟩
  | .hbm, ⟨14, _⟩ => ⟨S1024x512, .f32⟩
  | .hbm, ⟨15, _⟩ => ⟨S1024x3584, .f32⟩
  | .hbm, ⟨16, _⟩ => ⟨S1024x3584, .bf16⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S1024x256, .bf16⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S1024x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev main_v20_3 : Ref sig .tc := ⟨.hbm, 28, rfl⟩
abbrev main_v20_4 : Ref sig .tc := ⟨.hbm, 29, rfl⟩
abbrev main_v20_5 : Ref sig .tc := ⟨.hbm, 30, rfl⟩
abbrev main_v20_6 : Ref sig .tc := ⟨.hbm, 31, rfl⟩
abbrev main_v20_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S1024x2824 : Shape := ⟨2, ![1024, 2824]⟩
abbrev S16384x2824 : Shape := ⟨2, ![16384, 2824]⟩
abbrev S16384x512 : Shape := ⟨2, ![16384, 512]⟩
abbrev S16384x128 : Shape := ⟨2, ![16384, 128]⟩
abbrev S16384x8 : Shape := ⟨2, ![16384, 8]⟩
abbrev S_ : Shape := ⟨0, ![]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2824, .f32⟩
  | .hbm, ⟨2, _⟩ => ⟨S16384x2824, .f32⟩
  | .hbm, ⟨3, _⟩ => ⟨S16384x512, .f32⟩
  | .hbm, ⟨4, _⟩ => ⟨S16384x128, .f32⟩
  | .hbm, ⟨5, _⟩ => ⟨S16384x128, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x8, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x512, .f32⟩
  | .hbm, ⟨21, _⟩ => ⟨S16384x512, .f32⟩
  | .hbm, ⟨22, _⟩ => ⟨S_, .i32⟩
  | .hbm, ⟨23, _⟩ => ⟨S_, .f32⟩
  | .hbm, ⟨24, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x2048 : Shape := ⟨2, ![1024, 2048]⟩
abbrev S8x2x128x128 : Shape := ⟨4, ![8, 2, 128, 128]⟩
abbrev S16x128x128 : Shape := ⟨3, ![16, 128, 128]⟩
abbrev S512x1024 : Shape := ⟨2, ![512, 1024]⟩
abbrev S2048x1024 : Shape := ⟨2, ![2048, 1024]⟩
abbrev S8x128x128x128 : Shape := ⟨4, ![8, 128, 128, 128]⟩
abbrev S512x512 : Shape := ⟨2, ![512, 512]⟩
abbrev S8x4x128x128 : Shape := ⟨4, ![8, 4, 128, 128]⟩
abbrev S16x4x128x128 : Shape := ⟨4, ![16, 4, 128, 128]⟩
abbrev S2x2x24x128 : Shape := ⟨4, ![2, 2, 24, 128]⟩
abbrev S512 : Shape := ⟨1, ![512]⟩
abbrev S512x1 : Shape := ⟨2, ![512, 1]⟩
abbrev S2048x512 : Shape := ⟨2, ![2048, 512]⟩
abbrev S1x128x128 : Shape := ⟨3, ![1, 128, 128]⟩
abbrev S128x128 : Shape := ⟨2, ![128, 128]⟩
abbrev S128x512 : Shape := ⟨2, ![128, 512]⟩
abbrev S1x1x128x128 : Shape := ⟨4, ![1, 1, 128, 128]⟩
abbrev S7x128 : Shape := ⟨2, ![7, 128]⟩
abbrev S8x128 : Shape := ⟨2, ![8, 128]⟩
abbrev S128 : Shape := ⟨1, ![128]⟩
abbrev S1x128 : Shape := ⟨2, ![1, 128]⟩
abbrev S24x128 : Shape := ⟨2, ![24, 128]⟩
abbrev S1x1x24x128 : Shape := ⟨4, ![1, 1, 24, 128]⟩

abbrev nBuf : Space → Nat
  | .hbm => 21
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x2048, .f32⟩
  | .hbm, ⟨7, _⟩ => ⟨S8x2x128x128, .f32⟩
  | .hbm, ⟨8, _⟩ => ⟨S16x128x128, .f32⟩
  | .hbm, ⟨9, _⟩ => ⟨S16x128x128, .bf16⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S2048x1024, .f32⟩
  | .hbm, ⟨15, _⟩ => ⟨S2048x1024, .bf16⟩
  | .hbm, ⟨16, _⟩ => ⟨S16384x1024, .f32⟩
  | .hbm, ⟨17, _⟩ => ⟨S8x128x128x128, .bf16⟩
  | .hbm, ⟨18, _⟩ => ⟨S8x128x128x128, .bf16⟩
  | .hbm, ⟨19, _⟩ => ⟨S8x128x128x128, .f32⟩
  | .hbm, ⟨20, _⟩ => ⟨S8x128x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S2048x1024, .bf16⟩
  | .local _ .vmem, ⟨11, _⟩ => ⟨S16x128x128, .bf16⟩
  | .local _ .vmem, ⟨12, _⟩ => ⟨S512x1024, .f32⟩
  | .local _ .vmem, ⟨13, _⟩ => ⟨S512x1024, .f32⟩
  | .local _ .vmem, ⟨14, _⟩ => ⟨S8x4x128x128, .bf16⟩
  | .local _ .vmem, ⟨15, _⟩ => ⟨S8x4x128x128, .bf16⟩
  | .local _ .vmem, ⟨16, _⟩ => ⟨S8x4x128x128, .bf16⟩
  | .local _ .vmem, ⟨17, _⟩ => ⟨S8x4x128x128, .bf16⟩
  | .local _ .vmem, ⟨18, _⟩ => ⟨S8x4x128x128, .f32⟩
  | .local _ .vmem, ⟨19, _⟩ => ⟨S8x4x128x128, .f32⟩
  | .local _ .vmem, ⟨20, _⟩ => ⟨S8x4x128x128, .f32⟩
  | .local _ .vmem, ⟨21, _⟩ => ⟨S8x4x128x128, .f32⟩
  | .local _ .vmem, ⟨22, _⟩ => ⟨S16x4x128x128, .f32⟩
  | .local _ .vmem, ⟨23, _⟩ => ⟨S2x2x24x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v1081 : BitVec 32 := Scalar.addi c0_i32 c32_i32
  let c1_i32 : BitVec 32 := 1#32
  ⟨c0_i32, v1081, c1_i32⟩
def k0_off1 (k0_t1 : Fin k0_t1_loop.trips) (c0_i32_404 : BitVec 32) : Fin 4 → Nat :=
  let c2_i32_403 : BitVec 32 := 2#32
  let c0_i32 : BitVec 32 := 0#32
  let c1_i32 : BitVec 32 := 1#32
  let arg17 : BitVec 32 := Scf.iv c0_i32 c1_i32 k0_t1
  let c1_i32_384 : BitVec 32 := 1#32
  let v1082 : BitVec 32 := Scalar.addi arg17 c1_i32_384
  let c31_i32 : BitVec 32 := 31#32
  let v1083 : BitVec 32 := Scalar.minsi v1082 c31_i32
  let c0_i32_391 : BitVec 32 := 0#32
  let v1096 : BitVec 1 := Scalar.cmpi .sgt v1083 c0_i32_391
  let v1097 : BitVec 32 := Scalar.extui v1096
  let c0_i32_392 : BitVec 32 := 0#32
  let v1098 : BitVec 1 := Scalar.cmpi .slt v1083 c0_i32_392
  let v1099 : BitVec 32 := Scalar.extui v1098
  let v1100 : BitVec 32 := Scalar.subi v1097 v1099
  let c4_i32 : BitVec 32 := 4#32
  let c0_i32_393 : BitVec 32 := 0#32
  let v1101 : BitVec 1 := Scalar.cmpi .sgt c4_i32 c0_i32_393
  let v1102 : BitVec 32 := Scalar.extui v1101
  let c0_i32_394 : BitVec 32 := 0#32
  let v1103 : BitVec 1 := Scalar.cmpi .slt c4_i32 c0_i32_394
  let v1104 : BitVec 32 := Scalar.extui v1103
  let v1105 : BitVec 32 := Scalar.subi v1102 v1104
  let v1106 : BitVec 1 := Scalar.cmpi .ne v1100 v1105
  let v1107 : BitVec 32 := Scalar.remsi v1083 c4_i32
  let c0_i32_395 : BitVec 32 := 0#32
  let v1108 : BitVec 1 := Scalar.cmpi .ne v1107 c0_i32_395
  let v1109 : BitVec 1 := Scalar.andi v1106 v1108
  let v1095 : BitVec 32 := Scalar.divsi v1083 c4_i32
  let c1_i32_396 : BitVec 32 := 1#32
  let v1110 : BitVec 32 := Scalar.subi v1095 c1_i32_396
  let v1111 : BitVec 32 := Scalar.select v1109 v1110 v1095
  let v1122 : BitVec 32 := Scalar.muli c2_i32_403 v1111
  let v1123 : BitVec 32 := Scalar.addi v1122 c0_i32_404
  let v1124 : Index := Scalar.indexCast v1123
  let c4_i32_397 : BitVec 32 := 4#32
  let c0_i32_398 : BitVec 32 := 0#32
  let v1112 : BitVec 1 := Scalar.cmpi .eq c4_i32_397 c0_i32_398
  let c1_i32_399 : BitVec 32 := 1#32
  let v1113 : BitVec 32 := Scalar.select v1112 c1_i32_399 c4_i32_397
  let v1114 : BitVec 32 := Scalar.remsi v1083 v1113
  let c0_i32_401 : BitVec 32 := 0#32
  let v1116 : BitVec 1 := Scalar.cmpi .slt v1114 c0_i32_401
  let c0_i32_402 : BitVec 32 := 0#32
  let v1117 : BitVec 1 := Scalar.cmpi .slt v1113 c0_i32_402
  let v1118 : BitVec 1 := Scalar.xori v1116 v1117
  let c0_i32_400 : BitVec 32 := 0#32
  let v1115 : BitVec 1 := Scalar.cmpi .ne v1114 c0_i32_400
  let v1119 : BitVec 1 := Scalar.andi v1118 v1115
  let v1120 : BitVec 32 := Scalar.addi v1114 v1113
  let v1121 : BitVec 32 := Scalar.select v1119 v1120 v1114
  let v1125 : Index := Scalar.indexCast v1121
  let c0_405 : Index := 0#32
  let c0_406 : Index := 0#32
  ![v1124.toNat, v1125.toNat, 0, 0]
def k0_off2 (k0_t1 : Fin k0_t1_loop.trips) : Fin 4 → Nat :=
  let c0_i32 : BitVec 32 := 0#32
  let c1_i32 : BitVec 32 := 1#32
  let arg17 : BitVec 32 := Scf.iv c0_i32 c1_i32 k0_t1
  let c1_i32_385 : BitVec 32 := 1#32
  let v1084 : BitVec 32 := Scalar.addi arg17 c1_i32_385
  let c2_i32 : BitVec 32 := 2#32
  let c0_i32_386 : BitVec 32 := 0#32
  let v1085 : BitVec 1 := Scalar.cmpi .eq c2_i32 c0_i32_386
  let c1_i32_387 : BitVec 32 := 1#32
  let v1086 : BitVec 32 := Scalar.select v1085 c1_i32_387 c2_i32
  let v1087 : BitVec 32 := Scalar.remsi v1084 v1086
  let c0_i32_389 : BitVec 32 := 0#32
  let v1089 : BitVec 1 := Scalar.cmpi .slt v1087 c0_i32_389
  let c0_i32_390 : BitVec 32 := 0#32
  let v1090 : BitVec 1 := Scalar.cmpi .slt v1086 c0_i32_390
  let v1091 : BitVec 1 := Scalar.xori v1089 v1090
  let c0_i32_388 : BitVec 32 := 0#32
  let v1088 : BitVec 1 := Scalar.cmpi .ne v1087 c0_i32_388
  let v1092 : BitVec 1 := Scalar.andi v1091 v1088
  let v1093 : BitVec 32 := Scalar.addi v1087 v1086
  let v1094 : BitVec 32 := Scalar.select v1092 v1093 v1087
  let v1474 : Index := Scalar.indexCast v1094
  let c0_425 : Index := 0#32
  let c0_426 : Index := 0#32
  let c0_427 : Index := 0#32
  ![v1474.toNat, 0, 0, 0]
def k0_off3 (k0_t1 : Fin k0_t1_loop.trips) : Fin 4 → Nat :=
  let c0_i32 : BitVec 32 := 0#32
  let c1_i32 : BitVec 32 := 1#32
  let arg17 : BitVec 32 := Scf.iv c0_i32 c1_i32 k0_t1
  let c1_i32_385 : BitVec 32 := 1#32
  let v1084 : BitVec 32 := Scalar.addi arg17 c1_i32_385
  let c2_i32 : BitVec 32 := 2#32
  let c0_i32_386 : BitVec 32 := 0#32
  let v1085 : BitVec 1 := Scalar.cmpi .eq c2_i32 c0_i32_386
  let c1_i32_387 : BitVec 32 := 1#32
  let v1086 : BitVec 32 := Scalar.select v1085 c1_i32_387 c2_i32
  let v1087 : BitVec 32 := Scalar.remsi v1084 v1086
  let c0_i32_389 : BitVec 32 := 0#32
  let v1089 : BitVec 1 := Scalar.cmpi .slt v1087 c0_i32_389
  let c0_i32_390 : BitVec 32 := 0#32
  let v1090 : BitVec 1 := Scalar.cmpi .slt v1086 c0_i32_390
  let v1091 : BitVec 1 := Scalar.xori v1089 v1090
  let c0_i32_388 : BitVec 32 := 0#32
  let v1088 : BitVec 1 := Scalar.cmpi .ne v1087 c0_i32_388
  let v1092 : BitVec 1 := Scalar.andi v1091 v1088
  let v1093 : BitVec 32 := Scalar.addi v1087 v1086
  let v1094 : BitVec 32 := Scalar.select v1092 v1093 v1087
  let v1830 : Index := Scalar.indexCast v1094
  let c1_450 : Index := 1#32
  let c0_451 : Index := 0#32
  let c0_452 : Index := 0#32
  ![v1830.toNat, 1, 0, 0]
def k0_off4 (k0_t1 : Fin k0_t1_loop.trips) : Fin 4 → Nat :=
  let c2_i32_466 : BitVec 32 := 2#32
  let c0_i32 : BitVec 32 := 0#32
  let c1_i32 : BitVec 32 := 1#32
  let arg17 : BitVec 32 := Scf.iv c0_i32 c1_i32 k0_t1
  let c0_i32_454 : BitVec 32 := 0#32
  let v1835 : BitVec 1 := Scalar.cmpi .sgt arg17 c0_i32_454
  let v1836 : BitVec 32 := Scalar.extui v1835
  let c0_i32_455 : BitVec 32 := 0#32
  let v1837 : BitVec 1 := Scalar.cmpi .slt arg17 c0_i32_455
  let v1838 : BitVec 32 := Scalar.extui v1837
  let v1839 : BitVec 32 := Scalar.subi v1836 v1838
  let c4_i32_453 : BitVec 32 := 4#32
  let c0_i32_456 : BitVec 32 := 0#32
  let v1840 : BitVec 1 := Scalar.cmpi .sgt c4_i32_453 c0_i32_456
  let v1841 : BitVec 32 := Scalar.extui v1840
  let c0_i32_457 : BitVec 32 := 0#32
  let v1842 : BitVec 1 := Scalar.cmpi .slt c4_i32_453 c0_i32_457
  let v1843 : BitVec 32 := Scalar.extui v1842
  let v1844 : BitVec 32 := Scalar.subi v1841 v1843
  let v1845 : BitVec 1 := Scalar.cmpi .ne v1839 v1844
  let v1846 : BitVec 32 := Scalar.remsi arg17 c4_i32_453
  let c0_i32_458 : BitVec 32 := 0#32
  let v1847 : BitVec 1 := Scalar.cmpi .ne v1846 c0_i32_458
  let v1848 : BitVec 1 := Scalar.andi v1845 v1847
  let v1834 : BitVec 32 := Scalar.divsi arg17 c4_i32_453
  let c1_i32_459 : BitVec 32 := 1#32
  let v1849 : BitVec 32 := Scalar.subi v1834 c1_i32_459
  let v1850 : BitVec 32 := Scalar.select v1848 v1849 v1834
  let v1861 : BitVec 32 := Scalar.muli c2_i32_466 v1850
  let v1862 : Index := Scalar.indexCast v1861
  let c4_i32_460 : BitVec 32 := 4#32
  let c0_i32_461 : BitVec 32 := 0#32
  let v1851 : BitVec 1 := Scalar.cmpi .eq c4_i32_460 c0_i32_461
  let c1_i32_462 : BitVec 32 := 1#32
  let v1852 : BitVec 32 := Scalar.select v1851 c1_i32_462 c4_i32_460
  let v1853 : BitVec 32 := Scalar.remsi arg17 v1852
  let c0_i32_464 : BitVec 32 := 0#32
  let v1855 : BitVec 1 := Scalar.cmpi .slt v1853 c0_i32_464
  let c0_i32_465 : BitVec 32 := 0#32
  let v1856 : BitVec 1 := Scalar.cmpi .slt v1852 c0_i32_465
  let v1857 : BitVec 1 := Scalar.xori v1855 v1856
  let c0_i32_463 : BitVec 32 := 0#32
  let v1854 : BitVec 1 := Scalar.cmpi .ne v1853 c0_i32_463
  let v1858 : BitVec 1 := Scalar.andi v1857 v1854
  let v1859 : BitVec 32 := Scalar.addi v1853 v1852
  let v1860 : BitVec 32 := Scalar.select v1858 v1859 v1853
  let v1863 : Index := Scalar.indexCast v1860
  let c0_467 : Index := 0#32
  let c0_468 : Index := 0#32
  ![v1862.toNat, v1863.toNat, 0, 0]
def k0_off5 (k0_t1 : Fin k0_t1_loop.trips) : Fin 4 → Nat :=
  let c2_i32_469 : BitVec 32 := 2#32
  let c0_i32 : BitVec 32 := 0#32
  let c1_i32 : BitVec 32 := 1#32
  let arg17 : BitVec 32 := Scf.iv c0_i32 c1_i32 k0_t1
  let c0_i32_454 : BitVec 32 := 0#32
  let v1835 : BitVec 1 := Scalar.cmpi .sgt arg17 c0_i32_454
  let v1836 : BitVec 32 := Scalar.extui v1835
  let c0_i32_455 : BitVec 32 := 0#32
  let v1837 : BitVec 1 := Scalar.cmpi .slt arg17 c0_i32_455
  let v1838 : BitVec 32 := Scalar.extui v1837
  let v1839 : BitVec 32 := Scalar.subi v1836 v1838
  let c4_i32_453 : BitVec 32 := 4#32
  let c0_i32_456 : BitVec 32 := 0#32
  let v1840 : BitVec 1 := Scalar.cmpi .sgt c4_i32_453 c0_i32_456
  let v1841 : BitVec 32 := Scalar.extui v1840
  let c0_i32_457 : BitVec 32 := 0#32
  let v1842 : BitVec 1 := Scalar.cmpi .slt c4_i32_453 c0_i32_457
  let v1843 : BitVec 32 := Scalar.extui v1842
  let v1844 : BitVec 32 := Scalar.subi v1841 v1843
  let v1845 : BitVec 1 := Scalar.cmpi .ne v1839 v1844
  let v1846 : BitVec 32 := Scalar.remsi arg17 c4_i32_453
  let c0_i32_458 : BitVec 32 := 0#32
  let v1847 : BitVec 1 := Scalar.cmpi .ne v1846 c0_i32_458
  let v1848 : BitVec 1 := Scalar.andi v1845 v1847
  let v1834 : BitVec 32 := Scalar.divsi arg17 c4_i32_453
  let c1_i32_459 : BitVec 32 := 1#32
  let v1849 : BitVec 32 := Scalar.subi v1834 c1_i32_459
  let v1850 : BitVec 32 := Scalar.select v1848 v1849 v1834
  let v1866 : BitVec 32 := Scalar.muli c2_i32_469 v1850
  let c1_i32_470 : BitVec 32 := 1#32
  let v1867 : BitVec 32 := Scalar.addi v1866 c1_i32_470
  let v1868 : Index := Scalar.indexCast v1867
  let c4_i32_460 : BitVec 32 := 4#32
  let c0_i32_461 : BitVec 32 := 0#32
  let v1851 : BitVec 1 := Scalar.cmpi .eq c4_i32_460 c0_i32_461
  let c1_i32_462 : BitVec 32 := 1#32
  let v1852 : BitVec 32 := Scalar.select v1851 c1_i32_462 c4_i32_460
  let v1853 : BitVec 32 := Scalar.remsi arg17 v1852
  let c0_i32_464 : BitVec 32 := 0#32
  let v1855 : BitVec 1 := Scalar.cmpi .slt v1853 c0_i32_464
  let c0_i32_465 : BitVec 32 := 0#32
  let v1856 : BitVec 1 := Scalar.cmpi .slt v1852 c0_i32_465
  let v1857 : BitVec 1 := Scalar.xori v1855 v1856
  let c0_i32_463 : BitVec 32 := 0#32
  let v1854 : BitVec 1 := Scalar.cmpi .ne v1853 c0_i32_463
  let v1858 : BitVec 1 := Scalar.andi v1857 v1854
  let v1859 : BitVec 32 := Scalar.addi v1853 v1852
  let v1860 : BitVec 32 := Scalar.select v1858 v1859 v1853
  let v1869 : Index := Scalar.indexCast v1860
  let c0_471 : Index := 0#32
  let c0_472 : Index := 0#32
  ![v1868.toNat, v1869.toNat, 0, 0]
def k0_off6 (k0_t1 : Fin k0_t1_loop.trips) : Fin 4 → Nat :=
  let c0_i32 : BitVec 32 := 0#32
  let c1_i32 : BitVec 32 := 1#32
  let arg17 : BitVec 32 := Scf.iv c0_i32 c1_i32 k0_t1
  let c2_i32_473 : BitVec 32 := 2#32
  let c0_i32_474 : BitVec 32 := 0#32
  let v1872 : BitVec 1 := Scalar.cmpi .eq c2_i32_473 c0_i32_474
  let c1_i32_475 : BitVec 32 := 1#32
  let v1873 : BitVec 32 := Scalar.select v1872 c1_i32_475 c2_i32_473
  let v1874 : BitVec 32 := Scalar.remsi arg17 v1873
  let c0_i32_477 : BitVec 32 := 0#32
  let v1876 : BitVec 1 := Scalar.cmpi .slt v1874 c0_i32_477
  let c0_i32_478 : BitVec 32 := 0#32
  let v1877 : BitVec 1 := Scalar.cmpi .slt v1873 c0_i32_478
  let v1878 : BitVec 1 := Scalar.xori v1876 v1877
  let c0_i32_476 : BitVec 32 := 0#32
  let v1875 : BitVec 1 := Scalar.cmpi .ne v1874 c0_i32_476
  let v1879 : BitVec 1 := Scalar.andi v1878 v1875
  let v1880 : BitVec 32 := Scalar.addi v1874 v1873
  let v1881 : BitVec 32 := Scalar.select v1879 v1880 v1874
  let v1882 : Index := Scalar.indexCast v1881
  let c0_479 : Index := 0#32
  let c0_480 : Index := 0#32
  let c0_481 : Index := 0#32
  ![v1882.toNat, 0, 0, 0]
def k0_off7 (k0_t1 : Fin k0_t1_loop.trips) : Fin 4 → Nat :=
  let c0_i32 : BitVec 32 := 0#32
  let c1_i32 : BitVec 32 := 1#32
  let arg17 : BitVec 32 := Scf.iv c0_i32 c1_i32 k0_t1
  let c2_i32_482 : BitVec 32 := 2#32
  let c0_i32_483 : BitVec 32 := 0#32
  let v1885 : BitVec 1 := Scalar.cmpi .eq c2_i32_482 c0_i32_483
  let c1_i32_484 : BitVec 32 := 1#32
  let v1886 : BitVec 32 := Scalar.select v1885 c1_i32_484 c2_i32_482
  let v1887 : BitVec 32 := Scalar.remsi arg17 v1886
  let c0_i32_486 : BitVec 32 := 0#32
  let v1889 : BitVec 1 := Scalar.cmpi .slt v1887 c0_i32_486
  let c0_i32_487 : BitVec 32 := 0#32
  let v1890 : BitVec 1 := Scalar.cmpi .slt v1886 c0_i32_487
  let v1891 : BitVec 1 := Scalar.xori v1889 v1890
  let c0_i32_485 : BitVec 32 := 0#32
  let v1888 : BitVec 1 := Scalar.cmpi .ne v1887 c0_i32_485
  let v1892 : BitVec 1 := Scalar.andi v1891 v1888
  let v1893 : BitVec 32 := Scalar.addi v1887 v1886
  let v1894 : BitVec 32 := Scalar.select v1892 v1893 v1887
  let v1895 : Index := Scalar.indexCast v1894
  let c1_488 : Index := 1#32
  let c0_489 : Index := 0#32
  let c0_490 : Index := 0#32
  ![v1895.toNat, 1, 0, 0]
def k0_off8 (k0_t1 : Fin k0_t1_loop.trips) : Fin 4 → Nat :=
  let c0_i32 : BitVec 32 := 0#32
  let c1_i32 : BitVec 32 := 1#32
  let arg17 : BitVec 32 := Scf.iv c0_i32 c1_i32 k0_t1
  let c0_i32_454 : BitVec 32 := 0#32
  let v1835 : BitVec 1 := Scalar.cmpi .sgt arg17 c0_i32_454
  let v1836 : BitVec 32 := Scalar.extui v1835
  let c0_i32_455 : BitVec 32 := 0#32
  let v1837 : BitVec 1 := Scalar.cmpi .slt arg17 c0_i32_455
  let v1838 : BitVec 32 := Scalar.extui v1837
  let v1839 : BitVec 32 := Scalar.subi v1836 v1838
  let c4_i32_453 : BitVec 32 := 4#32
  let c0_i32_456 : BitVec 32 := 0#32
  let v1840 : BitVec 1 := Scalar.cmpi .sgt c4_i32_453 c0_i32_456
  let v1841 : BitVec 32 := Scalar.extui v1840
  let c0_i32_457 : BitVec 32 := 0#32
  let v1842 : BitVec 1 := Scalar.cmpi .slt c4_i32_453 c0_i32_457
  let v1843 : BitVec 32 := Scalar.extui v1842
  let v1844 : BitVec 32 := Scalar.subi v1841 v1843
  let v1845 : BitVec 1 := Scalar.cmpi .ne v1839 v1844
  let v1846 : BitVec 32 := Scalar.remsi arg17 c4_i32_453
  let c0_i32_458 : BitVec 32 := 0#32
  let v1847 : BitVec 1 := Scalar.cmpi .ne v1846 c0_i32_458
  let v1848 : BitVec 1 := Scalar.andi v1845 v1847
  let v1834 : BitVec 32 := Scalar.divsi arg17 c4_i32_453
  let c1_i32_459 : BitVec 32 := 1#32
  let v1849 : BitVec 32 := Scalar.subi v1834 c1_i32_459
  let v1850 : BitVec 32 := Scalar.select v1848 v1849 v1834
  let v2536 : Index := Scalar.indexCast v1850
  let c4_i32_460 : BitVec 32 := 4#32
  let c0_i32_461 : BitVec 32 := 0#32
  let v1851 : BitVec 1 := Scalar.cmpi .eq c4_i32_460 c0_i32_461
  let c1_i32_462 : BitVec 32 := 1#32
  let v1852 : BitVec 32 := Scalar.select v1851 c1_i32_462 c4_i32_460
  let v1853 : BitVec 32 := Scalar.remsi arg17 v1852
  let c0_i32_464 : BitVec 32 := 0#32
  let v1855 : BitVec 1 := Scalar.cmpi .slt v1853 c0_i32_464
  let c0_i32_465 : BitVec 32 := 0#32
  let v1856 : BitVec 1 := Scalar.cmpi .slt v1852 c0_i32_465
  let v1857 : BitVec 1 := Scalar.xori v1855 v1856
  let c0_i32_463 : BitVec 32 := 0#32
  let v1854 : BitVec 1 := Scalar.cmpi .ne v1853 c0_i32_463
  let v1858 : BitVec 1 := Scalar.andi v1857 v1854
  let v1859 : BitVec 32 := Scalar.addi v1853 v1852
  let v1860 : BitVec 32 := Scalar.select v1858 v1859 v1853
  let v2537 : Index := Scalar.indexCast v1860
  let c0_552 : Index := 0#32
  let c0_553 : Index := 0#32
  ![v2536.toNat, v2537.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x2048 : Shape := ⟨2, ![1024, 2048]⟩
abbrev S8x2x128x128 : Shape := ⟨4, ![8, 2, 128, 128]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x2048, .f32⟩
  | .hbm, ⟨7, _⟩ => ⟨S8x2x128x128, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel4.lean ====
abbrev S128x4x1024 : Shape := ⟨3, ![128, 4, 1024]⟩
abbrev S128x128x2x64 : Shape := ⟨4, ![128, 128, 2, 64]⟩
abbrev S1024x2824 : Shape := ⟨2, ![1024, 2824]⟩
abbrev S1024x512 : Shape := ⟨2, ![1024, 512]⟩
abbrev S1024x128 : Shape := ⟨2, ![1024, 128]⟩
abbrev S1024x2048 : Shape := ⟨2, ![1024, 2048]⟩
abbrev S1024x8 : Shape := ⟨2, ![1024, 8]⟩
abbrev S_ : Shape := ⟨0, ![]⟩
abbrev S1024x64 : Shape := ⟨2, ![1024, 64]⟩
abbrev S1024x3584 : Shape := ⟨2, ![1024, 3584]⟩
abbrev S1024x256 : Shape := ⟨2, ![1024, 256]⟩
abbrev S128x8x1024 : Shape := ⟨3, ![128, 8, 1024]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S128x8x2x2x128 : Shape := ⟨5, ![128, 8, 2, 2, 128]⟩
abbrev S128x4x2x1x64 : Shape := ⟨5, ![128, 4, 2, 1, 64]⟩
abbrev S128x4x2x64 : Shape := ⟨4, ![128, 4, 2, 64]⟩
abbrev S128x132x2x64 : Shape := ⟨4, ![128, 132, 2, 64]⟩

abbrev nBuf : Space → Nat
  | .hbm => 49
  | .vmem => 20
  | .smem => 0
  | _ => 0

abbrev bufTy : (tb : Table) → Fin (tcTables nBuf tb) → BufTy
  | .hbm, ⟨0, _⟩ => ⟨S128x4x1024, .f32⟩
  | .hbm, ⟨1, _⟩ => ⟨S128x128x2x64, .f32⟩
  | .hbm, ⟨2, _⟩ => ⟨S128x128x2x64, .f32⟩
  | .hbm, ⟨3, _⟩ => ⟨S1024x2824, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x2048, .f32⟩
  | .hbm, ⟨8, _⟩ => ⟨S1024x8, .f32⟩
  | .hbm, ⟨9, _⟩ => ⟨S_, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1024x512, .f32⟩
  | .hbm, ⟨14, _⟩ => ⟨S1024x64, .f32⟩
  | .hbm, ⟨15, _⟩ => ⟨S1024x64, .f32⟩
  | .hbm, ⟨16, _⟩ => ⟨S1024x512, .f32⟩
  | .hbm, ⟨17, _⟩ => ⟨S1024x3584, .f32⟩
  | .hbm, ⟨18, _⟩ => ⟨S1024x3584, .bf16⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S1024x128, .f32⟩
  | .hbm, ⟨24, _⟩ => ⟨S1024x128, .f32⟩
  | .hbm, ⟨25, _⟩ => ⟨S1024x128, .bf16⟩
  | .hbm, ⟨26, _⟩ => ⟨S1024x256, .bf16⟩
  | .hbm, ⟨27, _⟩ => ⟨S_, .i32⟩
  | .hbm, ⟨28, _⟩ => ⟨S_, .f32⟩
  | .hbm, ⟨29, _⟩ => ⟨S128x8x1024, .f32⟩
  | .hbm, ⟨30, _⟩ => ⟨S1024x1024, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x128, .f32⟩
  | .hbm, ⟨39, _⟩ => ⟨S128x8x2x2x128, .f32⟩
  | .hbm, ⟨40, _⟩ => ⟨S128x4x2x1x64, .f32⟩
  | .hbm, ⟨41, _⟩ => ⟨S128x4x2x64, .f32⟩
  | .hbm, ⟨42, _⟩ => ⟨S128x8x2x2x128, .f32⟩
  | .hbm, ⟨43, _⟩ => ⟨S128x4x2x1x64, .f32⟩
  | .hbm, ⟨44, _⟩ => ⟨S128x4x2x64, .f32⟩
  | .hbm, ⟨45, _⟩ => ⟨S128x132x2x64, .f32⟩
  | .hbm, ⟨46, _⟩ => ⟨S128x128x2x64, .f32⟩
  | .hbm, ⟨47, _⟩ => ⟨S128x132x2x64, .f32⟩
  | .hbm, ⟨48, _⟩ => ⟨S128x128x2x64, .f32⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S1024x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_0 : Ref sig .tc := ⟨.hbm, 27, rfl⟩
abbrev main_call1_v0 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev main_v22_5 : Ref sig .tc := ⟨.hbm, 36, rfl⟩
abbrev main_v22_6 : Ref sig .tc := ⟨.hbm, 37, rfl⟩
abbrev main_v22_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S128x4x1024 : Shape := ⟨3, ![128, 4, 1024]⟩
abbrev S128x128x2x64 : Shape := ⟨4, ![128, 128, 2, 64]⟩
abbrev S1024x2824 : Shape := ⟨2, ![1024, 2824]⟩
abbrev S128x4x2824 : Shape := ⟨3, ![128, 4, 2824]⟩
abbrev S128x4x128 : Shape := ⟨3, ![128, 4, 128]⟩
abbrev S128x4x2x64 : Shape := ⟨4, ![128, 4, 2, 64]⟩
abbrev S128x132x2x64 : Shape := ⟨4, ![128, 132, 2, 64]⟩
abbrev S128x4x512 : Shape := ⟨3, ![128, 4, 512]⟩
abbrev S_ : Shape := ⟨0, ![]⟩
abbrev S128x8x512 : Shape := ⟨3, ![128, 8, 512]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x128x2x64, .f32⟩
  | .hbm, ⟨2, _⟩ => ⟨S128x128x2x64, .f32⟩
  | .hbm, ⟨3, _⟩ => ⟨S1024x2824, .f32⟩
  | .hbm, ⟨4, _⟩ => ⟨S128x4x2824, .f32⟩
  | .hbm, ⟨5, _⟩ => ⟨S128x4x128, .f32⟩
  | .hbm, ⟨6, _⟩ => ⟨S128x4x2x64, .f32⟩
  | .hbm, ⟨7, _⟩ => ⟨S128x4x128, .f32⟩
  | .hbm, ⟨8, _⟩ => ⟨S128x4x2x64, .f32⟩
  | .hbm, ⟨9, _⟩ => ⟨S128x132x2x64, .f32⟩
  | .hbm, ⟨10, _⟩ => ⟨S128x132x2x64, .f32⟩
  | .hbm, ⟨11, _⟩ => ⟨S128x4x512, .f32⟩
  | .hbm, ⟨12, _⟩ => ⟨S_, .i32⟩
  | .hbm, ⟨13, _⟩ => ⟨S_, .f32⟩
  | .hbm, ⟨14, _⟩ => ⟨S128x8x512, .f32⟩
  | .hbm, ⟨15, _⟩ => ⟨S1024x512, .f32⟩
  | .hbm, ⟨16, _⟩ => ⟨S128x4x512, .f32⟩
  | .hbm, ⟨17, _⟩ => ⟨S_, .i32⟩
  | .hbm, ⟨18, _⟩ => ⟨S_, .f32⟩
  | .hbm, ⟨19, _⟩ => ⟨S128x8x512, .f32⟩
  | .hbm, ⟨20, _⟩ => ⟨S1024x512, .f32⟩
  | .hbm, ⟨21, _⟩ => ⟨S128x4x512, .f32⟩
  | .hbm, ⟨22, _⟩ => ⟨S_, .i32⟩
  | .hbm, ⟨23, _⟩ => ⟨S_, .f32⟩
  | .hbm, ⟨24, _⟩ => ⟨S128x8x512, .f32⟩
  | .hbm, ⟨25, _⟩ => ⟨S1024x512, .f32⟩
  | .hbm, ⟨26, _⟩ => ⟨S128x4x512, .f32⟩
  | .hbm, ⟨27, _⟩ => ⟨S_, .i32⟩
  | .hbm, ⟨28, _⟩ => ⟨S_, .f32⟩
  | .hbm, ⟨29, _⟩ => ⟨S128x8x512, .f32⟩
  | .hbm, ⟨30, _⟩ => ⟨S1024x512, .f32⟩
  | .hbm, ⟨31, _⟩ => ⟨S128x4x512, .f32⟩
  | .hbm, ⟨32, _⟩ => ⟨S_, .f32⟩
  | .hbm, ⟨33, _⟩ => ⟨S128x4x512, .f32⟩
  | .hbm, ⟨34, _⟩ => ⟨S128x4x512, .f32⟩
  | .hbm, ⟨35, _⟩ => ⟨S_, .i32⟩
  | .hbm, ⟨36, _⟩ => ⟨S_, .f32⟩
  | .hbm, ⟨37, _⟩ => ⟨S128x8x512, .f32⟩
  | .hbm, ⟨38, _⟩ => ⟨S1024x512, .f32⟩
  | .hbm, ⟨39, _⟩ => ⟨S128x128x2x64, .f32⟩
  | .hbm, ⟨40, _⟩ => ⟨S128x128x2x64, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call2_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call3_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_call4_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel5.lean ====
abbrev S1024x512 : Shape := ⟨2, ![1024, 512]⟩
abbrev S1024x128 : Shape := ⟨2, ![1024, 128]⟩
abbrev S1x8 : Shape := ⟨2, ![1, 8]⟩
abbrev S4x128 : Shape := ⟨2, ![4, 128]⟩
abbrev S128x4x128x128 : Shape := ⟨4, ![128, 4, 128, 128]⟩
abbrev S128x4x128 : Shape := ⟨3, ![128, 4, 128]⟩
abbrev S128x4 : Shape := ⟨2, ![128, 4]⟩
abbrev S8 : Shape := ⟨1, ![8]⟩
abbrev S_ : Shape := ⟨0, ![]⟩
abbrev S128 : Shape := ⟨1, ![128]⟩
abbrev S1x128 : Shape := ⟨2, ![1, 128]⟩
abbrev S1x512 : Shape := ⟨2, ![1, 512]⟩
abbrev S128x4x1x128 : Shape := ⟨4, ![128, 4, 1, 128]⟩
abbrev S128x4x1x1 : Shape := ⟨4, ![128, 4, 1, 1]⟩
abbrev S128x512 : Shape := ⟨2, ![128, 512]⟩
abbrev S128x128 : Shape := ⟨2, ![128, 128]⟩
abbrev S16x4x128x128 : Shape := ⟨4, ![16, 4, 128, 128]⟩
abbrev S16x4x1x128 : Shape := ⟨4, ![16, 4, 1, 128]⟩
abbrev S16x8x128 : Shape := ⟨3, ![16, 8, 128]⟩
abbrev S1x1x128 : Shape := ⟨3, ![1, 1, 128]⟩
abbrev S16x8x1 : Shape := ⟨3, ![16, 8, 1]⟩
abbrev S64x8x1 : Shape := ⟨3, ![64, 8, 1]⟩
abbrev S8x128 : Shape := ⟨2, ![8, 128]⟩
abbrev S16x8x512 : Shape := ⟨3, ![16, 8, 512]⟩
abbrev S64x8x128 : Shape := ⟨3, ![64, 8, 128]⟩
abbrev S64x120x128 : Shape := ⟨3, ![64, 120, 128]⟩
abbrev S64x128x128 : Shape := ⟨3, ![64, 128, 128]⟩
abbrev S1x8x128 : Shape := ⟨3, ![1, 8, 128]⟩
abbrev S64x128 : Shape := ⟨2, ![64, 128]⟩
abbrev S64x1x128 : Shape := ⟨3, ![64, 1, 128]⟩
abbrev S16x1x128x128 : Shape := ⟨4, ![16, 1, 128, 128]⟩
abbrev S16x128x128 : Shape := ⟨3, ![16, 128, 128]⟩
abbrev S16x1x1x128 : Shape := ⟨4, ![16, 1, 1, 128]⟩
abbrev S16x1x128 : Shape := ⟨3, ![16, 1, 128]⟩
abbrev S64x1x1 : Shape := ⟨3, ![64, 1, 1]⟩
abbrev S64x8 : Shape := ⟨2, ![64, 8]⟩
abbrev S128x8x512 : Shape := ⟨3, ![128, 8, 512]⟩
abbrev S128x4x512 : Shape := ⟨3, ![128, 4, 512]⟩
abbrev S512x512 : Shape := ⟨2, ![512, 512]⟩

abbrev nBuf : Space → Nat
  | .hbm => 26
  | .vmem => 29
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x128, .f32⟩
  | .hbm, ⟨5, _⟩ => ⟨S1x8, .f32⟩
  | .hbm, ⟨6, _⟩ => ⟨S4x128, .f32⟩
  | .hbm, ⟨7, _⟩ => ⟨S128x4x128x128, .f32⟩
  | .hbm, ⟨8, _⟩ => ⟨S128x4x128, .f32⟩
  | .hbm, ⟨9, _⟩ => ⟨S128x4, .f32⟩
  | .hbm, ⟨10, _⟩ => ⟨S8, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x512, .f32⟩
  | .hbm, ⟨16, _⟩ => ⟨S128x4x1x128, .f32⟩
  | .hbm, ⟨17, _⟩ => ⟨S128x4x1x1, .f32⟩
  | .hbm, ⟨18, _⟩ => ⟨S128x4x1x128, .f32⟩
  | .hbm, ⟨19, _⟩ => ⟨S1024x512, .f32⟩
  | .hbm, ⟨20, _⟩ => ⟨S128x4x128x128, .f32⟩
  | .hbm, ⟨21, _⟩ => ⟨S128x4x1x128, .f32⟩
  | .hbm, ⟨22, _⟩ => ⟨S128x4x1x128, .f32⟩
  | .hbm, ⟨23, _⟩ => ⟨S128x8x512, .f32⟩
  | .hbm, ⟨24, _⟩ => ⟨S128x4x512, .f32⟩
  | .hbm, ⟨25, _⟩ => ⟨S512x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x512, .f32⟩
  | .local _ .vmem, ⟨12, _⟩ => ⟨S16x4x128x128, .f32⟩
  | .local _ .vmem, ⟨13, _⟩ => ⟨S16x4x128x128, .f32⟩
  | .local _ .vmem, ⟨14, _⟩ => ⟨S16x4x1x128, .f32⟩
  | .local _ .vmem, ⟨15, _⟩ => ⟨S16x4x1x128, .f32⟩
  | .local _ .vmem, ⟨16, _⟩ => ⟨S16x4x1x128, .f32⟩
  | .local _ .vmem, ⟨17, _⟩ => ⟨S16x4x1x128, .f32⟩
  | .local _ .vmem, ⟨18, _⟩ => ⟨S128x512, .f32⟩
  | .local _ .vmem, ⟨19, _⟩ => ⟨S128x512, .f32⟩
  | .local _ .vmem, ⟨20, _⟩ => ⟨S16x4x128x128, .f32⟩
  | .local _ .vmem, ⟨21, _⟩ => ⟨S16x4x128x128, .f32⟩
  | .local _ .vmem, ⟨22, _⟩ => ⟨S16x4x1x128, .f32⟩
  | .local _ .vmem, ⟨23, _⟩ => ⟨S16x4x1x128, .f32⟩
  | .local _ .vmem, ⟨24, _⟩ => ⟨S16x4x1x128, .f32⟩
  | .local _ .vmem, ⟨25, _⟩ => ⟨S16x4x1x128, .f32⟩
  | .local _ .vmem, ⟨26, _⟩ => ⟨S16x4x128x128, .f32⟩
  | .local _ .vmem, ⟨27, _⟩ => ⟨S16x4x1x128, .f32⟩
  | .local _ .vmem, ⟨28, _⟩ => ⟨S16x4x1x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_157 : BitVec 32 := 0#32
  let v309 : BitVec 1 := Scalar.cmpi .eq arg1 c0_i32_157
  let v310 : BitVec 32 := Scalar.extui v309
  let c0_i32_158 : BitVec 32 := 0#32
  let v311 : BitVec 1 := Scalar.cmpi .ne v310 c0_i32_158
  v311

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x4x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Kernel5Ideal.lean ====
variable {F : FTy → Type} [FloatOps F] [Named F]
def κ : String → Option EReal := fun
  | "mask" => some ⊥
  | _ => none
-- ==== Reference5Ideal.lean ====
abbrev S1024x512 : Shape := ⟨2, ![1024, 512]⟩
abbrev S1024x128 : Shape := ⟨2, ![1024, 128]⟩
abbrev S1x8 : Shape := ⟨2, ![1, 8]⟩
abbrev S4x128 : Shape := ⟨2, ![4, 128]⟩
abbrev S128x4x128x128 : Shape := ⟨4, ![128, 4, 128, 128]⟩
abbrev S128x4x128 : Shape := ⟨3, ![128, 4, 128]⟩
abbrev S128x4 : Shape := ⟨2, ![128, 4]⟩
abbrev S128x8x128 : Shape := ⟨3, ![128, 8, 128]⟩
abbrev S128x4x4 : Shape := ⟨3, ![128, 4, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩
abbrev S128x8x4x128 : Shape := ⟨4, ![128, 8, 4, 128]⟩
abbrev S128x4x4x128 : Shape := ⟨4, ![128, 4, 4, 128]⟩
abbrev S4x4 : Shape := ⟨2, ![4, 4]⟩
abbrev S128x4x4x1 : Shape := ⟨4, ![128, 4, 4, 1]⟩
abbrev S128x4x1x4 : Shape := ⟨4, ![128, 4, 1, 4]⟩
abbrev S128x4x4x4 : Shape := ⟨4, ![128, 4, 4, 4]⟩
abbrev S128x4x1 : Shape := ⟨3, ![128, 4, 1]⟩
abbrev S128x4x1x1 : Shape := ⟨4, ![128, 4, 1, 1]⟩
abbrev S1x1x4x128 : Shape := ⟨4, ![1, 1, 4, 128]⟩
abbrev S128x4x512 : Shape := ⟨3, ![128, 4, 512]⟩
abbrev S512x512 : Shape := ⟨2, ![512, 512]⟩
abbrev S128x4x1x128 : Shape := ⟨4, ![128, 4, 1, 128]⟩

abbrev nBuf : Space → Nat
  | .hbm => 178
  | .vmem => 0
  | .smem => 0
  | _ => 0

abbrev hbmTy0_0 (i : Nat) : BufTy := match i % 128 with
  | 0 => ⟨S1024x512, .f32⟩
  | 1 => ⟨S1024x512, .f32⟩
  | 2 => ⟨S1024x512, .f32⟩
  | 3 => ⟨S1024x512, .f32⟩
  | 4 => ⟨S1024x128, .f32⟩
  | 5 => ⟨S1x8, .f32⟩
  | 6 => ⟨S4x128, .f32⟩
  | 7 => ⟨S128x4x128x128, .f32⟩
  | 8 => ⟨S128x4x128, .f32⟩
  | 9 => ⟨S128x4, .f32⟩
  | 10 => ⟨S128x8x128, .f32⟩
  | 11 => ⟨S128x4x128, .f32⟩
  | 12 => ⟨S128x4x4, .f32⟩
  | 13 => ⟨S1x4, .f32⟩
  | 14 => ⟨S4, .f32⟩
  | 15 => ⟨S1x1x4, .f32⟩
  | 16 => ⟨S128x4x4, .f32⟩
  | 17 => ⟨S128x4x4, .f32⟩
  | 18 => ⟨S128x4x4, .f32⟩
  | 19 => ⟨S1x4, .f32⟩
  | 20 => ⟨S4, .f32⟩
  | 21 => ⟨S1x1x4, .f32⟩
  | 22 => ⟨S128x4x4, .f32⟩
  | 23 => ⟨S128x4x4, .f32⟩
  | 24 => ⟨S128x4x4, .f32⟩
  | 25 => ⟨S_, .f32⟩
  | 26 => ⟨S128x4x4, .f32⟩
  | 27 => ⟨S128x4x4, .f32⟩
  | 28 => ⟨S128x4x4, .f32⟩
  | 29 => ⟨S128x4x4, .f32⟩
  | 30 => ⟨S128x4x4, .i1⟩
  | 31 => ⟨S128x4x4, .f32⟩
  | 32 => ⟨S128x4x4, .f32⟩
  | 33 => ⟨S128x4x4, .f32⟩
  | 34 => ⟨S128x4x4, .f32⟩
  | 35 => ⟨S128x4x4, .f32⟩
  | 36 => ⟨S128x4x4, .f32⟩
  | 37 => ⟨S128x4x4, .f32⟩
  | 38 => ⟨S128x4x4, .f32⟩
  | 39 => ⟨S128x4x4, .f32⟩
  | 40 => ⟨S128x8x4x128, .f32⟩
  | 41 => ⟨S128x4x4x128, .f32⟩
  | 42 => ⟨S128x8x4x128, .f32⟩
  | 43 => ⟨S128x4x4x128, .f32⟩
  | 44 => ⟨S128x8x4x128, .f32⟩
  | 45 => ⟨S128x4x4x128, .f32⟩
  | 46 => ⟨S_, .f32⟩
  | 47 => ⟨S_, .f32⟩
  | 48 => ⟨S128x4x4, .f32⟩
  | 49 => ⟨S128x4x4, .f32⟩
  | 50 => ⟨S128x4x4, .f32⟩
  | 51 => ⟨S_, .i1⟩
  | 52 => ⟨S4x4, .i1⟩
  | 53 => ⟨S4x4, .i32⟩
  | 54 => ⟨S_, .i32⟩
  | 55 => ⟨S4x4, .i32⟩
  | 56 => ⟨S4x4, .i32⟩
  | 57 => ⟨S4x4, .i32⟩
  | 58 => ⟨S4x4, .i1⟩
  | 59 => ⟨S_, .i1⟩
  | 60 => ⟨S4x4, .i1⟩
  | 61 => ⟨S4x4, .i1⟩
  | 62 => ⟨S128x4x4x1, .f32⟩
  | 63 => ⟨S128x4x1x4, .f32⟩
  | 64 => ⟨S128x4x4x4, .f32⟩
  | 65 => ⟨S128x4x4x4, .f32⟩
  | 66 => ⟨S128x4x4x4, .f32⟩
  | 67 => ⟨S128x4x1x4, .f32⟩
  | 68 => ⟨S128x4x4x4, .f32⟩
  | 69 => ⟨S128x4x4x4, .f32⟩
  | 70 => ⟨S_, .f32⟩
  | 71 => ⟨S_, .f32⟩
  | 72 => ⟨S128x4x4x4, .i1⟩
  | 73 => ⟨S128x4x4x4, .f32⟩
  | 74 => ⟨S128x4x4x4, .f32⟩
  | 75 => ⟨S128x4x1, .f32⟩
  | 76 => ⟨S128x4x4, .f32⟩
  | 77 => ⟨S128x4x4, .f32⟩
  | 78 => ⟨S_, .f32⟩
  | 79 => ⟨S128x4x4, .f32⟩
  | 80 => ⟨S128x4x4, .f32⟩
  | 81 => ⟨S128x4x4, .f32⟩
  | 82 => ⟨S128x4x4, .f32⟩
  | 83 => ⟨S128x4x4x1, .f32⟩
  | 84 => ⟨S128x4x4x4, .f32⟩
  | 85 => ⟨S128x4x4x4, .f32⟩
  | 86 => ⟨S128x4x4x4, .f32⟩
  | 87 => ⟨S128x4x4x4, .f32⟩
  | 88 => ⟨S128x4x4x4, .f32⟩
  | 89 => ⟨S128x4x4x128, .f32⟩
  | 90 => ⟨S128x4x4x1, .f32⟩
  | 91 => ⟨S128x4x4x128, .f32⟩
  | 92 => ⟨S128x4x4x128, .f32⟩
  | 93 => ⟨S128x4x4x128, .f32⟩
  | 94 => ⟨S128x4x4x128, .f32⟩
  | 95 => ⟨S_, .f32⟩
  | 96 => ⟨S128x4x4, .f32⟩
  | 97 => ⟨S128x4x4, .f32⟩
  | 98 => ⟨S128x4x4, .f32⟩
  | 99 => ⟨S128x4x4, .f32⟩
  | 100 => ⟨S128x4x4, .f32⟩
  | 101 => ⟨S128x4x4, .f32⟩
  | 102 => ⟨S128x4x4, .f32⟩
  | 103 => ⟨S128x4x4, .f32⟩
  | 104 => ⟨S128x4x4x1, .f32⟩
  | 105 => ⟨S128x4x4x128, .f32⟩
  | 106 => ⟨S128x4x4x128, .f32⟩
  | 107 => ⟨S128x4x1, .f32⟩
  | 108 => ⟨S128x4, .f32⟩
  | 109 => ⟨S128x4x1, .f32⟩
  | 110 => ⟨S128x4, .f32⟩
  | 111 => ⟨S128x4, .f32⟩
  | 112 => ⟨S128x4, .f32⟩
  | 113 => ⟨S128x4x1, .f32⟩
  | 114 => ⟨S128x4x4, .f32⟩
  | 115 => ⟨S128x4x4, .f32⟩
  | 116 => ⟨S128x4x4, .f32⟩
  | 117 => ⟨S128x4x1, .f32⟩
  | 118 => ⟨S128x4x4, .f32⟩
  | 119 => ⟨S128x4x4, .f32⟩
  | 120 => ⟨S128x4x4, .f32⟩
  | 121 => ⟨S128x4x1x1, .f32⟩
  | 122 => ⟨S128x4x128x128, .f32⟩
  | 123 => ⟨S128x4x128x128, .f32⟩
  | 124 => ⟨S128x4x4, .f32⟩
  | 125 => ⟨S128x4x4x1, .f32⟩
  | 126 => ⟨S128x4x4x128, .f32⟩
  | 127 => ⟨S128x4x4x128, .f32⟩
  | _ => ⟨S1024x512, .f32⟩

abbrev hbmTy0_1 (i : Nat) : BufTy := match i % 128 with
  | 0 => ⟨S128x4x128x128, .f32⟩
  | 1 => ⟨S128x4x128x128, .f32⟩
  | 2 => ⟨S128x4x1, .f32⟩
  | 3 => ⟨S128x4x128, .f32⟩
  | 4 => ⟨S128x4x128, .f32⟩
  | 5 => ⟨S128x4x128, .f32⟩
  | 6 => ⟨S128x4x128, .f32⟩
  | 7 => ⟨S128x4x4x128, .f32⟩
  | 8 => ⟨S128x8x4x128, .f32⟩
  | 9 => ⟨S128x4x4x128, .f32⟩
  | 10 => ⟨S_, .f32⟩
  | 11 => ⟨S128x4x4, .f32⟩
  | 12 => ⟨S128x4x4x1, .f32⟩
  | 13 => ⟨S_, .f32⟩
  | 14 => ⟨S128x4x4x1, .f32⟩
  | 15 => ⟨S128x4x4x1, .f32⟩
  | 16 => ⟨S128x4x4x128, .f32⟩
  | 17 => ⟨S128x4x4x128, .f32⟩
  | 18 => ⟨S128x4x4x128, .f32⟩
  | 19 => ⟨S_, .f32⟩
  | 20 => ⟨S128x4x4, .f32⟩
  | 21 => ⟨S128x4x4x1, .f32⟩
  | 22 => ⟨S_, .f32⟩
  | 23 => ⟨S128x4x4x1, .f32⟩
  | 24 => ⟨S128x4x4x1, .f32⟩
  | 25 => ⟨S128x4x4x128, .f32⟩
  | 26 => ⟨S128x4x4x128, .f32⟩
  | 27 => ⟨S_, .f32⟩
  | 28 => ⟨S128x4x4x1, .f32⟩
  | 29 => ⟨S128x4x4x1, .f32⟩
  | 30 => ⟨S128x4x4x1, .f32⟩
  | 31 => ⟨S128x4x4x128, .f32⟩
  | 32 => ⟨S128x4x4x128, .f32⟩
  | 33 => ⟨S1x1x4x128, .f32⟩
  | 34 => ⟨S128x4x4x128, .f32⟩
  | 35 => ⟨S128x4x4x128, .f32⟩
  | 36 => ⟨S128x4x4x128, .f32⟩
  | 37 => ⟨S128x4x4x128, .f32⟩
  | 38 => ⟨S_, .f32⟩
  | 39 => ⟨S128x4x4x128, .f32⟩
  | 40 => ⟨S128x4x4x128, .f32⟩
  | 41 => ⟨S_, .f32⟩
  | 42 => ⟨S128x4x4x128, .f32⟩
  | 43 => ⟨S128x4x4x128, .f32⟩
  | 44 => ⟨S128x4x4x128, .f32⟩
  | 45 => ⟨S128x4x512, .f32⟩
  | 46 => ⟨S512x512, .f32⟩
  | 47 => ⟨S128x4x1x128, .f32⟩
  | 48 => ⟨S128x4x1x1, .f32⟩
  | 49 => ⟨S128x4x1x128, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call1_call0_cst : Ref sig .tc := ⟨.hbm, 46, rfl⟩
abbrev main_call1_call0_v0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c : Ref sig .tc := ⟨.hbm, 51, rfl⟩
abbrev main_v24 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_0 : Ref sig .tc := ⟨.hbm, 59, rfl⟩
abbrev main_call2_v5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_0 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_1 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_2 : Ref sig .tc := ⟨.hbm, 138, rfl⟩
abbrev main_v96 : Ref sig .tc := ⟨.hbm, 139, rfl⟩
abbrev main_v97 : Ref sig .tc := ⟨.hbm, 140, rfl⟩
abbrev main_cst_3 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_4 : Ref sig .tc := ⟨.hbm, 147, rfl⟩
abbrev main_v103 : Ref sig .tc := ⟨.hbm, 148, rfl⟩
abbrev main_v104 : Ref sig .tc := ⟨.hbm, 149, rfl⟩
abbrev main_cst_5 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_6 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_7 : Ref sig .tc := ⟨.hbm, 166, rfl⟩
abbrev main_v119 : Ref sig .tc := ⟨.hbm, 167, rfl⟩
abbrev main_v120 : Ref sig .tc := ⟨.hbm, 168, rfl⟩
abbrev main_cst_8 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩

abbrev nD : Nat := 1
abbrev τ : Topo := Topo.v7x

variable {F : FTy → Type} [FloatOps F]
-- ==== Proof.Mlstm.Spec.lean ====
/-
  One chunk of the matrix-memory recurrence, as plain functions of a head and of positions.

  `St` is the state that is carried from chunk to chunk (the matrix memory, the normaliser, the running log maximum of each
  head) and `Inp` what one chunk of 128 positions brings (queries, keys, values, input gates, logs of the forget gates).
  Both the kernel's grid point and one trip of the reference's loop are shown to be `Inp.out` and `Inp.next`.
-/
module

public import Idealize.ShloMosaic.Lib.Pointwise

@[expose] public section

noncomputable section

namespace Cert.Mlstm

open Idealize.ShloMosaic

/-- Minus infinity, as both programs write it. -/
def ninf : EReal := Ideal.ofBits .f32 0xFF800000#32

/-- The carried state: of head `h`, the matrix memory `C h d e` (value coordinate `d`, key coordinate `e`), the
    normaliser `n h e` and the running maximum `m h` of the logs of the gates. -/
@[ext] structure St where
  C : Fin 4 → Fin 128 → Fin 128 → EReal
  n : Fin 4 → Fin 128 → EReal
  m : Fin 4 → EReal

/-- The state before the first chunk. -/
def St.zero : St := ⟨fun _ _ _ => 0, fun _ _ => 0, fun _ => 0⟩

/-- What one chunk of 128 positions brings, of head `h` at position `t`: query, key, value, input gate and log of the
    forget gate. -/
@[ext] structure Inp where
  q : Fin 4 → Fin 128 → Fin 128 → EReal
  k : Fin 4 → Fin 128 → Fin 128 → EReal
  v : Fin 4 → Fin 128 → Fin 128 → EReal
  ig : Fin 4 → Fin 128 → EReal
  lf : Fin 4 → Fin 128 → EReal

namespace Inp

variable (x : Inp) (st : St)

/-- The log of the product of the forget gates up to and including position `t`. -/
def b (h : Fin 4) (t : Fin 128) : EReal := ∑ u : Fin 128, if u ≤ t then x.lf h u else 0

/-- The log of the weight with which position `s` enters position `t`. -/
def logd (h : Fin 4) (t s : Fin 128) : EReal := if s ≤ t then x.b h t - x.b h s + x.ig h s else ninf

/-- The log of the weight with which the carried state enters position `t`. -/
def inter (h : Fin 4) (t : Fin 128) : EReal := x.b h t + st.m h

/-- The running maximum at position `t`. -/
def mt (h : Fin 4) (t : Fin 128) : EReal :=
  max (x.inter st h t) (Finset.univ.fold max ninf fun s => x.logd h t s)

/-- The stabilised weight of the carried state. -/
def wi (h : Fin 4) (t : Fin 128) : EReal := Ideal.exp (x.inter st h t - x.mt st h t)

/-- The gated products of queries and keys. -/
def att (h : Fin 4) (t s : Fin 128) : EReal :=
  Ideal.exp (x.logd h t s - x.mt st h t) * ∑ e : Fin 128, x.q h t e * x.k h s e

/-- The numerator of the output. -/
def num (h : Fin 4) (t d : Fin 128) : EReal :=
  (∑ s : Fin 128, x.att st h t s * x.v h s d) + x.wi st h t * ∑ e : Fin 128, x.q h t e * st.C h d e

/-- The denominator of the output, before its absolute value is bounded below. -/
def den (h : Fin 4) (t : Fin 128) : EReal :=
  (∑ s : Fin 128, x.att st h t s) + x.wi st h t * ∑ e : Fin 128, x.q h t e * st.n h e

/-- The output of head `h` at position `t`. -/
def out (h : Fin 4) (t d : Fin 128) : EReal :=
  Ideal.div (x.num st h t d) (max (max (x.den st h t) (-x.den st h t)) (Ideal.exp (-x.mt st h t)))

/-- The factor by which the carried state decays over the chunk. -/
def wc (h : Fin 4) : EReal := Ideal.exp (x.inter st h 127 - x.mt st h 127)

/-- The weight with which position `s` enters the new state. -/
def ws (h : Fin 4) (s : Fin 128) : EReal := Ideal.exp (x.b h 127 - x.b h s + x.ig h s - x.mt st h 127)

/-- The state after the chunk. -/
def next : St where
  C h d e := x.wc st h * st.C h d e + ∑ s : Fin 128, x.v h s d * x.ws st h s * x.k h s e
  n h e := x.wc st h * st.n h e + ∑ s : Fin 128, x.ws st h s * x.k h s e
  m h := x.mt st h 127

end Inp

/-- The state after `n` chunks. -/
def states (X : Nat → Inp) : Nat → St
  | 0 => St.zero
  | n + 1 => (X n).next (states X n)

/-- The mean of 128 numbers. -/
def mean (f : Fin 128 → EReal) : EReal := Ideal.div (∑ d : Fin 128, f d) (Ideal.ofBits .f32 0x43000000#32)

/-- Layer normalisation of 128 numbers, before its weight. -/
def norm (f : Fin 128 → EReal) (d : Fin 128) : EReal :=
  (f d - mean f) * Ideal.rsqrt (mean (fun d => (f d - mean f) * (f d - mean f)) + Ideal.ofBits .f32 0x3727C5AC#32)

/-- The log of the logistic function. -/
def logsig (x : EReal) : EReal := min x 0 - Ideal.log1p (Ideal.exp (0 - max x (-x)))

end Cert.Mlstm
-- ==== Proof.Mlstm.PayIn.lean ====
/-
  What the kernel's body makes of a chunk's blocks before it reads the carried state: the heads of the queries, keys and
  values, the input gates, and the running sums of the logs of the forget gates.
-/
module

public import proofs.«01_k».proof.Proof.Gen.KernelIdeal.Skeleton
public import proofs.«01_k».proof.Proof.Mlstm.Spec
public import Idealize.ShloMosaic.Lib.WordCmp

@[expose] public section

noncomputable section

namespace Cert.Mlstm

open Idealize.ShloMosaic Cert.KernelIdeal Cert.KernelIdeal.Gen

/-- The chunk that five blocks of the kernel's arguments hold. -/
def inpK (q k v : Vec Ideal S128x512 .f32) (g : Vec Ideal S128x128 .f32) (bias : Vec Ideal S1x128 .f32) : Inp where
  q h t e := q (ix2 t ⟨128 * h.val + e.val, by omega⟩)
  k h t e := k (ix2 t ⟨128 * h.val + e.val, by omega⟩)
  v h t e := v (ix2 t ⟨128 * h.val + e.val, by omega⟩)
  ig h t := g (ix2 t ⟨h.val, by omega⟩) + bias (ix2 0 ⟨h.val, by omega⟩)
  lf h t := logsig (g (ix2 t ⟨4 + h.val, by omega⟩) + bias (ix2 0 ⟨4 + h.val, by omega⟩))

/-- The heads of the queries. -/
theorem pay15_apply (q : Vec Ideal S128x512 .f32) (h : Fin 4) (t e : Fin 128) :
    k0_pay15 (F := Ideal) q (ix3 h t e) = q (ix2 t ⟨128 * h.val + e.val, by omega⟩) := by
  fin_cases h <;> pointwise [k0_pay15]

/-- The heads of the keys. -/
theorem pay17_apply (q : Vec Ideal S128x512 .f32) (h : Fin 4) (t e : Fin 128) :
    k0_pay17 (k0_pay16 (F := Ideal) q) (ix3 h t e) = q (ix2 t ⟨128 * h.val + e.val, by omega⟩) := by
  fin_cases h <;> pointwise [k0_pay17, k0_pay16]

/-- The heads of the values. -/
theorem pay18_apply (q : Vec Ideal S128x512 .f32) (h : Fin 4) (t e : Fin 128) :
    k0_pay18 (F := Ideal) q (ix3 h t e) = q (ix2 t ⟨128 * h.val + e.val, by omega⟩) := by
  fin_cases h <;> pointwise [k0_pay18]

/-- The gates with their bias. -/
theorem pay8_apply (g : Vec Ideal S128x128 .f32) (b : Vec Ideal S1x128 .f32) (z : Fin 1) (t l : Fin 128) :
    k0_pay8 (F := Ideal) g b (ix3 z t l) = g (ix2 t l) + b (ix2 0 l) := by
  pointwise [k0_pay8]

/-- The input gates, head by head. -/
theorem pay12_apply (g : FVec Ideal S1x128x128 .f32) (h : Fin 4) (t : Fin 128) (z : Fin 1) :
    k0_pay12 g (ix3 h t z) = g (ix3 0 t ⟨h.val, by omega⟩) := by
  fin_cases h <;> pointwise [k0_pay12]

/-- The sum of `f` over the `w` positions up to and including `t` (fewer at the start). -/
def winSum (w : Nat) (f : Fin 128 → EReal) (t : Fin 128) : EReal :=
  ∑ u : Fin 128, if u.val ≤ t.val ∧ t.val < u.val + w then f u else 0

theorem winSum_one (f : Fin 128 → EReal) (t : Fin 128) : winSum 1 f t = f t := by
  unfold winSum
  rw [Finset.sum_eq_single t]
  · simp
  · intro u _ hu
    rw [if_neg]
    rintro ⟨h1, h2⟩
    exact hu (Fin.ext (by omega))
  · simp

theorem winSum_all (f : Fin 128 → EReal) (t : Fin 128) : winSum 128 f t = ∑ u : Fin 128, if u ≤ t then f u else 0 := by
  unfold winSum
  refine Finset.sum_congr rfl fun u _ => ?_
  have := t.isLt
  refine if_congr ⟨fun h => h.1, fun h => ⟨h, by omega⟩⟩ rfl rfl

/-- Two neighbouring windows of the same length make one of twice the length. -/
theorem winSum_double (w : Nat) (hw : w ≤ 128) (f : Fin 128 → EReal) (t : Fin 128) :
    winSum w f t + (if w ≤ t.val then winSum w f ⟨(t.val + 128 - w) % 128, Nat.mod_lt _ (by decide)⟩ else 0)
      = winSum (w + w) f t := by
  have ht := t.isLt
  by_cases hwt : w ≤ t.val
  · rw [if_pos hwt]
    have e : (t.val + 128 - w) % 128 = t.val - w := by omega
    unfold winSum
    rw [← Finset.sum_add_distrib]
    refine Finset.sum_congr rfl fun u _ => ?_
    simp only [e]
    by_cases h1 : u.val ≤ t.val ∧ t.val < u.val + w
    · rw [if_pos h1, if_neg (by omega), if_pos (by omega), add_zero]
    · by_cases h2 : u.val ≤ t.val - w ∧ t.val - w < u.val + w
      · rw [if_neg h1, if_pos h2, if_pos (by omega), zero_add]
      · rw [if_neg h1, if_neg h2, if_neg (by omega), add_zero]
  · rw [if_neg hwt, add_zero]
    unfold winSum
    refine Finset.sum_congr rfl fun u _ => ?_
    exact if_congr (by omega) rfl rfl

/-- One step of the running sums: what is `n` positions back is added where there is such a position. -/
def rollAdd (n : BitVec 32) (x : FVec Ideal S1x128x128 .f32) : FVec Ideal S1x128x128 .f32 :=
  addf x (select (cmpi .sge (iota .tc S1x128x128 32 [1] iota_S1x128x128_d1_w32) (broadcast S1x128x128 n))
    (dynamicRotate 1 n none x rotates_S1x128x128_d1) (broadcast S1x128x128 (Scalar.ofBits .f32 0x00000000#32)))

/-- It turns the sums over `w` positions into those over `w + w`. -/
theorem rollAdd_apply (x : FVec Ideal S1x128x128 .f32) (n : BitVec 32) (w : Nat) (hn : n.toNat = w) (hw : w < 128)
    (f : Fin 128 → Fin 128 → EReal)
    (hx : ∀ z t l, x (ix3 z t l) = winSum w (fun u => f u l) t) (z : Fin 1) (t l : Fin 128) :
    rollAdd n x (ix3 z t l) = winSum (w + w) (fun u => f u l) t := by
  rw [← winSum_double w hw.le]
  obtain rfl : n = BitVec.ofNat 32 w := by
    apply BitVec.eq_of_toNat_eq
    rw [hn, BitVec.toNat_ofNat, Nat.mod_eq_of_lt (by omega)]
  have ht := t.isLt
  pointwise [rollAdd]
  rw [WordCmp.cmpi_sge_ofNat (by omega) (by omega), WordCmp.select_decide, hx, hx]
  simp only [hn, Nat.mod_eq_of_lt hw]

/-- The logs of the logistic function of all columns of the gates. -/
def logs (g : Vec Ideal S128x128 .f32) (b : Vec Ideal S1x128 .f32) : FVec Ideal S1x128x128 .f32 :=
  subf (minimumf (k0_pay8 g b) (broadcast S1x128x128 (Scalar.ofBits .f32 0x00000000#32)))
    (log1p (exp (subf (broadcast S1x128x128 (Scalar.ofBits .f32 0x00000000#32)) (absf (k0_pay8 g b)))))

theorem logs_apply (g : Vec Ideal S128x128 .f32) (b : Vec Ideal S1x128 .f32) (z : Fin 1) (t l : Fin 128) :
    logs g b (ix3 z t l) = logsig (g (ix2 t l) + b (ix2 0 l)) := by
  pointwise [logs, k0_pay8, logsig]
  rfl

/-- Columns 4 to 7, one below the other. -/
def cols (x : FVec Ideal S1x128x128 .f32) : FVec Ideal S4x128x1 .f32 :=
  concatenate S4x128x1 0
    [⟨S1x128x1, extractStridedSlice S1x128x1 ![0, 0, 4] x slices_S1x128x128_o0_0_4_S1x128x1⟩,
      ⟨S1x128x1, extractStridedSlice S1x128x1 ![0, 0, 5] x slices_S1x128x128_o0_0_5_S1x128x1⟩,
      ⟨S1x128x1, extractStridedSlice S1x128x1 ![0, 0, 6] x slices_S1x128x128_o0_0_6_S1x128x1⟩,
      ⟨S1x128x1, extractStridedSlice S1x128x1 ![0, 0, 7] x slices_S1x128x128_o0_0_7_S1x128x1⟩]
    concatenates_S1x128x1_S1x128x1_S1x128x1_S1x128x1_S4x128x1_d0

theorem cols_apply (x : FVec Ideal S1x128x128 .f32) (h : Fin 4) (t : Fin 128) (z : Fin 1) :
    cols x (ix3 h t z) = x (ix3 0 t ⟨4 + h.val, by omega⟩) := by
  fin_cases h <;> pointwise [cols]

theorem pay11_eq (g : Vec Ideal S128x128 .f32) (b : Vec Ideal S1x128 .f32) :
    k0_pay11 (iota .tc S1x128x128 32 [1] iota_S1x128x128_d1_w32) (k0_pay9 (F := Ideal) g b) k0_pay10
      = cols (rollAdd 64#32 (rollAdd 32#32 (rollAdd 16#32 (rollAdd 8#32
          (rollAdd 4#32 (rollAdd 2#32 (rollAdd 1#32 (logs g b)))))))) := rfl

/-- The running sums of the logs of the forget gates, head by head. -/
theorem pay11_apply (g : Vec Ideal S128x128 .f32) (b : Vec Ideal S1x128 .f32) (h : Fin 4) (t : Fin 128) (z : Fin 1) :
    k0_pay11 (iota .tc S1x128x128 32 [1] iota_S1x128x128_d1_w32) (k0_pay9 (F := Ideal) g b) k0_pay10 (ix3 h t z)
      = ∑ u : Fin 128, if u ≤ t then logsig (g (ix2 u ⟨4 + h.val, by omega⟩) + b (ix2 0 ⟨4 + h.val, by omega⟩)) else 0 := by
  rw [pay11_eq, cols_apply]
  rw [← winSum_all (fun u => logsig (g (ix2 u ⟨4 + h.val, by omega⟩) + b (ix2 0 ⟨4 + h.val, by omega⟩)))]
  have key := rollAdd_apply _ 64#32 64 rfl (by decide) (fun u l => logsig (g (ix2 u l) + b (ix2 0 l)))
    (rollAdd_apply _ 32#32 32 rfl (by decide) _ (rollAdd_apply _ 16#32 16 rfl (by decide) _
      (rollAdd_apply _ 8#32 8 rfl (by decide) _ (rollAdd_apply _ 4#32 4 rfl (by decide) _
        (rollAdd_apply _ 2#32 2 rfl (by decide) _ (rollAdd_apply (logs g b) 1#32 1 rfl (by decide) _
          (fun z t l => (logs_apply g b z t l).trans (winSum_one (fun u => logsig (g (ix2 u l) + b (ix2 0 l))) t).symm)))))))
  exact key 0 t _

end Cert.Mlstm
-- ==== Proof.Mlstm.PaySt.lean ====
/-
  What the kernel's body computes from the heads of a chunk and from the carried state, entry by entry.
-/
module

public import proofs.«01_k».proof.Proof.Mlstm.PayIn

@[expose] public section

noncomputable section

namespace Cert.Mlstm

open Idealize.ShloMosaic Cert.KernelIdeal Cert.KernelIdeal.Gen

/-- A sum over a column of the identity's mask is one entry. -/
theorem sum_eye (f : Fin 128 → EReal) (s : Fin 128) :
    (∑ x : Fin 128, Scalar.select (IntOp.cmpi CmpIPredicate.eq (BitVec.ofNat 32 x.val) (BitVec.ofNat 32 s.val)) (f x) 0)
      = f s := by
  rw [Finset.sum_eq_single s]
  · rw [WordCmp.cmpi_eq_ofNat (by omega) (by omega), WordCmp.select_decide, if_pos rfl]
  · intro x _ hx
    rw [WordCmp.cmpi_eq_ofNat (by omega) (by omega), WordCmp.select_decide, if_neg fun h => hx (Fin.ext h)]
  · simp

/-- The logs of the weights within the chunk. -/
theorem pay22_apply (b ig : FVec Ideal S4x128x1 .f32) (x : Inp) (hb : ∀ h t z, b (ix3 h t z) = x.b h t)
    (hig : ∀ h t z, ig (ix3 h t z) = x.ig h t) (h : Fin 4) (t s : Fin 128) :
    k0_pay22 b ig k0_pay13 k0_pay14 (ix3 h t s) = x.logd h t s := by
  pointwise [k0_pay22, k0_pay13, k0_pay14]
  rw [sum_eye (fun s => b (ix3 h s 0)), sum_eye (fun s => ig (ix3 h s 0)),
    WordCmp.cmpi_sle_ofNat (by omega) (by omega), WordCmp.select_decide, hb, hb, hig]
  rfl

/-- The matrix memories of the four heads. -/
theorem pay25_apply (c0 c1 c2 c3 : Vec Ideal S1x1x128x128 .f32) (C : Fin 4 → Fin 128 → Fin 128 → EReal)
    (h0 : ∀ d e, c0 (ix4 0 0 d e) = C 0 d e) (h1 : ∀ d e, c1 (ix4 0 0 d e) = C 1 d e)
    (h2 : ∀ d e, c2 (ix4 0 0 d e) = C 2 d e) (h3 : ∀ d e, c3 (ix4 0 0 d e) = C 3 d e) (h : Fin 4) (d e : Fin 128) :
    k0_pay25 (k0_pay23 c0) (k0_pay24 c1) c2 c3 (ix3 h d e) = C h d e := by
  match h with
  | 0 => rw [← h0]; pointwise [k0_pay25, k0_pay23, k0_pay24]
  | 1 => rw [← h1]; pointwise [k0_pay25, k0_pay23, k0_pay24]
  | 2 => rw [← h2]; pointwise [k0_pay25, k0_pay23, k0_pay24]
  | 3 => rw [← h3]; pointwise [k0_pay25, k0_pay23, k0_pay24]

/-- The normalisers of the four heads. -/
theorem pay26_apply (c0 c1 c2 c3 : Vec Ideal S1x1x1x128 .f32) (n : Fin 4 → Fin 128 → EReal)
    (h0 : ∀ e, c0 (ix4 0 0 0 e) = n 0 e) (h1 : ∀ e, c1 (ix4 0 0 0 e) = n 1 e)
    (h2 : ∀ e, c2 (ix4 0 0 0 e) = n 2 e) (h3 : ∀ e, c3 (ix4 0 0 0 e) = n 3 e) (h : Fin 4) (z : Fin 1) (e : Fin 128) :
    k0_pay26 c0 c1 c2 c3 (ix3 h z e) = n h e := by
  match h with
  | 0 => rw [← h0]; pointwise [k0_pay26]
  | 1 => rw [← h1]; pointwise [k0_pay26]
  | 2 => rw [← h2]; pointwise [k0_pay26]
  | 3 => rw [← h3]; pointwise [k0_pay26]

/-- The logs of the weights of the carried state. -/
theorem pay30_apply (b : FVec Ideal S4x128x1 .f32) (c0 c1 c2 c3 : Vec Ideal S1x1x1x128 .f32) (x : Inp) (st : St)
    (hb : ∀ h t z, b (ix3 h t z) = x.b h t)
    (h0 : ∀ e, c0 (ix4 0 0 0 e) = st.m 0) (h1 : ∀ e, c1 (ix4 0 0 0 e) = st.m 1)
    (h2 : ∀ e, c2 (ix4 0 0 0 e) = st.m 2) (h3 : ∀ e, c3 (ix4 0 0 0 e) = st.m 3) (h : Fin 4) (t : Fin 128) (z : Fin 1) :
    k0_pay30 b (k0_pay27 c0) (k0_pay28 c1) (k0_pay29 c2) c3 (ix3 h t z) = x.inter st h t := by
  unfold Inp.inter
  rw [← hb h t 0]
  obtain rfl : z = 0 := Subsingleton.elim _ _
  match h with
  | 0 => rw [← h0 0]; pointwise [k0_pay30, k0_pay27, k0_pay28, k0_pay29]
  | 1 => rw [← h1 0]; pointwise [k0_pay30, k0_pay27, k0_pay28, k0_pay29]
  | 2 => rw [← h2 0]; pointwise [k0_pay30, k0_pay27, k0_pay28, k0_pay29]
  | 3 => rw [← h3 0]; pointwise [k0_pay30, k0_pay27, k0_pay28, k0_pay29]

/-- The running maxima. -/
theorem pay31_apply (b : FVec Ideal S4x128x1 .f32) (ld : FVec Ideal S4x128x128 .f32)
    (c0 c1 c2 c3 : Vec Ideal S1x1x1x128 .f32) (x : Inp) (st : St)
    (hb : ∀ h t z, b (ix3 h t z) = x.b h t) (hld : ∀ h t s, ld (ix3 h t s) = x.logd h t s)
    (h0 : ∀ e, c0 (ix4 0 0 0 e) = st.m 0) (h1 : ∀ e, c1 (ix4 0 0 0 e) = st.m 1)
    (h2 : ∀ e, c2 (ix4 0 0 0 e) = st.m 2) (h3 : ∀ e, c3 (ix4 0 0 0 e) = st.m 3) (h : Fin 4) (t : Fin 128) (z : Fin 1) :
    k0_pay31 b ld (k0_pay27 c0) (k0_pay28 c1) (k0_pay29 c2) c3 (ix3 h t z) = x.mt st h t := by
  have e := pay30_apply b c0 c1 c2 c3 x st hb h0 h1 h2 h3 h t z
  unfold Inp.mt
  rw [← e]
  simp only [← hld]
  generalize k0_pay27 c0 = d0
  generalize k0_pay28 c1 = d1
  generalize k0_pay29 c2 = d2
  unfold k0_pay31
  generalize k0_pay30 b d0 d1 d2 c3 = i
  pointwise
  rfl

theorem pay32_apply (b : FVec Ideal S4x128x1 .f32) (q : FVec Ideal S4x128x128 .f32) (qb kb vb : FVec Ideal S4x128x128 .bf16)
    (ld C : FVec Ideal S4x128x128 .f32) (n : FVec Ideal S4x1x128 .f32) (d0 d1 d2 : FVec Ideal S1x1x128 .f32)
    (c3 : Vec Ideal S1x1x1x128 .f32) (x : Inp) (st : St)
    (hq : ∀ h t e, q (ix3 h t e) = x.q h t e)
    (hqb : ∀ h t e, qb (ix3 h t e) = x.q h t e) (hkb : ∀ h t e, kb (ix3 h t e) = x.k h t e)
    (hvb : ∀ h t e, vb (ix3 h t e) = x.v h t e) (hld : ∀ h t s, ld (ix3 h t s) = x.logd h t s)
    (hC : ∀ h d e, C (ix3 h d e) = st.C h d e) (hn : ∀ h z e, n (ix3 h z e) = st.n h e)
    (hi : ∀ h t z, k0_pay30 b d0 d1 d2 c3 (ix3 h t z) = x.inter st h t)
    (hm : ∀ h t z, k0_pay31 b ld d0 d1 d2 c3 (ix3 h t z) = x.mt st h t) (h : Fin 4) (t d : Fin 128) :
    k0_pay32 b q qb kb vb ld C n d0 d1 d2 c3 (ix3 h t d) = x.out st h t d - mean (x.out st h t) := by
  unfold k0_pay32
  generalize k0_pay30 b d0 d1 d2 c3 = i at *
  generalize k0_pay31 b ld d0 d1 d2 c3 = m at *
  pointwise
  simp only [hq, hqb, hkb, hvb, hld, hC, hn, hi, hm, zero_sub]
  rfl

theorem pay33_apply (b : FVec Ideal S4x128x1 .f32) (q : FVec Ideal S4x128x128 .f32) (qb kb vb : FVec Ideal S4x128x128 .bf16)
    (ld C : FVec Ideal S4x128x128 .f32) (n : FVec Ideal S4x1x128 .f32) (d0 d1 d2 : FVec Ideal S1x1x128 .f32)
    (c3 : Vec Ideal S1x1x1x128 .f32) (f : Fin 4 → Fin 128 → Fin 128 → EReal)
    (hf : ∀ h t d, k0_pay32 b q qb kb vb ld C n d0 d1 d2 c3 (ix3 h t d) = f h t d) (h : Fin 4) (t : Fin 128) (z : Fin 1) :
    k0_pay33 b q qb kb vb ld C n d0 d1 d2 c3 (ix3 h t z) = mean (fun d => f h t d * f h t d) := by
  unfold k0_pay33
  generalize k0_pay32 b q qb kb vb ld C n d0 d1 d2 c3 = y at *
  pointwise
  simp only [hf]
  rfl

/-- The normalised output of all heads. -/
theorem pay34_apply (y : FVec Ideal S4x128x128 .f32) (w : FVec Ideal S4x128x1 .f32) (f : Fin 4 → Fin 128 → Fin 128 → EReal)
    (hy : ∀ h t d, y (ix3 h t d) = f h t d - mean (f h t))
    (hw : ∀ h t z, w (ix3 h t z) = mean (fun d => (f h t d - mean (f h t)) * (f h t d - mean (f h t))))
    (h : Fin 4) (t d : Fin 128) :
    k0_pay34 y w (Scalar.ofBits .f32 0x3727C5AC#32) (ix3 h t d) = norm (f h t) d := by
  unfold k0_pay34
  pointwise
  simp only [hy, hw]
  rfl

theorem pay41_apply (i m : FVec Ideal S4x128x1 .f32) (x : Inp) (st : St)
    (hi : ∀ h t z, i (ix3 h t z) = x.inter st h t) (hm : ∀ h t z, m (ix3 h t z) = x.mt st h t)
    (h : Fin 4) (z z' : Fin 1) : k0_pay41 i m (ix3 h z z') = x.wc st h := by
  pointwise [k0_pay41, k0_pay40]
  simp only [hi, hm]
  rfl

theorem pay42_apply (b ig m : FVec Ideal S4x128x1 .f32) (x : Inp) (st : St)
    (hb : ∀ h t z, b (ix3 h t z) = x.b h t) (hig : ∀ h t z, ig (ix3 h t z) = x.ig h t)
    (hm : ∀ h t z, m (ix3 h t z) = x.mt st h t) (h : Fin 4) (s : Fin 128) (z : Fin 1) :
    k0_pay42 b ig m (ix3 h s z) = x.ws st h s := by
  pointwise [k0_pay42, k0_pay40]
  simp only [hb, hig, hm]
  rfl

/-- The new matrix memories. -/
theorem pay43_apply (b ig i m : FVec Ideal S4x128x1 .f32) (v : FVec Ideal S4x128x128 .f32) (kb : FVec Ideal S4x128x128 .bf16)
    (C : FVec Ideal S4x128x128 .f32) (x : Inp) (st : St)
    (hv : ∀ h t e, v (ix3 h t e) = x.v h t e) (hkb : ∀ h t e, kb (ix3 h t e) = x.k h t e)
    (hC : ∀ h d e, C (ix3 h d e) = st.C h d e)
    (hwc : ∀ h z z', k0_pay41 i m (ix3 h z z') = x.wc st h) (hws : ∀ h s z, k0_pay42 b ig m (ix3 h s z) = x.ws st h s)
    (h : Fin 4) (d e : Fin 128) : k0_pay43 b ig v kb C i m (ix3 h d e) = (x.next st).C h d e := by
  unfold k0_pay43
  generalize k0_pay41 i m = wc at *
  generalize k0_pay42 b ig m = ws at *
  pointwise
  simp only [hv, hkb, hC, hwc, hws]
  rfl

/-- The new normalisers. -/
theorem pay44_apply (b ig i m : FVec Ideal S4x128x1 .f32) (k : FVec Ideal S4x128x128 .f32) (n : FVec Ideal S4x1x128 .f32)
    (x : Inp) (st : St)
    (hk : ∀ h t e, k (ix3 h t e) = x.k h t e) (hn : ∀ h z e, n (ix3 h z e) = st.n h e)
    (hwc : ∀ h z z', k0_pay41 i m (ix3 h z z') = x.wc st h) (hws : ∀ h s z, k0_pay42 b ig m (ix3 h s z) = x.ws st h s)
    (h : Fin 4) (z : Fin 1) (e : Fin 128) : k0_pay44 b ig k n i m (ix3 h z e) = (x.next st).n h e := by
  unfold k0_pay44
  generalize k0_pay41 i m = wc at *
  generalize k0_pay42 b ig m = ws at *
  pointwise
  simp only [hk, hn, hwc, hws]
  rfl

/-- The new running maxima, spread over the lanes. -/
theorem pay45_apply (m : FVec Ideal S4x128x1 .f32) (x : Inp) (st : St)
    (hm : ∀ h t z, m (ix3 h t z) = x.mt st h t) (h : Fin 4) (z : Fin 1) (e : Fin 128) :
    k0_pay45 m (ix3 h z e) = (x.next st).m h := by
  pointwise [k0_pay45, k0_pay40]
  rw [hm]
  rfl

end Cert.Mlstm
-- ==== Proof.Mlstm.KOpen.lean ====
/-
  The kernel's body as a function of its blocks and of the carried state: what a grid point stores into its window of the
  output and into the three scratch buffers is stated once (`outK`, `newC`, `newN`, `newM`) and the contents that the
  three kinds of grid points (first, middle, last) leave are shown to be these.
-/
module

public import proofs.«01_k».proof.Proof.Gen.KernelIdeal.Frame
public import proofs.«01_k».proof.Proof.Mlstm.PaySt
public import Idealize.ShloMosaic.Lib.Pipeline.Value

@[expose] public section

noncomputable section

namespace Cert.Mlstm

open Idealize.ShloMosaic Cert.KernelIdeal Cert.KernelIdeal.Gen

/-- Head `h`'s matrix memory in the carried buffer. -/
abbrev ldC0 (s : Vec Ideal S1x4x128x128 .f32) : Vec Ideal S1x1x128x128 .f32 :=
  View.ld s (Rect.unit ![0, 0, 0, 0] ![1, 1, 128, 128] inb_S1x4x128x128_S1x1x128x128_0_0_0_0)
abbrev ldC1 (s : Vec Ideal S1x4x128x128 .f32) : Vec Ideal S1x1x128x128 .f32 :=
  View.ld s (Rect.unit ![0, 1, 0, 0] ![1, 1, 128, 128] inb_S1x4x128x128_S1x1x128x128_0_1_0_0)
abbrev ldC2 (s : Vec Ideal S1x4x128x128 .f32) : Vec Ideal S1x1x128x128 .f32 :=
  View.ld s (Rect.unit ![0, 2, 0, 0] ![1, 1, 128, 128] inb_S1x4x128x128_S1x1x128x128_0_2_0_0)
abbrev ldC3 (s : Vec Ideal S1x4x128x128 .f32) : Vec Ideal S1x1x128x128 .f32 :=
  View.ld s (Rect.unit ![0, 3, 0, 0] ![1, 1, 128, 128] inb_S1x4x128x128_S1x1x128x128_0_3_0_0)

/-- Head `h`'s row in a carried buffer of rows. -/
abbrev ldR0 (s : Vec Ideal S1x4x1x128 .f32) : Vec Ideal S1x1x1x128 .f32 :=
  View.ld s (Rect.unit ![0, 0, 0, 0] ![1, 1, 1, 128] inb_S1x4x1x128_S1x1x1x128_0_0_0_0)
abbrev ldR1 (s : Vec Ideal S1x4x1x128 .f32) : Vec Ideal S1x1x1x128 .f32 :=
  View.ld s (Rect.unit ![0, 1, 0, 0] ![1, 1, 1, 128] inb_S1x4x1x128_S1x1x1x128_0_1_0_0)
abbrev ldR2 (s : Vec Ideal S1x4x1x128 .f32) : Vec Ideal S1x1x1x128 .f32 :=
  View.ld s (Rect.unit ![0, 2, 0, 0] ![1, 1, 1, 128] inb_S1x4x1x128_S1x1x1x128_0_2_0_0)
abbrev ldR3 (s : Vec Ideal S1x4x1x128 .f32) : Vec Ideal S1x1x1x128 .f32 :=
  View.ld s (Rect.unit ![0, 3, 0, 0] ![1, 1, 1, 128] inb_S1x4x1x128_S1x1x1x128_0_3_0_0)

section

variable (x0 x1 x2 x3 : Vec Ideal S128x512 .f32) (x4 : Vec Ideal S128x128 .f32) (x5 : Vec Ideal S1x128 .f32)
  (x6 : Vec Ideal S1x512 .f32) (s0 : Vec Ideal S1x4x128x128 .f32) (s1 s2 : Vec Ideal S1x4x1x128 .f32)

/-- The running sums of the logs of the forget gates. -/
def bK : FVec Ideal S4x128x1 .f32 :=
  k0_pay11 (iota .tc S1x128x128 32 [1] iota_S1x128x128_d1_w32) (k0_pay9 (F := Ideal) x4 x5) k0_pay10

/-- The input gates. -/
def igK : FVec Ideal S4x128x1 .f32 := k0_pay12 (k0_pay8 (F := Ideal) x4 x5)

/-- The logs of the weights within the chunk. -/
def ldK : FVec Ideal S4x128x128 .f32 := k0_pay22 (bK x4 x5) (igK x4 x5) k0_pay13 k0_pay14

/-- The carried matrix memories. -/
def CK : FVec Ideal S4x128x128 .f32 := k0_pay25 (k0_pay23 (ldC0 s0)) (k0_pay24 (ldC1 s0)) (ldC2 s0) (ldC3 s0)

/-- The carried normalisers. -/
def nK : FVec Ideal S4x1x128 .f32 := k0_pay26 (ldR0 s1) (ldR1 s1) (ldR2 s1) (ldR3 s1)

/-- The logs of the weights of the carried state. -/
def iK : FVec Ideal S4x128x1 .f32 :=
  k0_pay30 (bK x4 x5) (k0_pay27 (ldR0 s2)) (k0_pay28 (ldR1 s2)) (k0_pay29 (ldR2 s2)) (ldR3 s2)

/-- The running maxima. -/
def mK : FVec Ideal S4x128x1 .f32 :=
  k0_pay31 (bK x4 x5) (ldK x4 x5) (k0_pay27 (ldR0 s2)) (k0_pay28 (ldR1 s2)) (k0_pay29 (ldR2 s2)) (ldR3 s2)

/-- The heads' outputs less their means. -/
def yK : FVec Ideal S4x128x128 .f32 :=
  k0_pay32 (bK x4 x5) (k0_pay15 x0) (k0_pay19 (k0_pay15 x0)) (k0_pay20 (k0_pay16 x1)) (k0_pay21 x2) (ldK x4 x5) (CK s0)
    (nK s1) (k0_pay27 (ldR0 s2)) (k0_pay28 (ldR1 s2)) (k0_pay29 (ldR2 s2)) (ldR3 s2)

/-- The heads' variances. -/
def wK : FVec Ideal S4x128x1 .f32 :=
  k0_pay33 (bK x4 x5) (k0_pay15 x0) (k0_pay19 (k0_pay15 x0)) (k0_pay20 (k0_pay16 x1)) (k0_pay21 x2) (ldK x4 x5) (CK s0)
    (nK s1) (k0_pay27 (ldR0 s2)) (k0_pay28 (ldR1 s2)) (k0_pay29 (ldR2 s2)) (ldR3 s2)

/-- The new matrix memories, normalisers and maxima. -/
def cK : FVec Ideal S4x128x128 .f32 :=
  k0_pay43 (bK x4 x5) (igK x4 x5) (k0_pay18 x2) (k0_pay20 (k0_pay16 x1)) (CK s0) (iK x4 x5 s2) (mK x4 x5 s2)
def rK : FVec Ideal S4x1x128 .f32 :=
  k0_pay44 (bK x4 x5) (igK x4 x5) (k0_pay17 (k0_pay16 x1)) (nK s1) (iK x4 x5 s2) (mK x4 x5 s2)
def tK : FVec Ideal S4x1x128 .f32 := k0_pay45 (mK x4 x5 s2)

/-- What a grid point stores into its window of the output. -/
def outK : Vec Ideal S128x512 .f32 :=
  View.canon (Val := Elt Ideal) (e := .f32)
    [⟨Rect.unit (s := S128x512) ![0, 384] ![128, 128] inb_S128x512_S128x128_0_384,
        k0_pay39 (k0_pay38 (yK x0 x1 x2 x4 x5 s0 s1 s2) (wK x0 x1 x2 x4 x5 s0 s1 s2) (Scalar.ofBits .f32 0x3727C5AC#32))
          (View.ld x6 (Rect.unit ![0, 384] ![1, 128] inb_S1x512_S1x128_0_384))
          (View.ld x3 (Rect.unit ![0, 384] ![128, 128] inb_S128x512_S128x128_0_384))⟩,
      ⟨Rect.unit (s := S128x512) ![0, 256] ![128, 128] inb_S128x512_S128x128_0_256,
        k0_pay37 (yK x0 x1 x2 x4 x5 s0 s1 s2) (wK x0 x1 x2 x4 x5 s0 s1 s2) (Scalar.ofBits .f32 0x3727C5AC#32)
          (View.ld x6 (Rect.unit ![0, 256] ![1, 128] inb_S1x512_S1x128_0_256))
          (View.ld x3 (Rect.unit ![0, 256] ![128, 128] inb_S128x512_S128x128_0_256))⟩,
      ⟨Rect.unit (s := S128x512) ![0, 128] ![128, 128] inb_S128x512_S128x128_0_128,
        k0_pay36 (yK x0 x1 x2 x4 x5 s0 s1 s2) (wK x0 x1 x2 x4 x5 s0 s1 s2) (Scalar.ofBits .f32 0x3727C5AC#32)
          (View.ld x6 (Rect.unit ![0, 128] ![1, 128] inb_S1x512_S1x128_0_128))
          (View.ld x3 (Rect.unit ![0, 128] ![128, 128] inb_S128x512_S128x128_0_128))⟩,
      ⟨Rect.unit (s := S128x512) ![0, 0] ![128, 128] inb_S128x512_S128x128_0_0,
        k0_pay35 (yK x0 x1 x2 x4 x5 s0 s1 s2) (wK x0 x1 x2 x4 x5 s0 s1 s2) (Scalar.ofBits .f32 0x3727C5AC#32)
          (View.ld x6 (Rect.unit ![0, 0] ![1, 128] inb_S1x512_S1x128_0_0))
          (View.ld x3 (Rect.unit ![0, 0] ![128, 128] inb_S128x512_S128x128_0_0))⟩]

/-- What a grid point leaves in the buffer of the matrix memories, -/
def newC : Vec Ideal S1x4x128x128 .f32 :=
  View.canon (Val := Elt Ideal) (e := .f32)
    [⟨Rect.unit (s := S1x4x128x128) ![0, 3, 0, 0] ![1, 1, 128, 128] inb_S1x4x128x128_S1x1x128x128_0_3_0_0,
        k0_pay2 (cK x1 x2 x4 x5 s0 s2)⟩,
      ⟨Rect.unit (s := S1x4x128x128) ![0, 2, 0, 0] ![1, 1, 128, 128] inb_S1x4x128x128_S1x1x128x128_0_2_0_0,
        k0_pay52 (cK x1 x2 x4 x5 s0 s2)⟩,
      ⟨Rect.unit (s := S1x4x128x128) ![0, 1, 0, 0] ![1, 1, 128, 128] inb_S1x4x128x128_S1x1x128x128_0_1_0_0,
        k0_pay49 (cK x1 x2 x4 x5 s0 s2)⟩,
      ⟨Rect.unit (s := S1x4x128x128) ![0, 0, 0, 0] ![1, 1, 128, 128] inb_S1x4x128x128_S1x1x128x128_0_0_0_0,
        k0_pay46 (bK x4 x5) (igK x4 x5) (k0_pay18 x2) (k0_pay20 (k0_pay16 x1)) (CK s0) (iK x4 x5 s2) (mK x4 x5 s2)⟩]

/-- in that of the normalisers, -/
def newN : Vec Ideal S1x4x1x128 .f32 :=
  View.canon (Val := Elt Ideal) (e := .f32)
    [⟨Rect.unit (s := S1x4x1x128) ![0, 3, 0, 0] ![1, 1, 1, 128] inb_S1x4x1x128_S1x1x1x128_0_3_0_0,
        k0_pay3 (rK x1 x4 x5 s1 s2)⟩,
      ⟨Rect.unit (s := S1x4x1x128) ![0, 2, 0, 0] ![1, 1, 1, 128] inb_S1x4x1x128_S1x1x1x128_0_2_0_0,
        k0_pay53 (rK x1 x4 x5 s1 s2)⟩,
      ⟨Rect.unit (s := S1x4x1x128) ![0, 1, 0, 0] ![1, 1, 1, 128] inb_S1x4x1x128_S1x1x1x128_0_1_0_0,
        k0_pay50 (rK x1 x4 x5 s1 s2)⟩,
      ⟨Rect.unit (s := S1x4x1x128) ![0, 0, 0, 0] ![1, 1, 1, 128] inb_S1x4x1x128_S1x1x1x128_0_0_0_0,
        k0_pay47 (bK x4 x5) (igK x4 x5) (k0_pay17 (k0_pay16 x1)) (nK s1) (iK x4 x5 s2) (mK x4 x5 s2)⟩]

/-- and in that of the running maxima. -/
def newM : Vec Ideal S1x4x1x128 .f32 :=
  View.canon (Val := Elt Ideal) (e := .f32)
    [⟨Rect.unit (s := S1x4x1x128) ![0, 3, 0, 0] ![1, 1, 1, 128] inb_S1x4x1x128_S1x1x1x128_0_3_0_0,
        k0_pay4 (tK x4 x5 s2)⟩,
      ⟨Rect.unit (s := S1x4x1x128) ![0, 2, 0, 0] ![1, 1, 1, 128] inb_S1x4x1x128_S1x1x1x128_0_2_0_0,
        k0_pay1 (k0_pay54 (tK x4 x5 s2))⟩,
      ⟨Rect.unit (s := S1x4x1x128) ![0, 1, 0, 0] ![1, 1, 1, 128] inb_S1x4x1x128_S1x1x1x128_0_1_0_0,
        k0_pay51 (tK x4 x5 s2)⟩,
      ⟨Rect.unit (s := S1x4x1x128) ![0, 0, 0, 0] ![1, 1, 1, 128] inb_S1x4x1x128_S1x1x1x128_0_0_0_0,
        k0_pay48 (tK x4 x5 s2)⟩]

end

theorem off2 : (![0, 0] : Fin 2 → Nat) = fun _ => 0 := by
  funext a; fin_cases a <;> rfl
theorem off4 : (![0, 0, 0, 0] : Fin 4 → Nat) = fun _ => 0 := by
  funext a; fin_cases a <;> rfl

/-- A load of a rectangle from a buffer that one store has filled reads the stored contents. -/
theorem readCov_whole {sig : RefSig} {κ : Kind} {sp : Space} {S : Shape} {e : EltTy} (v : View sig κ sp S e)
    {off : Fin S.rank → Nat} (h : off = fun _ => 0) (inb : ∀ a, off a + S.size a ≤ S.size a) (w : S.Idx → Elt Ideal e)
    (r : Rect S) :
    v.readCov [(⟨Rect.unit off S.size inb, w⟩ : View.Piece (Elt Ideal) S e)] r = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

/-- What later stores cover, an earlier one does not change. -/
theorem canon_drop {S : Shape} {e : EltTy} (p : View.Piece (Elt Ideal) S e) (y : S.Idx) :
    ∀ L : List (View.Piece (Elt Ideal) S e), (∃ q ∈ L, y ∈ q.1.set) → View.canon (L ++ [p]) y = View.canon L y
  | [], h => by obtain ⟨_, hm, _⟩ := h; exact absurd hm List.not_mem_nil
  | q :: L, h => by
    rw [List.cons_append]
    by_cases hy : y ∈ q.1.set
    · obtain ⟨r, w⟩ := q
      obtain ⟨x, rfl⟩ : ∃ x, r.emb x = y := r.exists_idx_of_mem hy
      rw [View.canon_cons_emb, View.canon_cons_emb]
    · rw [View.canon_cons_of_not_mem _ _ hy, View.canon_cons_of_not_mem _ _ hy]
      refine canon_drop p y L ?_
      obtain ⟨q', hm, hy'⟩ := h
      rcases List.mem_cons.mp hm with rfl | hm
      · exact absurd hy' hy
      · exact ⟨q', hm, hy'⟩

theorem canon_drop5 {S : Shape} {e : EltTy} (p0 p1 p2 p3 p4 : View.Piece (Elt Ideal) S e)
    (h : ∀ y, ∃ q ∈ [p0, p1, p2, p3], y ∈ q.1.set) :
    View.canon [p0, p1, p2, p3, p4] = View.canon [p0, p1, p2, p3] :=
  funext fun y => canon_drop p4 y [p0, p1, p2, p3] (h y)

theorem pay5_eq (x : Vec Ideal S1x4x128x128 .f32) : k0_pay5 (F := Ideal) x = x := by
  simp only [k0_pay5, shapeCast_self]
theorem pay6_eq (x : Vec Ideal S1x4x1x128 .f32) : k0_pay6 (F := Ideal) x = x := by
  simp only [k0_pay6, shapeCast_self]
theorem pay7_eq (x : Vec Ideal S1x4x1x128 .f32) : k0_pay7 (F := Ideal) x = x := by
  simp only [k0_pay7, shapeCast_self]

section

variable
  (c : Dev nD) (i : grid0.Coords) (arg2 : Memref sig .tc .vmem S128x512 .f32) (harg2 : arg2.IsWhole)
  (arg3 : Memref sig .tc .vmem S128x512 .f32) (harg3 : arg3.IsWhole) (arg4 : Memref sig .tc .vmem S128x512 .f32)
  (harg4 : arg4.IsWhole) (arg5 : Memref sig .tc .vmem S128x512 .f32) (harg5 : arg5.IsWhole)
  (arg6 : Memref sig .tc .vmem S128x128 .f32) (harg6 : arg6.IsWhole) (arg7 : Memref sig .tc .vmem S1x128 .f32)
  (harg7 : arg7.IsWhole) (arg8 : Memref sig .tc .vmem S1x512 .f32) (harg8 : arg8.IsWhole)
  (arg9 : Memref sig .tc .vmem S1x4x128x128 .f32) (harg9 : arg9.IsWhole)
  (arg10 : Memref sig .tc .vmem S1x4x1x128 .f32) (harg10 : arg10.IsWhole)
  (arg11 : Memref sig .tc .vmem S1x4x1x128 .f32) (harg11 : arg11.IsWhole) (arg12 : Memref sig .tc .vmem S128x512 .f32)
  (harg12 : arg12.IsWhole) (arg13 : Memref sig .tc .vmem S1x4x128x128 .f32) (harg13 : arg13.IsWhole)
  (arg14 : Memref sig .tc .vmem S1x4x1x128 .f32) (harg14 : arg14.IsWhole)
  (arg15 : Memref sig .tc .vmem S1x4x1x128 .f32) (harg15 : arg15.IsWhole)
  (arg16 : Memref sig .tc .vmem S1x4x128x128 .f32) (harg16 : arg16.IsWhole)
  (arg17 : Memref sig .tc .vmem S1x4x1x128 .f32) (harg17 : arg17.IsWhole)
  (arg18 : Memref sig .tc .vmem S1x4x1x128 .f32) (harg18 : arg18.IsWhole)
  (x0 : Vec Ideal S128x512 .f32) (x1 : Vec Ideal S128x512 .f32) (x2 : Vec Ideal S128x512 .f32)
  (x3 : Vec Ideal S128x512 .f32) (x4 : Vec Ideal S128x128 .f32) (x5 : Vec Ideal S1x128 .f32)
  (x6 : Vec Ideal S1x512 .f32) (x7 : Vec Ideal S1x4x128x128 .f32) (x8 : Vec Ideal S1x4x1x128 .f32)
  (x9 : Vec Ideal S1x4x1x128 .f32) (xs0 : Vec Ideal S1x4x128x128 .f32) (xs1 : Vec Ideal S1x4x1x128 .f32)
  (xs2 : Vec Ideal S1x4x1x128 .f32)

section

variable (hc0 : cond0_0 i) (hc1 : ¬cond0_1 i)

/-- What a first grid point leaves in the output. -/
theorem out0_A_10_eq :
    out0_A_10 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9
      = outK x0 x1 x2 x3 x4 x5 x6 x7 x8 x9 := by
  unfold out0_A_10
  rw [View.read_writes_eq_canon _ _ _ (cover0_A_10
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x512) off2, View.ld_unit_zero (S := S128x128) off2, View.ld_unit_zero (S := S1x128) off2,
    View.ld_unit_zero (S := S1x4x128x128) off4, View.ld_unit_zero (S := S1x4x1x128) off4, readCov_whole (S := S1x4x128x128) _ off4, readCov_whole (S := S1x4x1x128) _ off4, pay5_eq, pay6_eq, pay7_eq]
  rfl

/-- What a first grid point leaves in the matrix memories. -/
theorem sout0_A_0_eq :
    sout0_A_0 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9
      = newC x1 x2 x4 x5 x7 x9 := by
  unfold sout0_A_0
  rw [View.read_writes_eq_canon _ _ _ (scover0_A_0
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x512) off2, View.ld_unit_zero (S := S128x128) off2, View.ld_unit_zero (S := S1x128) off2,
    View.ld_unit_zero (S := S1x4x128x128) off4, View.ld_unit_zero (S := S1x4x1x128) off4, readCov_whole (S := S1x4x128x128) _ off4, readCov_whole (S := S1x4x1x128) _ off4, pay5_eq, pay6_eq, pay7_eq]
  rw [canon_drop5 _ _ _ _ _ (fun y => View.cover_of_tiledL (s := S1x4x128x128) _ S1x1x128x128.size (by sl_kernel_rfl) y)]
  rfl

/-- What a first grid point leaves in the normalisers. -/
theorem sout0_A_1_eq :
    sout0_A_1 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9
      = newN x1 x4 x5 x8 x9 := by
  unfold sout0_A_1
  rw [View.read_writes_eq_canon _ _ _ (scover0_A_1
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x512) off2, View.ld_unit_zero (S := S128x128) off2, View.ld_unit_zero (S := S1x128) off2,
    View.ld_unit_zero (S := S1x4x128x128) off4, View.ld_unit_zero (S := S1x4x1x128) off4, readCov_whole (S := S1x4x128x128) _ off4, readCov_whole (S := S1x4x1x128) _ off4, pay5_eq, pay6_eq, pay7_eq]
  rw [canon_drop5 _ _ _ _ _ (fun y => View.cover_of_tiledL (s := S1x4x1x128) _ S1x1x1x128.size (by sl_kernel_rfl) y)]
  rfl

/-- What a first grid point leaves in the maxima. -/
theorem sout0_A_2_eq :
    sout0_A_2 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9
      = newM x4 x5 x9 := by
  unfold sout0_A_2
  rw [View.read_writes_eq_canon _ _ _ (scover0_A_2
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x512) off2, View.ld_unit_zero (S := S128x128) off2, View.ld_unit_zero (S := S1x128) off2,
    View.ld_unit_zero (S := S1x4x128x128) off4, View.ld_unit_zero (S := S1x4x1x128) off4, readCov_whole (S := S1x4x128x128) _ off4, readCov_whole (S := S1x4x1x128) _ off4, pay5_eq, pay6_eq, pay7_eq]
  rw [canon_drop5 _ _ _ _ _ (fun y => View.cover_of_tiledL (s := S1x4x1x128) _ S1x1x1x128.size (by sl_kernel_rfl) y)]
  rfl

end

section

variable (hc0 : ¬cond0_0 i) (hc1 : ¬cond0_1 i)

/-- What a middle grid point leaves in the output. -/
theorem out0_B_10_eq :
    out0_B_10 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = outK x0 x1 x2 x3 x4 x5 x6 xs0 xs1 xs2 := by
  unfold out0_B_10
  rw [View.read_writes_eq_canon _ _ _ (cover0_B_10
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rfl

/-- What a middle grid point leaves in the matrix memories. -/
theorem sout0_B_0_eq :
    sout0_B_0 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newC x1 x2 x4 x5 xs0 xs2 := by
  unfold sout0_B_0
  rw [View.read_writes_eq_canon _ _ _ (scover0_B_0
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rfl

/-- What a middle grid point leaves in the normalisers. -/
theorem sout0_B_1_eq :
    sout0_B_1 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newN x1 x4 x5 xs1 xs2 := by
  unfold sout0_B_1
  rw [View.read_writes_eq_canon _ _ _ (scover0_B_1
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rfl

/-- What a middle grid point leaves in the maxima. -/
theorem sout0_B_2_eq :
    sout0_B_2 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newM x4 x5 xs2 := by
  unfold sout0_B_2
  rw [View.read_writes_eq_canon _ _ _ (scover0_B_2
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rfl

end

section

variable (hc0 : ¬cond0_0 i) (hc1 : cond0_1 i)

/-- What a last grid point leaves in the output. -/
theorem out0_C_10_eq :
    out0_C_10 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = outK x0 x1 x2 x3 x4 x5 x6 xs0 xs1 xs2 := by
  unfold out0_C_10
  rw [View.read_writes_eq_canon _ _ _ (cover0_C_10
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rfl

/-- What a last grid point leaves in the matrix memories. -/
theorem sout0_C_0_eq :
    sout0_C_0 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newC x1 x2 x4 x5 xs0 xs2 := by
  unfold sout0_C_0
  rw [View.read_writes_eq_canon _ _ _ (scover0_C_0
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rfl

/-- What a last grid point leaves in the normalisers. -/
theorem sout0_C_1_eq :
    sout0_C_1 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newN x1 x4 x5 xs1 xs2 := by
  unfold sout0_C_1
  rw [View.read_writes_eq_canon _ _ _ (scover0_C_1
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rfl

/-- What a last grid point leaves in the maxima. -/
theorem sout0_C_2_eq :
    sout0_C_2 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newM x4 x5 xs2 := by
  unfold sout0_C_2
  rw [View.read_writes_eq_canon _ _ _ (scover0_C_2
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rfl

/-- What a last grid point leaves in the last matrix memories. -/
theorem out0_C_11_eq :
    out0_C_11 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newC x1 x2 x4 x5 xs0 xs2 := by
  unfold out0_C_11
  rw [View.read_writes_eq_canon _ _ _ (cover0_C_11
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_C
  dsimp only
  sl_unfold_words
  rw [View.canon_unit_zero (S := S1x4x128x128) off4]
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rw [View.readCov_eq_canon_ld (Val := Elt Ideal)]
  · exact View.ld_unit_zero off4 _ _
  · exact fun y => View.cover_of_tiledL (s := S1x4x128x128) _ S1x1x128x128.size (by sl_kernel_rfl) y

/-- What a last grid point leaves in the last normalisers. -/
theorem out0_C_12_eq :
    out0_C_12 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newN x1 x4 x5 xs1 xs2 := by
  unfold out0_C_12
  rw [View.read_writes_eq_canon _ _ _ (cover0_C_12
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_C
  dsimp only
  sl_unfold_words
  rw [View.canon_unit_zero (S := S1x4x1x128) off4]
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rw [View.readCov_eq_canon_ld (Val := Elt Ideal)]
  · exact View.ld_unit_zero off4 _ _
  · exact fun y => View.cover_of_tiledL (s := S1x4x1x128) _ S1x1x1x128.size (by sl_kernel_rfl) y

/-- What a last grid point leaves in the last maxima. -/
theorem out0_C_13_eq :
    out0_C_13 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2
      = newM x4 x5 xs2 := by
  unfold out0_C_13
  rw [View.read_writes_eq_canon _ _ _ (cover0_C_13
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9 xs0 xs1 xs2)]
  unfold kernelRun0_C
  dsimp only
  sl_unfold_words
  rw [View.canon_unit_zero (S := S1x4x1x128) off4]
  simp only [View.readAt_eq_ld, harg2.read_unread, harg3.read_unread, harg4.read_unread, harg5.read_unread, harg6.read_unread, harg7.read_unread, harg8.read_unread, harg16.read_unread, harg17.read_unread, harg18.read_unread,
    View.ld_unit_zero (S := S128x512) off2, View.ld_unit_zero (S := S128x128) off2, View.ld_unit_zero (S := S1x128) off2,
    View.ld_unit_zero (S := S1x4x128x128) off4, View.ld_unit_zero (S := S1x4x1x128) off4]
  rw [View.readCov_eq_canon_ld (Val := Elt Ideal)]
  · exact View.ld_unit_zero off4 _ _
  · exact fun y => View.cover_of_tiledL (s := S1x4x1x128) _ S1x1x1x128.size (by sl_kernel_rfl) y

end

end

end Cert.Mlstm
-- ==== Proof.Mlstm.KPoint.lean ====
/-
  One grid point of the kernel is one chunk of the recurrence: if the three carried buffers hold a state, then what the
  point stores is `Inp.out` of the chunk, normalised, weighted and gated, and the buffers hold `Inp.next` afterwards.
-/
module

public import proofs.«01_k».proof.Proof.Mlstm.KOpen

@[expose] public section

noncomputable section

namespace Cert.Mlstm

open Idealize.ShloMosaic Cert.KernelIdeal Cert.KernelIdeal.Gen

/-- The three buffers hold the state: the maxima are spread over the lanes. -/
structure Enc (st : St) (s0 : Vec Ideal S1x4x128x128 .f32) (s1 s2 : Vec Ideal S1x4x1x128 .f32) : Prop where
  C : ∀ h d e, s0 (ix4 0 h d e) = st.C h d e
  n : ∀ h e, s1 (ix4 0 h 0 e) = st.n h e
  m : ∀ h e, s2 (ix4 0 h 0 e) = st.m h

section Canon

variable {S : Shape} {e : EltTy}

/-- The newest store, read where it wrote. -/
theorem canon_hit (off size : Fin S.rank → Nat) (inb : ∀ a, off a + size a ≤ S.size a)
    (w : (Rect.unit off size inb).shape.Idx → Elt Ideal e) (L : List (View.Piece (Elt Ideal) S e)) (y : S.Idx)
    (x : (Rect.unit off size inb).shape.Idx) (h : ∀ a, (y a).val = off a + (x a).val) :
    View.canon ((⟨Rect.unit off size inb, w⟩ : View.Piece (Elt Ideal) S e) :: L) y = w x := by
  obtain rfl : (Rect.unit off size inb).emb x = y :=
    Rect.emb_eq_of_coords _ _ _ fun a => by
      show (y a).val = off a + 1 * (x a).val
      rw [h a]; omega
  exact View.canon_cons_emb _ _ _ _

/-- The newest store, read where it did not write. -/
theorem canon_miss (off size : Fin S.rank → Nat) (inb : ∀ a, off a + size a ≤ S.size a)
    (w : (Rect.unit off size inb).shape.Idx → Elt Ideal e) (L : List (View.Piece (Elt Ideal) S e)) (y : S.Idx)
    (a : Fin S.rank) (h : (y a).val < off a ∨ off a + size a ≤ (y a).val) :
    View.canon ((⟨Rect.unit off size inb, w⟩ : View.Piece (Elt Ideal) S e) :: L) y = View.canon L y :=
  View.canon_cons_of_not_mem _ _ (Rect.not_mem_set_of_axis _ y a (off a) (size a) rfl rfl rfl h)

end Canon

/-- Four blocks of 128 columns, read by head. -/
theorem canon_cols (p0 p1 p2 p3 : Vec Ideal S128x128 .f32) (f : Fin 4 → EReal) (h : Fin 4) (t d : Fin 128)
    (h0 : p0 (ix2 t d) = f 0) (h1 : p1 (ix2 t d) = f 1) (h2 : p2 (ix2 t d) = f 2) (h3 : p3 (ix2 t d) = f 3) :
    View.canon (Val := Elt Ideal) (e := .f32)
      [⟨Rect.unit (s := S128x512) ![0, 384] ![128, 128] inb_S128x512_S128x128_0_384, p3⟩,
        ⟨Rect.unit (s := S128x512) ![0, 256] ![128, 128] inb_S128x512_S128x128_0_256, p2⟩,
        ⟨Rect.unit (s := S128x512) ![0, 128] ![128, 128] inb_S128x512_S128x128_0_128, p1⟩,
        ⟨Rect.unit (s := S128x512) ![0, 0] ![128, 128] inb_S128x512_S128x128_0_0, p0⟩]
      (ix2 t ⟨128 * h.val + d.val, by omega⟩) = f h := by
  have hd := d.isLt
  match h with
  | 3 =>
    refine Eq.trans (b := p3 (ix2 t d)) (canon_hit (S := S128x512) _ _ _ _ _ _ _ fun a => ?_) h3
    fin_cases a <;> simp [ix2]
  | 2 =>
    refine Eq.trans (canon_miss (S := S128x512) _ _ _ _ _ _ (1 : Fin 2) (Or.inl (by show 128 * 2 + d.val < 384; omega))) ?_
    refine Eq.trans (b := p2 (ix2 t d)) (canon_hit (S := S128x512) _ _ _ _ _ _ _ fun a => ?_) h2
    fin_cases a <;> simp [ix2]
  | 1 =>
    refine Eq.trans (canon_miss (S := S128x512) _ _ _ _ _ _ (1 : Fin 2) (Or.inl (by show 128 * 1 + d.val < 384; omega))) ?_
    refine Eq.trans (canon_miss (S := S128x512) _ _ _ _ _ _ (1 : Fin 2) (Or.inl (by show 128 * 1 + d.val < 256; omega))) ?_
    refine Eq.trans (b := p1 (ix2 t d)) (canon_hit (S := S128x512) _ _ _ _ _ _ _ fun a => ?_) h1
    fin_cases a <;> simp [ix2]
  | 0 =>
    refine Eq.trans (canon_miss (S := S128x512) _ _ _ _ _ _ (1 : Fin 2) (Or.inl (by show 128 * 0 + d.val < 384; omega))) ?_
    refine Eq.trans (canon_miss (S := S128x512) _ _ _ _ _ _ (1 : Fin 2) (Or.inl (by show 128 * 0 + d.val < 256; omega))) ?_
    refine Eq.trans (canon_miss (S := S128x512) _ _ _ _ _ _ (1 : Fin 2) (Or.inl (by show 128 * 0 + d.val < 128; omega))) ?_
    refine Eq.trans (b := p0 (ix2 t d)) (canon_hit (S := S128x512) _ _ _ _ _ _ _ fun a => ?_) h0
    fin_cases a <;> simp [ix2]

/-- Four matrices, read by head. -/
theorem canon_mats (p0 p1 p2 p3 : Vec Ideal S1x1x128x128 .f32) (f : Fin 4 → EReal) (h : Fin 4) (d e : Fin 128)
    (h0 : p0 (ix4 0 0 d e) = f 0) (h1 : p1 (ix4 0 0 d e) = f 1) (h2 : p2 (ix4 0 0 d e) = f 2)
    (h3 : p3 (ix4 0 0 d e) = f 3) :
    View.canon (Val := Elt Ideal) (e := .f32)
      [⟨Rect.unit (s := S1x4x128x128) ![0, 3, 0, 0] ![1, 1, 128, 128] inb_S1x4x128x128_S1x1x128x128_0_3_0_0, p3⟩,
        ⟨Rect.unit (s := S1x4x128x128) ![0, 2, 0, 0] ![1, 1, 128, 128] inb_S1x4x128x128_S1x1x128x128_0_2_0_0, p2⟩,
        ⟨Rect.unit (s := S1x4x128x128) ![0, 1, 0, 0] ![1, 1, 128, 128] inb_S1x4x128x128_S1x1x128x128_0_1_0_0, p1⟩,
        ⟨Rect.unit (s := S1x4x128x128) ![0, 0, 0, 0] ![1, 1, 128, 128] inb_S1x4x128x128_S1x1x128x128_0_0_0_0, p0⟩]
      (ix4 0 h d e) = f h := by
  match h with
  | 3 =>
    refine Eq.trans (b := p3 (ix4 0 0 d e)) (canon_hit (S := S1x4x128x128) _ _ _ _ _ _ _ fun a => ?_) h3
    fin_cases a <;> simp [ix4]
  | 2 =>
    refine Eq.trans (canon_miss (S := S1x4x128x128) _ _ _ _ _ _ (1 : Fin 4) (Or.inl (by show 2 < 3; omega))) ?_
    refine Eq.trans (b := p2 (ix4 0 0 d e)) (canon_hit (S := S1x4x128x128) _ _ _ _ _ _ _ fun a => ?_) h2
    fin_cases a <;> simp [ix4]
  | 1 =>
    refine Eq.trans (canon_miss (S := S1x4x128x128) _ _ _ _ _ _ (1 : Fin 4) (Or.inl (by show 1 < 3; omega))) ?_
    refine Eq.trans (canon_miss (S := S1x4x128x128) _ _ _ _ _ _ (1 : Fin 4) (Or.inl (by show 1 < 2; omega))) ?_
    refine Eq.trans (b := p1 (ix4 0 0 d e)) (canon_hit (S := S1x4x128x128) _ _ _ _ _ _ _ fun a => ?_) h1
    fin_cases a <;> simp [ix4]
  | 0 =>
    refine Eq.trans (canon_miss (S := S1x4x128x128) _ _ _ _ _ _ (1 : Fin 4) (Or.inl (by show 0 < 3; omega))) ?_
    refine Eq.trans (canon_miss (S := S1x4x128x128) _ _ _ _ _ _ (1 : Fin 4) (Or.inl (by show 0 < 2; omega))) ?_
    refine Eq.trans (canon_miss (S := S1x4x128x128) _ _ _ _ _ _ (1 : Fin 4) (Or.inl (by show 0 < 1; omega))) ?_
    refine Eq.trans (b := p0 (ix4 0 0 d e)) (canon_hit (S := S1x4x128x128) _ _ _ _ _ _ _ fun a => ?_) h0
    fin_cases a <;> simp [ix4]

/-- Four rows, read by head. -/
theorem canon_rows (p0 p1 p2 p3 : Vec Ideal S1x1x1x128 .f32) (f : Fin 4 → EReal) (h : Fin 4) (e : Fin 128)
    (h0 : p0 (ix4 0 0 0 e) = f 0) (h1 : p1 (ix4 0 0 0 e) = f 1) (h2 : p2 (ix4 0 0 0 e) = f 2)
    (h3 : p3 (ix4 0 0 0 e) = f 3) :
    View.canon (Val := Elt Ideal) (e := .f32)
      [⟨Rect.unit (s := S1x4x1x128) ![0, 3, 0, 0] ![1, 1, 1, 128] inb_S1x4x1x128_S1x1x1x128_0_3_0_0, p3⟩,
        ⟨Rect.unit (s := S1x4x1x128) ![0, 2, 0, 0] ![1, 1, 1, 128] inb_S1x4x1x128_S1x1x1x128_0_2_0_0, p2⟩,
        ⟨Rect.unit (s := S1x4x1x128) ![0, 1, 0, 0] ![1, 1, 1, 128] inb_S1x4x1x128_S1x1x1x128_0_1_0_0, p1⟩,
        ⟨Rect.unit (s := S1x4x1x128) ![0, 0, 0, 0] ![1, 1, 1, 128] inb_S1x4x1x128_S1x1x1x128_0_0_0_0, p0⟩]
      (ix4 0 h 0 e) = f h := by
  match h with
  | 3 =>
    refine Eq.trans (b := p3 (ix4 0 0 0 e)) (canon_hit (S := S1x4x1x128) _ _ _ _ _ _ _ fun a => ?_) h3
    fin_cases a <;> simp [ix4]
  | 2 =>
    refine Eq.trans (canon_miss (S := S1x4x1x128) _ _ _ _ _ _ (1 : Fin 4) (Or.inl (by show 2 < 3; omega))) ?_
    refine Eq.trans (b := p2 (ix4 0 0 0 e)) (canon_hit (S := S1x4x1x128) _ _ _ _ _ _ _ fun a => ?_) h2
    fin_cases a <;> simp [ix4]
  | 1 =>
    refine Eq.trans (canon_miss (S := S1x4x1x128) _ _ _ _ _ _ (1 : Fin 4) (Or.inl (by show 1 < 3; omega))) ?_
    refine Eq.trans (canon_miss (S := S1x4x1x128) _ _ _ _ _ _ (1 : Fin 4) (Or.inl (by show 1 < 2; omega))) ?_
    refine Eq.trans (b := p1 (ix4 0 0 0 e)) (canon_hit (S := S1x4x1x128) _ _ _ _ _ _ _ fun a => ?_) h1
    fin_cases a <;> simp [ix4]
  | 0 =>
    refine Eq.trans (canon_miss (S := S1x4x1x128) _ _ _ _ _ _ (1 : Fin 4) (Or.inl (by show 0 < 3; omega))) ?_
    refine Eq.trans (canon_miss (S := S1x4x1x128) _ _ _ _ _ _ (1 : Fin 4) (Or.inl (by show 0 < 2; omega))) ?_
    refine Eq.trans (canon_miss (S := S1x4x1x128) _ _ _ _ _ _ (1 : Fin 4) (Or.inl (by show 0 < 1; omega))) ?_
    refine Eq.trans (b := p0 (ix4 0 0 0 e)) (canon_hit (S := S1x4x1x128) _ _ _ _ _ _ _ fun a => ?_) h0
    fin_cases a <;> simp [ix4]

/-- A load of a rectangle, entry by entry. -/
theorem ld_apply {S : Shape} {e : EltTy} (s : S.Idx → Elt Ideal e) (off size : Fin S.rank → Nat)
    (inb : ∀ a, off a + size a ≤ S.size a) (x : (Rect.unit off size inb).shape.Idx) (y : S.Idx)
    (h : ∀ a, (y a).val = off a + (x a).val) : View.ld s (Rect.unit off size inb) x = s y := by
  obtain rfl : (Rect.unit off size inb).emb x = y :=
    Rect.emb_eq_of_coords _ _ _ fun a => by
      show (y a).val = off a + 1 * (x a).val
      rw [h a]; omega
  rfl

section Loads

variable (s0 : Vec Ideal S1x4x128x128 .f32) (s : Vec Ideal S1x4x1x128 .f32) (d e : Fin 128)

theorem ldC0_apply : ldC0 s0 (ix4 0 0 d e) = s0 (ix4 0 0 d e) :=
  ld_apply (S := S1x4x128x128) _ _ _ _ _ _ fun a => by fin_cases a <;> simp [ix4]
theorem ldC1_apply : ldC1 s0 (ix4 0 0 d e) = s0 (ix4 0 1 d e) :=
  ld_apply (S := S1x4x128x128) _ _ _ _ _ _ fun a => by fin_cases a <;> simp [ix4]
theorem ldC2_apply : ldC2 s0 (ix4 0 0 d e) = s0 (ix4 0 2 d e) :=
  ld_apply (S := S1x4x128x128) _ _ _ _ _ _ fun a => by fin_cases a <;> simp [ix4]
theorem ldC3_apply : ldC3 s0 (ix4 0 0 d e) = s0 (ix4 0 3 d e) :=
  ld_apply (S := S1x4x128x128) _ _ _ _ _ _ fun a => by fin_cases a <;> simp [ix4]
theorem ldR0_apply : ldR0 s (ix4 0 0 0 e) = s (ix4 0 0 0 e) :=
  ld_apply (S := S1x4x1x128) _ _ _ _ _ _ fun a => by fin_cases a <;> simp [ix4]
theorem ldR1_apply : ldR1 s (ix4 0 0 0 e) = s (ix4 0 1 0 e) :=
  ld_apply (S := S1x4x1x128) _ _ _ _ _ _ fun a => by fin_cases a <;> simp [ix4]
theorem ldR2_apply : ldR2 s (ix4 0 0 0 e) = s (ix4 0 2 0 e) :=
  ld_apply (S := S1x4x1x128) _ _ _ _ _ _ fun a => by fin_cases a <;> simp [ix4]
theorem ldR3_apply : ldR3 s (ix4 0 0 0 e) = s (ix4 0 3 0 e) :=
  ld_apply (S := S1x4x1x128) _ _ _ _ _ _ fun a => by fin_cases a <;> simp [ix4]

end Loads

section Point

variable (x0 x1 x2 x3 : Vec Ideal S128x512 .f32) (x4 : Vec Ideal S128x128 .f32) (x5 : Vec Ideal S1x128 .f32)
  (x6 : Vec Ideal S1x512 .f32) (s0 : Vec Ideal S1x4x128x128 .f32) (s1 s2 : Vec Ideal S1x4x1x128 .f32) (st : St)

theorem bK_apply (h : Fin 4) (t : Fin 128) (z : Fin 1) : bK x4 x5 (ix3 h t z) = (inpK x0 x1 x2 x4 x5).b h t :=
  pay11_apply x4 x5 h t z

theorem igK_apply (h : Fin 4) (t : Fin 128) (z : Fin 1) : igK x4 x5 (ix3 h t z) = (inpK x0 x1 x2 x4 x5).ig h t :=
  (pay12_apply _ h t z).trans (pay8_apply x4 x5 0 t _)

theorem ldK_apply (h : Fin 4) (t s : Fin 128) : ldK x4 x5 (ix3 h t s) = (inpK x0 x1 x2 x4 x5).logd h t s :=
  pay22_apply _ _ _ (bK_apply x0 x1 x2 x4 x5) (igK_apply x0 x1 x2 x4 x5) h t s

variable (E : Enc st s0 s1 s2)
include E

theorem CK_apply (h : Fin 4) (d e : Fin 128) : CK s0 (ix3 h d e) = st.C h d e :=
  pay25_apply _ _ _ _ st.C (fun d e => (ldC0_apply s0 d e).trans (E.C 0 d e)) (fun d e => (ldC1_apply s0 d e).trans (E.C 1 d e))
    (fun d e => (ldC2_apply s0 d e).trans (E.C 2 d e)) (fun d e => (ldC3_apply s0 d e).trans (E.C 3 d e)) h d e

theorem nK_apply (h : Fin 4) (z : Fin 1) (e : Fin 128) : nK s1 (ix3 h z e) = st.n h e :=
  pay26_apply _ _ _ _ st.n (fun e => (ldR0_apply s1 e).trans (E.n 0 e)) (fun e => (ldR1_apply s1 e).trans (E.n 1 e))
    (fun e => (ldR2_apply s1 e).trans (E.n 2 e)) (fun e => (ldR3_apply s1 e).trans (E.n 3 e)) h z e

theorem iK_apply (h : Fin 4) (t : Fin 128) (z : Fin 1) : iK x4 x5 s2 (ix3 h t z) = (inpK x0 x1 x2 x4 x5).inter st h t :=
  pay30_apply _ _ _ _ _ _ st (bK_apply x0 x1 x2 x4 x5)
    (fun e => (ldR0_apply s2 e).trans (E.m 0 e)) (fun e => (ldR1_apply s2 e).trans (E.m 1 e))
    (fun e => (ldR2_apply s2 e).trans (E.m 2 e)) (fun e => (ldR3_apply s2 e).trans (E.m 3 e)) h t z

theorem mK_apply (h : Fin 4) (t : Fin 128) (z : Fin 1) : mK x4 x5 s2 (ix3 h t z) = (inpK x0 x1 x2 x4 x5).mt st h t :=
  pay31_apply _ _ _ _ _ _ _ st (bK_apply x0 x1 x2 x4 x5) (ldK_apply x0 x1 x2 x4 x5)
    (fun e => (ldR0_apply s2 e).trans (E.m 0 e)) (fun e => (ldR1_apply s2 e).trans (E.m 1 e))
    (fun e => (ldR2_apply s2 e).trans (E.m 2 e)) (fun e => (ldR3_apply s2 e).trans (E.m 3 e)) h t z

theorem yK_apply (h : Fin 4) (t d : Fin 128) :
    yK x0 x1 x2 x4 x5 s0 s1 s2 (ix3 h t d)
      = (inpK x0 x1 x2 x4 x5).out st h t d - mean ((inpK x0 x1 x2 x4 x5).out st h t) :=
  pay32_apply _ _ _ _ _ _ _ _ _ _ _ _ _ st (pay15_apply x0) (pay15_apply x0) (pay17_apply x1) (pay18_apply x2)
    (ldK_apply x0 x1 x2 x4 x5) (CK_apply s0 s1 s2 st E) (nK_apply s0 s1 s2 st E)
    (iK_apply x0 x1 x2 x4 x5 s0 s1 s2 st E) (mK_apply x0 x1 x2 x4 x5 s0 s1 s2 st E) h t d

theorem wK_apply (h : Fin 4) (t : Fin 128) (z : Fin 1) :
    wK x0 x1 x2 x4 x5 s0 s1 s2 (ix3 h t z)
      = mean fun d => ((inpK x0 x1 x2 x4 x5).out st h t d - mean ((inpK x0 x1 x2 x4 x5).out st h t))
          * ((inpK x0 x1 x2 x4 x5).out st h t d - mean ((inpK x0 x1 x2 x4 x5).out st h t)) :=
  pay33_apply _ _ _ _ _ _ _ _ _ _ _ _ (fun h t d => (inpK x0 x1 x2 x4 x5).out st h t d - mean ((inpK x0 x1 x2 x4 x5).out st h t))
    (yK_apply x0 x1 x2 x4 x5 s0 s1 s2 st E) h t z

theorem normK_apply (h : Fin 4) (t d : Fin 128) :
    k0_pay34 (yK x0 x1 x2 x4 x5 s0 s1 s2) (wK x0 x1 x2 x4 x5 s0 s1 s2) (Scalar.ofBits .f32 0x3727C5AC#32) (ix3 h t d)
      = norm ((inpK x0 x1 x2 x4 x5).out st h t) d :=
  pay34_apply _ _ _ (yK_apply x0 x1 x2 x4 x5 s0 s1 s2 st E) (wK_apply x0 x1 x2 x4 x5 s0 s1 s2 st E) h t d

theorem wc_apply (h : Fin 4) (z z' : Fin 1) :
    k0_pay41 (iK x4 x5 s2) (mK x4 x5 s2) (ix3 h z z') = (inpK x0 x1 x2 x4 x5).wc st h :=
  pay41_apply _ _ _ st (iK_apply x0 x1 x2 x4 x5 s0 s1 s2 st E) (mK_apply x0 x1 x2 x4 x5 s0 s1 s2 st E) h z z'

theorem ws_apply (h : Fin 4) (s : Fin 128) (z : Fin 1) :
    k0_pay42 (bK x4 x5) (igK x4 x5) (mK x4 x5 s2) (ix3 h s z) = (inpK x0 x1 x2 x4 x5).ws st h s :=
  pay42_apply _ _ _ _ st (bK_apply x0 x1 x2 x4 x5) (igK_apply x0 x1 x2 x4 x5) (mK_apply x0 x1 x2 x4 x5 s0 s1 s2 st E) h s z

theorem cK_apply (h : Fin 4) (d e : Fin 128) :
    cK x1 x2 x4 x5 s0 s2 (ix3 h d e) = ((inpK x0 x1 x2 x4 x5).next st).C h d e :=
  pay43_apply _ _ _ _ _ _ _ (inpK x0 x1 x2 x4 x5) st (pay18_apply x2) (pay17_apply x1) (CK_apply s0 s1 s2 st E)
    (wc_apply x0 x1 x2 x4 x5 s0 s1 s2 st E) (ws_apply x0 x1 x2 x4 x5 s0 s1 s2 st E) h d e

theorem rK_apply (h : Fin 4) (z : Fin 1) (e : Fin 128) :
    rK x1 x4 x5 s1 s2 (ix3 h z e) = ((inpK x0 x1 x2 x4 x5).next st).n h e :=
  pay44_apply _ _ _ _ _ _ (inpK x0 x1 x2 x4 x5) st (pay17_apply x1) (nK_apply s0 s1 s2 st E)
    (wc_apply x0 x1 x2 x4 x5 s0 s1 s2 st E) (ws_apply x0 x1 x2 x4 x5 s0 s1 s2 st E) h z e

theorem tK_apply (h : Fin 4) (z : Fin 1) (e : Fin 128) :
    tK x4 x5 s2 (ix3 h z e) = ((inpK x0 x1 x2 x4 x5).next st).m h :=
  pay45_apply _ (inpK x0 x1 x2 x4 x5) st (mK_apply x0 x1 x2 x4 x5 s0 s1 s2 st E) h z e

/-- A grid point leaves the next state in the three buffers. -/
theorem new_enc : Enc ((inpK x0 x1 x2 x4 x5).next st) (newC x1 x2 x4 x5 s0 s2) (newN x1 x4 x5 s1 s2) (newM x4 x5 s2) where
  C h d e := by
    have k := fun h => cK_apply x0 x1 x2 x4 x5 s0 s1 s2 st E h d e
    refine canon_mats _ _ _ _ (fun h => ((inpK x0 x1 x2 x4 x5).next st).C h d e) h d e ?_ ?_ ?_ ?_
    · exact Eq.trans (by unfold cK; pointwise [k0_pay46]) (k 0)
    · exact Eq.trans (by pointwise [k0_pay49]) (k 1)
    · exact Eq.trans (by pointwise [k0_pay52]) (k 2)
    · exact Eq.trans (by pointwise [k0_pay2]) (k 3)
  n h e := by
    have k := fun h => rK_apply x0 x1 x2 x4 x5 s0 s1 s2 st E h 0 e
    refine canon_rows _ _ _ _ (fun h => ((inpK x0 x1 x2 x4 x5).next st).n h e) h e ?_ ?_ ?_ ?_
    · exact Eq.trans (by unfold rK; pointwise [k0_pay47]) (k 0)
    · exact Eq.trans (by pointwise [k0_pay50]) (k 1)
    · exact Eq.trans (by pointwise [k0_pay53]) (k 2)
    · exact Eq.trans (by pointwise [k0_pay3]) (k 3)
  m h e := by
    have k := fun h => tK_apply x0 x1 x2 x4 x5 s0 s1 s2 st E h 0 e
    refine canon_rows _ _ _ _ (fun h => ((inpK x0 x1 x2 x4 x5).next st).m h) h e ?_ ?_ ?_ ?_
    · exact Eq.trans (by pointwise [k0_pay48]) (k 0)
    · exact Eq.trans (by pointwise [k0_pay51]) (k 1)
    · exact Eq.trans (by pointwise [k0_pay1, k0_pay54]) (k 2)
    · exact Eq.trans (by pointwise [k0_pay4]) (k 3)

/-- What a grid point stores into its window of the output. -/
theorem outK_apply (h : Fin 4) (t d : Fin 128) :
    outK x0 x1 x2 x3 x4 x5 x6 s0 s1 s2 (ix2 t ⟨128 * h.val + d.val, by omega⟩)
      = norm ((inpK x0 x1 x2 x4 x5).out st h t) d * x6 (ix2 0 ⟨128 * h.val + d.val, by omega⟩)
          * Ideal.logistic (x3 (ix2 t ⟨128 * h.val + d.val, by omega⟩)) := by
  have k := fun h => normK_apply x0 x1 x2 x4 x5 s0 s1 s2 st E h t d
  refine canon_cols _ _ _ _ (fun h => norm ((inpK x0 x1 x2 x4 x5).out st h t) d
    * x6 (ix2 0 ⟨128 * h.val + d.val, by omega⟩) * Ideal.logistic (x3 (ix2 t ⟨128 * h.val + d.val, by omega⟩))) h t d
    ?_ ?_ ?_ ?_
  · rw [← k 0]; pointwise [k0_pay35]
  · rw [← k 1]; pointwise [k0_pay36]
  · rw [← k 2]; pointwise [k0_pay37]
  · rw [← k 3]; pointwise [k0_pay39, k0_pay38]

end Point

end Cert.Mlstm
-- ==== Proof.Mlstm.KBlk.lean ====
/-
  The blocks that a grid point reads, entry by entry, in terms of the arguments: rows `128 t …` of the queries, keys,
  values, output gates and gates, and at every point the padded bias row, the weight row and the zero initial state.
-/
module

public import proofs.«01_k».proof.Proof.Gen.KernelIdeal.Value
public import proofs.«01_k».proof.Proof.Mlstm.KPoint
public import Idealize.ShloMosaic.Lib.Claim
public import Idealize.ShloMosaic.Lib.KernelVsHost
public import Idealize.ShloMosaic.Lib.Pipeline.ValueKit

@[expose] public section

noncomputable section

namespace Cert.Mlstm

open Idealize.ShloMosaic Idealize.ShloMosaic.TcCoe Cert.KernelIdeal Cert.KernelIdeal.Gen

variable (m : (ℓ : Loc nD τ sig) → Buf (Elt Ideal) ℓ) (c : Dev nD)

theorem idxRow (t : Fin cfg0.N) :
    win0_0.index t = ![t.val, 0] ∧ win0_1.index t = ![t.val, 0] ∧ win0_2.index t = ![t.val, 0]
      ∧ win0_3.index t = ![t.val, 0] ∧ win0_4.index t = ![t.val, 0] :=
  (by decide +kernel : ∀ t : Fin grid0.N, win0_0.index t = ![t.val, 0] ∧ win0_1.index t = ![t.val, 0]
    ∧ win0_2.index t = ![t.val, 0] ∧ win0_3.index t = ![t.val, 0] ∧ win0_4.index t = ![t.val, 0]) t

theorem idxFix (t : Fin cfg0.N) :
    win0_5.index t = ![0, 0] ∧ win0_6.index t = ![0, 0] ∧ win0_7.index t = ![0, 0, 0, 0]
      ∧ win0_8.index t = ![0, 0, 0, 0] ∧ win0_9.index t = ![0, 0, 0, 0] :=
  (by decide +kernel : ∀ t : Fin grid0.N, win0_5.index t = ![0, 0] ∧ win0_6.index t = ![0, 0]
    ∧ win0_7.index t = ![0, 0, 0, 0] ∧ win0_8.index t = ![0, 0, 0, 0] ∧ win0_9.index t = ![0, 0, 0, 0]) t

theorem lt128 (t : Fin cfg0.N) : t.val < 128 := lt_of_lt_of_eq t.isLt N_0

/-- The block of the queries. -/
theorem blk0 (t : Fin cfg0.N) (r : Fin 128) (d : Fin 512) :
    (iblk m c 0 t : Vec Ideal S128x512 .f32) (ix2 r d)
      = m ((c : Thread nD τ).loc main_arg0) (ix2 ⟨128 * t.val + r.val, by have := lt128 t; omega⟩ d) := by
  obtain ⟨h, -, -, -, -⟩ := idxRow t
  blk_ext [iblk, V, h]

/-- The block of the keys. -/
theorem blk1 (t : Fin cfg0.N) (r : Fin 128) (d : Fin 512) :
    (iblk m c 1 t : Vec Ideal S128x512 .f32) (ix2 r d)
      = m ((c : Thread nD τ).loc main_arg1) (ix2 ⟨128 * t.val + r.val, by have := lt128 t; omega⟩ d) := by
  obtain ⟨-, h, -, -, -⟩ := idxRow t
  blk_ext [iblk, V, h]

/-- The block of the values. -/
theorem blk2 (t : Fin cfg0.N) (r : Fin 128) (d : Fin 512) :
    (iblk m c 2 t : Vec Ideal S128x512 .f32) (ix2 r d)
      = m ((c : Thread nD τ).loc main_arg2) (ix2 ⟨128 * t.val + r.val, by have := lt128 t; omega⟩ d) := by
  obtain ⟨-, -, h, -, -⟩ := idxRow t
  blk_ext [iblk, V, h]

/-- The block of the output gates. -/
theorem blk3 (t : Fin cfg0.N) (r : Fin 128) (d : Fin 512) :
    (iblk m c 3 t : Vec Ideal S128x512 .f32) (ix2 r d)
      = m ((c : Thread nD τ).loc main_arg3) (ix2 ⟨128 * t.val + r.val, by have := lt128 t; omega⟩ d) := by
  obtain ⟨-, -, -, h, -⟩ := idxRow t
  blk_ext [iblk, V, h]

/-- The block of the gates. -/
theorem blk4 (t : Fin cfg0.N) (r d : Fin 128) :
    (iblk m c 4 t : Vec Ideal S128x128 .f32) (ix2 r d)
      = m ((c : Thread nD τ).loc main_arg4) (ix2 ⟨128 * t.val + r.val, by have := lt128 t; omega⟩ d) := by
  obtain ⟨-, -, -, -, h⟩ := idxRow t
  blk_ext [iblk, V, h]

theorem V_v2 (d : Fin 8) :
    (V m c main_v2 : Vec Ideal S1x128 .f32) (ix2 0 ⟨d.val, by omega⟩) = m ((c : Thread nD τ).loc main_arg5) (ix2 0 d) := by
  unfold V
  simp only [List.flatten_cons, List.flatten_nil, List.append_nil, StableHlo.after_append]
  after_results
  have hd := d.isLt
  pointwise
  refine Eq.trans (pad_apply_of_inside (s := S8) (t := S128) ![0] ![120] ![0] (fun i : S8.Idx =>
    (m ((c : Thread nD τ).loc main_arg5) (ix2 0 (i 0)) : EReal)) _ pads_S8_S128_01200 h_S_ (ix1 ⟨d.val, by omega⟩)
    (ix1 d) (fun a => ?_)) rfl
  fin_cases a
  show d.val = 0 + d.val * (0 + 1)
  omega

theorem V_v4 (h : Fin 4) (d : Fin 128) :
    (V m c main_v4 : Vec Ideal S1x512 .f32) (ix2 0 ⟨128 * h.val + d.val, by omega⟩)
      = m ((c : Thread nD τ).loc main_arg6) (ix3 0 h d) := by
  unfold V
  simp only [List.flatten_cons, List.flatten_nil, List.append_nil, StableHlo.after_append]
  after_results
  pointwise

/-- The block of the bias row, at its first eight lanes. -/
theorem blk5 (t : Fin cfg0.N) (d : Fin 8) :
    (iblk m c 5 t : Vec Ideal S1x128 .f32) (ix2 0 ⟨d.val, by omega⟩)
      = m ((c : Thread nD τ).loc main_arg5) (ix2 0 d) := by
  obtain ⟨h, -, -, -, -⟩ := idxFix t
  rw [← V_v2 m c d]
  blk_ext [iblk, h]

/-- The block of the weight row. -/
theorem blk6 (t : Fin cfg0.N) (h : Fin 4) (d : Fin 128) :
    (iblk m c 6 t : Vec Ideal S1x512 .f32) (ix2 0 ⟨128 * h.val + d.val, by omega⟩)
      = m ((c : Thread nD τ).loc main_arg6) (ix3 0 h d) := by
  obtain ⟨-, h, -, -, -⟩ := idxFix t
  rw [← V_v4 m c _ d]
  blk_ext [iblk, h]

theorem V_v5 (h : Fin 4) (d e : Fin 128) :
    (V m c main_v5 : Vec Ideal S1x4x128x128 .f32) (ix4 0 h d e) = (0 : EReal) := by
  unfold V
  simp only [List.flatten_cons, List.flatten_nil, List.append_nil, StableHlo.after_append]
  after_results
  pointwise

theorem V_v6 (h : Fin 4) (e : Fin 128) :
    (V m c main_v6 : Vec Ideal S1x4x1x128 .f32) (ix4 0 h 0 e) = (0 : EReal) := by
  unfold V
  simp only [List.flatten_cons, List.flatten_nil, List.append_nil, StableHlo.after_append]
  after_results
  pointwise

/-- The initial state is zero. -/
theorem blk789 (t : Fin cfg0.N) :
    Enc St.zero (iblk m c 7 t : Vec Ideal S1x4x128x128 .f32) (iblk m c 8 t : Vec Ideal S1x4x1x128 .f32)
      (iblk m c 9 t : Vec Ideal S1x4x1x128 .f32) where
  C h d e := by
    obtain ⟨-, -, k, -, -⟩ := idxFix t
    refine Eq.trans ?_ (V_v5 m c h d e)
    blk_ext [iblk, k]
  n h e := by
    obtain ⟨-, -, -, k, -⟩ := idxFix t
    refine Eq.trans ?_ (V_v6 m c h e)
    blk_ext [iblk, k]
  m h e := by
    obtain ⟨-, -, -, -, k⟩ := idxFix t
    refine Eq.trans ?_ (V_v6 m c h e)
    blk_ext [iblk, k]

end Cert.Mlstm
-- ==== Proof.Mlstm.KFold.lean ====
/-
  The kernel's grid, point by point: after point `t` the scratch buffers hold the state of the recurrence after chunk
  `t`, and the output window holds the chunk's output. Hence the four result arrays, entry by entry.
-/
module

public import proofs.«01_k».proof.Proof.Mlstm.KBlk

@[expose] public section

noncomputable section

namespace Cert.Mlstm

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- What grid point `t` brings to the recurrence. -/
def blkInp (t : Fin cfg0.N) : Inp :=
  inpK (iblk m c 0 t) (iblk m c 1 t) (iblk m c 2 t) (iblk m c 4 t) (iblk m c 5 t)

/-- What a grid point stores into its window of the output, from the state before it. -/
def blkOut (t : Fin cfg0.N) (st : St) (h : Fin 4) (r d : Fin 128) : EReal :=
  norm ((blkInp m c t).out st h r) d * (iblk m c 6 t : Vec Ideal S1x512 .f32) (ix2 0 ⟨128 * h.val + d.val, by omega⟩)
    * Ideal.logistic ((iblk m c 3 t : Vec Ideal S128x512 .f32) (ix2 r ⟨128 * h.val + d.val, by omega⟩))

/-- What the tuple of a grid point holds: the chunk's output, the state in the scratch buffers, and at the last point the
    state in the three state windows too. -/
def Holds (t : Fin cfg0.N) (st : St) (r : Vec Ideal S128x512 .f32 × Vec Ideal S1x4x128x128 .f32 × Vec Ideal S1x4x1x128 .f32
    × Vec Ideal S1x4x1x128 .f32 × Vec Ideal S1x4x128x128 .f32 × Vec Ideal S1x4x1x128 .f32 × Vec Ideal S1x4x1x128 .f32) :
    Prop :=
  (∀ h i d, r.1 (ix2 i ⟨128 * h.val + d.val, by omega⟩) = blkOut m c t st h i d)
    ∧ Enc ((blkInp m c t).next st) r.2.2.2.2.1 r.2.2.2.2.2.1 r.2.2.2.2.2.2
    ∧ (t.val = 127 → Enc ((blkInp m c t).next st) r.2.1 r.2.2.1 r.2.2.2.1)

/-- A tuple of what one point computes from an encoded state holds what it should. -/
theorem holds_of (t : Fin cfg0.N) (st : St) (s0 : Vec Ideal S1x4x128x128 .f32) (s1 s2 : Vec Ideal S1x4x1x128 .f32)
    (E : Enc st s0 s1 s2) (r) (a0 : Vec Ideal S128x512 .f32) (a1 : Vec Ideal S1x4x128x128 .f32)
    (a2 a3 : Vec Ideal S1x4x1x128 .f32) (a4 : Vec Ideal S1x4x128x128 .f32) (a5 a6 : Vec Ideal S1x4x1x128 .f32)
    (e : r = (a0, a1, a2, a3, a4, a5, a6))
    (e0 : a0 = outK (iblk m c 0 t) (iblk m c 1 t) (iblk m c 2 t) (iblk m c 3 t) (iblk m c 4 t) (iblk m c 5 t)
      (iblk m c 6 t) s0 s1 s2)
    (e4 : a4 = newC (iblk m c 1 t) (iblk m c 2 t) (iblk m c 4 t) (iblk m c 5 t) s0 s2)
    (e5 : a5 = newN (iblk m c 1 t) (iblk m c 4 t) (iblk m c 5 t) s1 s2)
    (e6 : a6 = newM (iblk m c 4 t) (iblk m c 5 t) s2)
    (el : t.val = 127 → a1 = newC (iblk m c 1 t) (iblk m c 2 t) (iblk m c 4 t) (iblk m c 5 t) s0 s2
      ∧ a2 = newN (iblk m c 1 t) (iblk m c 4 t) (iblk m c 5 t) s1 s2
      ∧ a3 = newM (iblk m c 4 t) (iblk m c 5 t) s2) :
    Holds m c t st r := by
  subst e
  have N := new_enc (iblk m c 0 t) (iblk m c 1 t) (iblk m c 2 t) (iblk m c 4 t) (iblk m c 5 t) s0 s1 s2 st E
  refine ⟨fun h i d => ?_, ?_, fun h => ?_⟩
  · dsimp only
    rw [e0]
    exact outK_apply (iblk m c 0 t) (iblk m c 1 t) (iblk m c 2 t) (iblk m c 3 t) (iblk m c 4 t) (iblk m c 5 t)
      (iblk m c 6 t) s0 s1 s2 st E h i d
  · dsimp only
    rw [e4, e5, e6]; exact N
  · obtain ⟨a, b, d⟩ := el h
    dsimp only
    rw [a, b, d]; exact N

/-- The first point starts from zero. -/
theorem holds_first (t : Fin cfg0.N) (ht : t.val = 0) (acc) :
    Holds m c t St.zero (stAt0 m c t.val t.isLt acc) := by
  have h0 : t.val % 128 = 0 := by omega
  have h1 : ¬ t.val % 128 = 127 := by omega
  refine holds_of m c t _ _ _ _ (blk789 m c t) _ _ _ _ _ _ _ _ (stAt0_A m c t acc h0 h1) ?_ ?_ ?_ ?_
    fun h => absurd h (by omega)
  · exact out0_A_10_eq ..
  · exact sout0_A_0_eq ..
  · exact sout0_A_1_eq ..
  · exact sout0_A_2_eq ..

/-- Every later point continues from the state that the scratch buffers hold. -/
theorem holds_next (t : Fin cfg0.N) (ht : t.val ≠ 0) (st : St) (acc)
    (E : Enc st acc.2.2.2.2.1 acc.2.2.2.2.2.1 acc.2.2.2.2.2.2) :
    Holds m c t st (stAt0 m c t.val t.isLt acc) := by
  have hlt := lt128 t
  have h0 : ¬ t.val % 128 = 0 := by omega
  by_cases h1 : t.val % 128 = 127
  · refine holds_of m c t _ _ _ _ E _ _ _ _ _ _ _ _ (stAt0_C m c t acc h0 h1) ?_ ?_ ?_ ?_ fun _ => ⟨?_, ?_, ?_⟩
    · exact out0_C_10_eq ..
    · exact sout0_C_0_eq ..
    · exact sout0_C_1_eq ..
    · exact sout0_C_2_eq ..
    · exact out0_C_11_eq ..
    · exact out0_C_12_eq ..
    · exact out0_C_13_eq ..
  · refine holds_of m c t _ _ _ _ E _ _ _ _ _ _ _ _ (stAt0_B m c t acc h0 h1) ?_ ?_ ?_ ?_ fun h => absurd h (by omega)
    · exact out0_B_10_eq ..
    · exact sout0_B_0_eq ..
    · exact sout0_B_1_eq ..
    · exact sout0_B_2_eq ..

/-- What chunk `n` brings (nothing past the last chunk is read). -/
def chunkK (n : Nat) : Inp := blkInp m c ⟨n % 128, lt_of_lt_of_eq (Nat.mod_lt _ (by decide)) N_0.symm⟩

theorem chunkK_val (t : Fin cfg0.N) : chunkK m c t.val = blkInp m c t := by
  unfold chunkK
  congr 1
  exact Fin.ext (Nat.mod_eq_of_lt (lt128 t))

/-- After point `n` the tuple holds the chunk's output and the state after it. -/
theorem holds_fold (n : Nat) (hn : 0 + n < cfg0.N) :
    Holds m c ⟨n, by omega⟩ (states (chunkK m c) n)
      (Pipeline.accAt (fun n h => stAt0 m c n h junk0) (stAt0 m c) 0 n hn) := by
  induction n with
  | zero => exact holds_first m c ⟨0, by omega⟩ rfl junk0
  | succ n ih =>
    have k := (ih (by omega)).2.1
    rw [← chunkK_val] at k
    have e := Pipeline.accAt_succ (fun n h => stAt0 m c n h junk0) (stAt0 m c) 0 n hn
    generalize Pipeline.accAt (fun n h => stAt0 m c n h junk0) (stAt0 m c) 0 n (Nat.lt_of_succ_lt hn) = a at e k
    generalize Pipeline.accAt (fun n h => stAt0 m c n h junk0) (stAt0 m c) 0 (n + 1) hn = b at e ⊢
    subst e
    have g := holds_next m c ⟨n + 1, by omega⟩ (Nat.succ_ne_zero n) (states (chunkK m c) (n + 1)) a k
    dsimp only at g ⊢
    convert g using 2
    omega

/-- The last point's tuple: the state windows hold the state after the last chunk. -/
theorem holds_last (r) (hn : 0 + 127 < cfg0.N)
    (e : r = Pipeline.accAt (fun n h => stAt0 m c n h junk0) (stAt0 m c) 0 127 hn) :
    Enc (states (chunkK m c) 128) r.2.1 r.2.2.1 r.2.2.2.1 := by
  have k := holds_fold m c 127 hn
  rw [← e] at k
  have g := k.2.2 rfl
  have d := chunkK_val m c ⟨127, by omega⟩
  rw [← d] at g
  exact g

end Cert.Mlstm
-- ==== Proof.Mlstm.Whole.lean ====
/-
  The recurrence over the whole sequence: 128 chunks of 128 positions, cut from arrays of 16384 rows.
-/
module

public import proofs.«01_k».proof.Proof.Mlstm.Spec

@[expose] public section

noncomputable section

namespace Cert.Mlstm

/-- Row `t` of chunk `n`. -/
abbrev row (n t : Fin 128) : Fin 16384 := ⟨128 * n.val + t.val, by omega⟩

/-- Column `d` of head `h`. -/
abbrev col (h : Fin 4) (d : Fin 128) : Fin 512 := ⟨128 * h.val + d.val, by omega⟩

variable (q k v o : Fin 16384 → Fin 512 → EReal) (g : Fin 16384 → Fin 128 → EReal) (bias : Fin 8 → EReal)
  (w : Fin 4 → Fin 128 → EReal)

/-- What chunk `n` of the arrays brings: queries, keys and values of each head, input gates in the first four columns of
    `g` and forget gates in the next four, both with their bias. -/
def chunk (n : Fin 128) : Inp where
  q h t e := q (row n t) (col h e)
  k h t e := k (row n t) (col h e)
  v h t e := v (row n t) (col h e)
  ig h t := g (row n t) ⟨h.val, by omega⟩ + bias ⟨h.val, by omega⟩
  lf h t := logsig (g (row n t) ⟨4 + h.val, by omega⟩ + bias ⟨4 + h.val, by omega⟩)

/-- The chunks, numbered by the naturals (past the last they begin anew; those are never used). -/
def chunks (n : Nat) : Inp := chunk q k v g bias ⟨n % 128, Nat.mod_lt _ (by decide)⟩

theorem chunks_val (n : Fin 128) : chunks q k v g bias n.val = chunk q k v g bias n := by
  unfold chunks
  congr 1
  exact Fin.ext (Nat.mod_eq_of_lt n.isLt)

/-- The layer's output at position `t` of chunk `n`, head `h`, coordinate `d`. -/
def result (n t : Fin 128) (h : Fin 4) (d : Fin 128) : EReal :=
  norm ((chunk q k v g bias n).out (states (chunks q k v g bias) n.val) h t) d * w h d
    * Idealize.ShloMosaic.Ideal.logistic (o (row n t) (col h d))

/-- The state after the last chunk. -/
def final : St := states (chunks q k v g bias) 128

end Cert.Mlstm
-- ==== Proof.Mlstm.KWhole.lean ====
/-
  The kernel's four result arrays are the recurrence over the whole sequence, entry by entry.
-/
module

public import proofs.«01_k».proof.Proof.Mlstm.KFold
public import proofs.«01_k».proof.Proof.Mlstm.Whole

@[expose] public section

noncomputable section

namespace Cert.Mlstm

open Idealize.ShloMosaic Idealize.ShloMosaic.TcCoe Cert.KernelIdeal Cert.KernelIdeal.Gen Cert.KernelIdeal.Value

variable (m : (ℓ : Loc nD τ sig) → Buf (Elt Ideal) ℓ) (c : Dev nD)

abbrev kq : Fin 16384 → Fin 512 → EReal := fun r d => m ((c : Thread nD τ).loc main_arg0) (ix2 r d)
abbrev kk : Fin 16384 → Fin 512 → EReal := fun r d => m ((c : Thread nD τ).loc main_arg1) (ix2 r d)
abbrev kv : Fin 16384 → Fin 512 → EReal := fun r d => m ((c : Thread nD τ).loc main_arg2) (ix2 r d)
abbrev ko : Fin 16384 → Fin 512 → EReal := fun r d => m ((c : Thread nD τ).loc main_arg3) (ix2 r d)
abbrev kg : Fin 16384 → Fin 128 → EReal := fun r d => m ((c : Thread nD τ).loc main_arg4) (ix2 r d)
abbrev kb : Fin 8 → EReal := fun d => m ((c : Thread nD τ).loc main_arg5) (ix2 0 d)
abbrev kw : Fin 4 → Fin 128 → EReal := fun h d => m ((c : Thread nD τ).loc main_arg6) (ix3 0 h d)

/-- What a grid point brings is a chunk of the arguments. -/
theorem blkInp_eq (t : Fin cfg0.N) :
    blkInp m c t = chunk (kq m c) (kk m c) (kv m c) (kg m c) (kb m c) ⟨t.val, lt128 t⟩ := by
  apply Inp.ext
  · funext h t' e; exact blk0 m c t t' _
  · funext h t' e; exact blk1 m c t t' _
  · funext h t' e; exact blk2 m c t t' _
  · funext h t'
    exact congrArg₂ (· + ·) (blk4 m c t t' _) (blk5 m c t ⟨h.val, by omega⟩)
  · funext h t'
    exact congrArg logsig (congrArg₂ (· + ·) (blk4 m c t t' _) (blk5 m c t ⟨4 + h.val, by omega⟩))

theorem chunkK_eq : chunkK m c = chunks (kq m c) (kk m c) (kv m c) (kg m c) (kb m c) :=
  funext fun n => blkInp_eq m c _

/-- The output array. -/
theorem G10_apply (n t : Fin 128) (h : Fin 4) (d : Fin 128) :
    G10 m c (ix2 (row n t) (col h d))
      = result (kq m c) (kk m c) (kv m c) (ko m c) (kg m c) (kb m c) (kw m c) n t h d := by
  have hN : cfg0.N = 128 := N_0
  have hp : pt10Of (ix2 (row n t) (col h d)) = n.val := by
    show 1 * ((128 * n.val + t.val) / 128 - 0) + 1 * ((128 * h.val + d.val) / 512 - 0) = n.val
    omega
  have hl : loc10Of (ix2 (row n t) (col h d)) = ix2 t (col h d) := by
    funext a
    apply Fin.ext
    match a with
    | 0 => show (128 * n.val + t.val) % 128 = t.val; omega
    | 1 => show (128 * h.val + d.val) % 512 = 128 * h.val + d.val; omega
  have hlt : pt10Of (ix2 (row n t) (col h d)) < cfg0.N := by rw [hp, hN]; exact n.isLt
  unfold G10
  rw [dif_pos hlt, hl, fold0_congr m c _ _ n.val (by rw [hN]; omega) hp]
  refine ((holds_fold m c n.val (by rw [hN]; omega)).1 h t d).trans ?_
  unfold blkOut result
  rw [blkInp_eq, chunkK_eq]
  exact congrArg₂ (· * ·) (congrArg (_ * ·) (blk6 m c _ h d)) (congrArg Ideal.logistic (blk3 m c _ t _))

/-- The state arrays. -/
theorem G_state : Enc (final (kq m c) (kk m c) (kv m c) (kg m c) (kb m c)) (G11 m c) (G12 m c) (G13 m c) := by
  have e1 := G11_last m c
  have e2 := G12_last m c
  have e3 := G13_last m c
  have k := fun r => holds_last m c r (lt_of_lt_of_eq (by decide) N_0.symm)
  generalize Pipeline.accAt (fun n h => stAt0 m c n h junk0) (stAt0 m c) 0 127 _ = r at e1 e2 e3 k
  rw [e1, e2, e3, final, ← chunkK_eq]
  exact k r rfl

end Cert.Mlstm
-- ==== Proof.Mlstm.RBase.lean ====
/-
  Three facts about host operations of the reference: a slice of one chunk out of the stacked chunks, the running sum along
  a chunk, and the log of the logistic function as jax writes it.
-/
module

public import proofs.«01_k».proof.Proof.Gen.ReferenceIdeal.Run
public import proofs.«01_k».proof.Proof.Mlstm.Whole
public import Idealize.ShloMosaic.Lib.Claim

@[expose] public section

noncomputable section

namespace Cert.Mlstm.Ref

open Idealize.ShloMosaic Idealize.ShloMosaic.TcCoe Cert.ReferenceIdeal Cert.ReferenceIdeal.Gen Cert.ReferenceIdeal.Value

/-- A chain of additions is a sum. -/
theorem foldl_add {ι : Type} (g : ι → EReal) : ∀ (L : List ι) (v : EReal),
    L.foldl (fun r n => r + g n) v = v + (L.map g).sum
  | [], v => by simp
  | a :: L, v => by rw [List.foldl_cons, foldl_add g L, List.map_cons, List.sum_cons, add_assoc]

/-- The running sum along the second axis, as jax writes it: a window of the whole length, padded low by one less. -/
theorem cumsum_apply (x : Vec Ideal S1x128x4 .f32) (init : Vec Ideal S_ .f32) (hi : init (Shape.Idx.first h_S_) = (0 : EReal))
    (t : Fin 128) (h : Fin 4) :
    (Host.reduceWindowAdd (F := Ideal) (φ := .f32) (s := S1x128x4) (t := S1x128x4) ![1, 128, 1] ![1, 1, 1] ![0, 127, 0] ![0, 0, 0] x
      init reduceWindows_S1x128x4_S1x128x4_w1s1p0_0_w128s1p127_0_w1s1p0_0 h_S_) (ix3 0 t h)
      = ∑ u : Fin 128, if u ≤ t then (x (ix3 0 u h) : EReal) else 0 := by
  let W : Shape := ⟨3, ![1, 128, 1]⟩
  let p : W.Idx → Fin 3 → Nat := fun w a => ((ix3 0 t h : S1x128x4.Idx) a).val * (![1, 1, 1] : Fin 3 → Nat) a + (w a).val
  let F : W.Idx → EReal := fun w =>
    if hin : ∀ a : Fin 3, (![0, 127, 0] : Fin 3 → Nat) a ≤ p w a ∧ p w a - (![0, 127, 0] : Fin 3 → Nat) a < S1x128x4.size a then
      x (fun a => ⟨p w a - (![0, 127, 0] : Fin 3 → Nat) a, (hin a).2⟩) else 0
  have e : (Host.reduceWindowAdd (F := Ideal) (φ := .f32) (s := S1x128x4) (t := S1x128x4) ![1, 128, 1] ![1, 1, 1] ![0, 127, 0] ![0, 0, 0] x
      init reduceWindows_S1x128x4_S1x128x4_w1s1p0_0_w128s1p127_0_w1s1p0_0 h_S_) (ix3 0 t h)
      = (List.finRange W.numel).foldl (fun r n => r + F (W.rowMajor.symm n)) (0 : EReal) := by
    show Host.reduceWindow (· + ·) ![1, 128, 1] ![1, 1, 1] ![0, 127, 0] ![0, 0, 0] x (fun _ : S_.Idx => init (Shape.Idx.first h_S_))
      reduceWindows_S1x128x4_S1x128x4_w1s1p0_0_w128s1p127_0_w1s1p0_0 h_S_ (ix3 0 t h) = _
    rw [hi]
    unfold Host.reduceWindow
    exact congrArg (fun f : EReal → Fin W.numel → EReal => List.foldl f 0 (List.finRange W.numel))
      (funext₂ fun r n => congrArg (r + ·) (dite_congr rfl (fun _ => rfl) (fun _ => rfl)))
  rw [e, foldl_add, zero_add, ← Fin.sum_univ_def, Equiv.sum_comp W.rowMajor.symm F, sum_idx3, Fintype.sum_unique]
  simp only [Fintype.sum_unique]
  refine Fintype.sum_equiv (Equiv.addRight (t + 1)) _ _ fun w => ?_
  have ht := t.isLt
  have hw := w.isLt
  have hu : ((w + (t + 1) : Fin 128) : Nat) = (w.val + (t.val + 1) % 128) % 128 := rfl
  show F (ix3 0 w 0) = if w + (t + 1) ≤ t then (x (ix3 0 (w + (t + 1)) h) : EReal) else 0
  by_cases hc : 127 ≤ t.val + w.val
  · have hv : ((w + (t + 1) : Fin 128) : Nat) = t.val + w.val - 127 := by rw [hu]; omega
    rw [if_pos (by rw [Fin.le_def, hv]; omega)]
    show dite _ _ _ = _
    rw [dif_pos (fun a => ?_)]
    · refine congrArg x (funext fun a => Fin.ext ?_)
      match a with
      | 0 => rfl
      | 1 => show t.val * 1 + w.val - 127 = ((w + (t + 1) : Fin 128) : Nat); omega
      | 2 => show h.val * 1 + 0 - 0 = h.val; omega
    · match a with
      | 0 => exact ⟨Nat.zero_le _, Nat.zero_lt_one⟩
      | 1 => show 127 ≤ t.val * 1 + w.val ∧ t.val * 1 + w.val - 127 < 128; omega
      | 2 => show 0 ≤ h.val * 1 + 0 ∧ h.val * 1 + 0 - 0 < 4; omega
  · have hv : ((w + (t + 1) : Fin 128) : Nat) = t.val + w.val + 1 := by rw [hu]; omega
    rw [if_neg (by rw [Fin.le_def, hv]; omega)]
    show dite _ _ _ = _
    rw [dif_neg (fun H => hc ?_)]
    have := (H 1).1
    change 127 ≤ t.val * 1 + w.val at this
    omega

/-- The place of chunk `n` in the stack, as the loop's counter gives it. -/
theorem clamp0 (n : Fin 128) : (min (max ((BitVec.ofNat 32 n.val).toInt) 0) ((128 - 1 : Nat) : Int)).toNat = n.val := by
  have hn := n.isLt
  have h : (BitVec.ofNat 32 n.val).toInt = n.val := by
    have hN : (BitVec.ofNat 32 n.val).toNat = n.val := by
      rw [BitVec.toNat_ofNat]; exact Nat.mod_eq_of_lt (by omega)
    rw [BitVec.toInt_eq_toNat_of_lt (by rw [hN]; omega), hN]
  rw [h]; omega

/-- Chunk `n` of the stacked queries, keys or values. -/
theorem slice5 (x : Vec Ideal S128x1x128x4x128 .f32) (ct : IVec S_ 32) (n : Fin 128) (hc : ct = fun _ => BitVec.ofNat 32 n.val)
    (t : Fin 128) (h : Fin 4) (e : Fin 128) :
    (Host.dynamicSlice S1x1x128x4x128 x (fun k => (((![ct, constantI S_ 32 0#32, constantI S_ 32 0#32, constantI S_ 32 0#32, constantI S_ 32 0#32] : Fin 5 → IVec S_ 32)) k (Shape.Idx.first h_S_)).toInt) sliceFits_S128x1x128x4x128_S1x1x128x4x128 : Vec Ideal S1x1x128x4x128 .f32) (ix5 0 0 t h e)
      = x (ix5 n 0 t h e) := by
  subst hc
  refine congrArg x (funext fun a => Fin.ext ?_)
  match a with
  | 0 => show (min (max ((BitVec.ofNat 32 n.val).toInt) 0) ((128 - 1 : Nat) : Int)).toNat + 0 = n.val; rw [clamp0, Nat.add_zero]
  | 1 => rfl
  | 2 => show 0 + t.val = t.val; omega
  | 3 => show 0 + h.val = h.val; omega
  | 4 => show 0 + e.val = e.val; omega

/-- Chunk `n` of the stacked gates. -/
theorem slice4 (x : Vec Ideal S128x1x128x4 .f32) (ct : IVec S_ 32) (n : Fin 128) (hc : ct = fun _ => BitVec.ofNat 32 n.val)
    (t : Fin 128) (h : Fin 4) :
    (Host.dynamicSlice S1x1x128x4 x (fun k => (((![ct, constantI S_ 32 0#32, constantI S_ 32 0#32, constantI S_ 32 0#32] : Fin 4 → IVec S_ 32)) k (Shape.Idx.first h_S_)).toInt) sliceFits_S128x1x128x4_S1x1x128x4 : Vec Ideal S1x1x128x4 .f32) (ix4 0 0 t h)
      = x (ix4 n 0 t h) := by
  subst hc
  refine congrArg x (funext fun a => Fin.ext ?_)
  match a with
  | 0 => show (min (max ((BitVec.ofNat 32 n.val).toInt) 0) ((128 - 1 : Nat) : Int)).toNat + 0 = n.val; rw [clamp0, Nat.add_zero]
  | 1 => rfl
  | 2 => show 0 + t.val = t.val; omega
  | 3 => show 0 + h.val = h.val; omega

/-- Writing chunk `n` into the stack: that chunk is the new one, the others stay. -/
theorem update5 (x : Vec Ideal S128x1x128x4x128 .f32) (upd : Vec Ideal S1x1x128x4x128 .f32) (ct : IVec S_ 32) (n : Fin 128)
    (hc : ct = fun _ => BitVec.ofNat 32 n.val) (n' t : Fin 128) (h : Fin 4) (e : Fin 128) :
    (Host.dynamicUpdateSlice x upd (fun k => (((![ct, constantI S_ 32 0#32, constantI S_ 32 0#32, constantI S_ 32 0#32, constantI S_ 32 0#32] : Fin 5 → IVec S_ 32)) k (Shape.Idx.first h_S_)).toInt) updateFits_S128x1x128x4x128_S1x1x128x4x128 : Vec Ideal S128x1x128x4x128 .f32) (ix5 n' 0 t h e)
      = if n' = n then upd (ix5 0 0 t h e) else x (ix5 n' 0 t h e) := by
  subst hc
  have c0 := clamp0 n
  by_cases hn : n' = n
  · subst hn
    rw [if_pos rfl, Host.dynamicUpdateSlice_apply, dif_pos (fun a => ?_)]
    · refine congrArg upd (funext fun a => Fin.ext ?_)
      match a with
      | 0 => show n'.val - (min (max ((BitVec.ofNat 32 n'.val).toInt) 0) ((128 - 1 : Nat) : Int)).toNat = 0; omega
      | 1 => rfl
      | 2 => rfl
      | 3 => rfl
      | 4 => rfl
    · match a with
      | 0 =>
        show (min (max ((BitVec.ofNat 32 n'.val).toInt) 0) ((128 - 1 : Nat) : Int)).toNat ≤ n'.val
          ∧ n'.val < (min (max ((BitVec.ofNat 32 n'.val).toInt) 0) ((128 - 1 : Nat) : Int)).toNat + 1
        omega
      | 1 => exact ⟨Nat.le_refl 0, Nat.zero_lt_one⟩
      | 2 => exact ⟨Nat.zero_le _, lt_of_lt_of_eq t.isLt (Nat.zero_add _).symm⟩
      | 3 => exact ⟨Nat.zero_le _, lt_of_lt_of_eq h.isLt (Nat.zero_add _).symm⟩
      | 4 => exact ⟨Nat.zero_le _, lt_of_lt_of_eq e.isLt (Nat.zero_add _).symm⟩
  · rw [if_neg hn, Host.dynamicUpdateSlice_apply, dif_neg (fun H => hn (Fin.ext ?_))]
    have k := H 0
    change (min (max ((BitVec.ofNat 32 n.val).toInt) 0) ((128 - 1 : Nat) : Int)).toNat ≤ n'.val
      ∧ n'.val < (min (max ((BitVec.ofNat 32 n.val).toInt) 0) ((128 - 1 : Nat) : Int)).toNat + 1 at k
    omega

end Cert.Mlstm.Ref
-- ==== Proof.Mlstm.RStep.lean ====
/-
  One trip of the reference's loop is one chunk of the recurrence: from a carried state and a counter at chunk `n`, the
  carried arrays after the trip hold the next state, and row `n` of the stacked outputs holds the chunk's output.
-/
module

public import proofs.«01_k».proof.Proof.Mlstm.RBase
public import Idealize.ShloMosaic.Lib.WordCmp

@[expose] public section

noncomputable section

namespace Cert.Mlstm.Ref

open Idealize.ShloMosaic Idealize.ShloMosaic.TcCoe Cert.ReferenceIdeal Cert.ReferenceIdeal.Gen Cert.ReferenceIdeal.Value

/-- The loop's arrays: the stacked chunks, the counter at `n`, and the carried state. -/
structure Enc (X : Fin 128 → Inp) (n : Fin 128) (st : St) (V : Valuation τ sig (Elt Ideal)) : Prop where
  q : ∀ i t h e, (V (Proc.devRef .tc main_v31_0) : Vec Ideal S128x1x128x4x128 .f32) (ix5 i 0 t h e) = (X i).q h t e
  k : ∀ i t h e, (V (Proc.devRef .tc main_v31_1) : Vec Ideal S128x1x128x4x128 .f32) (ix5 i 0 t h e) = (X i).k h t e
  v : ∀ i t h e, (V (Proc.devRef .tc main_v31_2) : Vec Ideal S128x1x128x4x128 .f32) (ix5 i 0 t h e) = (X i).v h t e
  ig : ∀ i t h, (V (Proc.devRef .tc main_v31_3) : Vec Ideal S128x1x128x4 .f32) (ix4 i 0 t h) = (X i).ig h t
  lf : ∀ i t h, (V (Proc.devRef .tc main_v31_4) : Vec Ideal S128x1x128x4 .f32) (ix4 i 0 t h) = (X i).lf h t
  ctr : (V (Proc.devRef .tc main_v31_5) : IVec S_ 32) = fun _ => BitVec.ofNat 32 n.val
  C : ∀ h d e, (V (Proc.devRef .tc main_v31_6) : Vec Ideal S1x4x128x128 .f32) (ix4 0 h d e) = st.C h d e
  n : ∀ h e, (V (Proc.devRef .tc main_v31_7) : Vec Ideal S1x4x128 .f32) (ix3 0 h e) = st.n h e
  m : ∀ h, (V (Proc.devRef .tc main_v31_8) : Vec Ideal S1x4 .f32) (ix2 0 h) = st.m h

/-- The causal mask, read at a pair of positions. -/
theorem mask_apply (t s : Fin 128) (x : EReal) :
    Scalar.select (Scalar.select (IntOp.cmpi .sge (IntOp.addi (BitVec.ofNat 32 t.val) 0#32)
      (BitVec.ofNat 32 s.val)) 1#1 0#1) x ninf = if s ≤ t then x else ninf := by
  have ht := t.isLt
  have hs := s.isLt
  rw [show IntOp.addi (BitVec.ofNat 32 t.val) 0#32 = BitVec.ofNat 32 t.val from BitVec.add_zero _,
    WordCmp.cmpi_sge_ofNat (by omega) (by omega)]
  by_cases h : s.val ≤ t.val
  · rw [if_pos (show s ≤ t from h)]; simp [h, Scalar.select]
  · rw [if_neg (show ¬ s ≤ t from h)]; simp [h, Scalar.select]

/-- The larger of an entry and of all entries of a row. -/
theorem max_apply (b : FVec Ideal S1x4x128 .f32) (l : FVec Ideal S1x4x128x128 .f32) (h : Fin 4) (t : Fin 128) :
    maximumf b (Host.reduce FloatOps.maximumf l (constant S_ .f32 0xFF800000#32) reducesTo_S1x4x128x128_S1x4x128_d3 h_S_) (ix3 0 h t)
      = max (b (ix3 0 h t)) (Finset.univ.fold max ninf fun s => l (ix4 0 h t s)) := by
  pointwise
  rfl

theorem mul_swap (a b c : EReal) : a * b * c = b * a * c := by rw [mul_comm a b]

/-- The new carried matrix at an entry. -/
theorem next_C (c : FVec Ideal S1x4 .f32) (w : FVec Ideal S1x4x128 .f32) (k v : FVec Ideal S1x128x4x128 .f32)
    (C : FVec Ideal S1x4x128x128 .f32) (h : Fin 4) (d e : Fin 128) :
    addf (mulf (broadcastInDim S1x4x128x128 ![0, 1, 2, 3] bcast_S1x4x1x1_S1x4x128x128_0_1_2_3
          (broadcastInDim S1x4x1x1 ![0, 1] bcast_S1x4_S1x4x1x1_0_1 c)) C)
        (Host.dotGeneral dot_S1x128x4x128_S1x128x4x128_S1x4x128x128_1_1_3_3_02_02 none
          (mulf (broadcastInDim S1x128x4x128 ![0, 1, 2, 3] bcast_S1x128x4x1_S1x128x4x128_0_1_2_3
            (broadcastInDim S1x128x4x1 ![0, 1, 2] bcast_S1x128x4_S1x128x4x1_0_1_2
              (transpose S1x128x4 [0, 2, 1] w transposes_S1x4x128_S1x128x4_0_2_1))) v) k) (ix4 0 h d e)
      = c (ix2 0 h) * C (ix4 0 h d e) + ∑ s, w (ix3 0 h s) * v (ix4 0 s h d) * k (ix4 0 s h e) := by
  pointwise

/-- The new carried vector at an entry. -/
theorem next_n (c : FVec Ideal S1x4 .f32) (w : FVec Ideal S1x4x128 .f32) (k : FVec Ideal S1x128x4x128 .f32)
    (N : FVec Ideal S1x4x128 .f32) (h : Fin 4) (e : Fin 128) :
    addf (mulf (broadcastInDim S1x4x128 ![0, 1, 2] bcast_S1x4x1_S1x4x128_0_1_2
          (broadcastInDim S1x4x1 ![0, 1] bcast_S1x4_S1x4x1_0_1 c)) N)
        (Host.dotGeneral dot_S1x4x128_S1x128x4x128_S1x4x128_2_1_n_3_01_02 none w k) (ix3 0 h e)
      = c (ix2 0 h) * N (ix3 0 h e) + ∑ s, w (ix3 0 h s) * k (ix4 0 s h e) := by
  pointwise

/-- A chunk's output at an entry. -/
theorem chunk_out (a : FVec Ideal S1x4x128x128 .f32) (w m : FVec Ideal S1x4x128 .f32) (q v : FVec Ideal S1x128x4x128 .f32)
    (C : FVec Ideal S1x4x128x128 .f32) (N : FVec Ideal S1x4x128 .f32) (t : Fin 128) (h : Fin 4) (d : Fin 128) :
    (broadcastInDim S1x1x128x4x128 ![1, 2, 3, 4] bcast_S1x128x4x128_S1x1x128x4x128_1_2_3_4 (transpose S1x128x4x128 [0, 2, 1, 3] (Host.divf (addf (Host.dotGeneral dot_S1x4x128x128_S1x128x4x128_S1x4x128x128_3_1_2_3_01_02 none a v) (mulf (broadcastInDim S1x4x128x128 ![0, 1, 2, 3] bcast_S1x4x128x1_S1x4x128x128_0_1_2_3 (broadcastInDim S1x4x128x1 ![0, 1, 2] bcast_S1x4x128_S1x4x128x1_0_1_2 w)) (Host.dotGeneral dot_S1x128x4x128_S1x4x128x128_S1x4x128x128_3_3_1_2_02_01 none q C))) (broadcastInDim S1x4x128x128 ![0, 1, 2, 3] bcast_S1x4x128x1_S1x4x128x128_0_1_2_3 (broadcastInDim S1x4x128x1 ![0, 1, 2] bcast_S1x4x128_S1x4x128x1_0_1_2 (maximumf (Host.absf (addf (Host.reduceAdd a (constant S_ .f32 0x00000000#32) reducesTo_S1x4x128x128_S1x4x128_d3 h_S_) (mulf w (Host.dotGeneral dot_S1x4x128_S1x128x4x128_S1x4x128_2_3_n_1_01_02 none N q)))) (Host.exp (Host.negf m)))))) transposes_S1x4x128x128_S1x128x4x128_0_2_1_3) : FVec Ideal S1x1x128x4x128 .f32) (ix5 0 0 t h d)
      = Ideal.div ((∑ s, a (ix4 0 h t s) * v (ix4 0 s h d)) + w (ix3 0 h t) * ∑ e, q (ix4 0 t h e) * C (ix4 0 h d e))
        (max (max ((∑ s, a (ix4 0 h t s)) + w (ix3 0 h t) * ∑ e, q (ix4 0 t h e) * N (ix3 0 h e))
            (-((∑ s, a (ix4 0 h t s)) + w (ix3 0 h t) * ∑ e, q (ix4 0 t h e) * N (ix3 0 h e))))
          (Ideal.exp (-m (ix3 0 h t)))) := by
  have key : ∀ e, ((N (ix3 0 h e) * q (ix4 0 t h e) : EReal)) = q (ix4 0 t h e) * N (ix3 0 h e) := fun e => EReal.mul_comm _ _
  simp only [← key]
  pointwise
  rfl

variable {X : Fin 128 → Inp} {n : Fin 128} {st : St} {V : Valuation τ sig (Elt Ideal)} (E : Enc X n st V)

include E

theorem q_apply (t : Fin 128) (h : Fin 4) (e : Fin 128) :
    (res_main_while0b_v69 V : Vec Ideal S1x128x4x128 .f32) (ix4 0 t h e) = (X n).q h t e := by
  rw [← E.q]
  unfold res_main_while0b_v69
  refine Eq.trans (b := (Host.dynamicSlice S1x1x128x4x128 (V (Proc.devRef .tc main_v31_0)) (fun k => (((![V (Proc.devRef .tc main_v31_5), constantI S_ 32 0#32, constantI S_ 32 0#32, constantI S_ 32 0#32, constantI S_ 32 0#32] : Fin 5 → IVec S_ 32)) k (Shape.Idx.first h_S_)).toInt) sliceFits_S128x1x128x4x128_S1x1x128x4x128 : Vec Ideal S1x1x128x4x128 .f32) (ix5 0 0 t h e)) ?_
    (slice5 _ _ n E.ctr t h e)
  generalize Host.dynamicSlice (α := Elt Ideal .f32) S1x1x128x4x128 _ _ _ = y
  pointwise

theorem k_apply (t : Fin 128) (h : Fin 4) (e : Fin 128) :
    (res_main_while0b_v70 V : Vec Ideal S1x128x4x128 .f32) (ix4 0 t h e) = (X n).k h t e := by
  rw [← E.k]
  unfold res_main_while0b_v70
  refine Eq.trans (b := (Host.dynamicSlice S1x1x128x4x128 (V (Proc.devRef .tc main_v31_1)) (fun k => (((![V (Proc.devRef .tc main_v31_5), constantI S_ 32 0#32, constantI S_ 32 0#32, constantI S_ 32 0#32, constantI S_ 32 0#32] : Fin 5 → IVec S_ 32)) k (Shape.Idx.first h_S_)).toInt) sliceFits_S128x1x128x4x128_S1x1x128x4x128 : Vec Ideal S1x1x128x4x128 .f32) (ix5 0 0 t h e)) ?_
    (slice5 _ _ n E.ctr t h e)
  generalize Host.dynamicSlice (α := Elt Ideal .f32) S1x1x128x4x128 _ _ _ = y
  pointwise

theorem v_apply (t : Fin 128) (h : Fin 4) (e : Fin 128) :
    (res_main_while0b_v71 V : Vec Ideal S1x128x4x128 .f32) (ix4 0 t h e) = (X n).v h t e := by
  rw [← E.v]
  unfold res_main_while0b_v71
  refine Eq.trans (b := (Host.dynamicSlice S1x1x128x4x128 (V (Proc.devRef .tc main_v31_2)) (fun k => (((![V (Proc.devRef .tc main_v31_5), constantI S_ 32 0#32, constantI S_ 32 0#32, constantI S_ 32 0#32, constantI S_ 32 0#32] : Fin 5 → IVec S_ 32)) k (Shape.Idx.first h_S_)).toInt) sliceFits_S128x1x128x4x128_S1x1x128x4x128 : Vec Ideal S1x1x128x4x128 .f32) (ix5 0 0 t h e)) ?_
    (slice5 _ _ n E.ctr t h e)
  generalize Host.dynamicSlice (α := Elt Ideal .f32) S1x1x128x4x128 _ _ _ = y
  pointwise

theorem ig_apply (h : Fin 4) (t : Fin 128) :
    (res_main_while0b_v76 V : Vec Ideal S1x4x128 .f32) (ix3 0 h t) = (X n).ig h t := by
  rw [← E.ig]
  unfold res_main_while0b_v76
  refine Eq.trans (b := (Host.dynamicSlice S1x1x128x4 (V (Proc.devRef .tc main_v31_3)) (fun k => (((![V (Proc.devRef .tc main_v31_5), constantI S_ 32 0#32, constantI S_ 32 0#32, constantI S_ 32 0#32] : Fin 4 → IVec S_ 32)) k (Shape.Idx.first h_S_)).toInt) sliceFits_S128x1x128x4_S1x1x128x4 : Vec Ideal S1x1x128x4 .f32) (ix4 0 0 t h)) ?_
    (slice4 _ _ n E.ctr t h)
  generalize Host.dynamicSlice (α := Elt Ideal .f32) S1x1x128x4 _ _ _ = y
  pointwise

theorem b_apply (h : Fin 4) (t : Fin 128) :
    (res_main_while0b_v75 V : Vec Ideal S1x4x128 .f32) (ix3 0 h t) = (X n).b h t := by
  have k : ∀ u, (Host.dynamicSlice S1x1x128x4 (V (Proc.devRef .tc main_v31_4)) (fun k => (((![V (Proc.devRef .tc main_v31_5), constantI S_ 32 0#32, constantI S_ 32 0#32, constantI S_ 32 0#32] : Fin 4 → IVec S_ 32)) k (Shape.Idx.first h_S_)).toInt) sliceFits_S128x1x128x4_S1x1x128x4 : Vec Ideal S1x1x128x4 .f32) (ix4 0 0 u h) = (X n).lf h u :=
    fun u => (slice4 _ _ n E.ctr u h).trans (E.lf n u h)
  unfold res_main_while0b_v75
  generalize Host.dynamicSlice (α := Elt Ideal .f32) S1x1x128x4 (V (Proc.devRef .tc main_v31_4)) _ _ = y at k ⊢
  refine Eq.trans ?_ ((cumsum_apply (shapeCast S1x128x4 y shapeCasts_S1x1x128x4_S1x128x4)
    (broadcastInDim (α := Elt Ideal .f32) S_ ![] bcast_S_S_ (constant (F := Ideal) S_ .f32 0x00000000#32)) ?_ t h).trans ?_)
  · generalize Host.reduceWindowAdd (F := Ideal) (φ := .f32) (s := S1x128x4) (t := S1x128x4) _ _ _ _ _ _ _ _ = z
    pointwise
  · pointwise
  · refine Finset.sum_congr rfl fun u _ => ?_
    rw [← k]
    refine if_congr Iff.rfl ?_ rfl
    pointwise

theorem logd_apply (h : Fin 4) (t s : Fin 128) :
    (res_main_while0b_v87 V : Vec Ideal S1x4x128x128 .f32) (ix4 0 h t s) = (X n).logd h t s := by
  unfold res_main_while0b_v87
  have kb := b_apply E
  have ki := ig_apply E
  generalize res_main_while0b_v75 V = b at *
  generalize res_main_while0b_v76 V = i at *
  unfold Inp.logd
  rw [← kb, ← kb, ← ki]
  pointwise
  exact mask_apply t s _

theorem inter_apply (h : Fin 4) (t : Fin 128) :
    (res_main_while0b_v90 V : Vec Ideal S1x4x128 .f32) (ix3 0 h t) = (X n).inter st h t := by
  unfold res_main_while0b_v90
  have kb := b_apply E
  generalize res_main_while0b_v75 V = b at *
  unfold Inp.inter
  rw [← kb, ← E.m]
  pointwise

theorem mt_apply (h : Fin 4) (t : Fin 128) :
    (res_main_while0b_v92 V : Vec Ideal S1x4x128 .f32) (ix3 0 h t) = (X n).mt st h t := by
  unfold res_main_while0b_v92 Inp.mt
  simp only [← inter_apply E, ← logd_apply E]
  exact max_apply _ _ h t

theorem wi_apply (h : Fin 4) (t : Fin 128) :
    (res_main_while0b_v94 V : Vec Ideal S1x4x128 .f32) (ix3 0 h t) = (X n).wi st h t := by
  unfold res_main_while0b_v94
  have kb := inter_apply E
  have ki := mt_apply E
  generalize res_main_while0b_v90 V = b at *
  generalize res_main_while0b_v92 V = i at *
  unfold Inp.wi
  simp only [← kb, ← ki]
  pointwise

theorem att_apply (h : Fin 4) (t s : Fin 128) :
    (res_main_while0b_v100 V : Vec Ideal S1x4x128x128 .f32) (ix4 0 h t s) = (X n).att st h t s := by
  unfold res_main_while0b_v100
  have kl := logd_apply E
  have km := mt_apply E
  have kq := q_apply E
  have kk := k_apply E
  generalize res_main_while0b_v87 V = b at *
  generalize res_main_while0b_v92 V = i at *
  generalize res_main_while0b_v69 V = q at *
  generalize res_main_while0b_v70 V = k at *
  unfold Inp.att
  simp only [← kl, ← km, ← kq, ← kk]
  pointwise

theorem m_apply (h : Fin 4) :
    (res_main_while0b_v119 V : Vec Ideal S1x4 .f32) (ix2 0 h) = (X n).mt st h 127 := by
  unfold res_main_while0b_v119
  have km := mt_apply E
  generalize res_main_while0b_v92 V = i at *
  rw [← km]
  pointwise

theorem wc_apply (h : Fin 4) :
    (res_main_while0b_v123 V : Vec Ideal S1x4 .f32) (ix2 0 h) = (X n).wc st h := by
  unfold res_main_while0b_v123
  have ki := inter_apply E
  have km := m_apply E
  generalize res_main_while0b_v90 V = i at *
  generalize res_main_while0b_v119 V = b at *
  unfold Inp.wc
  rw [← km, ← ki]
  pointwise

theorem ws_apply (h : Fin 4) (s : Fin 128) :
    (res_main_while0b_v131 V : Vec Ideal S1x4x128 .f32) (ix3 0 h s) = (X n).ws st h s := by
  unfold res_main_while0b_v131
  have ki := ig_apply E
  have kb := b_apply E
  have km := m_apply E
  generalize res_main_while0b_v76 V = i at *
  generalize res_main_while0b_v75 V = b at *
  generalize res_main_while0b_v119 V = m at *
  unfold Inp.ws
  rw [← km, ← ki, ← kb, ← kb]
  pointwise

/-- The carried matrix after a trip. -/
theorem step_C (h : Fin 4) (d e : Fin 128) :
    (step_main_v31_6 V : Vec Ideal S1x4x128x128 .f32) (ix4 0 h d e) = ((X n).next st).C h d e := by
  have kc := wc_apply E
  have ks := ws_apply E
  have kk := k_apply E
  have kv := v_apply E
  have kC := E.C
  unfold step_main_v31_6
  generalize res_main_while0b_v123 V = c at *
  generalize res_main_while0b_v131 V = w at *
  generalize res_main_while0b_v70 V = k at *
  generalize res_main_while0b_v71 V = v at *
  generalize V (Proc.devRef .tc main_v31_6) = C at *
  unfold Inp.next
  simp only [← kc, ← ks, ← kk, ← kv, ← kC]
  refine Eq.trans (next_C c w k v C h d e) ?_
  refine congrArg _ (Finset.sum_congr rfl fun s _ => ?_)
  exact mul_swap _ _ _

/-- The carried vector after a trip. -/
theorem step_n (h : Fin 4) (e : Fin 128) :
    (step_main_v31_7 V : Vec Ideal S1x4x128 .f32) (ix3 0 h e) = ((X n).next st).n h e := by
  have kc := wc_apply E
  have ks := ws_apply E
  have kk := k_apply E
  have kn := E.n
  unfold step_main_v31_7
  generalize res_main_while0b_v123 V = c at *
  generalize res_main_while0b_v131 V = w at *
  generalize res_main_while0b_v70 V = k at *
  generalize V (Proc.devRef .tc main_v31_7) = N at *
  unfold Inp.next
  simp only [← kc, ← ks, ← kk, ← kn]
  exact next_n c w k N h e

/-- The carried maximum after a trip. -/
theorem step_m (h : Fin 4) :
    (step_main_v31_8 V : Vec Ideal S1x4 .f32) (ix2 0 h) = ((X n).next st).m h := m_apply E h

/-- The stacked outputs after a trip: the chunk's output in its row, the other rows as they were. -/
theorem step_out (i t : Fin 128) (h : Fin 4) (d : Fin 128) :
    (step_main_v31_9 V : Vec Ideal S128x1x128x4x128 .f32) (ix5 i 0 t h d)
      = if i = n then (X n).out st h t d
        else (V (Proc.devRef .tc main_v31_9) : Vec Ideal S128x1x128x4x128 .f32) (ix5 i 0 t h d) := by
  have ka := att_apply E
  have kw := wi_apply E
  have km := mt_apply E
  have kq := q_apply E
  have kv := v_apply E
  have kC := E.C
  have kn := E.n
  unfold step_main_v31_9
  refine Eq.trans (update5 _ _ _ n E.ctr i t h d) ?_
  generalize res_main_while0b_v100 V = a at *
  generalize res_main_while0b_v94 V = w at *
  generalize res_main_while0b_v92 V = m at *
  generalize res_main_while0b_v69 V = q at *
  generalize res_main_while0b_v71 V = v at *
  generalize V (Proc.devRef .tc main_v31_6) = C at *
  generalize V (Proc.devRef .tc main_v31_7) = N at *
  refine if_congr Iff.rfl ?_ rfl
  unfold Inp.out Inp.num Inp.den
  simp only [← ka, ← kw, ← km, ← kq, ← kv, ← kC, ← kn]
  exact chunk_out a w m q v C N t h d

end Cert.Mlstm.Ref
-- ==== Proof.Mlstm.RLoop.lean ====
/-
  The reference's loop as the recurrence: after `k` trips the carried arrays hold the state after `k` chunks, and the first
  `k` rows of the stacked outputs hold those chunks' outputs.
-/
module

public import proofs.«01_k».proof.Proof.Mlstm.RStep

@[expose] public section

noncomputable section

namespace Cert.Mlstm.Ref

open Idealize.ShloMosaic Idealize.ShloMosaic.TcCoe Cert.ReferenceIdeal Cert.ReferenceIdeal.Gen Cert.ReferenceIdeal.Value

/-- What the loop's arrays hold after `k` chunks of `X`. -/
structure Inv (X : Nat → Inp) (j : Nat) (V : Valuation τ sig (Elt Ideal)) : Prop where
  q : ∀ i t h e, (V (Proc.devRef .tc main_v31_0) : Vec Ideal S128x1x128x4x128 .f32) (ix5 i 0 t h e) = (X i.val).q h t e
  k : ∀ i t h e, (V (Proc.devRef .tc main_v31_1) : Vec Ideal S128x1x128x4x128 .f32) (ix5 i 0 t h e) = (X i.val).k h t e
  v : ∀ i t h e, (V (Proc.devRef .tc main_v31_2) : Vec Ideal S128x1x128x4x128 .f32) (ix5 i 0 t h e) = (X i.val).v h t e
  ig : ∀ i t h, (V (Proc.devRef .tc main_v31_3) : Vec Ideal S128x1x128x4 .f32) (ix4 i 0 t h) = (X i.val).ig h t
  lf : ∀ i t h, (V (Proc.devRef .tc main_v31_4) : Vec Ideal S128x1x128x4 .f32) (ix4 i 0 t h) = (X i.val).lf h t
  ctr : (V (Proc.devRef .tc main_v31_5) : IVec S_ 32) = fun _ => BitVec.ofNat 32 j
  C : ∀ h d e, (V (Proc.devRef .tc main_v31_6) : Vec Ideal S1x4x128x128 .f32) (ix4 0 h d e) = (states X j).C h d e
  n : ∀ h e, (V (Proc.devRef .tc main_v31_7) : Vec Ideal S1x4x128 .f32) (ix3 0 h e) = (states X j).n h e
  m : ∀ h, (V (Proc.devRef .tc main_v31_8) : Vec Ideal S1x4 .f32) (ix2 0 h) = (states X j).m h
  out : ∀ (i t : Fin 128) (h : Fin 4) (d : Fin 128), i.val < j →
    (V (Proc.devRef .tc main_v31_9) : Vec Ideal S128x1x128x4x128 .f32) (ix5 i 0 t h d)
      = (X i.val).out (states X i.val) h t d

theorem Inv.enc {X : Nat → Inp} {k : Nat} {V : Valuation τ sig (Elt Ideal)} (I : Inv X k V) (hk : k < 128) :
    Enc (fun i => X i.val) ⟨k, hk⟩ (states X k) V :=
  ⟨I.q, I.k, I.v, I.ig, I.lf, I.ctr, I.C, I.n, I.m⟩

/-- One trip more is one chunk more. -/
theorem Inv.step {X : Nat → Inp} {k : Nat} {V : Valuation τ sig (Elt Ideal)} (I : Inv X k V) (hk : k < 128) :
    Inv X (k + 1) (STEP V) := by
  have E := I.enc hk
  have hs : (X k).next (states X k) = states X (k + 1) := rfl
  refine ⟨?_, ?_, ?_, ?_, ?_, ?_, ?_, ?_, ?_, ?_⟩
  · rw [STEP_main_v31_0]; exact I.q
  · rw [STEP_main_v31_1]; exact I.k
  · rw [STEP_main_v31_2]; exact I.v
  · rw [STEP_main_v31_3]; exact I.ig
  · rw [STEP_main_v31_4]; exact I.lf
  · rw [STEP_main_v31_5]
    unfold step_main_v31_5
    have hc := I.ctr
    generalize V (Proc.devRef .tc main_v31_5) = c at hc
    subst hc
    funext i
    exact (BitVec.ofNat_add k 1).symm
  · intro h d e
    exact (congrFun (STEP_main_v31_6 V) (ix4 0 h d e)).trans ((step_C E h d e).trans (congrArg (fun s => s.C h d e) hs))
  · intro h e
    exact (congrFun (STEP_main_v31_7 V) (ix3 0 h e)).trans ((step_n E h e).trans (congrArg (fun s => s.n h e) hs))
  · intro h
    exact (congrFun (STEP_main_v31_8 V) (ix2 0 h)).trans ((step_m E h).trans (congrArg (fun s => s.m h) hs))
  · intro i t h d hi
    refine (congrFun (STEP_main_v31_9 V) (ix5 i 0 t h d)).trans ((step_out E i t h d).trans ?_)
    by_cases e : i = ⟨k, hk⟩
    · rw [if_pos e, e]
    · rw [if_neg e]
      exact I.out i t h d (by
        have : i.val ≠ k := fun h => e (Fin.ext h)
        omega)

/-- After `k` trips, `k` chunks. -/
theorem Inv.iter {X : Nat → Inp} {V : Valuation τ sig (Elt Ideal)} (I : Inv X 0 V) : ∀ k, k ≤ 128 → Inv X k (STEP^[k] V)
  | 0, _ => I
  | k + 1, h => by
    rw [Function.iterate_succ_apply']
    exact (I.iter k (by omega)).step (by omega)

end Cert.Mlstm.Ref
-- ==== Proof.Mlstm.RSig.lean ====
/-
  The reference's log of the logistic function, as a scalar: `-(max (-x) 0 + log (1 + exp (-|x|)))` is
  `min x 0 - log (1 + exp (-|x|))` at every extended real.
-/
module

public import proofs.«01_k».proof.Proof.Mlstm.Whole
public import Idealize.ShloMosaic.Lib.Claim

@[expose] public section

noncomputable section

namespace Cert.Mlstm.Ref

open Idealize.ShloMosaic

/-- `log (1 + exp (-|x|))` is a real number or more. -/
theorem log1p_exp_ne_bot (y : EReal) (hy : y ≤ 0) : Ideal.log1p (Ideal.exp y) ≠ ⊥ := by
  induction y using EReal.rec with
  | bot =>
    show Ideal.log (1 + 0) ≠ ⊥
    rw [add_zero, show (1 : EReal) = ((1 : ℝ) : EReal) from rfl, Ideal.log_coe, if_neg (by norm_num)]
    exact EReal.coe_ne_bot _
  | top => exact absurd hy (by simp)
  | coe r =>
    show Ideal.log (1 + ((Real.exp r : ℝ) : EReal)) ≠ ⊥
    rw [show (1 : EReal) + ((Real.exp r : ℝ) : EReal) = ((1 + Real.exp r : ℝ) : EReal) from rfl, Ideal.log_coe,
      if_neg (by have := Real.exp_pos r; linarith)]
    exact EReal.coe_ne_bot _

/-- The difference with itself is compared by "unequal", which no number answers. -/
theorem une_self (x : EReal) : Ideal.cmp .une x x = 0#1 := by
  simp [Ideal.cmp]

theorem neg_max_neg (x : EReal) : -max (-x) 0 = min x 0 := by
  rcases le_total x 0 with h | h
  · rw [min_eq_left h, max_eq_left (by simpa using EReal.neg_le_neg_iff.mpr h), neg_neg]
  · rw [min_eq_right h, max_eq_right (by simpa using EReal.neg_le_neg_iff.mpr h), neg_zero]

/-- The reference's expression. -/
theorem logsig_eq (x : EReal) :
    -(max (-x) 0 + Ideal.log1p (Ideal.exp (-max (-x - 0) (-(-x - 0))))) = logsig x := by
  have habs : max (-x - 0) (-(-x - 0)) = max x (-x) := by rw [sub_zero, neg_neg, max_comm]
  have h0 : -max x (-x) ≤ 0 := by
    have : (0 : EReal) ≤ max x (-x) := by
      rcases le_total x 0 with h | h
      · exact le_max_of_le_right (by simpa using EReal.neg_le_neg_iff.mpr h)
      · exact le_max_of_le_left h
    simpa using EReal.neg_le_neg_iff.mpr this
  rw [habs, EReal.neg_add (Or.inl (ne_of_gt (lt_of_lt_of_le EReal.bot_lt_zero (le_max_right _ _))))
    (Or.inr (log1p_exp_ne_bot _ h0)), neg_max_neg]
  unfold logsig
  rw [zero_sub]

end Cert.Mlstm.Ref
-- ==== Proof.Mlstm.REntry.lean ====
/-
  What the reference's loop starts from: the chunks of the arguments, the counter at nothing and the state of zeros.
-/
module

public import proofs.«01_k».proof.Proof.Mlstm.RLoop
public import proofs.«01_k».proof.Proof.Mlstm.RSig

@[expose] public section

noncomputable section

namespace Cert.Mlstm.Ref

open Idealize.ShloMosaic Idealize.ShloMosaic.TcCoe Cert.ReferenceIdeal Cert.ReferenceIdeal.Gen Cert.ReferenceIdeal.Value
open Idealize.SL.Sem Idealize.ShloMosaic.StableHlo

/-- A row of chunks read back from the sequence of all positions. -/
theorem unchunk5 (x : FVec Ideal S16384x512 .f32) (i t : Fin 128) (h : Fin 4) (e : Fin 128) :
    (transpose S128x1x128x4x128 [1, 0, 2, 3, 4] (shapeCast S1x128x128x4x128 (shapeCast S1x16384x4x128 x shapeCasts_S16384x512_S1x16384x4x128)
      shapeCasts_S1x16384x4x128_S1x128x128x4x128) transposes_S1x128x128x4x128_S128x1x128x4x128_1_0_2_3_4
      : FVec Ideal S128x1x128x4x128 .f32) (ix5 i 0 t h e) = x (ix2 (row i t) (col h e)) := by
  pointwise
  refine congrArg x (congrArg₂ ix2 (Fin.ext ?_) (Fin.ext ?_))
  · show i.val * 128 + t.val = 128 * i.val + t.val
    omega
  · show h.val * 128 + e.val = 128 * h.val + e.val
    omega

theorem unchunk4 (x : FVec Ideal S1x16384x4 .f32) (i t : Fin 128) (h : Fin 4) :
    (transpose S128x1x128x4 [1, 0, 2, 3] (shapeCast S1x128x128x4 x shapeCasts_S1x16384x4_S1x128x128x4) transposes_S1x128x128x4_S128x1x128x4_1_0_2_3
      : FVec Ideal S128x1x128x4 .f32) (ix4 i 0 t h) = x (ix3 0 (row i t) h) := by
  pointwise
  refine congrArg x (congrArg₂ (ix3 0) (Fin.ext ?_) rfl)
  show i.val * 128 + t.val = 128 * i.val + t.val
  omega

/-- The logs of the logistic function of an array, as the reference writes them. -/
def lsig (x : FVec Ideal S1x16384x4 .f32) : FVec Ideal S1x16384x4 .f32 :=
  let z : FVec Ideal S1x16384x4 .f32 := broadcastInDim S1x16384x4 ![] bcast_S_S1x16384x4 (constant (F := Ideal) S_ .f32 0x00000000#32)
  let d : FVec Ideal S1x16384x4 .f32 := subf (Host.negf x) z
  Host.negf (select (cmpf .une d d) (addf (Host.negf x) z)
    (addf (maximumf (Host.negf x) z) (Host.log1p (Host.exp (Host.negf (Host.absf d))))))

theorem lsig_apply (x : FVec Ideal S1x16384x4 .f32) (r : Fin 16384) (h : Fin 4) :
    lsig x (ix3 0 r h) = logsig (x (ix3 0 r h)) := by
  refine Eq.trans ?_ (logsig_eq _)
  pointwise [lsig]
  rw [if_neg (fun h => h rfl)]
  rfl

theorem read_lsig (V : Valuation τ sig (Elt Ideal)) :
    after hostOps0_1 V (Proc.devRef .tc main_v13) = lsig (V (Proc.devRef .tc main_v12)) := by
  after_results
  rfl

/-- The forget gates before their logs. -/
def fgate (g : FVec Ideal S16384x128 .f32) (b : FVec Ideal S1x8 .f32) : FVec Ideal S1x16384x4 .f32 :=
  addf (extractStridedSlice S1x16384x4 ![0, 0, 4] (shapeCast S1x16384x128 g shapeCasts_S16384x128_S1x16384x128) slices_S1x16384x128_S1x16384x4_0_0_4)
    (broadcastInDim S1x16384x4 ![0, 1, 2] bcast_S1x1x4_S1x16384x4_0_1_2 (broadcastInDim S1x1x4 ![2] bcast_S4_S1x1x4_2
      (shapeCast S4 (extractStridedSlice S1x4 ![0, 4] b slices_S1x8_S1x4_0_4) shapeCasts_S1x4_S4)))

theorem fgate_apply (g : FVec Ideal S16384x128 .f32) (b : FVec Ideal S1x8 .f32) (r : Fin 16384) (h : Fin 4) :
    fgate g b (ix3 0 r h) = g (ix2 r ⟨4 + h.val, by omega⟩) + b (ix2 0 ⟨4 + h.val, by omega⟩) := by
  pointwise [fgate]

/-- The input gates. -/
def igate (g : FVec Ideal S16384x128 .f32) (b : FVec Ideal S1x8 .f32) : FVec Ideal S1x16384x4 .f32 :=
  addf (extractStridedSlice S1x16384x4 ![0, 0, 0] (shapeCast S1x16384x128 g shapeCasts_S16384x128_S1x16384x128) slices_S1x16384x128_S1x16384x4_0_0_0)
    (broadcastInDim S1x16384x4 ![0, 1, 2] bcast_S1x1x4_S1x16384x4_0_1_2 (broadcastInDim S1x1x4 ![2] bcast_S4_S1x1x4_2
      (shapeCast S4 (extractStridedSlice S1x4 ![0, 0] b slices_S1x8_S1x4_0_0) shapeCasts_S1x4_S4)))

theorem igate_apply (g : FVec Ideal S16384x128 .f32) (b : FVec Ideal S1x8 .f32) (r : Fin 16384) (h : Fin 4) :
    igate g b (ix3 0 r h) = g (ix2 r ⟨h.val, by omega⟩) + b (ix2 0 ⟨h.val, by omega⟩) := by
  pointwise [igate]

theorem read_fgate (V : Valuation τ sig (Elt Ideal)) :
    after hostOps0 V (Proc.devRef .tc main_v12) = fgate (V (Proc.devRef .tc main_arg4)) (V (Proc.devRef .tc main_arg5)) := by
  after_results
  rfl

theorem read_igate (V : Valuation τ sig (Elt Ideal)) :
    after hostOps0 V (Proc.devRef .tc main_v6) = igate (V (Proc.devRef .tc main_arg4)) (V (Proc.devRef .tc main_arg5)) := by
  after_results
  rfl

theorem keep_ig (V : Valuation τ sig (Elt Ideal)) :
    after hostOps0_1 V (Proc.devRef .tc main_v6) = V (Proc.devRef .tc main_v6) :=
  after_of_writes_sub hostOps0_1 V hostOps0_1_writes (by decide +kernel)

theorem read_q (V : Valuation τ sig (Elt Ideal)) (i t : Fin 128) (h : Fin 4) (e : Fin 128) :
    (after hostOps0_2 V (Proc.devRef .tc main_v31_0) : FVec Ideal S128x1x128x4x128 .f32) (ix5 i 0 t h e)
      = (V (Proc.devRef .tc main_arg0) : FVec Ideal S16384x512 .f32) (ix2 (row i t) (col h e)) := by
  refine Eq.trans ?_ (unchunk5 _ i t h e)
  refine congrFun ?_ _
  after_results
  rfl

theorem read_k (V : Valuation τ sig (Elt Ideal)) (i t : Fin 128) (h : Fin 4) (e : Fin 128) :
    (after hostOps0_2 V (Proc.devRef .tc main_v31_1) : FVec Ideal S128x1x128x4x128 .f32) (ix5 i 0 t h e)
      = (V (Proc.devRef .tc main_arg1) : FVec Ideal S16384x512 .f32) (ix2 (row i t) (col h e)) := by
  refine Eq.trans ?_ (unchunk5 _ i t h e)
  refine congrFun ?_ _
  after_results
  rfl

theorem read_v (V : Valuation τ sig (Elt Ideal)) (i t : Fin 128) (h : Fin 4) (e : Fin 128) :
    (after hostOps0_2 V (Proc.devRef .tc main_v31_2) : FVec Ideal S128x1x128x4x128 .f32) (ix5 i 0 t h e)
      = (V (Proc.devRef .tc main_arg2) : FVec Ideal S16384x512 .f32) (ix2 (row i t) (col h e)) := by
  refine Eq.trans ?_ (unchunk5 _ i t h e)
  refine congrFun ?_ _
  after_results
  rfl

theorem read_ig (V : Valuation τ sig (Elt Ideal)) (i t : Fin 128) (h : Fin 4) :
    (after hostOps0_2 V (Proc.devRef .tc main_v31_3) : FVec Ideal S128x1x128x4 .f32) (ix4 i 0 t h)
      = (V (Proc.devRef .tc main_v6) : FVec Ideal S1x16384x4 .f32) (ix3 0 (row i t) h) := by
  refine Eq.trans ?_ (unchunk4 _ i t h)
  refine congrFun ?_ _
  after_results
  rfl

theorem read_lf (V : Valuation τ sig (Elt Ideal)) (i t : Fin 128) (h : Fin 4) :
    (after hostOps0_2 V (Proc.devRef .tc main_v31_4) : FVec Ideal S128x1x128x4 .f32) (ix4 i 0 t h)
      = (V (Proc.devRef .tc main_v13) : FVec Ideal S1x16384x4 .f32) (ix3 0 (row i t) h) := by
  refine Eq.trans ?_ (unchunk4 _ i t h)
  refine congrFun ?_ _
  after_results
  rfl

theorem read_C (V : Valuation τ sig (Elt Ideal)) (h : Fin 4) (d e : Fin 128) :
    (after hostOps0_2 V (Proc.devRef .tc main_v31_6) : FVec Ideal S1x4x128x128 .f32) (ix4 0 h d e) = (0 : EReal) := by
  after_results
  refine Eq.trans (b := (broadcastInDim S1x4x128x128 ![] bcast_S_S1x4x128x128 (constant (F := Ideal) S_ .f32 0#32)
    : FVec Ideal S1x4x128x128 .f32) (ix4 0 h d e)) rfl ?_
  pointwise

theorem read_n (V : Valuation τ sig (Elt Ideal)) (h : Fin 4) (e : Fin 128) :
    (after hostOps0_2 V (Proc.devRef .tc main_v31_7) : FVec Ideal S1x4x128 .f32) (ix3 0 h e) = (0 : EReal) := by
  after_results
  refine Eq.trans (b := (broadcastInDim S1x4x128 ![] bcast_S_S1x4x128 (constant (F := Ideal) S_ .f32 0#32)
    : FVec Ideal S1x4x128 .f32) (ix3 0 h e)) rfl ?_
  pointwise

theorem read_m (V : Valuation τ sig (Elt Ideal)) (h : Fin 4) :
    (after hostOps0_2 V (Proc.devRef .tc main_v31_8) : FVec Ideal S1x4 .f32) (ix2 0 h) = (0 : EReal) := by
  after_results
  refine Eq.trans (b := (broadcastInDim S1x4 ![] bcast_S_S1x4 (constant (F := Ideal) S_ .f32 0#32)
    : FVec Ideal S1x4 .f32) (ix2 0 h)) rfl ?_
  pointwise

variable (m : (ℓ : Loc nD τ sig) → Buf (Elt Ideal) ℓ) (c : Dev nD)

abbrev rq : Fin 16384 → Fin 512 → EReal := fun r d => m ((c : Thread nD τ).loc main_arg0) (ix2 r d)
abbrev rk : Fin 16384 → Fin 512 → EReal := fun r d => m ((c : Thread nD τ).loc main_arg1) (ix2 r d)
abbrev rv : Fin 16384 → Fin 512 → EReal := fun r d => m ((c : Thread nD τ).loc main_arg2) (ix2 r d)
abbrev ro : Fin 16384 → Fin 512 → EReal := fun r d => m ((c : Thread nD τ).loc main_arg3) (ix2 r d)
abbrev rg : Fin 16384 → Fin 128 → EReal := fun r d => m ((c : Thread nD τ).loc main_arg4) (ix2 r d)
abbrev rb : Fin 8 → EReal := fun d => m ((c : Thread nD τ).loc main_arg5) (ix2 0 d)
abbrev rwt : Fin 4 → Fin 128 → EReal := fun h d => m ((c : Thread nD τ).loc main_arg6) (ix3 0 h d)

/-- The chunks of the reference's arguments. -/
abbrev chunkR : Nat → Inp := chunks (rq m c) (rk m c) (rv m c) (rg m c) (rb m c)

theorem entry_eq : entryContents preI m c = after hostOps0_2 (after hostOps0_1 (after hostOps0 (launchContents m c))) := rfl

/-- Before the first trip. -/
theorem entry : Inv (chunkR m c) 0 (entryContents preI m c) := by
  have hv : ∀ i : Fin 128, chunkR m c i.val = chunk (rq m c) (rk m c) (rv m c) (rg m c) (rb m c) i := chunks_val _ _ _ _ _
  refine ⟨?_, ?_, ?_, ?_, ?_, ctr_entry m c, ?_, ?_, ?_, fun _ _ _ _ h => absurd h (Nat.not_lt_zero _)⟩
  · intro i t h e
    rw [hv, entry_eq]
    refine (read_q _ i t h e).trans ?_
    rw [keep_main_arg0_hostOps0_1, keep_main_arg0_hostOps0]
    rfl
  · intro i t h e
    rw [hv, entry_eq]
    refine (read_k _ i t h e).trans ?_
    rw [keep_main_arg1_hostOps0_1, keep_main_arg1_hostOps0]
    rfl
  · intro i t h e
    rw [hv, entry_eq]
    refine (read_v _ i t h e).trans ?_
    rw [keep_main_arg2_hostOps0_1, keep_main_arg2_hostOps0]
    rfl
  · intro i t h
    rw [hv, entry_eq]
    refine (read_ig _ i t h).trans ?_
    rw [keep_ig, read_igate]
    exact igate_apply _ _ _ h
  · intro i t h
    rw [hv, entry_eq]
    refine (read_lf _ i t h).trans ?_
    rw [read_lsig, read_fgate]
    exact (lsig_apply _ _ h).trans (congrArg logsig (fgate_apply _ _ _ h))
  · intro h d e; rw [entry_eq]; exact read_C _ h d e
  · intro h e; rw [entry_eq]; exact read_n _ h e
  · intro h; rw [entry_eq]; exact read_m _ h

end Cert.Mlstm.Ref
-- ==== Proof.Mlstm.RWhole.lean ====
/-
  The reference's four results are the recurrence over the whole sequence, entry by entry.
-/
module

public import proofs.«01_k».proof.Proof.Mlstm.RLoop
public import proofs.«01_k».proof.Proof.Mlstm.REntry

@[expose] public section

noncomputable section

namespace Cert.Mlstm.Ref

open Idealize.ShloMosaic Idealize.ShloMosaic.TcCoe Cert.ReferenceIdeal Cert.ReferenceIdeal.Gen Cert.ReferenceIdeal.Value
open Idealize.SL.Sem Idealize.ShloMosaic.StableHlo

/-- The stacked outputs as one sequence. -/
def seq (a : FVec Ideal S128x1x128x4x128 .f32) : FVec Ideal S1x16384x4x128 .f32 :=
  shapeCast _ (transpose S1x128x128x4x128 [1, 0, 2, 3, 4] a transposes_S128x1x128x4x128_S1x128x128x4x128_1_0_2_3_4) shapeCasts_S1x128x128x4x128_S1x16384x4x128

theorem seq_apply (a : FVec Ideal S128x1x128x4x128 .f32) (n t : Fin 128) (h : Fin 4) (d : Fin 128) :
    seq a (ix4 0 (row n t) h d) = a (ix5 n 0 t h d) := by
  pointwise [seq]
  refine congrArg₂ (fun n t => a (ix5 n 0 t h d)) (Fin.ext ?_) (Fin.ext ?_)
  · show (128 * n.val + t.val) / 128 = n.val
    omega
  · show (128 * n.val + t.val) % 128 = t.val
    omega

/-- Each head's mean. -/
def mu (y : FVec Ideal S1x16384x4x128 .f32) : FVec Ideal S1x16384x4x1 .f32 :=
  Host.divf (broadcastInDim S1x16384x4x1 ![0, 1, 2] bcast_S1x16384x4_S1x16384x4x1_0_1_2 (Host.reduceAdd y (constant S_ .f32 0x00000000#32) reducesTo_S1x16384x4x128_S1x16384x4_d3 h_S_)) (broadcastInDim S1x16384x4x1 ![] bcast_S_S1x16384x4x1 (constant S_ .f32 0x43000000#32))

theorem mu_apply (y : FVec Ideal S1x16384x4x128 .f32) (r : Fin 16384) (h : Fin 4) :
    mu y (ix4 0 r h 0) = mean fun d => y (ix4 0 r h d) := by
  pointwise [mu]
  rfl

/-- The distance from the mean. -/
def dev (y : FVec Ideal S1x16384x4x128 .f32) : FVec Ideal S1x16384x4x128 .f32 :=
  subf y (broadcastInDim S1x16384x4x128 ![0, 1, 2, 3] bcast_S1x16384x4x1_S1x16384x4x128_0_1_2_3 (mu y))

theorem dev_apply (y : FVec Ideal S1x16384x4x128 .f32) (r : Fin 16384) (h : Fin 4) (d : Fin 128) :
    dev y (ix4 0 r h d) = y (ix4 0 r h d) - mean fun d => y (ix4 0 r h d) := by
  rw [← mu_apply]
  unfold dev
  generalize mu y = u
  pointwise

/-- The normalised heads. -/
def nrm (y : FVec Ideal S1x16384x4x128 .f32) : FVec Ideal S1x16384x4x128 .f32 :=
  mulf (dev y) (broadcastInDim S1x16384x4x128 ![0, 1, 2, 3] bcast_S1x16384x4x1_S1x16384x4x128_0_1_2_3 (Host.rsqrt (addf (mu (mulf (dev y) (dev y))) (broadcastInDim S1x16384x4x1 ![] bcast_S_S1x16384x4x1 (constant S_ .f32 0x3727C5AC#32)))))

theorem nrm_apply (y : FVec Ideal S1x16384x4x128 .f32) (r : Fin 16384) (h : Fin 4) (d : Fin 128) :
    nrm y (ix4 0 r h d) = norm (fun d => y (ix4 0 r h d)) d := by
  have k := mu_apply (mulf (dev y) (dev y)) r h
  have e : (fun d => mulf (dev y) (dev y) (ix4 0 r h d)) = fun d => ((y (ix4 0 r h d) - mean fun d => y (ix4 0 r h d)) * (y (ix4 0 r h d) - mean fun d => y (ix4 0 r h d)) : EReal) := by
    funext d
    rw [← dev_apply]
    rfl
  rw [e] at k
  unfold nrm norm
  rw [← dev_apply, ← k]
  generalize mu (mulf (dev y) (dev y)) = u
  generalize dev y = z
  pointwise

/-- The gated output. -/
def gated (z : FVec Ideal S1x16384x4x128 .f32) (w : FVec Ideal S1x4x128 .f32) (o : FVec Ideal S16384x512 .f32) : FVec Ideal S16384x512 .f32 :=
  shapeCast _ (shapeCast _ (mulf (mulf z (broadcastInDim S1x16384x4x128 ![0, 1, 2, 3] bcast_S1x1x4x128_S1x16384x4x128_0_1_2_3 (broadcastInDim S1x1x4x128 ![2, 3] bcast_S4x128_S1x1x4x128_2_3 (shapeCast _ w shapeCasts_S1x4x128_S4x128)))) (Host.divf (broadcastInDim S1x16384x4x128 ![] bcast_S_S1x16384x4x128 (constant S_ .f32 0x3F800000#32)) (addf (broadcastInDim S1x16384x4x128 ![] bcast_S_S1x16384x4x128 (constant S_ .f32 0x3F800000#32)) (Host.exp (Host.negf (shapeCast _ o shapeCasts_S16384x512_S1x16384x4x128)))))) shapeCasts_S1x16384x4x128_S1x16384x512) shapeCasts_S1x16384x512_S16384x512

theorem gated_apply (z : FVec Ideal S1x16384x4x128 .f32) (w : FVec Ideal S1x4x128 .f32) (o : FVec Ideal S16384x512 .f32)
    (r : Fin 16384) (h : Fin 4) (d : Fin 128) :
    gated z w o (ix2 r (col h d)) = z (ix4 0 r h d) * w (ix3 0 h d) * Idealize.ShloMosaic.Ideal.logistic (o (ix2 r (col h d))) := by
  have e1 : ∀ p, (⟨(128 * h.val + d.val) / 128, p⟩ : Fin 4) = h := fun _ => Fin.ext (by
    show (128 * h.val + d.val) / 128 = h.val
    omega)
  have e2 : ∀ p, (⟨(128 * h.val + d.val) % 128, p⟩ : Fin 128) = d := fun _ => Fin.ext (by
    show (128 * h.val + d.val) % 128 = d.val
    omega)
  have e3 : ∀ p, (⟨(128 * h.val + d.val) / 128 * 128 + (128 * h.val + d.val) % 128, p⟩ : Fin 512) = col h d :=
    fun _ => Fin.ext (by
      show (128 * h.val + d.val) / 128 * 128 + (128 * h.val + d.val) % 128 = 128 * h.val + d.val
      omega)
  pointwise [gated]
  exact congrArg₂ (· * ·) (congrArg₂ (· * ·) (congrArg₂ (fun a b => z (ix4 0 r a b)) (e1 _) (e2 _))
    (congrArg₂ (fun a b => w (ix3 0 a b)) (e1 _) (e2 _)))
    (congrArg (fun a => Idealize.ShloMosaic.Ideal.logistic (o (ix2 r a))) (e3 _))

theorem out_eq (V : Valuation τ sig (Elt Ideal)) :
    out_main_v65 V = gated (nrm (seq (V (Proc.devRef .tc main_v31_9)))) (V (Proc.devRef .tc main_arg6)) (V (Proc.devRef .tc main_arg3)) := rfl

variable (m : (ℓ : Loc nD τ sig) → Buf (Elt Ideal) ℓ) (c : Dev nD)

/-- After the last trip. -/
theorem last : Inv (chunkR m c) 128 (STEP^[128] (entryContents preI m c)) := (entry m c).iter 128 le_rfl

/-- The output array. -/
theorem out_apply (n t : Fin 128) (h : Fin 4) (d : Fin 128) :
    (out_main_v65 (STEP^[128] (entryContents preI m c)) : FVec Ideal S16384x512 .f32) (ix2 (row n t) (col h d))
      = result (rq m c) (rk m c) (rv m c) (ro m c) (rg m c) (rb m c) (rwt m c) n t h d := by
  have k := (last m c).out n
  have a3 := iter_main_arg3 m c 128
  have a6 := iter_main_arg6 m c 128
  generalize STEP^[128] (entryContents preI m c) = V at k a3 a6 ⊢
  rw [out_eq, gated_apply, nrm_apply, a3, a6]
  have e : (fun d => seq (V (Proc.devRef .tc main_v31_9)) (ix4 0 (row n t) h d))
      = (chunk (rq m c) (rk m c) (rv m c) (rg m c) (rb m c) n).out (states (chunkR m c) n.val) h t := by
    funext d
    rw [seq_apply, ← chunks_val]
    exact k t h d n.isLt
  rw [e]
  rfl

abbrev lastState : St := final (rq m c) (rk m c) (rv m c) (rg m c) (rb m c)

/-- The state's matrix. -/
theorem C_apply (h : Fin 4) (d e : Fin 128) :
    (STEP^[128] (entryContents preI m c) (Proc.devRef .tc main_v31_6) : FVec Ideal S1x4x128x128 .f32) (ix4 0 h d e)
      = (lastState m c).C h d e := (last m c).C h d e

/-- The state's vector. -/
theorem n_apply (h : Fin 4) (e : Fin 128) :
    (out_main_v68 (STEP^[128] (entryContents preI m c)) : FVec Ideal S1x4x1x128 .f32) (ix4 0 h 0 e) = (lastState m c).n h e := by
  refine Eq.trans ?_ ((last m c).n h e)
  unfold out_main_v68
  generalize STEP^[128] (entryContents preI m c) = V
  pointwise

/-- The state's maxima, spread over the lanes. -/
theorem m_apply' (h : Fin 4) (e : Fin 128) :
    (out_main_v67 (STEP^[128] (entryContents preI m c)) : FVec Ideal S1x4x1x128 .f32) (ix4 0 h 0 e) = (lastState m c).m h := by
  refine Eq.trans ?_ ((last m c).m h)
  unfold out_main_v67
  generalize STEP^[128] (entryContents preI m c) = V
  pointwise

end Cert.Mlstm.Ref
-- ==== Proof.Mlstm.Both.lean ====
/-
  The kernel's and the reference's results are the same arrays: both are the recurrence over the whole sequence.
-/
module

public import proofs.«01_k».proof.Proof.Mlstm.KWhole
public import proofs.«01_k».proof.Proof.Mlstm.RWhole

@[expose] public section

noncomputable section

namespace Cert.Mlstm

open Idealize.ShloMosaic Idealize.ShloMosaic.TcCoe
open Cert.KernelIdeal.Value (G10 G11 G12 G13)
open Cert.ReferenceIdeal.Value (STEP out_main_v65 out_main_v67 out_main_v68)
open Cert.ReferenceIdeal.Value (preI)
open Idealize.ShloMosaic.StableHlo

/-- Two arrays of the output's shape with the same entries are the same. -/
theorem ext_out (x y : Vec Ideal ⟨2, ![16384, 512]⟩ .f32)
    (k : ∀ (n t : Fin 128) (h : Fin 4) (d : Fin 128), x (ix2 (row n t) (col h d)) = y (ix2 (row n t) (col h d))) : x = y := by
  funext i
  obtain ⟨r, z, rfl⟩ : ∃ (r : Fin 16384) (z : Fin 512), i = ix2 r z := ⟨i 0, i 1, by funext a; match a with | 0 => rfl | 1 => rfl⟩
  obtain ⟨n, t, rfl⟩ : ∃ n t : Fin 128, r = row n t := ⟨⟨r.val / 128, by omega⟩, ⟨r.val % 128, by omega⟩, Fin.ext (by
    show r.val = 128 * (r.val / 128) + r.val % 128
    omega)⟩
  obtain ⟨h, d, rfl⟩ : ∃ (h : Fin 4) (d : Fin 128), z = col h d := ⟨⟨z.val / 128, by omega⟩, ⟨z.val % 128, by omega⟩, Fin.ext (by
    show z.val = 128 * (z.val / 128) + z.val % 128
    omega)⟩
  exact k n t h d

theorem ext_C (x y : Vec Ideal ⟨4, ![1, 4, 128, 128]⟩ .f32)
    (k : ∀ (h : Fin 4) (d e : Fin 128), x (ix4 0 h d e) = y (ix4 0 h d e)) : x = y := by
  funext i
  obtain ⟨z, h, d, e, rfl⟩ : ∃ (z : Fin 1) (h : Fin 4) (d e : Fin 128), i = ix4 z h d e :=
    ⟨i 0, i 1, i 2, i 3, by funext a; match a with | 0 => rfl | 1 => rfl | 2 => rfl | 3 => rfl⟩
  obtain rfl : z = 0 := Subsingleton.elim _ _
  exact k h d e

theorem ext_n (x y : Vec Ideal ⟨4, ![1, 4, 1, 128]⟩ .f32)
    (k : ∀ (h : Fin 4) (e : Fin 128), x (ix4 0 h 0 e) = y (ix4 0 h 0 e)) : x = y := by
  funext i
  obtain ⟨z, h, u, e, rfl⟩ : ∃ (z : Fin 1) (h : Fin 4) (u : Fin 1) (e : Fin 128), i = ix4 z h u e :=
    ⟨i 0, i 1, i 2, i 3, by funext a; match a with | 0 => rfl | 1 => rfl | 2 => rfl | 3 => rfl⟩
  obtain rfl : z = 0 := Subsingleton.elim _ _
  obtain rfl : u = 0 := Subsingleton.elim _ _
  exact k h e

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments. -/
structure Same : Prop where
  q : Ref.rq m' c = kq m c
  k : Ref.rk m' c = kk m c
  v : Ref.rv m' c = kv m c
  o : Ref.ro m' c = ko m c
  g : Ref.rg m' c = kg m c
  b : Ref.rb m' c = kb m c
  w : Ref.rwt m' c = kw m c

variable {m m' c} (S : Same m m' c)
include S

theorem same_result (n t : Fin 128) (h : Fin 4) (d : Fin 128) :
    result (Ref.rq m' c) (Ref.rk m' c) (Ref.rv m' c) (Ref.ro m' c) (Ref.rg m' c) (Ref.rb m' c) (Ref.rwt m' c) n t h d
      = result (kq m c) (kk m c) (kv m c) (ko m c) (kg m c) (kb m c) (kw m c) n t h d := by
  rw [S.q, S.k, S.v, S.o, S.g, S.b, S.w]

theorem same_state : Ref.lastState m' c = final (kq m c) (kk m c) (kv m c) (kg m c) (kb m c) := by
  unfold Ref.lastState
  rw [S.q, S.k, S.v, S.g, S.b]

theorem same_out : out_main_v65 (STEP^[128] (entryContents preI m' c)) = G10 m c :=
  ext_out _ _ fun n t h d => (Ref.out_apply m' c n t h d).trans ((same_result S n t h d).trans (G10_apply m c n t h d).symm)

theorem same_C : STEP^[128] (entryContents preI m' c) (Proc.devRef .tc Cert.ReferenceIdeal.main_v31_6) = G11 m c :=
  ext_C _ _ fun h d e => (Ref.C_apply m' c h d e).trans
    ((congrArg (fun s => s.C h d e) (same_state S)).trans ((G_state m c).C h d e).symm)

theorem same_n : out_main_v68 (STEP^[128] (entryContents preI m' c)) = G12 m c :=
  ext_n _ _ fun h e => (Ref.n_apply m' c h e).trans
    ((congrArg (fun s => s.n h e) (same_state S)).trans ((G_state m c).n h e).symm)

theorem same_m : out_main_v67 (STEP^[128] (entryContents preI m' c)) = G13 m c :=
  ext_n _ _ fun h e => (Ref.m_apply' m' c h e).trans
    ((congrArg (fun s => s.m h) (same_state S)).trans ((G_state m c).m h e).symm)

end Cert.Mlstm
-- ==== Proof.Proj.KPoint.lean ====
/-
  What a grid point leaves in its eight output blocks, entry by entry: sums of products of the rows and columns it reads.
-/
module

public import proofs.«01_k».proof.Proof.Gen.Kernel2Ideal.Value
public import Idealize.ShloMosaic.Lib.Pointwise
public import Idealize.ShloMosaic.Lib.Pipeline.ValueKit

@[expose] public section

noncomputable section

namespace Cert.Proj

open Idealize.ShloMosaic Idealize.ShloMosaic.TcCoe Cert.Kernel2Ideal Cert.Kernel2Ideal.Gen

variable (x : FVec Ideal S512x1024 .f32) (w : FVec Ideal S1024x3584 .bf16) (g : FVec Ideal S1024x256 .bf16)

/-- A product of the rows with 512 columns. -/
theorem pay5_apply (b : FVec Ideal S1024x512 .bf16) (r d : Fin 512) :
    k0_pay5 (F := Ideal) x b (ix2 r d) = ∑ k : Fin 1024, x (ix2 r k) * b (ix2 k d) := by
  pointwise [k0_pay5, k0_pay4]

theorem pay9_apply (b : FVec Ideal S1024x512 .bf16) (r d : Fin 512) :
    k0_pay9 (F := Ideal) x b (ix2 r d)
      = (∑ k : Fin 1024, x (ix2 r k) * b (ix2 k d)) * Scalar.ofBits (F := Ideal) .f32 0x3DB504F3#32 := by
  pointwise [k0_pay9, k0_pay4]

theorem pay3_apply (b : FVec Ideal S1024x256 .bf16) (b' : FVec Ideal S1024x128 .bf16) (r : Fin 512) (d : Fin 128) :
    k0_pay3 (F := Ideal) x (k0_pay4 x) b b' (ix2 r d)
      = (∑ k : Fin 1024, x (ix2 r k) * b (ix2 k ⟨d.val, by omega⟩))
        + (∑ k : Fin 1024, x (ix2 r k) * b (ix2 k ⟨128 + d.val, by omega⟩))
        + ∑ k : Fin 1024, (x (ix2 r k) - x (ix2 r k)) * b' (ix2 k d) := by
  pointwise [k0_pay3, k0_pay4]

theorem ldx (y : Vec Ideal S512x1024 .f32) : View.ld y r0_0 = y :=
  View.ld_unit_zero (by funext a; fin_cases a <;> rfl) _ y

/-- A load of 512 columns from column `o` on. -/
theorem ldw (y : Vec Ideal S1024x3584 .bf16) (o : ℕ) (h : ∀ a, ![0, o] a + S1024x512.size a ≤ S1024x3584.size a)
    (k : Fin 1024) (d : Fin 512) (hd : o + d.val < 3584) :
    View.ld y (Rect.unit (s := S1024x3584) ![0, o] S1024x512.size h) (ix2 k d) = y (ix2 k ⟨o + d.val, hd⟩) := by
  rw [View.ld_apply]
  refine congrArg y (funext fun a => Fin.ext ?_)
  fin_cases a
  · show 0 + 1 * k.val = k.val
    omega
  · show o + 1 * d.val = o + d.val
    omega

/-- A load of the first 128 of the gate columns, or of all 256. -/
theorem ldg (y : Vec Ideal S1024x256 .bf16) (k : Fin 1024) (d : Fin 128) :
    View.ld y r0_10 (ix2 k d) = y (ix2 k ⟨d.val, by omega⟩) := by
  rw [View.ld_apply]
  refine congrArg y (funext fun a => Fin.ext ?_)
  fin_cases a
  · show 0 + 1 * k.val = k.val
    omega
  · show 0 + 1 * d.val = d.val
    omega

theorem ldg_all (y : Vec Ideal S1024x256 .bf16) : View.ld y r0_9 = y :=
  View.ld_unit_zero (by funext a; fin_cases a <;> rfl) _ y

theorem out3 (r d : Fin 512) :
    out0_3 (F := Ideal) x w g (ix2 r d) = ∑ k : Fin 1024, x (ix2 r k) * w (ix2 k ⟨0 + d.val, by omega⟩) := by
  unfold out0_3
  rw [View.canon_cons_unit_lit _ _ _ (by decide), ldx]
  exact (pay5_apply x _ r d).trans (Finset.sum_congr rfl fun k _ => congrArg (x (ix2 r k) * ·) (ldw w 0 _ k d _))

theorem out4 (r d : Fin 512) :
    out0_4 (F := Ideal) x w g (ix2 r d) = ∑ k : Fin 1024, x (ix2 r k) * w (ix2 k ⟨512 + d.val, by omega⟩) := by
  unfold out0_4
  rw [View.canon_cons_unit_lit _ _ _ (by decide), ldx]
  exact (pay5_apply x _ r d).trans (Finset.sum_congr rfl fun k _ => congrArg (x (ix2 r k) * ·) (ldw w 512 _ k d _))

theorem out5 (r d : Fin 512) :
    out0_5 (F := Ideal) x w g (ix2 r d) = ∑ k : Fin 1024, x (ix2 r k) * w (ix2 k ⟨1024 + d.val, by omega⟩) := by
  unfold out0_5
  rw [View.canon_cons_unit_lit _ _ _ (by decide), ldx]
  exact (pay5_apply x _ r d).trans (Finset.sum_congr rfl fun k _ => congrArg (x (ix2 r k) * ·) (ldw w 1024 _ k d _))

theorem out6 (r d : Fin 512) :
    out0_6 (F := Ideal) x w g (ix2 r d) = ∑ k : Fin 1024, x (ix2 r k) * w (ix2 k ⟨1536 + d.val, by omega⟩) := by
  unfold out0_6
  rw [View.canon_cons_unit_lit _ _ _ (by decide), ldx]
  exact (pay5_apply x _ r d).trans (Finset.sum_congr rfl fun k _ => congrArg (x (ix2 r k) * ·) (ldw w 1536 _ k d _))

/-- The scaled keys. -/
theorem out7 (r d : Fin 512) :
    out0_7 (F := Ideal) x w g (ix2 r d)
      = (∑ k : Fin 1024, x (ix2 r k) * w (ix2 k ⟨2048 + d.val, by omega⟩)) * Scalar.ofBits (F := Ideal) .f32 0x3DB504F3#32 := by
  unfold out0_7
  rw [View.canon_cons_unit_lit _ _ _ (by decide), ldx]
  exact (pay9_apply x _ r d).trans (congrArg (· * _)
    (Finset.sum_congr rfl fun k _ => congrArg (x (ix2 r k) * ·) (ldw w 2048 _ k d _)))

theorem out8 (r d : Fin 512) :
    out0_8 (F := Ideal) x w g (ix2 r d) = ∑ k : Fin 1024, x (ix2 r k) * w (ix2 k ⟨2560 + d.val, by omega⟩) := by
  unfold out0_8 k0_pay10
  rw [View.canon_cons_unit_lit _ _ _ (by decide), ldx]
  exact (pay5_apply x _ r d).trans (Finset.sum_congr rfl fun k _ => congrArg (x (ix2 r k) * ·) (ldw w 2560 _ k d _))

theorem out9 (r d : Fin 512) :
    out0_9 (F := Ideal) x w g (ix2 r d) = ∑ k : Fin 1024, x (ix2 r k) * w (ix2 k ⟨3072 + d.val, by omega⟩) := by
  unfold out0_9 k0_pay10
  rw [View.canon_cons_unit_lit _ _ _ (by decide), ldx]
  exact (pay5_apply x _ r d).trans (Finset.sum_congr rfl fun k _ => congrArg (x (ix2 r k) * ·) (ldw w 3072 _ k d _))

/-- The gates. -/
theorem out10 (r : Fin 512) (d : Fin 128) :
    out0_10 (F := Ideal) x w g (ix2 r d)
      = (∑ k : Fin 1024, x (ix2 r k) * g (ix2 k ⟨d.val, by omega⟩))
        + (∑ k : Fin 1024, x (ix2 r k) * g (ix2 k ⟨128 + d.val, by omega⟩))
        + ∑ k : Fin 1024, (x (ix2 r k) - x (ix2 r k)) * g (ix2 k ⟨d.val, by omega⟩) := by
  unfold out0_10 k0_pay10
  rw [View.canon_cons_unit_lit _ _ _ (by decide), ldx, ldg_all]
  exact (pay3_apply x g _ r d).trans (congrArg (_ + ·)
    (Finset.sum_congr rfl fun k _ => congrArg ((x (ix2 r k) - x (ix2 r k)) * ·) (ldg g k d)))

end Cert.Proj
-- ==== Proof.Proj.KHost.lean ====
/-
  What the weights and rows are when the call reads them: the columns of the one weight array, put where the call wants
  them, and the gates' columns beside what is left of them when they are rounded, which is their difference with themselves.
-/
module

public import proofs.«01_k».proof.Proof.Gen.Kernel2Ideal.Value
public import Idealize.ShloMosaic.Lib.Pointwise
public import Idealize.ShloMosaic.Lib.KernelVsHost
public import Idealize.ShloMosaic.Lib.Pipeline.ValueKit

@[expose] public section

noncomputable section

namespace Cert.Proj

open Idealize.ShloMosaic Idealize.ShloMosaic.TcCoe Cert.Kernel2Ideal Cert.Kernel2Ideal.Gen

/-- Of 128 columns, two groups of 64, the 512 of the call's layout: each group, two groups of zeros, the group again. -/
def spread (f : Fin 128 → EReal) (j : Fin 512) : EReal :=
  if j.val % 256 / 64 = 1 ∨ j.val % 256 / 64 = 2 then 0 else f ⟨64 * (j.val / 256) + j.val % 64, by omega⟩

/-- The heads' columns, spread. -/
def wide (o : ℕ) (h1 : S1024x2824.Slices ![0, o] S1024x128) (w : FVec Ideal S1024x2824 .f32) : FVec Ideal S1024x512 .f32 :=
  let a : FVec Ideal S1024x128 .f32 := extractStridedSlice S1024x128 ![0, o] w h1
  let z : FVec Ideal S1024x64 .f32 := broadcastInDim S1024x64 ![] bcast_S_S1024x64 (constant (F := Ideal) S_ .f32 0x00000000#32)
  let a0 : FVec Ideal S1024x64 .f32 := extractStridedSlice S1024x64 ![0, 0] a slices_S1024x128_S1024x64_0_0
  let a1 : FVec Ideal S1024x64 .f32 := extractStridedSlice S1024x64 ![0, 64] a slices_S1024x128_S1024x64_0_64
  concatenate S1024x512 1 [⟨S1024x64, a0⟩, ⟨S1024x64, z⟩, ⟨S1024x64, z⟩, ⟨S1024x64, a0⟩, ⟨S1024x64, a1⟩, ⟨S1024x64, z⟩,
    ⟨S1024x64, z⟩, ⟨S1024x64, a1⟩]
    concatenates_S1024x64_S1024x64_S1024x64_S1024x64_S1024x64_S1024x64_S1024x64_S1024x64_S1024x512_d1

/-- Columns of equal number hold the same. -/
theorem at_col (w : FVec Ideal S1024x2824 .f32) (k : Fin 1024) {a b : ℕ} (ha : a < 2824) (hb : b < 2824) (e : a = b) :
    w (ix2 k ⟨a, ha⟩) = w (ix2 k ⟨b, hb⟩) := by
  subst e; rfl

theorem wide_apply (o : ℕ) (ho : o + 128 ≤ 2824) (h1 : S1024x2824.Slices ![0, o] S1024x128) (w : FVec Ideal S1024x2824 .f32)
    (k : Fin 1024) (j : Fin 512) :
    wide o h1 w (ix2 k j) = spread (fun i => w (ix2 k ⟨o + i.val, by omega⟩)) j := by
  obtain ⟨j, hj⟩ := j
  pointwise [wide, spread]
  split_ifs <;> first
    | exact absurd ‹_› (by omega)
    | rfl
    | exact at_col w k _ _ (by omega)
    | exact (at_col w k _ _ (by omega)).trans (if_neg (by omega)).symm

/-- The 3584 columns that the call multiplies with. -/
def mainCols (w : FVec Ideal S1024x2824 .f32) : FVec Ideal S1024x3584 .bf16 :=
  truncf .bf16 (concatenate S1024x3584 1
    [⟨S1024x512, (extractStridedSlice S1024x512 ![0, 0] w slices_S1024x2824_S1024x512_0_0 : FVec Ideal S1024x512 .f32)⟩,
      ⟨S1024x512, wide 512 slices_S1024x2824_S1024x128_0_512 w⟩,
      ⟨S1024x512, wide 640 slices_S1024x2824_S1024x128_0_640 w⟩,
      ⟨S1024x2048, (extractStridedSlice S1024x2048 ![0, 768] w slices_S1024x2824_S1024x2048_0_768 : FVec Ideal S1024x2048 .f32)⟩]
    concatenates_S1024x512_S1024x512_S1024x512_S1024x2048_S1024x3584_d1) bitsLt_bf16_f32

theorem mainCols_q (w : FVec Ideal S1024x2824 .f32) (k : Fin 1024) (d : Fin 512) :
    mainCols w (ix2 k ⟨0 + d.val, by omega⟩) = w (ix2 k ⟨0 + d.val, by omega⟩) := by
  have hd := d.isLt
  pointwise [mainCols]

theorem mainCols_k (w : FVec Ideal S1024x2824 .f32) (k : Fin 1024) (d : Fin 512) :
    mainCols w (ix2 k ⟨512 + d.val, by omega⟩) = spread (fun i => w (ix2 k ⟨512 + i.val, by omega⟩)) d := by
  have hd := d.isLt
  rw [← wide_apply 512 (by omega) slices_S1024x2824_S1024x128_0_512 w k d]
  pointwise [mainCols]

theorem mainCols_v (w : FVec Ideal S1024x2824 .f32) (k : Fin 1024) (d : Fin 512) :
    mainCols w (ix2 k ⟨1024 + d.val, by omega⟩) = spread (fun i => w (ix2 k ⟨640 + i.val, by omega⟩)) d := by
  have hd := d.isLt
  rw [← wide_apply 640 (by omega) slices_S1024x2824_S1024x128_0_640 w k d]
  pointwise [mainCols]
  rw [dif_neg (by omega), dif_neg (by omega), dif_pos (by omega)]
  exact congrArg (wide 640 _ w) (congrArg (ix2 k) (Fin.ext (by first | omega | (dsimp only; omega))))

theorem mainCols_rest (w : FVec Ideal S1024x2824 .f32) (k : Fin 1024) (d : Fin 2048) :
    mainCols w (ix2 k ⟨1536 + d.val, by omega⟩) = w (ix2 k ⟨768 + d.val, by omega⟩) := by
  have hd := d.isLt
  pointwise [mainCols]
  rw [dif_neg (by omega), dif_neg (by omega), dif_neg (by omega)]
  exact congrArg w (congrArg (ix2 k) (Fin.ext (by first | omega | (dsimp only; omega))))

/-- The gates' columns, followed by columns of zeros. -/
def gatePad (w : FVec Ideal S1024x2824 .f32) : FVec Ideal S1024x128 .f32 :=
  pad S1024x128 ![0, 0] ![0, 120] ![0, 0]
    (extractStridedSlice S1024x8 ![0, 2816] w slices_S1024x2824_S1024x8_0_2816 : FVec Ideal S1024x8 .f32)
    (sitofp .f32 (constantI S_ 32 0#32)) pads_S1024x8_S1024x128_000_01200 h_S_

theorem gatePad_apply (w : FVec Ideal S1024x2824 .f32) (k : Fin 1024) (d : Fin 128) :
    gatePad w (ix2 k d) = if h : d.val < 8 then w (ix2 k ⟨2816 + d.val, by omega⟩) else 0 := by
  have hd := d.isLt
  pointwise [gatePad]
  rw [show (FloatOps.sitofp (F := Ideal) FTy.f32 (0#32) : EReal) = 0 from by
    show (((0#32 : BitVec 32).toInt : ℝ) : EReal) = 0
    simp]

/-- The gates' columns and what is left of them. -/
def gateCols (w : FVec Ideal S1024x2824 .f32) : FVec Ideal S1024x256 .bf16 :=
  concatenate S1024x256 1
    [⟨S1024x128, (truncf .bf16 (gatePad w) bitsLt_bf16_f32 : FVec Ideal S1024x128 .bf16)⟩,
      ⟨S1024x128, (truncf .bf16 (subf (gatePad w) (extf .f32 (truncf .bf16 (gatePad w) bitsLt_bf16_f32 : FVec Ideal S1024x128 .bf16) bitsLt_bf16_f32))
        bitsLt_bf16_f32 : FVec Ideal S1024x128 .bf16)⟩] concatenates_S1024x128_S1024x128_S1024x256_d1

theorem gateCols_lo (w : FVec Ideal S1024x2824 .f32) (k : Fin 1024) (d : Fin 128) :
    gateCols w (ix2 k ⟨d.val, by omega⟩) = gatePad w (ix2 k d) := by
  have hd := d.isLt
  pointwise [gateCols]

theorem gateCols_hi (w : FVec Ideal S1024x2824 .f32) (k : Fin 1024) (d : Fin 128) :
    gateCols w (ix2 k ⟨128 + d.val, by omega⟩) = gatePad w (ix2 k d) - gatePad w (ix2 k d) := by
  have hd := d.isLt
  pointwise [gateCols]

variable (m : (ℓ : Loc nD τ sig) → Buf (Elt Ideal) ℓ) (c : Dev nD)

theorem V_v13 : V m c main_v13 = mainCols (m ((c : Thread nD τ).loc main_arg1)) := by
  unfold V
  simp only [List.flatten_cons, List.flatten_nil, List.append_nil, StableHlo.after_append]
  after_results
  rfl

theorem V_v19 : V m c main_v19 = gateCols (m ((c : Thread nD τ).loc main_arg1)) := by
  unfold V
  simp only [List.flatten_cons, List.flatten_nil, List.append_nil, StableHlo.after_append]
  after_results
  rfl

end Cert.Proj
-- ==== Proof.Proj.KArr.lean ====
/-
  The call's eight result arrays, entry by entry: row `512 t + r` is row `r` of what grid point `t` writes, and what a
  point reads are rows `512 t …` of the input and the two arrays of weights.
-/
module

public import proofs.«01_k».proof.Proof.Proj.KPoint
public import proofs.«01_k».proof.Proof.Proj.KHost
public import Idealize.ShloMosaic.Lib.Claim

@[expose] public section

noncomputable section

namespace Cert.Proj

open Idealize.ShloMosaic Idealize.ShloMosaic.TcCoe Cert.Kernel2Ideal Cert.Kernel2Ideal.Gen Cert.Kernel2Ideal.Value

variable (m : (ℓ : Loc nD τ sig) → Buf (Elt Ideal) ℓ) (c : Dev nD)

/-- The two arguments. -/
abbrev ax : FVec Ideal S16384x1024 .f32 := m ((c : Thread nD τ).loc main_arg0)
abbrev aw : FVec Ideal S1024x2824 .f32 := m ((c : Thread nD τ).loc main_arg1)

theorem lt32 (t : Fin cfg0.N) : t.val < 32 := lt_of_lt_of_eq t.isLt N_0

/-- Row `r` of the group that grid point `t` handles. -/
abbrev row (t : Fin cfg0.N) (r : Fin 512) : Fin 16384 := ⟨512 * t.val + r.val, by have := lt32 t; omega⟩

theorem idxIn (t : Fin cfg0.N) :
    win0_0.index t = ![t.val, 0] ∧ win0_1.index t = ![0, 0] ∧ win0_2.index t = ![0, 0] :=
  (by decide +kernel : ∀ t : Fin grid0.N, win0_0.index t = ![t.val, 0] ∧ win0_1.index t = ![0, 0]
    ∧ win0_2.index t = ![0, 0]) t

theorem blkx (t : Fin cfg0.N) (r : Fin 512) (k : Fin 1024) :
    (iblk m c 0 t : Vec Ideal S512x1024 .f32) (ix2 r k) = ax m c (ix2 (row t r) k) := by
  obtain ⟨h, -, -⟩ := idxIn t
  blk_ext [iblk, V, h]

theorem blkw (t : Fin cfg0.N) (k : Fin 1024) (d : Fin 3584) :
    (iblk m c 1 t : Vec Ideal S1024x3584 .bf16) (ix2 k d) = mainCols (aw m c) (ix2 k d) := by
  obtain ⟨-, h, -⟩ := idxIn t
  rw [← V_v13 m c]
  blk_ext [iblk, h]

theorem blkg (t : Fin cfg0.N) (k : Fin 1024) (d : Fin 256) :
    (iblk m c 2 t : Vec Ideal S1024x256 .bf16) (ix2 k d) = gateCols (aw m c) (ix2 k d) := by
  obtain ⟨-, -, h⟩ := idxIn t
  rw [← V_v19 m c]
  blk_ext [iblk, h]

/-- A row of the input against a column of the weights. -/
def prod (x : FVec Ideal S16384x1024 .f32) (w : FVec Ideal S1024x2824 .f32) (r : Fin 16384) (j : Fin 2824) : EReal :=
  ∑ k : Fin 1024, x (ix2 r k) * w (ix2 k j)

/-- Products with spread columns are the products, spread. -/
theorem sum_spread (f : Fin 1024 → EReal) (g : Fin 1024 → Fin 128 → EReal) (j : Fin 512) :
    ∑ k : Fin 1024, f k * spread (g k) j = spread (fun i => ∑ k : Fin 1024, f k * g k i) j := by
  unfold spread
  split_ifs
  · exact Finset.sum_eq_zero fun k _ => mul_zero _
  · rfl

/-- A row of a block against a column of the weights, by what the two hold. -/
theorem sum_of {x : FVec Ideal S512x1024 .f32} {w : FVec Ideal S1024x3584 .bf16} {r : Fin 512} {j : Fin 3584}
    {X W : Fin 1024 → EReal} (hx : ∀ k, x (ix2 r k) = X k) (hw : ∀ k, w (ix2 k j) = W k) :
    ∑ k : Fin 1024, x (ix2 r k) * w (ix2 k j) = ∑ k : Fin 1024, X k * W k :=
  Finset.sum_congr rfl fun k _ => congrArg₂ (· * ·) (hx k) (hw k)

/-- The three products of the gates, when what is left of the rows and of the columns is nothing. -/
theorem gate_sum {x : FVec Ideal S512x1024 .f32} {g : FVec Ideal S1024x256 .bf16} {r : Fin 512} {d : Fin 128}
    {X W : Fin 1024 → EReal} (hx : ∀ k, x (ix2 r k) = X k) (h1 : ∀ k, g (ix2 k ⟨d.val, by omega⟩) = W k)
    (h2 : ∀ k, g (ix2 k ⟨128 + d.val, by omega⟩) = W k - W k) (zx : ∀ k, X k - X k = 0) (zw : ∀ k, W k - W k = 0) :
    (∑ k : Fin 1024, x (ix2 r k) * g (ix2 k ⟨d.val, by omega⟩))
        + (∑ k : Fin 1024, x (ix2 r k) * g (ix2 k ⟨128 + d.val, by omega⟩))
        + (∑ k : Fin 1024, (x (ix2 r k) - x (ix2 r k)) * g (ix2 k ⟨d.val, by omega⟩)) = ∑ k : Fin 1024, X k * W k := by
  simp only [hx, h1, h2, zx, zw, mul_zero, zero_mul, Finset.sum_const_zero, add_zero]

theorem mainCols_from (w : FVec Ideal S1024x2824 .f32) (k : Fin 1024) (a b : ℕ) (ha : a < 3584) (hb : b < 2824)
    (h : 1536 ≤ a) (e : a = b + 768) : mainCols w (ix2 k ⟨a, ha⟩) = w (ix2 k ⟨b, hb⟩) := by
  obtain ⟨d, rfl⟩ := Nat.exists_eq_add_of_le h
  exact (mainCols_rest w k ⟨d, by omega⟩).trans (at_col w k _ _ (by show 768 + d = b; omega))

theorem idxOut3 (t : Fin cfg0.N) : win0_3.index t = ![t.val, 0] ∧ win0_3.flush t = true :=
  (by decide +kernel : ∀ t : Fin grid0.N, win0_3.index t = ![t.val, 0] ∧ win0_3.flush t = true) t

theorem arr3 (t : Fin cfg0.N) (r d : Fin 512) :
    ((dats m 0 c).arrAt 3 cfg0.N : Vec Ideal S16384x512 .f32) (ix2 (row t r) d)
      = (out0_3 (iblk m c 0 t) (iblk m c 1 t) (iblk m c 2 t) : Vec Ideal S512x512 .f32) (ix2 r d) := by
  obtain ⟨h, hf⟩ := idxOut3 t
  have e := congrFun (blocks3 m c t hf) (ix2 r d)
  rw [flushed3] at e
  refine Eq.trans (congrArg ((dats m 0 c).arrAt 3 cfg0.N) ?_) e
  have b0 : (((cfg0.win 3).blk t).view.emb (ix2 r d) 0).val = win0_3.index t (0 : Fin 2) * 512 + 1 * r.val := rfl
  have b1 : (((cfg0.win 3).blk t).view.emb (ix2 r d) 1).val = win0_3.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- The queries. -/
theorem res3 (t : Fin cfg0.N) (r d : Fin 512) :
    ((dats m 0 c).arrAt 3 cfg0.N : Vec Ideal S16384x512 .f32) (ix2 (row t r) d)
      = prod (ax m c) (aw m c) (row t r) ⟨0 + d.val, by omega⟩ :=
  (arr3 m c t r d).trans ((out3 _ _ _ r d).trans ((sum_of (fun k => blkx m c t r k)
    (fun k => (blkw m c t k _).trans (mainCols_q (aw m c) k d)))))

theorem idxOut4 (t : Fin cfg0.N) : win0_4.index t = ![t.val, 0] ∧ win0_4.flush t = true :=
  (by decide +kernel : ∀ t : Fin grid0.N, win0_4.index t = ![t.val, 0] ∧ win0_4.flush t = true) t

theorem arr4 (t : Fin cfg0.N) (r d : Fin 512) :
    ((dats m 0 c).arrAt 4 cfg0.N : Vec Ideal S16384x512 .f32) (ix2 (row t r) d)
      = (out0_4 (iblk m c 0 t) (iblk m c 1 t) (iblk m c 2 t) : Vec Ideal S512x512 .f32) (ix2 r d) := by
  obtain ⟨h, hf⟩ := idxOut4 t
  have e := congrFun (blocks4 m c t hf) (ix2 r d)
  rw [flushed4] at e
  refine Eq.trans (congrArg ((dats m 0 c).arrAt 4 cfg0.N) ?_) e
  have b0 : (((cfg0.win 4).blk t).view.emb (ix2 r d) 0).val = win0_4.index t (0 : Fin 2) * 512 + 1 * r.val := rfl
  have b1 : (((cfg0.win 4).blk t).view.emb (ix2 r d) 1).val = win0_4.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- The keys. -/
theorem res4 (t : Fin cfg0.N) (r d : Fin 512) :
    ((dats m 0 c).arrAt 4 cfg0.N : Vec Ideal S16384x512 .f32) (ix2 (row t r) d)
      = spread (fun i => prod (ax m c) (aw m c) (row t r) ⟨512 + i.val, by omega⟩) d :=
  (arr4 m c t r d).trans ((out4 _ _ _ r d).trans ((sum_of (fun k => blkx m c t r k)
    (fun k => (blkw m c t k _).trans (mainCols_k (aw m c) k d))).trans (sum_spread _ _ d)))

theorem idxOut5 (t : Fin cfg0.N) : win0_5.index t = ![t.val, 0] ∧ win0_5.flush t = true :=
  (by decide +kernel : ∀ t : Fin grid0.N, win0_5.index t = ![t.val, 0] ∧ win0_5.flush t = true) t

theorem arr5 (t : Fin cfg0.N) (r d : Fin 512) :
    ((dats m 0 c).arrAt 5 cfg0.N : Vec Ideal S16384x512 .f32) (ix2 (row t r) d)
      = (out0_5 (iblk m c 0 t) (iblk m c 1 t) (iblk m c 2 t) : Vec Ideal S512x512 .f32) (ix2 r d) := by
  obtain ⟨h, hf⟩ := idxOut5 t
  have e := congrFun (blocks5 m c t hf) (ix2 r d)
  rw [flushed5] at e
  refine Eq.trans (congrArg ((dats m 0 c).arrAt 5 cfg0.N) ?_) e
  have b0 : (((cfg0.win 5).blk t).view.emb (ix2 r d) 0).val = win0_5.index t (0 : Fin 2) * 512 + 1 * r.val := rfl
  have b1 : (((cfg0.win 5).blk t).view.emb (ix2 r d) 1).val = win0_5.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- The values. -/
theorem res5 (t : Fin cfg0.N) (r d : Fin 512) :
    ((dats m 0 c).arrAt 5 cfg0.N : Vec Ideal S16384x512 .f32) (ix2 (row t r) d)
      = spread (fun i => prod (ax m c) (aw m c) (row t r) ⟨640 + i.val, by omega⟩) d :=
  (arr5 m c t r d).trans ((out5 _ _ _ r d).trans ((sum_of (fun k => blkx m c t r k)
    (fun k => (blkw m c t k _).trans (mainCols_v (aw m c) k d))).trans (sum_spread _ _ d)))

theorem idxOut6 (t : Fin cfg0.N) : win0_6.index t = ![t.val, 0] ∧ win0_6.flush t = true :=
  (by decide +kernel : ∀ t : Fin grid0.N, win0_6.index t = ![t.val, 0] ∧ win0_6.flush t = true) t

theorem arr6 (t : Fin cfg0.N) (r d : Fin 512) :
    ((dats m 0 c).arrAt 6 cfg0.N : Vec Ideal S16384x512 .f32) (ix2 (row t r) d)
      = (out0_6 (iblk m c 0 t) (iblk m c 1 t) (iblk m c 2 t) : Vec Ideal S512x512 .f32) (ix2 r d) := by
  obtain ⟨h, hf⟩ := idxOut6 t
  have e := congrFun (blocks6 m c t hf) (ix2 r d)
  rw [flushed6] at e
  refine Eq.trans (congrArg ((dats m 0 c).arrAt 6 cfg0.N) ?_) e
  have b0 : (((cfg0.win 6).blk t).view.emb (ix2 r d) 0).val = win0_6.index t (0 : Fin 2) * 512 + 1 * r.val := rfl
  have b1 : (((cfg0.win 6).blk t).view.emb (ix2 r d) 1).val = win0_6.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- The queries of the memory. -/
theorem res6 (t : Fin cfg0.N) (r d : Fin 512) :
    ((dats m 0 c).arrAt 6 cfg0.N : Vec Ideal S16384x512 .f32) (ix2 (row t r) d)
      = prod (ax m c) (aw m c) (row t r) ⟨768 + d.val, by omega⟩ :=
  (arr6 m c t r d).trans ((out6 _ _ _ r d).trans (sum_of (fun k => blkx m c t r k) (fun k => (blkw m c t k _).trans
    (mainCols_from (aw m c) k (1536 + d.val) (768 + d.val) _ _ (by omega) (by omega)))))

theorem idxOut7 (t : Fin cfg0.N) : win0_7.index t = ![t.val, 0] ∧ win0_7.flush t = true :=
  (by decide +kernel : ∀ t : Fin grid0.N, win0_7.index t = ![t.val, 0] ∧ win0_7.flush t = true) t

theorem arr7 (t : Fin cfg0.N) (r d : Fin 512) :
    ((dats m 0 c).arrAt 7 cfg0.N : Vec Ideal S16384x512 .f32) (ix2 (row t r) d)
      = (out0_7 (iblk m c 0 t) (iblk m c 1 t) (iblk m c 2 t) : Vec Ideal S512x512 .f32) (ix2 r d) := by
  obtain ⟨h, hf⟩ := idxOut7 t
  have e := congrFun (blocks7 m c t hf) (ix2 r d)
  rw [flushed7] at e
  refine Eq.trans (congrArg ((dats m 0 c).arrAt 7 cfg0.N) ?_) e
  have b0 : (((cfg0.win 7).blk t).view.emb (ix2 r d) 0).val = win0_7.index t (0 : Fin 2) * 512 + 1 * r.val := rfl
  have b1 : (((cfg0.win 7).blk t).view.emb (ix2 r d) 1).val = win0_7.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- The scaled keys of the memory. -/
theorem res7 (t : Fin cfg0.N) (r d : Fin 512) :
    ((dats m 0 c).arrAt 7 cfg0.N : Vec Ideal S16384x512 .f32) (ix2 (row t r) d)
      = prod (ax m c) (aw m c) (row t r) ⟨1280 + d.val, by omega⟩ * Scalar.ofBits (F := Ideal) .f32 0x3DB504F3#32 :=
  (arr7 m c t r d).trans ((out7 _ _ _ r d).trans (congrArg (· * _) (sum_of (fun k => blkx m c t r k) (fun k => (blkw m c t k _).trans
    (mainCols_from (aw m c) k (2048 + d.val) (1280 + d.val) _ _ (by omega) (by omega))))))

theorem idxOut8 (t : Fin cfg0.N) : win0_8.index t = ![t.val, 0] ∧ win0_8.flush t = true :=
  (by decide +kernel : ∀ t : Fin grid0.N, win0_8.index t = ![t.val, 0] ∧ win0_8.flush t = true) t

theorem arr8 (t : Fin cfg0.N) (r d : Fin 512) :
    ((dats m 0 c).arrAt 8 cfg0.N : Vec Ideal S16384x512 .f32) (ix2 (row t r) d)
      = (out0_8 (iblk m c 0 t) (iblk m c 1 t) (iblk m c 2 t) : Vec Ideal S512x512 .f32) (ix2 r d) := by
  obtain ⟨h, hf⟩ := idxOut8 t
  have e := congrFun (blocks8 m c t hf) (ix2 r d)
  rw [flushed8] at e
  refine Eq.trans (congrArg ((dats m 0 c).arrAt 8 cfg0.N) ?_) e
  have b0 : (((cfg0.win 8).blk t).view.emb (ix2 r d) 0).val = win0_8.index t (0 : Fin 2) * 512 + 1 * r.val := rfl
  have b1 : (((cfg0.win 8).blk t).view.emb (ix2 r d) 1).val = win0_8.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- The values of the memory. -/
theorem res8 (t : Fin cfg0.N) (r d : Fin 512) :
    ((dats m 0 c).arrAt 8 cfg0.N : Vec Ideal S16384x512 .f32) (ix2 (row t r) d)
      = prod (ax m c) (aw m c) (row t r) ⟨1792 + d.val, by omega⟩ :=
  (arr8 m c t r d).trans ((out8 _ _ _ r d).trans (sum_of (fun k => blkx m c t r k) (fun k => (blkw m c t k _).trans
    (mainCols_from (aw m c) k (2560 + d.val) (1792 + d.val) _ _ (by omega) (by omega)))))

theorem idxOut9 (t : Fin cfg0.N) : win0_9.index t = ![t.val, 0] ∧ win0_9.flush t = true :=
  (by decide +kernel : ∀ t : Fin grid0.N, win0_9.index t = ![t.val, 0] ∧ win0_9.flush t = true) t

theorem arr9 (t : Fin cfg0.N) (r d : Fin 512) :
    ((dats m 0 c).arrAt 9 cfg0.N : Vec Ideal S16384x512 .f32) (ix2 (row t r) d)
      = (out0_9 (iblk m c 0 t) (iblk m c 1 t) (iblk m c 2 t) : Vec Ideal S512x512 .f32) (ix2 r d) := by
  obtain ⟨h, hf⟩ := idxOut9 t
  have e := congrFun (blocks9 m c t hf) (ix2 r d)
  rw [flushed9] at e
  refine Eq.trans (congrArg ((dats m 0 c).arrAt 9 cfg0.N) ?_) e
  have b0 : (((cfg0.win 9).blk t).view.emb (ix2 r d) 0).val = win0_9.index t (0 : Fin 2) * 512 + 1 * r.val := rfl
  have b1 : (((cfg0.win 9).blk t).view.emb (ix2 r d) 1).val = win0_9.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- The output gates of the memory. -/
theorem res9 (t : Fin cfg0.N) (r d : Fin 512) :
    ((dats m 0 c).arrAt 9 cfg0.N : Vec Ideal S16384x512 .f32) (ix2 (row t r) d)
      = prod (ax m c) (aw m c) (row t r) ⟨2304 + d.val, by omega⟩ :=
  (arr9 m c t r d).trans ((out9 _ _ _ r d).trans (sum_of (fun k => blkx m c t r k) (fun k => (blkw m c t k _).trans
    (mainCols_from (aw m c) k (3072 + d.val) (2304 + d.val) _ _ (by omega) (by omega)))))

theorem idxOut10 (t : Fin cfg0.N) : win0_10.index t = ![t.val, 0] ∧ win0_10.flush t = true :=
  (by decide +kernel : ∀ t : Fin grid0.N, win0_10.index t = ![t.val, 0] ∧ win0_10.flush t = true) t

theorem arr10 (t : Fin cfg0.N) (r : Fin 512) (d : Fin 128) :
    ((dats m 0 c).arrAt 10 cfg0.N : Vec Ideal S16384x128 .f32) (ix2 (row t r) d)
      = (out0_10 (iblk m c 0 t) (iblk m c 1 t) (iblk m c 2 t) : Vec Ideal S512x128 .f32) (ix2 r d) := by
  obtain ⟨h, hf⟩ := idxOut10 t
  have e := congrFun (blocks10 m c t hf) (ix2 r d)
  rw [flushed10] at e
  refine Eq.trans (congrArg ((dats m 0 c).arrAt 10 cfg0.N) ?_) e
  have b0 : (((cfg0.win 10).blk t).view.emb (ix2 r d) 0).val = win0_10.index t (0 : Fin 2) * 512 + 1 * r.val := rfl
  have b1 : (((cfg0.win 10).blk t).view.emb (ix2 r d) 1).val = win0_10.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- The gates, when what is left of the input and of the gates' columns after rounding is nothing: their products, and zeros
    in the columns that hold none. -/
theorem res10 (hx : ∀ r k, ax m c (ix2 r k) - ax m c (ix2 r k) = 0)
    (hw : ∀ k d, gatePad (aw m c) (ix2 k d) - gatePad (aw m c) (ix2 k d) = 0) (t : Fin cfg0.N) (r : Fin 512) (d : Fin 128) :
    ((dats m 0 c).arrAt 10 cfg0.N : Vec Ideal S16384x128 .f32) (ix2 (row t r) d)
      = if h : d.val < 8 then prod (ax m c) (aw m c) (row t r) ⟨2816 + d.val, by omega⟩ else 0 := by
  refine (arr10 m c t r d).trans ((out10 _ _ _ r d).trans ?_)
  refine (gate_sum (fun k => blkx m c t r k) (fun k => (blkg m c t k _).trans (gateCols_lo (aw m c) k d))
    (fun k => (blkg m c t k _).trans (gateCols_hi (aw m c) k d)) (fun k => hx _ k) (fun k => hw k d)).trans ?_
  split_ifs with h
  · exact Finset.sum_congr rfl fun k _ => congrArg (_ * ·) ((gatePad_apply (aw m c) k d).trans (dif_pos h))
  · exact Finset.sum_eq_zero fun k _ => (congrArg (_ * ·) ((gatePad_apply (aw m c) k d).trans (dif_neg h))).trans (mul_zero _)

end Cert.Proj
-- ==== Proof.Proj.RArr.lean ====
/-
  The reference's eight results, entry by entry, and what the precondition says of the input and the gates' columns.
-/
module

public import proofs.«01_k».proof.Proof.Gen.Reference2Ideal.Run
public import proofs.«01_k».proof.Proof.Gen.Pre_finite_gates
public import proofs.«01_k».proof.Proof.Proj.KArr

@[expose] public section

noncomputable section

namespace Cert.Proj.Ref

open Idealize.ShloMosaic Idealize.ShloMosaic.TcCoe Cert.Reference2Ideal Cert.Reference2Ideal.Gen

variable (x : FVec Ideal S16384x1024 .f32) (w : FVec Ideal S1024x2824 .f32)

/-- The one product. -/
abbrev z : FVec Ideal S16384x2824 .f32 := Host.dotGeneral dot_S16384x1024_S1024x2824_S16384x2824_1_0_0_1_n_n none x w

theorem z_apply (r : Fin 16384) (j : Fin 2824) : z x w (ix2 r j) = prod x w r j := by
  pointwise [z, prod]

/-- The heads' columns of the product, spread. -/
abbrev wideOf (y : FVec Ideal S16384x128 .f32) : FVec Ideal S16384x512 .f32 :=
  concatenate S16384x512 1 [⟨S16384x64, (extractStridedSlice S16384x64 ![0, 0] y slices_S16384x128_S16384x64_0_0 : FVec Ideal S16384x64 .f32)⟩,
    ⟨S16384x64, (broadcastInDim S16384x64 ![] bcast_S_S16384x64 (constant (F := Ideal) S_ .f32 0x00000000#32) : FVec Ideal S16384x64 .f32)⟩,
    ⟨S16384x64, (broadcastInDim S16384x64 ![] bcast_S_S16384x64 (constant (F := Ideal) S_ .f32 0x00000000#32) : FVec Ideal S16384x64 .f32)⟩,
    ⟨S16384x64, (extractStridedSlice S16384x64 ![0, 0] y slices_S16384x128_S16384x64_0_0 : FVec Ideal S16384x64 .f32)⟩,
    ⟨S16384x64, (extractStridedSlice S16384x64 ![0, 64] y slices_S16384x128_S16384x64_0_64 : FVec Ideal S16384x64 .f32)⟩,
    ⟨S16384x64, (broadcastInDim S16384x64 ![] bcast_S_S16384x64 (constant (F := Ideal) S_ .f32 0x00000000#32) : FVec Ideal S16384x64 .f32)⟩,
    ⟨S16384x64, (broadcastInDim S16384x64 ![] bcast_S_S16384x64 (constant (F := Ideal) S_ .f32 0x00000000#32) : FVec Ideal S16384x64 .f32)⟩,
    ⟨S16384x64, (extractStridedSlice S16384x64 ![0, 64] y slices_S16384x128_S16384x64_0_64 : FVec Ideal S16384x64 .f32)⟩]
    concatenates_S16384x64_S16384x64_S16384x64_S16384x64_S16384x64_S16384x64_S16384x64_S16384x64_S16384x512_d1

theorem at_place (y : FVec Ideal S16384x128 .f32) (r : Fin 16384) {a b : ℕ} (ha : a < 128) (hb : b < 128) (e : a = b) :
    y (ix2 r ⟨a, ha⟩) = y (ix2 r ⟨b, hb⟩) := by
  subst e; rfl

theorem wideOf_apply (y : FVec Ideal S16384x128 .f32) (r : Fin 16384) (j : Fin 512) :
    wideOf y (ix2 r j) = spread (fun i => y (ix2 r i)) j := by
  obtain ⟨j, hj⟩ := j
  pointwise [wideOf, spread]
  split_ifs <;> first
    | exact absurd ‹_› (by omega)
    | rfl
    | exact at_place y r _ _ (by omega)
    | exact (at_place y r _ _ (by omega)).trans (if_neg (by omega)).symm

theorem ref_cols (y : FVec Ideal S16384x2824 .f32) (o : ℕ) (ho : o + 512 ≤ 2824) (h : S16384x2824.Slices ![0, o] S16384x512)
    (r : Fin 16384) (d : Fin 512) :
    (extractStridedSlice S16384x512 ![0, o] y h : FVec Ideal S16384x512 .f32) (ix2 r d) = y (ix2 r ⟨o + d.val, by omega⟩) := by
  pointwise

theorem ref_heads (y : FVec Ideal S16384x2824 .f32) (o : ℕ) (ho : o + 128 ≤ 2824) (h : S16384x2824.Slices ![0, o] S16384x128)
    (r : Fin 16384) (d : Fin 128) :
    (extractStridedSlice S16384x128 ![0, o] y h : FVec Ideal S16384x128 .f32) (ix2 r d) = y (ix2 r ⟨o + d.val, by omega⟩) := by
  pointwise

theorem ref_scaled (y : FVec Ideal S16384x512 .f32) (r : Fin 16384) (d : Fin 512) :
    (mulf y (broadcastInDim S16384x512 ![] bcast_S_S16384x512 (constant (F := Ideal) S_ .f32 0x3DB504F3#32)) : FVec Ideal S16384x512 .f32) (ix2 r d)
      = y (ix2 r d) * Scalar.ofBits (F := Ideal) .f32 0x3DB504F3#32 := by
  pointwise

theorem ref_gates (y : FVec Ideal S16384x2824 .f32) (r : Fin 16384) (d : Fin 128) :
    (pad S16384x128 ![0, 0] ![0, 120] ![0, 0]
      (extractStridedSlice S16384x8 ![0, 2816] y slices_S16384x2824_S16384x8_0_2816 : FVec Ideal S16384x8 .f32)
      (sitofp .f32 (constantI S_ 32 0#32)) pads_S16384x8_S16384x128_000_01200 h_S_ : FVec Ideal S16384x128 .f32) (ix2 r d)
      = if h : d.val < 8 then y (ix2 r ⟨2816 + d.val, by omega⟩) else 0 := by
  have hd := d.isLt
  pointwise
  rw [show (FloatOps.sitofp (F := Ideal) FTy.f32 (0#32) : EReal) = 0 from by
    show (((0#32 : BitVec 32).toInt : ℝ) : EReal) = 0
    simp]

/-- A number whose absolute value is less than the infinity is none, so it less itself is nothing. -/
theorem sub_self_of_lt (a : EReal) (h : Scalar.cmpf (F := Ideal) (φ := .f32) .olt (FloatOps.absf a) (Scalar.ofBits (F := Ideal) .f32 0x7F800000#32) = 1#1) :
    a - a = 0 := by
  have top : (FloatOps.ofBits (F := Ideal) .f32 0x7F800000#32 : EReal) = ⊤ := by
    show Ideal.ofBits .f32 0x7F800000#32 = ⊤
    simp [Ideal.ofBits, Ideal.ieee]
  have h1 : BitVec.ofBool (decide (max a (-a) < (FloatOps.ofBits (F := Ideal) .f32 0x7F800000#32 : EReal))) = 1#1 := h
  rw [top] at h1
  have h2 : max a (-a) < ⊤ := by
    by_contra k
    rw [decide_eq_false k] at h1
    exact absurd h1 (by decide)
  refine EReal.sub_self (fun e => ?_) (fun e => ?_)
  · subst e; exact absurd (lt_of_le_of_lt (le_max_left _ _) h2) (lt_irrefl _)
  · subst e
    exact absurd (lt_of_le_of_lt (le_max_right _ _) h2) (by rw [EReal.neg_bot]; exact lt_irrefl _)

theorem finite_x (h : (Cert.Pre_finite_gates.fn (F := Ideal) x w).1 = fun _ => 1#1) (r : Fin 16384) (k : Fin 1024) :
    x (ix2 r k) - x (ix2 r k) = 0 := by
  refine sub_self_of_lt _ ?_
  refine Eq.trans ?_ (congrFun h (ix2 r k))
  symm
  pointwise [Cert.Pre_finite_gates.fn]

theorem finite_w (h : (Cert.Pre_finite_gates.fn (F := Ideal) x w).2 = fun _ => 1#1) (k : Fin 1024) (d : Fin 8) :
    w (ix2 k ⟨2816 + d.val, by omega⟩) - w (ix2 k ⟨2816 + d.val, by omega⟩) = 0 := by
  refine sub_self_of_lt _ ?_
  refine Eq.trans ?_ (congrFun h (ix2 k d))
  symm
  pointwise [Cert.Pre_finite_gates.fn]

end Cert.Proj.Ref
-- ==== Proof.Proj.Both.lean ====
/-
  The call's and the reference's results are the same arrays.
-/
module

public import proofs.«01_k».proof.Proof.Proj.RArr

@[expose] public section

noncomputable section

namespace Cert.Proj

open Idealize.ShloMosaic Idealize.ShloMosaic.TcCoe Cert.Kernel2Ideal.Gen
open Cert.Kernel2Ideal (cfg0)

/-- Two arrays that agree in every group of rows are the same. -/
theorem ext_rows {n : ℕ} (x y : Vec Ideal ⟨2, ![16384, n]⟩ .f32)
    (k : ∀ (t : Fin cfg0.N) (r : Fin 512) (d : Fin n), x (ix2 (row t r) d) = y (ix2 (row t r) d)) : x = y := by
  funext i
  obtain ⟨r, d, rfl⟩ : ∃ (r : Fin 16384) (d : Fin n), i = ix2 r d := ⟨i 0, i 1, by funext a; match a with | 0 => rfl | 1 => rfl⟩
  obtain ⟨t, q, rfl⟩ : ∃ (t : Fin cfg0.N) (q : Fin 512), r = row t q :=
    ⟨⟨r.val / 512, lt_of_lt_of_eq (by have := r.isLt; omega) N_0.symm⟩, ⟨r.val % 512, by omega⟩, Fin.ext (by
      show r.val = 512 * (r.val / 512) + r.val % 512
      omega)⟩
  exact k t q d

variable (m : (ℓ : Loc Cert.Kernel2Ideal.nD Cert.Kernel2Ideal.τ Cert.Kernel2Ideal.sig) → Buf (Elt Ideal) ℓ)
  (c : Dev Cert.Kernel2Ideal.nD)

theorem same3 : extractStridedSlice Cert.Reference2Ideal.S16384x512 ![0, 0] (Ref.z (ax m c) (aw m c))
      Cert.Reference2Ideal.Gen.slices_S16384x2824_S16384x512_0_0 = (dats m 0 c).arrAt 3 cfg0.N :=
  ext_rows _ _ fun t r d => (Ref.ref_cols _ 0 (by omega) _ (row t r) d).trans ((Ref.z_apply _ _ _ _).trans (res3 m c t r d).symm)

theorem same6 : extractStridedSlice Cert.Reference2Ideal.S16384x512 ![0, 768] (Ref.z (ax m c) (aw m c))
      Cert.Reference2Ideal.Gen.slices_S16384x2824_S16384x512_0_768 = (dats m 0 c).arrAt 6 cfg0.N :=
  ext_rows _ _ fun t r d => (Ref.ref_cols _ 768 (by omega) _ (row t r) d).trans ((Ref.z_apply _ _ _ _).trans (res6 m c t r d).symm)

theorem same8 : extractStridedSlice Cert.Reference2Ideal.S16384x512 ![0, 1792] (Ref.z (ax m c) (aw m c))
      Cert.Reference2Ideal.Gen.slices_S16384x2824_S16384x512_0_1792 = (dats m 0 c).arrAt 8 cfg0.N :=
  ext_rows _ _ fun t r d => (Ref.ref_cols _ 1792 (by omega) _ (row t r) d).trans ((Ref.z_apply _ _ _ _).trans (res8 m c t r d).symm)

theorem same9 : extractStridedSlice Cert.Reference2Ideal.S16384x512 ![0, 2304] (Ref.z (ax m c) (aw m c))
      Cert.Reference2Ideal.Gen.slices_S16384x2824_S16384x512_0_2304 = (dats m 0 c).arrAt 9 cfg0.N :=
  ext_rows _ _ fun t r d => (Ref.ref_cols _ 2304 (by omega) _ (row t r) d).trans ((Ref.z_apply _ _ _ _).trans (res9 m c t r d).symm)

theorem same4 : Ref.wideOf (extractStridedSlice Cert.Reference2Ideal.S16384x128 ![0, 512] (Ref.z (ax m c) (aw m c))
      Cert.Reference2Ideal.Gen.slices_S16384x2824_S16384x128_0_512) = (dats m 0 c).arrAt 4 cfg0.N :=
  ext_rows _ _ fun t r d => (Ref.wideOf_apply _ (row t r) d).trans ((congrArg (spread · d) (funext fun i =>
    (Ref.ref_heads _ 512 (by omega) _ (row t r) i).trans (Ref.z_apply _ _ _ _))).trans (res4 m c t r d).symm)

theorem same5 : Ref.wideOf (extractStridedSlice Cert.Reference2Ideal.S16384x128 ![0, 640] (Ref.z (ax m c) (aw m c))
      Cert.Reference2Ideal.Gen.slices_S16384x2824_S16384x128_0_640) = (dats m 0 c).arrAt 5 cfg0.N :=
  ext_rows _ _ fun t r d => (Ref.wideOf_apply _ (row t r) d).trans ((congrArg (spread · d) (funext fun i =>
    (Ref.ref_heads _ 640 (by omega) _ (row t r) i).trans (Ref.z_apply _ _ _ _))).trans (res5 m c t r d).symm)

theorem same7 : mulf (extractStridedSlice Cert.Reference2Ideal.S16384x512 ![0, 1280] (Ref.z (ax m c) (aw m c))
      Cert.Reference2Ideal.Gen.slices_S16384x2824_S16384x512_0_1280) (broadcastInDim Cert.Reference2Ideal.S16384x512 ![]
      Cert.Reference2Ideal.Gen.bcast_S_S16384x512 (constant (F := Ideal) Cert.Reference2Ideal.S_ .f32 0x3DB504F3#32))
      = (dats m 0 c).arrAt 7 cfg0.N :=
  ext_rows _ _ fun t r d => (Ref.ref_scaled _ (row t r) d).trans ((congrArg (· * _)
    ((Ref.ref_cols _ 1280 (by omega) _ (row t r) d).trans (Ref.z_apply _ _ _ _))).trans (res7 m c t r d).symm)

/-- The gates, of an input and gates' columns that are numbers. -/
theorem same10 (h : (Cert.Pre_finite_gates.fn (F := Ideal) (ax m c) (aw m c)).1 = (fun _ => 1#1)
      ∧ (Cert.Pre_finite_gates.fn (F := Ideal) (ax m c) (aw m c)).2 = (fun _ => 1#1)) :
    pad Cert.Reference2Ideal.S16384x128 ![0, 0] ![0, 120] ![0, 0] (extractStridedSlice Cert.Reference2Ideal.S16384x8 ![0, 2816]
      (Ref.z (ax m c) (aw m c)) Cert.Reference2Ideal.Gen.slices_S16384x2824_S16384x8_0_2816)
      (sitofp .f32 (constantI Cert.Reference2Ideal.S_ 32 0#32)) Cert.Reference2Ideal.Gen.pads_S16384x8_S16384x128_000_01200
      Cert.Reference2Ideal.Gen.h_S_ = (dats m 0 c).arrAt 10 cfg0.N := by
  have hx := Ref.finite_x (ax m c) (aw m c) h.1
  have hw : ∀ (k : Fin 1024) (d : Fin 128), gatePad (aw m c) (ix2 k d) - gatePad (aw m c) (ix2 k d) = 0 := fun k d => by
    rw [gatePad_apply]
    split_ifs with hd
    · exact Ref.finite_w (ax m c) (aw m c) h.2 k ⟨d.val, hd⟩
    · exact sub_zero _
  refine ext_rows _ _ fun t r d => (Ref.ref_gates _ (row t r) d).trans (Eq.trans ?_ (res10 m c hx hw t r d).symm)
  split_ifs with hd
  · exact Ref.z_apply _ _ _ _
  · rfl

end Cert.Proj
-- ==== Proof.Mid.Loop.lean ====
module

public import proofs.«01_k».proof.Proof.Gen.Kernel3Ideal.Skeleton
public import Idealize.ShloMosaic.Lib.Exec
public import Idealize.ShloMosaic.Lib.Tactic
public import Idealize.ShloMosaic.Lib.Pipeline.Kit

/-!
# The loop of the output-projection kernel's body

Each trip of the loop reads and writes the score scratch, the top-value scratch and the four router
outputs at places that depend on the trip.  This module gives each place in closed form and an
invariant of the loop that says only that these six buffers are held, at some contents: what the
router outputs come to is not claimed, so nothing more is needed of them.
-/

@[expose] public section

set_option maxRecDepth 8192
set_option maxHeartbeats 4000000

noncomputable section

namespace Cert.Kernel3Ideal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

/-! ## Where a trip reads and writes -/

theorem off1_eq0 : ∀ t : Fin k0_t1_loop.trips, k0_off1 t 0#32 = ![2 * (min (t.val + 1) 31 / 4), min (t.val + 1) 31 % 4, 0, 0] := by decide +kernel
theorem off1_eq1 : ∀ t : Fin k0_t1_loop.trips, k0_off1 t 1#32 = ![2 * (min (t.val + 1) 31 / 4) + 1, min (t.val + 1) 31 % 4, 0, 0] := by decide +kernel
theorem off2_eq : ∀ t : Fin k0_t1_loop.trips, k0_off2 t = ![(t.val + 1) % 2, 0, 0, 0] := by decide +kernel
theorem off3_eq : ∀ t : Fin k0_t1_loop.trips, k0_off3 t = ![(t.val + 1) % 2, 1, 0, 0] := by decide +kernel
theorem off4_eq : ∀ t : Fin k0_t1_loop.trips, k0_off4 t = ![2 * (t.val / 4), t.val % 4, 0, 0] := by decide +kernel
theorem off5_eq : ∀ t : Fin k0_t1_loop.trips, k0_off5 t = ![2 * (t.val / 4) + 1, t.val % 4, 0, 0] := by decide +kernel
theorem off6_eq : ∀ t : Fin k0_t1_loop.trips, k0_off6 t = ![t.val % 2, 0, 0, 0] := by decide +kernel
theorem off7_eq : ∀ t : Fin k0_t1_loop.trips, k0_off7 t = ![t.val % 2, 1, 0, 0] := by decide +kernel
theorem off8_eq : ∀ t : Fin k0_t1_loop.trips, k0_off8 t = ![t.val / 4, t.val % 4, 0, 0] := by decide +kernel

instance (t : Fin k0_t1_loop.trips) : ClosedOff (k0_off1 t 0#32) := ⟨_, off1_eq0 t⟩
instance (t : Fin k0_t1_loop.trips) : ClosedOff (k0_off1 t 1#32) := ⟨_, off1_eq1 t⟩
instance (t : Fin k0_t1_loop.trips) : ClosedOff (k0_off2 t) := ⟨_, off2_eq t⟩
instance (t : Fin k0_t1_loop.trips) : ClosedOff (k0_off3 t) := ⟨_, off3_eq t⟩
instance (t : Fin k0_t1_loop.trips) : ClosedOff (k0_off4 t) := ⟨_, off4_eq t⟩
instance (t : Fin k0_t1_loop.trips) : ClosedOff (k0_off5 t) := ⟨_, off5_eq t⟩
instance (t : Fin k0_t1_loop.trips) : ClosedOff (k0_off6 t) := ⟨_, off6_eq t⟩
instance (t : Fin k0_t1_loop.trips) : ClosedOff (k0_off7 t) := ⟨_, off7_eq t⟩
instance (t : Fin k0_t1_loop.trips) : ClosedOff (k0_off8 t) := ⟨_, off8_eq t⟩

variable {F : FTy → Type} [FloatOps F]

/-- The assertions the loop is reasoned in. -/
local notation "𝕄" => MT nD τ sig Unit (Elt F) ℕ (UR sig nD τ) ℕ

variable (i : grid0.Coords)
  (arg1 : Memref sig .tc .vmem S512x512 .f32) (harg1 : arg1.IsWhole)
  (arg2 : Memref sig .tc .vmem S512x512 .f32) (harg2 : arg2.IsWhole)
  (arg3 : Memref sig .tc .vmem S512x1024 .f32) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S2048x1024 .bf16) (harg8 : arg8.IsWhole)
  (arg9 : Memref sig .tc .vmem S16x128x128 .bf16) (harg9 : arg9.IsWhole)
  (arg10 : Memref sig .tc .vmem S512x1024 .f32) (harg10 : arg10.IsWhole)
  (arg11 : Memref sig .tc .vmem S8x4x128x128 .bf16) (harg11 : arg11.IsWhole)
  (arg12 : Memref sig .tc .vmem S8x4x128x128 .bf16) (harg12 : arg12.IsWhole)
  (arg13 : Memref sig .tc .vmem S8x4x128x128 .f32) (harg13 : arg13.IsWhole)
  (arg14 : Memref sig .tc .vmem S8x4x128x128 .f32) (harg14 : arg14.IsWhole)
  (arg15 : Memref sig .tc .vmem S16x4x128x128 .f32) (harg15 : arg15.IsWhole)
  (arg16 : Memref sig .tc .vmem S2x2x24x128 .f32) (harg16 : arg16.IsWhole)
  (pad : FVec F S7x128 .f32)

/-- The six buffers a trip touches, each held at some contents. -/
abbrev Held (c : Dev nD) (arg11 : Memref sig .tc .vmem S8x4x128x128 .bf16)
    (arg12 : Memref sig .tc .vmem S8x4x128x128 .bf16) (arg13 : Memref sig .tc .vmem S8x4x128x128 .f32)
    (arg14 : Memref sig .tc .vmem S8x4x128x128 .f32) (arg15 : Memref sig .tc .vmem S16x4x128x128 .f32)
    (arg16 : Memref sig .tc .vmem S2x2x24x128 .f32) : sProp 𝕄 :=
  iprop((∃ f, arg15.view.loc (c : Thread nD τ) ↦[arg15.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg16.view.loc (c : Thread nD τ) ↦[arg16.view.set]{fullShare} f))

/-- One trip keeps the six buffers. -/
theorem trip (𝒱 : Variants) (c : Dev nD) (bd : Option 𝒱.V) (E : Set ℕ) (k : Fin k0_t1_loop.trips) :
    Held (F := F) c arg11 arg12 arg13 arg14 arg15 arg16
    ⊢ wp frame (wpE (defs₀ (F := F)) 𝒱 (c : Thread nD τ) bd) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 pad k PUnit.unit)
        (fun _ => Held (F := F) c arg11 arg12 arg13 arg14 arg15 arg16) := by
  have hk : k.val < 32 := Nat.lt_of_lt_of_le k.isLt k0_t1_abs.2.1
  unfold k0_t1_body
  iintro ⟨⟨%f15, H15⟩, ⟨%f11, H11⟩, ⟨%f12, H12⟩, ⟨%f13, H13⟩, ⟨%f14, H14⟩, ⟨%f16, H16⟩⟩
  sl_exec
  sl_step
  isplitl [H15]; · iexists _; iexact H15
  isplitl [H11]; · iexists _; iexact H11
  isplitl [H12]; · iexists _; iexact H12
  isplitl [H13]; · iexists _; iexact H13
  isplitl [H14]; · iexists _; iexact H14
  iexists _; iexact H16

/-- The loop keeps the six buffers. -/
@[sl_loop] def loopInv (𝒱 : Variants) (c : Dev nD) (bd : Option 𝒱.V) (E : Set ℕ) :
    LoopInv (M := MT nD τ sig Unit (Elt F) ℕ (UR sig nD τ) ℕ) frame
      (wpE (defs₀ (F := F)) 𝒱 (c : Thread nD τ) bd) E
      k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 pad) where
  inv _ _ := Held (F := F) c arg11 arg12 arg13 arg14 arg15 arg16
  step k acc := trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 pad 𝒱 c bd E k

end Cert.Kernel3Ideal.Mid
-- ==== Proof.Mid.Run.lean ====
module

public import proofs.«01_k».proof.Proof.Gen.Kernel3Ideal.Launch
public import proofs.«01_k».proof.Proof.Mid.Loop
public import Idealize.ShloMosaic.Lib.Pipeline.FrameBody
public import Idealize.ShloMosaic.Lib.Ring
public import Idealize.ShloMosaic.Lib.WordCmp

/-!
# One run of the output-projection kernel's body

The body loads the nine input blocks, stores the layer-normalised block into the first output and then
works out the router outputs.  Here is what one run leaves: the inputs as they were, the first output
at `hidBlock` of the inputs, and every other buffer at some contents.
-/

@[expose] public section

set_option maxRecDepth 16384

noncomputable section

namespace Cert.Kernel3Ideal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen

variable {F : FTy → Type} [FloatOps F]

/-- The assertions the body is reasoned in. -/
local notation "𝕄" => MT nD τ sig Unit (Elt F) ℕ (UR sig nD τ) ℕ

/-- A whole block of `512 × 512`. -/
abbrev half : Rect S512x512 := Rect.unit (s := S512x512) ![0, 0] S512x512.size inb_S512x512_S512x512_0_0
/-- A whole block of `512 × 1024`. -/
abbrev full : Rect S512x1024 := Rect.unit (s := S512x1024) ![0, 0] S512x1024.size inb_S512x1024_S512x1024_0_0
/-- A whole row of `1024`. -/
abbrev row : Rect S1x1024 := Rect.unit (s := S1x1024) ![0, 0] S1x1024.size inb_S1x1024_S1x1024_0_0

/-- The first output's block from the blocks of the attention half, the recurrence half, the residual,
    the two halves of the projection, the gain and the offset. -/
def hidBlock (x0 x1 : Vec F S512x512 .f32) (x2 : Vec F S512x1024 .f32) (x3 x4 : Vec F S512x1024 .bf16)
    (x5 x6 : Vec F S1x1024 .f32) : Vec F S512x1024 .f32 :=
  View.canon [⟨full, k0_pay943 (View.ld x0 half) (View.ld x3 full) (View.ld x1 half) (View.ld x4 full)
    (View.ld x2 full) (View.ld x5 row) (View.ld x6 row)⟩]

/-- Its one store covers the block. -/
theorem hidBlock_cover (p : Vec F S512x1024 .f32) (y : S512x1024.Idx) :
    ∃ pc ∈ ([⟨full, p⟩] : List (View.Piece (Elt F) S512x1024 .f32)), y ∈ pc.1.set :=
  View.cover_of_tiled [⟨full, p⟩] S512x1024.size (by rfl) y

variable (i : grid0.Coords)
  (arg1 : Memref sig .tc .vmem S512x512 .f32) (harg1 : arg1.IsWhole)
  (arg2 : Memref sig .tc .vmem S512x512 .f32) (harg2 : arg2.IsWhole)
  (arg3 : Memref sig .tc .vmem S512x1024 .f32) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S2048x1024 .bf16) (harg8 : arg8.IsWhole)
  (arg9 : Memref sig .tc .vmem S16x128x128 .bf16) (harg9 : arg9.IsWhole)
  (arg10 : Memref sig .tc .vmem S512x1024 .f32) (harg10 : arg10.IsWhole)
  (arg11 : Memref sig .tc .vmem S8x4x128x128 .bf16) (harg11 : arg11.IsWhole)
  (arg12 : Memref sig .tc .vmem S8x4x128x128 .bf16) (harg12 : arg12.IsWhole)
  (arg13 : Memref sig .tc .vmem S8x4x128x128 .f32) (harg13 : arg13.IsWhole)
  (arg14 : Memref sig .tc .vmem S8x4x128x128 .f32) (harg14 : arg14.IsWhole)
  (arg15 : Memref sig .tc .vmem S16x4x128x128 .f32) (harg15 : arg15.IsWhole)
  (arg16 : Memref sig .tc .vmem S2x2x24x128 .f32) (harg16 : arg16.IsWhole)

set_option maxHeartbeats 4000000 in
/-- One run of the body on whole buffers. -/
theorem run_body (c : Dev nD) (E : Set ℕ)
  (x0 : Vec F S512x512 .f32)
  (x1 : Vec F S512x512 .f32)
  (x2 : Vec F S512x1024 .f32)
  (x3 : Vec F S512x1024 .bf16)
  (x4 : Vec F S512x1024 .bf16)
  (x5 : Vec F S1x1024 .f32)
  (x6 : Vec F S1x1024 .f32)
  (x7 : Vec F S2048x1024 .bf16)
  (x8 : Vec F S16x128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (hidBlock x0 x1 x2 x3 x4 x5 x6)
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_out_proj_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_out_proj_router_eq_skeleton]; unfold cc0_out_proj_router_skel
  simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (hidBlock_cover _)).trans ?_
    rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

end Cert.Kernel3Ideal.Mid
-- ==== Proof.Mid.Frame.lean ====
module

public import proofs.«01_k».proof.Proof.Gen.Kernel3Ideal.Frame
public import proofs.«01_k».proof.Proof.Mid.Run
public import Idealize.ShloMosaic.Lib.Claim

/-!
# The run of the output-projection call

The call's grid points put together: the arguments end as they were, the first output's array is
written block by block with `hidBlock`, and nothing is said of the four router outputs, whose
windows are forgotten.
-/

@[expose] public section

set_option maxRecDepth 16384

noncomputable section

namespace Cert.Kernel3Ideal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RDat)
open Cert.Kernel3Ideal.Gen

variable {F : FTy → Type} [FloatOps F]

/-- The assertions the call is reasoned in. -/
local notation "𝕄" => MT nD τ sig Unit (Elt F) ℕ (UR sig nD τ) ℕ

variable (m : (ℓ : Loc nD τ sig) → Buf (Elt F) ℓ) (ρ : Dev nD → PrngReg)

/-- The windows nothing is said of. -/
def forgot : Fin cfg0.W → Bool := fun w => match w with
    | ⟨10, _⟩ => true
    | ⟨11, _⟩ => true
    | ⟨12, _⟩ => true
    | ⟨13, _⟩ => true
    | _ => false

/-- The call's data: each input's buffer keeps its block, the first output's holds `hidBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => hidBlock (iblk m c 0 t) (iblk m c 1 t) (iblk m c 2 t) (iblk m c 3 t) (iblk m c 4 t) (iblk m c 5 t) (iblk m c 6 t)
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = hidBlock (iblk m c 0 t) (iblk m c 1 t) (iblk m c 2 t) (iblk m c 3 t) (iblk m c 4 t) (iblk m c 5 t) (iblk m c 6 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body may use beside its windows: the two scratch buffers and the generator register. -/
theorem beside (c : Dev nD) : (Pipeline.ΦA spec0 c : sProp 𝕄)
    = iprop(iprop((∃ d, owns (c : Thread nD τ) (Memref.whole cc0_scratch0 : Memref sig .tc .vmem S16x4x128x128 .f32) fullShare d)
        ∗ (∃ d, owns (c : Thread nD τ) (Memref.whole cc0_scratch1 : Memref sig .tc .vmem S2x2x24x128 .f32) fullShare d))
      ∗ (∃ r, prngReg c r)) := by
  unfold Pipeline.ΦA; rw [scopedRest0_eq]; simp only [owns_whole]; try rfl

/-- What a point's body is given, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

/-- What it gives back. -/
def back (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

/-- The body at any point. -/
theorem point (c : Dev nD) (t : Fin cfg0.N) :
    given m c t ⊢ wp frame (wpE (defs₀ (F := F)) Variants.none c none) Set.univ (bodyAt0 t) (fun _ => back m c t) := by
  unfold given back bodyAt0
  simp only [before_0, before_1, before_2, before_3, before_4, before_5, before_6, before_7, before_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, beside]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_body (grid0.coords t) _ _ _ _ _ _ _ _ _ _ _ _ _ _ _ _ _ _ _ _ _ _ _ _ _ _ _ _ _ _ _ _  c Set.univ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem row_of (t : Fin cfg0.N) :
    defs₀ (F := F) .tc cfg0.body (cfg0.bodyArgs t (cfg0.slots t)) = bodyAt0 t := by
  unfold defs₀; rw [Defs.onTc_tc]

theorem obligation (c : Dev nD) :
    BodyObligationLoose (dats (F := F) m 0 c) (defs₀ (F := F)) Variants.none () Set.univ forgot := fun t => by
  rw [bigSep_W0, bigSep_W0, row_of]
  exact triple_restated (point m c t) rfl .rfl fun _ => .rfl

set_option backward.isDefEq.respectTransparency.types false in
set_option maxHeartbeats 800000 in
/-- The call's run. -/
theorem run_main : θ_run defs (onTc (τ := τ) (main (F := F))) (s₀ m ρ)
    (fun r => RDat.FramePost cfg0 (fun c => (dats m 0 c).toRForget forgot) (V m) r ∧ r.2.sem = fun _ => 0) :=
  Pipeline.θ_run_frame_forget (Q' := _) cfgs (dats m) (0 : Fin 1) launch0 defs₀ Variants.none forgot m ρ main
    (hbody := obligation m) (hshare := fun c => (dats m 0 c).share_full fun _ => rfl)
    (howed := fun _ _ => rfl) (V := V m) (hmain := hmain m Variants.none) (hA := A_eq m) (hΦ := fun _ _ => rfl)

/-- The arguments end as they were, the counters at zero, and the first output's array is the data's. -/
theorem run_result : θ_run defs (onTc (τ := τ) (main (F := F))) ⟨m, fun _ => 0, ρ⟩ (fun r => (∀ c : Dev nD,
      r.2.mem ((c.tc : Thread nD τ).loc (Pipeline.arrRef spec0 9)) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((dats m 0 c).toRForget_arrAt_iff (fgt := forgot) (w := 9) rfl _ _).mp ((h.1 c).1 9),
    (h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    ((h.1 c).2 main_arg3 (Pipeline.mem_restRefs_of main_arg3 (by decide) (by decide))).trans (V_main_arg3 m c),
    (h.1.arr_in c 5 rfl).trans ((A_eq m c 5).trans (V_main_arg4 m c)),
    (h.1.arr_in c 6 rfl).trans ((A_eq m c 6).trans (V_main_arg5 m c)),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (run_main m ρ)

end Cert.Kernel3Ideal.Mid
-- ==== Proof.Mid.KPoint.lean ====
/-
  What a grid point leaves in its block of the first result, entry by entry: a row is the scaled input plus two sums of
  products, and the row is then centred and divided by the root of its mean square.
-/
module

public import proofs.«01_k».proof.Proof.Mid.Frame
public import Idealize.ShloMosaic.Lib.Pointwise
public import Idealize.ShloMosaic.Lib.Pipeline.ValueKit

@[expose] public section

noncomputable section

namespace Cert.Mid

open Idealize.ShloMosaic Idealize.ShloMosaic.TcCoe Cert.Kernel3Ideal Cert.Kernel3Ideal.Gen

/-- The scale of what the layer adds to. -/
abbrev alpha : EReal := Scalar.ofBits (F := Ideal) .f32 0x3F9837F0#32

/-- A row's sum over its length. -/
def mean (v : Fin 1024 → EReal) : EReal := Scalar.divf (F := Ideal) (φ := .f32) (∑ k : Fin 1024, v k) (Scalar.ofBits (F := Ideal) .f32 0x44800000#32)

/-- A row, centred, over the root of its mean square, with gain and offset. -/
def normed (v : Fin 1024 → EReal) (g b : EReal) (j : Fin 1024) : EReal :=
  (v j - mean v) * FloatOps.rsqrt (F := Ideal) (φ := .f32) (mean (fun k => (v k - mean v) * (v k - mean v)) + Scalar.ofBits (F := Ideal) .f32 0x3727C5AC#32) * g + b

/-- The kernel's row before the norm. -/
def kMix (a : FVec Ideal S512x512 .f32) (wa : FVec Ideal S512x1024 .bf16) (l : FVec Ideal S512x512 .f32) (wl : FVec Ideal S512x1024 .bf16)
    (x : FVec Ideal S512x1024 .f32) : FVec Ideal S512x1024 .f32 :=
  have v1 : FVec Ideal S512x512 .bf16 := truncf .bf16 a bitsLt_bf16_f32
  have v3 : FVec Ideal S512x1024 .bf16 := shapeCast S512x1024 wa shapeCasts_S512x1024_S512x1024
  have z : FVec Ideal S512x1024 .f32 := constant S512x1024 .f32 0x00000000#32
  have v4 : FVec Ideal S512x1024 .f32 := matmul dot_S512x512_S512x1024_S512x1024_1_0_0_1_n_n none v1 v3 z
  have v6 : FVec Ideal S512x512 .bf16 := truncf .bf16 l bitsLt_bf16_f32
  have v8 : FVec Ideal S512x1024 .bf16 := shapeCast S512x1024 wl shapeCasts_S512x1024_S512x1024
  have v9 : FVec Ideal S512x1024 .f32 := matmul dot_S512x512_S512x1024_S512x1024_1_0_0_1_n_n none v6 v8 z
  addf (mulf (broadcast S512x1024 (Scalar.ofBits .f32 0x3F9837F0#32)) x) (addf v4 v9)

theorem kMix_apply (a : FVec Ideal S512x512 .f32) (wa : FVec Ideal S512x1024 .bf16) (l : FVec Ideal S512x512 .f32) (wl : FVec Ideal S512x1024 .bf16)
    (x : FVec Ideal S512x1024 .f32) (r : Fin 512) (j : Fin 1024) :
    kMix a wa l wl x (ix2 r j) = alpha * x (ix2 r j) + ((∑ k : Fin 512, a (ix2 r k) * wa (ix2 k j)) + ∑ k : Fin 512, l (ix2 r k) * wl (ix2 k j)) := by
  pointwise [kMix]

/-- The kernel's norm of a block of rows. -/
def kNorm (v14 : FVec Ideal S512x1024 .f32) (g b : FVec Ideal S1x1024 .f32) : FVec Ideal S512x1024 .f32 :=
  have v20 : FVec Ideal S512x1 .f32 := divf (shapeCast S512x1 (multiReduction .add [1] S512 v14 0x00000000#32 reduces_S512x1024_S512 (.inl rfl) rfl : FVec Ideal S512 .f32) shapeCasts_S512_S512x1 : FVec Ideal S512x1 .f32) (broadcast S512x1 (Scalar.ofBits .f32 0x44800000#32))
  have v22 : FVec Ideal S512x1024 .f32 := subf v14 (broadcastTo S512x1024 v20 broadcasts_S512x1_S512x1024)
  have v23 : FVec Ideal S512x1024 .f32 := mulf v22 v22
  have v27 : FVec Ideal S512x1 .f32 := divf (shapeCast S512x1 (multiReduction .add [1] S512 v23 0x00000000#32 reduces_S512x1024_S512 (.inl rfl) rfl : FVec Ideal S512 .f32) shapeCasts_S512_S512x1 : FVec Ideal S512x1 .f32) (broadcast S512x1 (Scalar.ofBits .f32 0x44800000#32))
  have v30 : FVec Ideal S512x1 .f32 := rsqrt (addf v27 (broadcast S512x1 (Scalar.ofBits .f32 0x3727C5AC#32)))
  have v32 : FVec Ideal S512x1024 .f32 := mulf v22 (broadcastTo S512x1024 v30 broadcasts_S512x1_S512x1024)
  have v34 : FVec Ideal S512x1024 .f32 := mulf v32 (broadcastTo S512x1024 g broadcasts_S1x1024_S512x1024)
  addf v34 (broadcastTo S512x1024 b broadcasts_S1x1024_S512x1024)

theorem pay_eq (a : FVec Ideal S512x512 .f32) (wa : FVec Ideal S512x1024 .bf16) (l : FVec Ideal S512x512 .f32) (wl : FVec Ideal S512x1024 .bf16)
    (x : FVec Ideal S512x1024 .f32) (g b : FVec Ideal S1x1024 .f32) : k0_pay943 (F := Ideal) a wa l wl x g b = kNorm (kMix a wa l wl x) g b := rfl

theorem kNorm_apply (v : FVec Ideal S512x1024 .f32) (g b : FVec Ideal S1x1024 .f32) (r : Fin 512) (j : Fin 1024) :
    kNorm v g b (ix2 r j) = normed (fun k => v (ix2 r k)) (g (ix2 0 j)) (b (ix2 0 j)) j := by
  pointwise [kNorm, normed, mean]

/-! The body loads whole buffers. -/

theorem ld_half (y : Vec Ideal S512x512 .f32) : View.ld y Kernel3Ideal.Mid.half = y :=
  View.ld_unit_zero (by funext a; fin_cases a <;> rfl) _ y

theorem ld_full {e : EltTy} (y : Vec Ideal S512x1024 e) : View.ld y Kernel3Ideal.Mid.full = y :=
  View.ld_unit_zero (by funext a; fin_cases a <;> rfl) _ y

theorem ld_row (y : Vec Ideal S1x1024 .f32) : View.ld y Kernel3Ideal.Mid.row = y :=
  View.ld_unit_zero (by funext a; fin_cases a <;> rfl) _ y

end Cert.Mid
-- ==== Proof.Mid.KArr.lean ====
/-
  The call's first result array, entry by entry: row `512 t + r` is row `r` of what grid point `t` writes, from rows
  `512 t …` of the three inputs and the two halves of the weights.
-/
module

public import proofs.«01_k».proof.Proof.Mid.KPoint
public import Idealize.ShloMosaic.Lib.KernelVsHost
public import Idealize.ShloMosaic.Lib.Claim

@[expose] public section

noncomputable section

namespace Cert.Mid

open Idealize.ShloMosaic Idealize.ShloMosaic.TcCoe Cert.Kernel3Ideal Cert.Kernel3Ideal.Gen Cert.Kernel3Ideal.Mid

variable (m : (ℓ : Loc nD τ sig) → Buf (Elt Ideal) ℓ) (c : Dev nD)

/-- What the first result is of: two parts of the mixed rows, the input, the weights, the gain and the offset. -/
abbrev arA : FVec Ideal S16384x512 .f32 := m ((c : Thread nD τ).loc main_arg0)
abbrev arL : FVec Ideal S16384x512 .f32 := m ((c : Thread nD τ).loc main_arg1)
abbrev arX : FVec Ideal S16384x1024 .f32 := m ((c : Thread nD τ).loc main_arg2)
abbrev arW : FVec Ideal S1024x1024 .f32 := m ((c : Thread nD τ).loc main_arg3)
abbrev arG : FVec Ideal S1x1024 .f32 := m ((c : Thread nD τ).loc main_arg4)
abbrev arB : FVec Ideal S1x1024 .f32 := m ((c : Thread nD τ).loc main_arg5)

/-- 512 rows of the weights. -/
def halfOf (o : ℕ) (h : S1024x1024.Slices ![o, 0] S512x1024) (w : FVec Ideal S1024x1024 .f32) : FVec Ideal S512x1024 .bf16 :=
  truncf .bf16 (extractStridedSlice S512x1024 ![o, 0] w h : FVec Ideal S512x1024 .f32) bitsLt_bf16_f32

theorem halfOf_apply (o : ℕ) (ho : o + 512 ≤ 1024) (h : S1024x1024.Slices ![o, 0] S512x1024) (w : FVec Ideal S1024x1024 .f32)
    (k : Fin 512) (j : Fin 1024) : halfOf o h w (ix2 k j) = w (ix2 ⟨o + k.val, by omega⟩ j) := by
  pointwise [halfOf]

theorem V_v3 : V m c main_v3 = halfOf 0 slices_S1024x1024_S512x1024_0_0 (arW m c) := by
  unfold V
  after_results
  rfl

theorem V_v5 : V m c main_v5 = halfOf 512 slices_S1024x1024_S512x1024_512_0 (arW m c) := by
  unfold V
  after_results
  rfl

theorem lt32 (t : Fin cfg0.N) : t.val < 32 := lt_of_lt_of_eq t.isLt N_0

/-- Row `r` of the group that grid point `t` handles. -/
abbrev rowAt (t : Fin cfg0.N) (r : Fin 512) : Fin 16384 := ⟨512 * t.val + r.val, by have := lt32 t; omega⟩

theorem idxIn (t : Fin cfg0.N) :
    win0_0.index t = ![t.val, 0] ∧ win0_1.index t = ![t.val, 0] ∧ win0_2.index t = ![t.val, 0] ∧ win0_3.index t = ![0, 0]
      ∧ win0_4.index t = ![0, 0] ∧ win0_5.index t = ![0, 0] ∧ win0_6.index t = ![0, 0] :=
  (by decide +kernel : ∀ t : Fin grid0.N, win0_0.index t = ![t.val, 0] ∧ win0_1.index t = ![t.val, 0]
    ∧ win0_2.index t = ![t.val, 0] ∧ win0_3.index t = ![0, 0]
      ∧ win0_4.index t = ![0, 0] ∧ win0_5.index t = ![0, 0] ∧ win0_6.index t = ![0, 0]) t

theorem blkA (t : Fin cfg0.N) (r k : Fin 512) :
    (iblk m c 0 t : Vec Ideal S512x512 .f32) (ix2 r k) = arA m c (ix2 (rowAt t r) k) := by
  obtain ⟨h, -⟩ := idxIn t
  blk_ext [iblk, V, h]

theorem blkL (t : Fin cfg0.N) (r k : Fin 512) :
    (iblk m c 1 t : Vec Ideal S512x512 .f32) (ix2 r k) = arL m c (ix2 (rowAt t r) k) := by
  obtain ⟨-, h, -⟩ := idxIn t
  blk_ext [iblk, V, h]

theorem blkX (t : Fin cfg0.N) (r : Fin 512) (j : Fin 1024) :
    (iblk m c 2 t : Vec Ideal S512x1024 .f32) (ix2 r j) = arX m c (ix2 (rowAt t r) j) := by
  obtain ⟨-, -, h, -⟩ := idxIn t
  blk_ext [iblk, V, h]

theorem blkWA (t : Fin cfg0.N) (k : Fin 512) (j : Fin 1024) :
    (iblk m c 3 t : Vec Ideal S512x1024 .bf16) (ix2 k j) = arW m c (ix2 ⟨0 + k.val, by omega⟩ j) := by
  obtain ⟨-, -, -, h, -⟩ := idxIn t
  rw [← halfOf_apply 0 (by omega) slices_S1024x1024_S512x1024_0_0 (arW m c) k j, ← V_v3 m c]
  blk_ext [iblk, h]

theorem blkWL (t : Fin cfg0.N) (k : Fin 512) (j : Fin 1024) :
    (iblk m c 4 t : Vec Ideal S512x1024 .bf16) (ix2 k j) = arW m c (ix2 ⟨512 + k.val, by omega⟩ j) := by
  obtain ⟨-, -, -, -, h, -⟩ := idxIn t
  rw [← halfOf_apply 512 (by omega) slices_S1024x1024_S512x1024_512_0 (arW m c) k j, ← V_v5 m c]
  blk_ext [iblk, h]

theorem blkG (t : Fin cfg0.N) (j : Fin 1024) :
    (iblk m c 5 t : Vec Ideal S1x1024 .f32) (ix2 0 j) = arG m c (ix2 0 j) := by
  obtain ⟨-, -, -, -, -, h, -⟩ := idxIn t
  blk_ext [iblk, V, h]

theorem blkB (t : Fin cfg0.N) (j : Fin 1024) :
    (iblk m c 6 t : Vec Ideal S1x1024 .f32) (ix2 0 j) = arB m c (ix2 0 j) := by
  obtain ⟨-, -, -, -, -, -, h⟩ := idxIn t
  blk_ext [iblk, V, h]

/-- A row of the sum that is normed. -/
def mixRow (a l : FVec Ideal S16384x512 .f32) (x : FVec Ideal S16384x1024 .f32) (w : FVec Ideal S1024x1024 .f32)
    (r : Fin 16384) (j : Fin 1024) : EReal :=
  alpha * x (ix2 r j) + ((∑ k : Fin 512, a (ix2 r k) * w (ix2 ⟨0 + k.val, by omega⟩ j))
    + ∑ k : Fin 512, l (ix2 r k) * w (ix2 ⟨512 + k.val, by omega⟩ j))

/-- The first result's entry. -/
def entry (a l : FVec Ideal S16384x512 .f32) (x : FVec Ideal S16384x1024 .f32) (w : FVec Ideal S1024x1024 .f32)
    (g b : FVec Ideal S1x1024 .f32) (r : Fin 16384) (j : Fin 1024) : EReal :=
  normed (mixRow a l x w r) (g (ix2 0 j)) (b (ix2 0 j)) j

theorem hid_point (t : Fin cfg0.N) (r : Fin 512) (j : Fin 1024) :
    (hidBlock (F := Ideal) (iblk m c 0 t) (iblk m c 1 t) (iblk m c 2 t) (iblk m c 3 t) (iblk m c 4 t) (iblk m c 5 t) (iblk m c 6 t)
        : Vec Ideal S512x1024 .f32) (ix2 r j)
      = entry (arA m c) (arL m c) (arX m c) (arW m c) (arG m c) (arB m c) (rowAt t r) j := by
  unfold hidBlock
  rw [View.canon_cons_unit_lit _ _ _ (by decide), ld_half, ld_half, ld_full, ld_full, ld_full, ld_row, ld_row, pay_eq, kNorm_apply]
  unfold entry
  rw [blkG, blkB]
  refine congrArg (fun v => normed v _ _ j) (funext fun i => ?_)
  rw [kMix_apply, blkX]
  unfold mixRow
  simp only [blkA, blkL, blkWA, blkWL]

theorem idxOut (t : Fin cfg0.N) : win0_9.index t = ![t.val, 0] ∧ win0_9.flush t = true :=
  (by decide +kernel : ∀ t : Fin grid0.N, win0_9.index t = ![t.val, 0] ∧ win0_9.flush t = true) t

/-- Grid points write different rows. -/
theorem apart (t t' : Fin cfg0.N) (_ : (cfg0.win 9).flush t = true) (_ : (cfg0.win 9).flush t' = true) (n : t ≠ t') :
    Disjoint ((cfg0.win 9).blk t).view.set ((cfg0.win 9).blk t').view.set :=
  (cfg0.win 9).disjoint_blk fun h => n (by
    have h' : win0_9.index t = win0_9.index t' := h
    rw [(idxOut t).1, (idxOut t').1] at h'
    exact Fin.ext (congrFun h' 0))

theorem hid_entry (t : Fin cfg0.N) (r : Fin 512) (j : Fin 1024) :
    ((dats m 0 c).arrAt 9 cfg0.N : Vec Ideal S16384x1024 .f32) (ix2 (rowAt t r) j)
      = entry (arA m c) (arL m c) (arX m c) (arW m c) (arG m c) (arB m c) (rowAt t r) j := by
  obtain ⟨h, hf⟩ := idxOut t
  have e := congrFun ((dats m 0 c).read_blk_arrAt_eq_flushed 9 apart cfg0.N t t.isLt hf) (ix2 r j)
  have f : (dats m 0 c).flushed 9 t (ix2 r j) = entry (arA m c) (arL m c) (arX m c) (arW m c) (arG m c) (arB m c) (rowAt t r) j := by
    rw [← hid_point]
    show (cfg0.win 9).cut (grid0.coords t) ((dats m 0 c).after 9 t) (ix2 r j) = _
    rw [after_9]
    rfl
  refine Eq.trans (congrArg ((dats m 0 c).arrAt 9 cfg0.N) ?_) (e.trans f)
  have b0 : (((cfg0.win 9).blk t).view.emb (ix2 r j) 0).val = win0_9.index t (0 : Fin 2) * 512 + 1 * r.val := rfl
  have b1 : (((cfg0.win 9).blk t).view.emb (ix2 r j) 1).val = win0_9.index t (1 : Fin 2) * 1024 + 1 * j.val := rfl
  rw [h] at b0 b1
  funext a
  apply Fin.ext
  match a with
  | 0 => refine Eq.trans ?_ b0.symm; show 512 * t.val + r.val = t.val * 512 + 1 * r.val; omega
  | 1 => refine Eq.trans ?_ b1.symm; show j.val = 0 * 1024 + 1 * j.val; omega

end Cert.Mid
-- ==== Proof.Mid.RArr.lean ====
/-
  The third reference's result, entry by entry: its one product over 1024 places is the sum of the two over 512.
-/
module

public import proofs.«01_k».proof.Proof.Gen.Reference3Ideal.Run
public import proofs.«01_k».proof.Proof.Mid.KArr

@[expose] public section

noncomputable section

namespace Cert.Mid.Ref

open Idealize.ShloMosaic Idealize.ShloMosaic.TcCoe Cert.Reference3Ideal Cert.Reference3Ideal.Gen

variable (a l : FVec Ideal S16384x512 .f32) (x : FVec Ideal S16384x1024 .f32) (w : FVec Ideal S1024x1024 .f32)

/-- The two parts side by side. -/
def parts : FVec Ideal S16384x1024 .f32 :=
  concatenate S16384x1024 1 [⟨S16384x512, a⟩, ⟨S16384x512, l⟩] concatenates_S16384x512_S16384x512_S16384x1024_d1

theorem parts_lo (r : Fin 16384) (k : Fin 512) : parts a l (ix2 r ⟨0 + k.val, by omega⟩) = a (ix2 r k) := by
  have hk := k.isLt
  pointwise [parts]

theorem parts_hi (r : Fin 16384) (k : Fin 512) : parts a l (ix2 r ⟨512 + k.val, by omega⟩) = l (ix2 r k) := by
  have hk := k.isLt
  pointwise [parts]

/-- The rows that are normed. -/
def mixed : FVec Ideal S16384x1024 .f32 :=
  addf (mulf (broadcastInDim S16384x1024 ![] bcast_S_S16384x1024 (constant S_ .f32 0x3F9837F0#32)) x)
    (Host.dotGeneral dot_S16384x1024_S1024x1024_S16384x1024_1_0_0_1_n_n none (parts a l) w)

/-- A sum over 1024 places is that over the first 512 plus that over the last. -/
theorem sum_halves (f : Fin 1024 → EReal) :
    ∑ k : Fin 1024, f k = (∑ k : Fin 512, f ⟨0 + k.val, by omega⟩) + ∑ k : Fin 512, f ⟨512 + k.val, by omega⟩ := by
  rw [show (∑ k : Fin 1024, f k) = ∑ k : Fin (512 + 512), f k from rfl, Fin.sum_univ_add]
  refine congrArg₂ (· + ·) (Finset.sum_congr rfl fun k _ => congrArg f (Fin.ext ?_)) (Finset.sum_congr rfl fun k _ => rfl)
  show k.val = 0 + k.val
  omega

theorem mixed_sum (r : Fin 16384) (j : Fin 1024) :
    mixed a l x w (ix2 r j) = alpha * x (ix2 r j) + ∑ k : Fin 1024, parts a l (ix2 r k) * w (ix2 k j) := by
  pointwise [mixed]

theorem mixed_apply (r : Fin 16384) (j : Fin 1024) : mixed a l x w (ix2 r j) = mixRow a l x w r j := by
  rw [mixed_sum, sum_halves]
  unfold mixRow
  simp only [parts_lo, parts_hi]

/-- The norm of all rows. -/
def norm (v : FVec Ideal S16384x1024 .f32) (g b : FVec Ideal S1x1024 .f32) : FVec Ideal S16384x1024 .f32 :=
  have v10 : FVec Ideal S16384x1 .f32 := Host.divf (broadcastInDim S16384x1 ![0] bcast_S16384_S16384x1_0 (Host.reduceAdd v (constant S_ .f32 0x00000000#32) reducesTo_S16384x1024_S16384_d1 h_S_)) (broadcastInDim S16384x1 ![] bcast_S_S16384x1 (constant S_ .f32 0x44800000#32))
  have v12 : FVec Ideal S16384x1024 .f32 := subf v (broadcastInDim S16384x1024 ![0, 1] bcast_S16384x1_S16384x1024_0_1 v10)
  have v13 : FVec Ideal S16384x1024 .f32 := mulf v12 v12
  have v17 : FVec Ideal S16384x1 .f32 := Host.divf (broadcastInDim S16384x1 ![0] bcast_S16384_S16384x1_0 (Host.reduceAdd v13 (constant S_ .f32 0x00000000#32) reducesTo_S16384x1024_S16384_d1 h_S_)) (broadcastInDim S16384x1 ![] bcast_S_S16384x1 (constant S_ .f32 0x44800000#32))
  have v22 : FVec Ideal S16384x1 .f32 := Host.rsqrt (addf v17 (broadcastInDim S16384x1 ![] bcast_S_S16384x1 (constant S_ .f32 0x3727C5AC#32)))
  have v24 : FVec Ideal S16384x1024 .f32 := mulf v12 (broadcastInDim S16384x1024 ![0, 1] bcast_S16384x1_S16384x1024_0_1 v22)
  have g0 : FVec Ideal S1024 .f32 := shapeCast S1024 g shapeCasts_S1x1024_S1024
  have b0 : FVec Ideal S1024 .f32 := shapeCast S1024 b shapeCasts_S1x1024_S1024
  addf (mulf v24 (broadcastInDim S16384x1024 ![0, 1] bcast_S1x1024_S16384x1024_0_1 (broadcastInDim S1x1024 ![1] bcast_S1024_S1x1024_1 g0)))
    (broadcastInDim S16384x1024 ![0, 1] bcast_S1x1024_S16384x1024_0_1 (broadcastInDim S1x1024 ![1] bcast_S1024_S1x1024_1 b0))

theorem norm_apply (v : FVec Ideal S16384x1024 .f32) (g b : FVec Ideal S1x1024 .f32) (r : Fin 16384) (j : Fin 1024) :
    norm v g b (ix2 r j) = normed (fun k => v (ix2 r k)) (g (ix2 0 j)) (b (ix2 0 j)) j := by
  pointwise [norm, normed, mean]

variable (m : (ℓ : Loc nD τ sig) → Buf (Elt Ideal) ℓ) (c : Dev nD)

theorem res_eq : Cert.Reference3Ideal.Value.res_out0 m c
    = norm (mixed (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)) (m ((c.tc : Thread nD τ).loc main_arg5)) := by
  unfold Cert.Reference3Ideal.Value.res_out0 Cert.Reference3Ideal.Value.res_main_v30
  rfl

theorem res_entry (a l : FVec Ideal S16384x512 .f32) (x : FVec Ideal S16384x1024 .f32) (w : FVec Ideal S1024x1024 .f32)
    (g b : FVec Ideal S1x1024 .f32) (r : Fin 16384) (j : Fin 1024) :
    norm (mixed a l x w) g b (ix2 r j) = entry a l x w g b r j := by
  rw [norm_apply]
  unfold entry
  exact congrArg (fun v => normed v _ _ j) (funext fun k => mixed_apply a l x w r k)

end Cert.Mid.Ref
-- ==== Proof.Mid.Both.lean ====
/-
  The third call's first result and the reference's are the same array.
-/
module

public import proofs.«01_k».proof.Proof.Mid.RArr

@[expose] public section

noncomputable section

namespace Cert.Mid

open Idealize.ShloMosaic Idealize.ShloMosaic.TcCoe Cert.Kernel3Ideal.Gen Cert.Kernel3Ideal.Mid
open Cert.Kernel3Ideal (cfg0)

variable (m : (ℓ : Loc Cert.Kernel3Ideal.nD Cert.Kernel3Ideal.τ Cert.Kernel3Ideal.sig) → Buf (Elt Ideal) ℓ)
  (c : Dev Cert.Kernel3Ideal.nD)

theorem same_hid : Ref.norm (Ref.mixed (arA m c) (arL m c) (arX m c) (arW m c)) (arG m c) (arB m c)
    = (dats m 0 c).arrAt 9 cfg0.N := by
  funext i
  obtain ⟨r, d, rfl⟩ : ∃ (r : Fin 16384) (d : Fin 1024), i = ix2 r d := ⟨i 0, i 1, by funext a; match a with | 0 => rfl | 1 => rfl⟩
  obtain ⟨t, q, rfl⟩ : ∃ (t : Fin cfg0.N) (q : Fin 512), r = rowAt t q :=
    ⟨⟨r.val / 512, lt_of_lt_of_eq (by have := r.isLt; omega) N_0.symm⟩, ⟨r.val % 512, by omega⟩, Fin.ext (by
      show r.val = 512 * (r.val / 512) + r.val % 512
      omega)⟩
  exact (Ref.res_entry _ _ _ _ _ _ _ _).trans (hid_entry m c t q d).symm

end Cert.Mid
-- ==== Proof.Sample.KTail.lean ====
/-
  What the lines after the fourth call make of its second and third results, and of the cached windows: of each row group the
  rows and columns that hold the sample's new keys or values, put behind the cached ones, and the last 128 of the two kept.
-/
module

public import proofs.«01_k».proof.Proof.Gen.Kernel4Ideal.Frame
public import Idealize.ShloMosaic.Lib.Pointwise
public import Idealize.ShloMosaic.Lib.KernelVsHost

@[expose] public section

noncomputable section

namespace Cert.Sample

open Idealize.ShloMosaic Idealize.ShloMosaic.TcCoe Idealize.SL.Sem Cert.Kernel4Ideal Cert.Kernel4Ideal.Gen

/-- The new keys or values, out of an array with 8 rows for each sample and 256 columns for each head. -/
def fresh (a : FVec Ideal S1024x512 .f32) : FVec Ideal S128x4x2x64 .f32 :=
  shapeCast S128x4x2x64 (extractStridedSlice S128x4x2x1x64 ![0, 0, 0, 0, 0]
    (shapeCast S128x8x2x2x128 a shapeCasts_S1024x512_S128x8x2x2x128 : FVec Ideal S128x8x2x2x128 .f32)
    slices_S128x8x2x2x128_S128x4x2x1x64_0_0_0_0_0 : FVec Ideal S128x4x2x1x64 .f32) shapeCasts_S128x4x2x1x64_S128x4x2x64

theorem fresh_apply (a : FVec Ideal S1024x512 .f32) (s : Fin 128) (i : Fin 4) (h : Fin 2) (d : Fin 64) :
    fresh a (ix4 s i h d) = a (ix2 ⟨8 * s.val + i.val, by omega⟩ ⟨256 * h.val + d.val, by omega⟩) := by
  obtain ⟨s, hs⟩ := s
  obtain ⟨i, hi⟩ := i
  obtain ⟨h, hh⟩ := h
  obtain ⟨d, hd⟩ := d
  pointwise [fresh]
  exact congrArg₂ (fun r j => a (ix2 r j)) (Fin.ext (by dsimp only; omega)) (Fin.ext (by dsimp only; omega))

/-- A cached window moved on by the new rows. -/
def window (w : FVec Ideal S128x128x2x64 .f32) (n : FVec Ideal S128x4x2x64 .f32) : FVec Ideal S128x128x2x64 .f32 :=
  extractStridedSlice S128x128x2x64 ![0, 4, 0, 0]
    (concatenate S128x132x2x64 1 [⟨S128x128x2x64, w⟩, ⟨S128x4x2x64, n⟩] concatenates_S128x128x2x64_S128x4x2x64_S128x132x2x64_d1
      : FVec Ideal S128x132x2x64 .f32) slices_S128x132x2x64_S128x128x2x64_0_4_0_0

variable (m : (ℓ : Loc nD τ sig) → Buf (Elt Ideal) ℓ) (ρ : Dev nD → PrngReg) (c : Dev nD)

theorem arrs_inj : Function.Injective (Pipeline.arrRef spec0) := fun a b h =>
  (by decide : ∀ a b, Pipeline.arrRef spec0 a = Pipeline.arrRef spec0 b → a = b) a b h

theorem tail_k : Pipeline.afterTail₀ cfgs (dats m) 0 (V0 m) [hostOps1] c main_v30
    = window (m ((c : Thread nD τ).loc main_arg1)) (fresh ((dats m 0 c).arrAt 4 cfg0.N)) := by
  unfold Pipeline.afterTail₀
  generalize hW : Pipeline.withArrays (cfgs 0).spec c (V0 m c) (fun w => (dats m 0 c).arrAt w (cfgs 0).N) = W
  have h1 : W (Proc.devRef .tc main_arg1) = m ((c : Thread nD τ).loc main_arg1) := by
    rw [← hW]
    exact (Pipeline.withArrays_of_ne _ c (V0 m c) _ main_arg1
      (by exact (by decide : ∀ w, Pipeline.arrRef spec0 w ≠ main_arg1))).trans (V_main_arg1 m c)
  have h4 : W (Proc.devRef .tc main_v22_1) = (dats m 0 c).arrAt 4 cfg0.N := by
    rw [← hW]
    exact Pipeline.withArrays_arr spec0 arrs_inj c (V0 m c) (fun w => (dats m 0 c).arrAt w cfg0.N) 4
  rw [← h1, ← h4]
  clear hW h1 h4
  simp only [List.flatten_cons, List.flatten_nil, List.append_nil]
  after_results
  rfl

theorem tail_v : Pipeline.afterTail₀ cfgs (dats m) 0 (V0 m) [hostOps1] c main_v32
    = window (m ((c : Thread nD τ).loc main_arg2)) (fresh ((dats m 0 c).arrAt 5 cfg0.N)) := by
  unfold Pipeline.afterTail₀
  generalize hW : Pipeline.withArrays (cfgs 0).spec c (V0 m c) (fun w => (dats m 0 c).arrAt w (cfgs 0).N) = W
  have h1 : W (Proc.devRef .tc main_arg2) = m ((c : Thread nD τ).loc main_arg2) := by
    rw [← hW]
    exact (Pipeline.withArrays_of_ne _ c (V0 m c) _ main_arg2
      (by exact (by decide : ∀ w, Pipeline.arrRef spec0 w ≠ main_arg2))).trans (V_main_arg2 m c)
  have h5 : W (Proc.devRef .tc main_v22_2) = (dats m 0 c).arrAt 5 cfg0.N := by
    rw [← hW]
    exact Pipeline.withArrays_arr spec0 arrs_inj c (V0 m c) (fun w => (dats m 0 c).arrAt w cfg0.N) 5
  rw [← h1, ← h5]
  clear hW h1 h5
  simp only [List.flatten_cons, List.flatten_nil, List.append_nil]
  after_results
  rfl

/-- The fourth call runs to its end with the two windows moved on and five of its arrays as its body left them, and leaves its arguments as they were. -/
theorem run_windows : θ_run defs (onTc (τ := τ) (main (F := Ideal))) ⟨m, fun _ => 0, ρ⟩ (fun r => ∀ c : Dev nD,
      r.2.mem ((c.tc : Thread nD τ).loc main_v30)
        = window (m ((c : Thread nD τ).loc main_arg1)) (fresh ((dats m 0 c).arrAt 4 cfg0.N))
      ∧ r.2.mem ((c.tc : Thread nD τ).loc main_v32)
        = window (m ((c : Thread nD τ).loc main_arg2)) (fresh ((dats m 0 c).arrAt 5 cfg0.N))
      ∧ r.2.mem ((c.tc : Thread nD τ).loc main_v22_0) = (dats m 0 c).arrAt 3 cfg0.N
      ∧ r.2.mem ((c.tc : Thread nD τ).loc main_v22_3) = (dats m 0 c).arrAt 6 cfg0.N
      ∧ r.2.mem ((c.tc : Thread nD τ).loc main_v22_4) = (dats m 0 c).arrAt 7 cfg0.N
      ∧ r.2.mem ((c.tc : Thread nD τ).loc main_v22_5) = (dats m 0 c).arrAt 8 cfg0.N
      ∧ r.2.mem ((c.tc : Thread nD τ).loc main_v22_6) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v30 (Pipeline.mem_restRefs_of main_v30 (by decide) (by decide))).trans (tail_k m c),
      ((h c).2 main_v32 (Pipeline.mem_restRefs_of main_v32 (by decide) (by decide))).trans (tail_v m c),
      (h c).1 3, (h c).1 6, (h c).1 7, (h c).1 8, (h c).1 9,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Sample
-- ==== Proof.Sample.KArr.lean ====
/-
  The fourth call's second and third result arrays, entry by entry, on the rows that hold a sample: row `8 s + i` is row `i`
  of sample `s`, and rows `512 t …` are what grid point `t` writes.
-/
module

public import proofs.«01_k».proof.Proof.Gen.Kernel4Ideal.Frame
public import proofs.«01_k».proof.Proof.Proj.KArr

@[expose] public section

noncomputable section

namespace Cert.Sample

open Idealize.ShloMosaic Idealize.ShloMosaic.TcCoe Cert.Kernel4Ideal Cert.Kernel4Ideal.Gen

/-- A product of the rows with 512 columns. -/
theorem pay7_apply (x : FVec Ideal S512x1024 .f32) (b : FVec Ideal S1024x512 .bf16) (r d : Fin 512) :
    k0_pay7 (F := Ideal) x b (ix2 r d) = ∑ k : Fin 1024, x (ix2 r k) * b (ix2 k d) := by
  pointwise [k0_pay7, k0_pay5, k0_pay4]

theorem pay8_apply (x : FVec Ideal S512x1024 .f32) (b : FVec Ideal S1024x512 .bf16) (r d : Fin 512) :
    k0_pay8 (F := Ideal) x b (ix2 r d) = ∑ k : Fin 1024, x (ix2 r k) * b (ix2 k d) := by
  pointwise [k0_pay8, k0_pay5, k0_pay4]

theorem ldx (y : Vec Ideal S512x1024 .f32) : View.ld y r0_0 = y :=
  View.ld_unit_zero (by funext a; fin_cases a <;> rfl) _ y

theorem out4 (x : FVec Ideal S512x1024 .f32) (w : FVec Ideal S1024x3584 .bf16) (g : FVec Ideal S1024x256 .bf16) (r d : Fin 512) :
    out0_4 (F := Ideal) x w g (ix2 r d) = ∑ k : Fin 1024, x (ix2 r k) * w (ix2 k ⟨512 + d.val, by omega⟩) := by
  unfold out0_4
  rw [View.canon_cons_unit_lit _ _ _ (by decide), ldx]
  exact (pay7_apply x _ r d).trans
    (Finset.sum_congr rfl fun k _ => congrArg (x (ix2 r k) * ·) (Cert.Proj.ldw w 512 _ k d _))

theorem out5 (x : FVec Ideal S512x1024 .f32) (w : FVec Ideal S1024x3584 .bf16) (g : FVec Ideal S1024x256 .bf16) (r d : Fin 512) :
    out0_5 (F := Ideal) x w g (ix2 r d) = ∑ k : Fin 1024, x (ix2 r k) * w (ix2 k ⟨1024 + d.val, by omega⟩) := by
  unfold out0_5
  rw [View.canon_cons_unit_lit _ _ _ (by decide), ldx]
  exact (pay8_apply x _ r d).trans
    (Finset.sum_congr rfl fun k _ => congrArg (x (ix2 r k) * ·) (Cert.Proj.ldw w 1024 _ k d _))

variable (m : (ℓ : Loc nD τ sig) → Buf (Elt Ideal) ℓ) (c : Dev nD)

/-- The sample and the weights. -/
abbrev sx : FVec Ideal S128x4x1024 .f32 := m ((c : Thread nD τ).loc main_arg0)
abbrev sw : FVec Ideal S1024x2824 .f32 := m ((c : Thread nD τ).loc main_arg3)

theorem V_v13 : V m c main_v13 = Cert.Proj.mainCols (sw m c) := by
  unfold V V0
  simp only [List.flatten_cons, List.flatten_nil, List.append_nil, StableHlo.after_append]
  after_results
  rfl

/-- The sample's rows, four for each, followed by four rows of zeros. -/
def padded (x : FVec Ideal S128x4x1024 .f32) : FVec Ideal S1024x1024 .f32 :=
  shapeCast S1024x1024 (pad S128x8x1024 ![0, 0, 0] ![0, 4, 0] ![0, 0, 0] x (sitofp .f32 (constantI S_ 32 0#32))
    pads_S128x4x1024_S128x8x1024_000_040_000 h_S_ : FVec Ideal S128x8x1024 .f32) shapeCasts_S128x8x1024_S1024x1024

theorem padded_apply (x : FVec Ideal S128x4x1024 .f32) (s : Fin 128) (i : Fin 4) (k : Fin 1024) :
    padded x (ix2 ⟨8 * s.val + i.val, by omega⟩ k) = x (ix3 s i k) := by
  obtain ⟨s, hs⟩ := s
  obtain ⟨i, hi⟩ := i
  obtain ⟨k, hk⟩ := k
  pointwise [padded]
  rw [dif_pos ⟨by omega, by omega, hk⟩]
  exact congrArg₂ (fun a b => x (ix3 a b ⟨k, hk⟩)) (Fin.ext (by dsimp only; omega)) (Fin.ext (by dsimp only; omega))

theorem V_v21 : V m c main_v21 = padded (sx m c) := by
  unfold V V0
  simp only [List.flatten_cons, List.flatten_nil, List.append_nil, StableHlo.after_append]
  after_results
  rfl

theorem lt2 (t : Fin cfg0.N) : t.val < 2 := lt_of_lt_of_eq t.isLt N_0

/-- Row `r` of the group that grid point `t` handles. -/
abbrev row (t : Fin cfg0.N) (r : Fin 512) : Fin 1024 := ⟨512 * t.val + r.val, by have := lt2 t; omega⟩

theorem idxIn (t : Fin cfg0.N) : win0_0.index t = ![t.val, 0] ∧ win0_1.index t = ![0, 0] :=
  (by decide +kernel : ∀ t : Fin grid0.N, win0_0.index t = ![t.val, 0] ∧ win0_1.index t = ![0, 0]) t

theorem blkx (t : Fin cfg0.N) (r : Fin 512) (k : Fin 1024) :
    (iblk m c 0 t : Vec Ideal S512x1024 .f32) (ix2 r k) = padded (sx m c) (ix2 (row t r) k) := by
  obtain ⟨h, -⟩ := idxIn t
  rw [← V_v21 m c]
  blk_ext [iblk, h]

theorem blkw (t : Fin cfg0.N) (k : Fin 1024) (d : Fin 3584) :
    (iblk m c 1 t : Vec Ideal S1024x3584 .bf16) (ix2 k d) = Cert.Proj.mainCols (sw m c) (ix2 k d) := by
  obtain ⟨-, h⟩ := idxIn t
  rw [← V_v13 m c]
  blk_ext [iblk, h]

/-- A row of the padded sample against a column of the weights. -/
def along (x : FVec Ideal S1024x1024 .f32) (w : FVec Ideal S1024x2824 .f32) (r : Fin 1024) (j : Fin 2824) : EReal :=
  ∑ k : Fin 1024, x (ix2 r k) * w (ix2 k j)

theorem idxOut4 (t : Fin cfg0.N) : win0_4.index t = ![t.val, 0] ∧ win0_4.flush t = true :=
  (by decide +kernel : ∀ t : Fin grid0.N, win0_4.index t = ![t.val, 0] ∧ win0_4.flush t = true) t

theorem apart4 (t t' : Fin cfg0.N) (_ : (cfg0.win 4).flush t = true) (_ : (cfg0.win 4).flush t' = true) (n : t ≠ t') :
    Disjoint ((cfg0.win 4).blk t).view.set ((cfg0.win 4).blk t').view.set :=
  (cfg0.win 4).disjoint_blk fun h => n (by
    have h' : win0_4.index t = win0_4.index t' := h
    rw [(idxOut4 t).1, (idxOut4 t').1] at h'
    exact Fin.ext (congrFun h' 0))

theorem point4 (t : Fin cfg0.N) (r d : Fin 512) :
    (out0_4 (F := Ideal) (iblk m c 0 t) (iblk m c 1 t) (iblk m c 2 t) : Vec Ideal S512x512 .f32) (ix2 r d)
      = Cert.Proj.spread (fun i => along (padded (sx m c)) (sw m c) (row t r) ⟨512 + i.val, by omega⟩) d :=
  (out4 _ _ _ r d).trans ((Cert.Proj.sum_of (fun k => blkx m c t r k)
    (fun k => (blkw m c t k _).trans (Cert.Proj.mainCols_k (sw m c) k d))).trans (Cert.Proj.sum_spread _ _ d))

/-- The keys. -/
theorem arr4 (t : Fin cfg0.N) (r d : Fin 512) :
    ((dats m 0 c).arrAt 4 cfg0.N : Vec Ideal S1024x512 .f32) (ix2 (row t r) d)
      = Cert.Proj.spread (fun i => along (padded (sx m c)) (sw m c) (row t r) ⟨512 + i.val, by omega⟩) d := by
  obtain ⟨h, hf⟩ := idxOut4 t
  have e := congrFun ((dats m 0 c).read_blk_arrAt_eq_flushed 4 apart4 cfg0.N t t.isLt hf) (ix2 r d)
  have f : (dats m 0 c).flushed 4 t (ix2 r d)
      = Cert.Proj.spread (fun i => along (padded (sx m c)) (sw m c) (row t r) ⟨512 + i.val, by omega⟩) d := by
    rw [← point4]
    show (cfg0.win 4).cut (grid0.coords t) ((dats m 0 c).after 4 t) (ix2 r d) = _
    rw [after0_4]
    rfl
  refine Eq.trans (congrArg ((dats m 0 c).arrAt 4 cfg0.N) ?_) (e.trans f)
  have b0 : (((cfg0.win 4).blk t).view.emb (ix2 r d) 0).val = win0_4.index t (0 : Fin 2) * 512 + 1 * r.val := rfl
  have b1 : (((cfg0.win 4).blk t).view.emb (ix2 r d) 1).val = win0_4.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

theorem idxOut5 (t : Fin cfg0.N) : win0_5.index t = ![t.val, 0] ∧ win0_5.flush t = true :=
  (by decide +kernel : ∀ t : Fin grid0.N, win0_5.index t = ![t.val, 0] ∧ win0_5.flush t = true) t

theorem apart5 (t t' : Fin cfg0.N) (_ : (cfg0.win 5).flush t = true) (_ : (cfg0.win 5).flush t' = true) (n : t ≠ t') :
    Disjoint ((cfg0.win 5).blk t).view.set ((cfg0.win 5).blk t').view.set :=
  (cfg0.win 5).disjoint_blk fun h => n (by
    have h' : win0_5.index t = win0_5.index t' := h
    rw [(idxOut5 t).1, (idxOut5 t').1] at h'
    exact Fin.ext (congrFun h' 0))

theorem point5 (t : Fin cfg0.N) (r d : Fin 512) :
    (out0_5 (F := Ideal) (iblk m c 0 t) (iblk m c 1 t) (iblk m c 2 t) : Vec Ideal S512x512 .f32) (ix2 r d)
      = Cert.Proj.spread (fun i => along (padded (sx m c)) (sw m c) (row t r) ⟨640 + i.val, by omega⟩) d :=
  (out5 _ _ _ r d).trans ((Cert.Proj.sum_of (fun k => blkx m c t r k)
    (fun k => (blkw m c t k _).trans (Cert.Proj.mainCols_v (sw m c) k d))).trans (Cert.Proj.sum_spread _ _ d))

/-- The values. -/
theorem arr5 (t : Fin cfg0.N) (r d : Fin 512) :
    ((dats m 0 c).arrAt 5 cfg0.N : Vec Ideal S1024x512 .f32) (ix2 (row t r) d)
      = Cert.Proj.spread (fun i => along (padded (sx m c)) (sw m c) (row t r) ⟨640 + i.val, by omega⟩) d := by
  obtain ⟨h, hf⟩ := idxOut5 t
  have e := congrFun ((dats m 0 c).read_blk_arrAt_eq_flushed 5 apart5 cfg0.N t t.isLt hf) (ix2 r d)
  have f : (dats m 0 c).flushed 5 t (ix2 r d)
      = Cert.Proj.spread (fun i => along (padded (sx m c)) (sw m c) (row t r) ⟨640 + i.val, by omega⟩) d := by
    rw [← point5]
    show (cfg0.win 5).cut (grid0.coords t) ((dats m 0 c).after 5 t) (ix2 r d) = _
    rw [after0_5]
    rfl
  refine Eq.trans (congrArg ((dats m 0 c).arrAt 5 cfg0.N) ?_) (e.trans f)
  have b0 : (((cfg0.win 5).blk t).view.emb (ix2 r d) 0).val = win0_5.index t (0 : Fin 2) * 512 + 1 * r.val := rfl
  have b1 : (((cfg0.win 5).blk t).view.emb (ix2 r d) 1).val = win0_5.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

/-- A row that holds a sample's is that sample's. -/
theorem along_sample (x : FVec Ideal S128x4x1024 .f32) (w : FVec Ideal S1024x2824 .f32) (s : Fin 128) (i : Fin 4) (j : Fin 2824) :
    along (padded x) w ⟨8 * s.val + i.val, by omega⟩ j = ∑ k : Fin 1024, x (ix3 s i k) * w (ix2 k j) :=
  Finset.sum_congr rfl fun k _ => congrArg (· * w (ix2 k j)) (padded_apply x s i k)

/-- Among the spread columns, a head's. -/
theorem spread_head (f : Fin 128 → EReal) (h : Fin 2) (d : Fin 64) :
    Cert.Proj.spread f ⟨256 * h.val + d.val, by omega⟩ = f ⟨64 * h.val + d.val, by omega⟩ := by
  unfold Cert.Proj.spread
  rw [if_neg (by dsimp only; omega)]
  exact congrArg f (Fin.ext (by dsimp only; omega))

/-- Every row is one that a grid point writes. -/
theorem row_of (r : Fin 1024) : ∃ (t : Fin cfg0.N) (q : Fin 512), r = row t q :=
  ⟨⟨r.val / 512, lt_of_lt_of_eq (by have := r.isLt; omega) N_0.symm⟩, ⟨r.val % 512, by omega⟩, Fin.ext (by
    show r.val = 512 * (r.val / 512) + r.val % 512
    omega)⟩

theorem keys (s : Fin 128) (i : Fin 4) (h : Fin 2) (d : Fin 64) :
    ((dats m 0 c).arrAt 4 cfg0.N : Vec Ideal S1024x512 .f32) (ix2 ⟨8 * s.val + i.val, by omega⟩ ⟨256 * h.val + d.val, by omega⟩)
      = ∑ k : Fin 1024, sx m c (ix3 s i k) * sw m c (ix2 k ⟨512 + (64 * h.val + d.val), by omega⟩) := by
  obtain ⟨t, q, e⟩ := row_of ⟨8 * s.val + i.val, by omega⟩
  rw [← along_sample (sx m c) (sw m c) s i _, e]
  exact (arr4 m c t q _).trans (spread_head _ h d)

theorem values (s : Fin 128) (i : Fin 4) (h : Fin 2) (d : Fin 64) :
    ((dats m 0 c).arrAt 5 cfg0.N : Vec Ideal S1024x512 .f32) (ix2 ⟨8 * s.val + i.val, by omega⟩ ⟨256 * h.val + d.val, by omega⟩)
      = ∑ k : Fin 1024, sx m c (ix3 s i k) * sw m c (ix2 k ⟨640 + (64 * h.val + d.val), by omega⟩) := by
  obtain ⟨t, q, e⟩ := row_of ⟨8 * s.val + i.val, by omega⟩
  rw [← along_sample (sx m c) (sw m c) s i _, e]
  exact (arr5 m c t q _).trans (spread_head _ h d)

end Cert.Sample
-- ==== Proof.Sample.KRest.lean ====
/-
  The fourth call's other arrays of 512 columns, entry by entry, on all rows: a row of the padded sample against a column of
  the weights, the keys of the memory scaled.
-/
module

public import proofs.«01_k».proof.Proof.Sample.KArr

@[expose] public section

noncomputable section

namespace Cert.Sample

open Idealize.ShloMosaic Idealize.ShloMosaic.TcCoe Cert.Kernel4Ideal Cert.Kernel4Ideal.Gen

theorem pay6_apply (x : FVec Ideal S512x1024 .f32) (b : FVec Ideal S1024x512 .bf16) (r d : Fin 512) :
    k0_pay6 (F := Ideal) x b (ix2 r d) = ∑ k : Fin 1024, x (ix2 r k) * b (ix2 k d) := by
  pointwise [k0_pay6, k0_pay5, k0_pay4]

theorem pay9_apply (x : FVec Ideal S512x1024 .f32) (b : FVec Ideal S1024x512 .bf16) (r d : Fin 512) :
    k0_pay9 (F := Ideal) x b (ix2 r d) = ∑ k : Fin 1024, x (ix2 r k) * b (ix2 k d) := by
  pointwise [k0_pay9, k0_pay5, k0_pay4]

theorem pay10_apply (x : FVec Ideal S512x1024 .f32) (b : FVec Ideal S1024x512 .bf16) (r d : Fin 512) :
    k0_pay10 (F := Ideal) x b (ix2 r d)
      = (∑ k : Fin 1024, x (ix2 r k) * b (ix2 k d)) * Scalar.ofBits (F := Ideal) .f32 0x3DB504F3#32 := by
  pointwise [k0_pay10, k0_pay5, k0_pay4]

theorem pay1_apply (x : FVec Ideal S512x1024 .f32) (b : FVec Ideal S1024x512 .bf16) (r d : Fin 512) :
    k0_pay1 (F := Ideal) (k0_pay5 x) b (ix2 r d) = ∑ k : Fin 1024, x (ix2 r k) * b (ix2 k d) := by
  pointwise [k0_pay1, k0_pay5, k0_pay4]

theorem pay2_apply (x : FVec Ideal S512x1024 .f32) (b : FVec Ideal S1024x512 .bf16) (r d : Fin 512) :
    k0_pay2 (F := Ideal) (k0_pay5 x) b (ix2 r d) = ∑ k : Fin 1024, x (ix2 r k) * b (ix2 k d) := by
  pointwise [k0_pay2, k0_pay5, k0_pay4]

theorem out3 (x : FVec Ideal S512x1024 .f32) (w : FVec Ideal S1024x3584 .bf16) (g : FVec Ideal S1024x256 .bf16) (r d : Fin 512) :
    out0_3 (F := Ideal) x w g (ix2 r d)
      = ∑ k : Fin 1024, x (ix2 r k) * w (ix2 k ⟨0 + d.val, by omega⟩) := by
  unfold out0_3
  rw [View.canon_cons_unit_lit _ _ _ (by decide), ldx]
  exact (pay6_apply x _ r d).trans
    (Finset.sum_congr rfl fun k _ => congrArg (x (ix2 r k) * ·) (Cert.Proj.ldw w 0 _ k d _))

theorem out6 (x : FVec Ideal S512x1024 .f32) (w : FVec Ideal S1024x3584 .bf16) (g : FVec Ideal S1024x256 .bf16) (r d : Fin 512) :
    out0_6 (F := Ideal) x w g (ix2 r d)
      = ∑ k : Fin 1024, x (ix2 r k) * w (ix2 k ⟨1536 + d.val, by omega⟩) := by
  unfold out0_6
  rw [View.canon_cons_unit_lit _ _ _ (by decide), ldx]
  exact (pay9_apply x _ r d).trans
    (Finset.sum_congr rfl fun k _ => congrArg (x (ix2 r k) * ·) (Cert.Proj.ldw w 1536 _ k d _))

theorem out7 (x : FVec Ideal S512x1024 .f32) (w : FVec Ideal S1024x3584 .bf16) (g : FVec Ideal S1024x256 .bf16) (r d : Fin 512) :
    out0_7 (F := Ideal) x w g (ix2 r d)
      = (∑ k : Fin 1024, x (ix2 r k) * w (ix2 k ⟨2048 + d.val, by omega⟩)) * Scalar.ofBits (F := Ideal) .f32 0x3DB504F3#32 := by
  unfold out0_7
  rw [View.canon_cons_unit_lit _ _ _ (by decide), ldx]
  exact (pay10_apply x _ r d).trans
    (congrArg (· * _) (Finset.sum_congr rfl fun k _ => congrArg (x (ix2 r k) * ·) (Cert.Proj.ldw w 2048 _ k d _)))

theorem out8 (x : FVec Ideal S512x1024 .f32) (w : FVec Ideal S1024x3584 .bf16) (g : FVec Ideal S1024x256 .bf16) (r d : Fin 512) :
    out0_8 (F := Ideal) x w g (ix2 r d)
      = ∑ k : Fin 1024, x (ix2 r k) * w (ix2 k ⟨2560 + d.val, by omega⟩) := by
  unfold out0_8 k0_pay11
  rw [View.canon_cons_unit_lit _ _ _ (by decide), ldx]
  exact (pay1_apply x _ r d).trans
    (Finset.sum_congr rfl fun k _ => congrArg (x (ix2 r k) * ·) (Cert.Proj.ldw w 2560 _ k d _))

theorem out9 (x : FVec Ideal S512x1024 .f32) (w : FVec Ideal S1024x3584 .bf16) (g : FVec Ideal S1024x256 .bf16) (r d : Fin 512) :
    out0_9 (F := Ideal) x w g (ix2 r d)
      = ∑ k : Fin 1024, x (ix2 r k) * w (ix2 k ⟨3072 + d.val, by omega⟩) := by
  unfold out0_9 k0_pay11
  rw [View.canon_cons_unit_lit _ _ _ (by decide), ldx]
  exact (pay2_apply x _ r d).trans
    (Finset.sum_congr rfl fun k _ => congrArg (x (ix2 r k) * ·) (Cert.Proj.ldw w 3072 _ k d _))

variable (m : (ℓ : Loc nD τ sig) → Buf (Elt Ideal) ℓ) (c : Dev nD)

theorem idxOut3 (t : Fin cfg0.N) : win0_3.index t = ![t.val, 0] ∧ win0_3.flush t = true :=
  (by decide +kernel : ∀ t : Fin grid0.N, win0_3.index t = ![t.val, 0] ∧ win0_3.flush t = true) t

theorem apart3 (t t' : Fin cfg0.N) (_ : (cfg0.win 3).flush t = true) (_ : (cfg0.win 3).flush t' = true) (n : t ≠ t') :
    Disjoint ((cfg0.win 3).blk t).view.set ((cfg0.win 3).blk t').view.set :=
  (cfg0.win 3).disjoint_blk fun h => n (by
    have h' : win0_3.index t = win0_3.index t' := h
    rw [(idxOut3 t).1, (idxOut3 t').1] at h'
    exact Fin.ext (congrFun h' 0))

theorem point3 (t : Fin cfg0.N) (r d : Fin 512) :
    (out0_3 (F := Ideal) (iblk m c 0 t) (iblk m c 1 t) (iblk m c 2 t) : Vec Ideal S512x512 .f32) (ix2 r d)
      = along (padded (sx m c)) (sw m c) (row t r) ⟨0 + d.val, by omega⟩ :=
  (out3 _ _ _ r d).trans (Cert.Proj.sum_of (fun k => blkx m c t r k)
    (fun k => (blkw m c t k _).trans (Cert.Proj.mainCols_q (sw m c) k d)))

/-- The queries of the attention. -/
theorem arr3 (t : Fin cfg0.N) (r d : Fin 512) :
    ((dats m 0 c).arrAt 3 cfg0.N : Vec Ideal S1024x512 .f32) (ix2 (row t r) d)
      = along (padded (sx m c)) (sw m c) (row t r) ⟨0 + d.val, by omega⟩ := by
  obtain ⟨h, hf⟩ := idxOut3 t
  have e := congrFun ((dats m 0 c).read_blk_arrAt_eq_flushed 3 apart3 cfg0.N t t.isLt hf) (ix2 r d)
  have f : (dats m 0 c).flushed 3 t (ix2 r d)
      = along (padded (sx m c)) (sw m c) (row t r) ⟨0 + d.val, by omega⟩ := by
    rw [← point3]
    show (cfg0.win 3).cut (grid0.coords t) ((dats m 0 c).after 3 t) (ix2 r d) = _
    rw [after0_3]
    rfl
  refine Eq.trans (congrArg ((dats m 0 c).arrAt 3 cfg0.N) ?_) (e.trans f)
  have b0 : (((cfg0.win 3).blk t).view.emb (ix2 r d) 0).val = win0_3.index t (0 : Fin 2) * 512 + 1 * r.val := rfl
  have b1 : (((cfg0.win 3).blk t).view.emb (ix2 r d) 1).val = win0_3.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

theorem idxOut6 (t : Fin cfg0.N) : win0_6.index t = ![t.val, 0] ∧ win0_6.flush t = true :=
  (by decide +kernel : ∀ t : Fin grid0.N, win0_6.index t = ![t.val, 0] ∧ win0_6.flush t = true) t

theorem apart6 (t t' : Fin cfg0.N) (_ : (cfg0.win 6).flush t = true) (_ : (cfg0.win 6).flush t' = true) (n : t ≠ t') :
    Disjoint ((cfg0.win 6).blk t).view.set ((cfg0.win 6).blk t').view.set :=
  (cfg0.win 6).disjoint_blk fun h => n (by
    have h' : win0_6.index t = win0_6.index t' := h
    rw [(idxOut6 t).1, (idxOut6 t').1] at h'
    exact Fin.ext (congrFun h' 0))

theorem point6 (t : Fin cfg0.N) (r d : Fin 512) :
    (out0_6 (F := Ideal) (iblk m c 0 t) (iblk m c 1 t) (iblk m c 2 t) : Vec Ideal S512x512 .f32) (ix2 r d)
      = along (padded (sx m c)) (sw m c) (row t r) ⟨768 + d.val, by omega⟩ :=
  (out6 _ _ _ r d).trans (Cert.Proj.sum_of (fun k => blkx m c t r k)
    (fun k => (blkw m c t k _).trans (Cert.Proj.mainCols_from (sw m c) k (1536 + d.val) (768 + d.val) _ _ (by omega) (by omega))))

/-- The queries of the memory. -/
theorem arr6 (t : Fin cfg0.N) (r d : Fin 512) :
    ((dats m 0 c).arrAt 6 cfg0.N : Vec Ideal S1024x512 .f32) (ix2 (row t r) d)
      = along (padded (sx m c)) (sw m c) (row t r) ⟨768 + d.val, by omega⟩ := by
  obtain ⟨h, hf⟩ := idxOut6 t
  have e := congrFun ((dats m 0 c).read_blk_arrAt_eq_flushed 6 apart6 cfg0.N t t.isLt hf) (ix2 r d)
  have f : (dats m 0 c).flushed 6 t (ix2 r d)
      = along (padded (sx m c)) (sw m c) (row t r) ⟨768 + d.val, by omega⟩ := by
    rw [← point6]
    show (cfg0.win 6).cut (grid0.coords t) ((dats m 0 c).after 6 t) (ix2 r d) = _
    rw [after0_6]
    rfl
  refine Eq.trans (congrArg ((dats m 0 c).arrAt 6 cfg0.N) ?_) (e.trans f)
  have b0 : (((cfg0.win 6).blk t).view.emb (ix2 r d) 0).val = win0_6.index t (0 : Fin 2) * 512 + 1 * r.val := rfl
  have b1 : (((cfg0.win 6).blk t).view.emb (ix2 r d) 1).val = win0_6.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

theorem idxOut7 (t : Fin cfg0.N) : win0_7.index t = ![t.val, 0] ∧ win0_7.flush t = true :=
  (by decide +kernel : ∀ t : Fin grid0.N, win0_7.index t = ![t.val, 0] ∧ win0_7.flush t = true) t

theorem apart7 (t t' : Fin cfg0.N) (_ : (cfg0.win 7).flush t = true) (_ : (cfg0.win 7).flush t' = true) (n : t ≠ t') :
    Disjoint ((cfg0.win 7).blk t).view.set ((cfg0.win 7).blk t').view.set :=
  (cfg0.win 7).disjoint_blk fun h => n (by
    have h' : win0_7.index t = win0_7.index t' := h
    rw [(idxOut7 t).1, (idxOut7 t').1] at h'
    exact Fin.ext (congrFun h' 0))

theorem point7 (t : Fin cfg0.N) (r d : Fin 512) :
    (out0_7 (F := Ideal) (iblk m c 0 t) (iblk m c 1 t) (iblk m c 2 t) : Vec Ideal S512x512 .f32) (ix2 r d)
      = along (padded (sx m c)) (sw m c) (row t r) ⟨1280 + d.val, by omega⟩ * Scalar.ofBits (F := Ideal) .f32 0x3DB504F3#32 :=
  (out7 _ _ _ r d).trans (congrArg (· * _) (Cert.Proj.sum_of (fun k => blkx m c t r k)
    (fun k => (blkw m c t k _).trans (Cert.Proj.mainCols_from (sw m c) k (2048 + d.val) (1280 + d.val) _ _ (by omega) (by omega)))))

/-- The scaled keys of the memory. -/
theorem arr7 (t : Fin cfg0.N) (r d : Fin 512) :
    ((dats m 0 c).arrAt 7 cfg0.N : Vec Ideal S1024x512 .f32) (ix2 (row t r) d)
      = along (padded (sx m c)) (sw m c) (row t r) ⟨1280 + d.val, by omega⟩ * Scalar.ofBits (F := Ideal) .f32 0x3DB504F3#32 := by
  obtain ⟨h, hf⟩ := idxOut7 t
  have e := congrFun ((dats m 0 c).read_blk_arrAt_eq_flushed 7 apart7 cfg0.N t t.isLt hf) (ix2 r d)
  have f : (dats m 0 c).flushed 7 t (ix2 r d)
      = along (padded (sx m c)) (sw m c) (row t r) ⟨1280 + d.val, by omega⟩ * Scalar.ofBits (F := Ideal) .f32 0x3DB504F3#32 := by
    rw [← point7]
    show (cfg0.win 7).cut (grid0.coords t) ((dats m 0 c).after 7 t) (ix2 r d) = _
    rw [after0_7]
    rfl
  refine Eq.trans (congrArg ((dats m 0 c).arrAt 7 cfg0.N) ?_) (e.trans f)
  have b0 : (((cfg0.win 7).blk t).view.emb (ix2 r d) 0).val = win0_7.index t (0 : Fin 2) * 512 + 1 * r.val := rfl
  have b1 : (((cfg0.win 7).blk t).view.emb (ix2 r d) 1).val = win0_7.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

theorem idxOut8 (t : Fin cfg0.N) : win0_8.index t = ![t.val, 0] ∧ win0_8.flush t = true :=
  (by decide +kernel : ∀ t : Fin grid0.N, win0_8.index t = ![t.val, 0] ∧ win0_8.flush t = true) t

theorem apart8 (t t' : Fin cfg0.N) (_ : (cfg0.win 8).flush t = true) (_ : (cfg0.win 8).flush t' = true) (n : t ≠ t') :
    Disjoint ((cfg0.win 8).blk t).view.set ((cfg0.win 8).blk t').view.set :=
  (cfg0.win 8).disjoint_blk fun h => n (by
    have h' : win0_8.index t = win0_8.index t' := h
    rw [(idxOut8 t).1, (idxOut8 t').1] at h'
    exact Fin.ext (congrFun h' 0))

theorem point8 (t : Fin cfg0.N) (r d : Fin 512) :
    (out0_8 (F := Ideal) (iblk m c 0 t) (iblk m c 1 t) (iblk m c 2 t) : Vec Ideal S512x512 .f32) (ix2 r d)
      = along (padded (sx m c)) (sw m c) (row t r) ⟨1792 + d.val, by omega⟩ :=
  (out8 _ _ _ r d).trans (Cert.Proj.sum_of (fun k => blkx m c t r k)
    (fun k => (blkw m c t k _).trans (Cert.Proj.mainCols_from (sw m c) k (2560 + d.val) (1792 + d.val) _ _ (by omega) (by omega))))

/-- The values of the memory. -/
theorem arr8 (t : Fin cfg0.N) (r d : Fin 512) :
    ((dats m 0 c).arrAt 8 cfg0.N : Vec Ideal S1024x512 .f32) (ix2 (row t r) d)
      = along (padded (sx m c)) (sw m c) (row t r) ⟨1792 + d.val, by omega⟩ := by
  obtain ⟨h, hf⟩ := idxOut8 t
  have e := congrFun ((dats m 0 c).read_blk_arrAt_eq_flushed 8 apart8 cfg0.N t t.isLt hf) (ix2 r d)
  have f : (dats m 0 c).flushed 8 t (ix2 r d)
      = along (padded (sx m c)) (sw m c) (row t r) ⟨1792 + d.val, by omega⟩ := by
    rw [← point8]
    show (cfg0.win 8).cut (grid0.coords t) ((dats m 0 c).after 8 t) (ix2 r d) = _
    rw [after0_8]
    rfl
  refine Eq.trans (congrArg ((dats m 0 c).arrAt 8 cfg0.N) ?_) (e.trans f)
  have b0 : (((cfg0.win 8).blk t).view.emb (ix2 r d) 0).val = win0_8.index t (0 : Fin 2) * 512 + 1 * r.val := rfl
  have b1 : (((cfg0.win 8).blk t).view.emb (ix2 r d) 1).val = win0_8.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

theorem idxOut9 (t : Fin cfg0.N) : win0_9.index t = ![t.val, 0] ∧ win0_9.flush t = true :=
  (by decide +kernel : ∀ t : Fin grid0.N, win0_9.index t = ![t.val, 0] ∧ win0_9.flush t = true) t

theorem apart9 (t t' : Fin cfg0.N) (_ : (cfg0.win 9).flush t = true) (_ : (cfg0.win 9).flush t' = true) (n : t ≠ t') :
    Disjoint ((cfg0.win 9).blk t).view.set ((cfg0.win 9).blk t').view.set :=
  (cfg0.win 9).disjoint_blk fun h => n (by
    have h' : win0_9.index t = win0_9.index t' := h
    rw [(idxOut9 t).1, (idxOut9 t').1] at h'
    exact Fin.ext (congrFun h' 0))

theorem point9 (t : Fin cfg0.N) (r d : Fin 512) :
    (out0_9 (F := Ideal) (iblk m c 0 t) (iblk m c 1 t) (iblk m c 2 t) : Vec Ideal S512x512 .f32) (ix2 r d)
      = along (padded (sx m c)) (sw m c) (row t r) ⟨2304 + d.val, by omega⟩ :=
  (out9 _ _ _ r d).trans (Cert.Proj.sum_of (fun k => blkx m c t r k)
    (fun k => (blkw m c t k _).trans (Cert.Proj.mainCols_from (sw m c) k (3072 + d.val) (2304 + d.val) _ _ (by omega) (by omega))))

/-- The output gates of the memory. -/
theorem arr9 (t : Fin cfg0.N) (r d : Fin 512) :
    ((dats m 0 c).arrAt 9 cfg0.N : Vec Ideal S1024x512 .f32) (ix2 (row t r) d)
      = along (padded (sx m c)) (sw m c) (row t r) ⟨2304 + d.val, by omega⟩ := by
  obtain ⟨h, hf⟩ := idxOut9 t
  have e := congrFun ((dats m 0 c).read_blk_arrAt_eq_flushed 9 apart9 cfg0.N t t.isLt hf) (ix2 r d)
  have f : (dats m 0 c).flushed 9 t (ix2 r d)
      = along (padded (sx m c)) (sw m c) (row t r) ⟨2304 + d.val, by omega⟩ := by
    rw [← point9]
    show (cfg0.win 9).cut (grid0.coords t) ((dats m 0 c).after 9 t) (ix2 r d) = _
    rw [after0_9]
    rfl
  refine Eq.trans (congrArg ((dats m 0 c).arrAt 9 cfg0.N) ?_) (e.trans f)
  have b0 : (((cfg0.win 9).blk t).view.emb (ix2 r d) 0).val = win0_9.index t (0 : Fin 2) * 512 + 1 * r.val := rfl
  have b1 : (((cfg0.win 9).blk t).view.emb (ix2 r d) 1).val = win0_9.index t (1 : Fin 2) * 512 + 1 * d.val := rfl
  rw [h] at b0 b1
  funext a
  apply Fin.ext
  match a with
  | 0 => refine Eq.trans ?_ b0.symm; show 512 * t.val + r.val = t.val * 512 + 1 * r.val; omega
  | 1 => refine Eq.trans ?_ b1.symm; show d.val = 0 * 512 + 1 * d.val; omega

end Cert.Sample
-- ==== Proof.Sample.Both.lean ====
/-
  The fourth call's two windows and the reference's are the same arrays: behind the same cached rows stand the same new ones.
  The five arrays of 512 columns are the same too: where no sample is, both hold zeros.
-/
module

public import proofs.«01_k».proof.Proof.Gen.Reference4Ideal.Run
public import proofs.«01_k».proof.Proof.Sample.KTail
public import proofs.«01_k».proof.Proof.Sample.KRest

@[expose] public section

noncomputable section

namespace Cert.Sample

open Idealize.ShloMosaic Idealize.ShloMosaic.TcCoe Cert.Reference4Ideal Cert.Reference4Ideal.Gen

/-- The reference's new keys or values: of the one product the columns from `o` on, by heads. -/
def plain (o : ℕ) (h : S128x4x2824.Slices ![0, 0, o] S128x4x128) (x : FVec Ideal S128x4x1024 .f32) (w : FVec Ideal S1024x2824 .f32) :
    FVec Ideal S128x4x2x64 .f32 :=
  shapeCast S128x4x2x64 (extractStridedSlice S128x4x128 ![0, 0, o]
    (Host.dotGeneral dot_S128x4x1024_S1024x2824_S128x4x2824_2_0_01_1_n_n none x w : FVec Ideal S128x4x2824 .f32) h
    : FVec Ideal S128x4x128 .f32) shapeCasts_S128x4x128_S128x4x2x64

theorem product (x : FVec Ideal S128x4x1024 .f32) (w : FVec Ideal S1024x2824 .f32) (s : Fin 128) (i : Fin 4) (j : Fin 2824) :
    (Host.dotGeneral dot_S128x4x1024_S1024x2824_S128x4x2824_2_0_01_1_n_n none x w : FVec Ideal S128x4x2824 .f32) (ix3 s i j)
      = ∑ k : Fin 1024, x (ix3 s i k) * w (ix2 k j) := by
  pointwise

theorem heads (o : ℕ) (ho : o + 128 ≤ 2824) (h : S128x4x2824.Slices ![0, 0, o] S128x4x128) (y : FVec Ideal S128x4x2824 .f32)
    (s : Fin 128) (i : Fin 4) (a : Fin 2) (d : Fin 64) :
    (shapeCast S128x4x2x64 (extractStridedSlice S128x4x128 ![0, 0, o] y h : FVec Ideal S128x4x128 .f32)
      shapeCasts_S128x4x128_S128x4x2x64 : FVec Ideal S128x4x2x64 .f32) (ix4 s i a d)
      = y (ix3 s i ⟨o + (64 * a.val + d.val), by omega⟩) := by
  obtain ⟨s, hs⟩ := s
  obtain ⟨i, hi⟩ := i
  obtain ⟨a, ha⟩ := a
  obtain ⟨d, hd⟩ := d
  pointwise
  exact congrArg (fun j => y (ix3 ⟨s, hs⟩ ⟨i, hi⟩ j)) (Fin.ext (by dsimp only; omega))

theorem plain_apply (o : ℕ) (ho : o + 128 ≤ 2824) (h : S128x4x2824.Slices ![0, 0, o] S128x4x128) (x : FVec Ideal S128x4x1024 .f32)
    (w : FVec Ideal S1024x2824 .f32) (s : Fin 128) (i : Fin 4) (a : Fin 2) (d : Fin 64) :
    plain o h x w (ix4 s i a d) = ∑ k : Fin 1024, x (ix3 s i k) * w (ix2 k ⟨o + (64 * a.val + d.val), by omega⟩) :=
  (heads o ho h _ s i a d).trans (product x w s i _)

/-- Four rows for each sample, followed by four rows of zeros. -/
def eight (y : FVec Ideal S128x4x512 .f32) : FVec Ideal S1024x512 .f32 :=
  shapeCast S1024x512 (pad S128x8x512 ![0, 0, 0] ![0, 4, 0] ![0, 0, 0] y (sitofp .f32 (constantI S_ 32 0#32))
    pads_S128x4x512_S128x8x512_000_040_000 h_S_ : FVec Ideal S128x8x512 .f32) shapeCasts_S128x8x512_S1024x512

theorem zero_bits : (FloatOps.sitofp (F := Ideal) FTy.f32 (0#32) : EReal) = 0 := by
  show (((0#32 : BitVec 32).toInt : ℝ) : EReal) = 0
  simp

theorem eight_sample (y : FVec Ideal S128x4x512 .f32) (s : Fin 128) (i : Fin 4) (d : Fin 512) :
    eight y (ix2 ⟨8 * s.val + i.val, by omega⟩ d) = y (ix3 s i d) := by
  obtain ⟨s, hs⟩ := s
  obtain ⟨i, hi⟩ := i
  obtain ⟨d, hd⟩ := d
  pointwise [eight]
  rw [dif_pos ⟨by omega, by omega, hd⟩]
  exact congrArg₂ (fun a b => y (ix3 a b ⟨d, hd⟩)) (Fin.ext (by dsimp only; omega)) (Fin.ext (by dsimp only; omega))

theorem eight_none (y : FVec Ideal S128x4x512 .f32) (s : Fin 128) (i : Fin 4) (d : Fin 512) :
    eight y (ix2 ⟨8 * s.val + (4 + i.val), by omega⟩ d) = 0 := by
  obtain ⟨s, hs⟩ := s
  obtain ⟨i, hi⟩ := i
  obtain ⟨d, hd⟩ := d
  pointwise [eight]
  rw [dif_neg (by rintro ⟨-, h, -⟩; omega)]
  exact zero_bits

theorem padded_none (x : FVec Ideal S128x4x1024 .f32) (s : Fin 128) (i : Fin 4) (k : Fin 1024) :
    padded x (ix2 ⟨8 * s.val + (4 + i.val), by omega⟩ k) = 0 := by
  obtain ⟨s, hs⟩ := s
  obtain ⟨i, hi⟩ := i
  obtain ⟨k, hk⟩ := k
  pointwise [padded]
  rw [dif_neg (by rintro ⟨-, h, -⟩; omega)]
  exact zero_bits

theorem along_none (x : FVec Ideal S128x4x1024 .f32) (w : FVec Ideal S1024x2824 .f32) (s : Fin 128) (i : Fin 4) (j : Fin 2824) :
    along (padded x) w ⟨8 * s.val + (4 + i.val), by omega⟩ j = 0 :=
  Finset.sum_eq_zero fun k _ => (congrArg (· * w (ix2 k j)) (padded_none x s i k)).trans (zero_mul _)

/-- An array whose rows are the padded sample's against columns of the weights is the reference's, padded: where no sample is,
    the products are zero. -/
theorem eight_eq (x : FVec Ideal S128x4x1024 .f32) (w : FVec Ideal S1024x2824 .f32) (y : FVec Ideal S128x4x512 .f32)
    (A : FVec Ideal S1024x512 .f32) (o : ℕ) (ho : o + 512 ≤ 2824) (f : EReal → EReal) (f0 : f 0 = 0)
    (hy : ∀ s i (d : Fin 512), y (ix3 s i d) = f (∑ k : Fin 1024, x (ix3 s i k) * w (ix2 k ⟨o + d.val, by omega⟩)))
    (hA : ∀ t r (d : Fin 512), A (ix2 (row t r) d) = f (along (padded x) w (row t r) ⟨o + d.val, by omega⟩)) : eight y = A := by
  have hr : ∀ q (d : Fin 512), A (ix2 q d) = f (along (padded x) w q ⟨o + d.val, by omega⟩) := fun q d => by
    obtain ⟨t, r, rfl⟩ := row_of q
    exact hA t r d
  have lo : ∀ (s : Fin 128) (i : Fin 4), 8 * s.val + i.val < 1024 := fun s i => by omega
  have hi : ∀ (s : Fin 128) (i : Fin 4), 8 * s.val + (4 + i.val) < 1024 := fun s i => by omega
  funext j
  obtain ⟨q, d, rfl⟩ : ∃ (q : Fin 1024) (d : Fin 512), j = ix2 q d := ⟨j 0, j 1, by funext b; match b with | 0 => rfl | 1 => rfl⟩
  rw [hr]
  rcases lt_or_ge (q.val % 8) 4 with h | h
  · obtain ⟨s, i, rfl⟩ : ∃ (s : Fin 128) (i : Fin 4), q = ⟨8 * s.val + i.val, lo s i⟩ :=
      ⟨⟨q.val / 8, by omega⟩, ⟨q.val % 8, h⟩, Fin.ext (by dsimp only; omega)⟩
    rw [eight_sample, hy, along_sample]
  · obtain ⟨s, i, rfl⟩ : ∃ (s : Fin 128) (i : Fin 4), q = ⟨8 * s.val + (4 + i.val), hi s i⟩ :=
      ⟨⟨q.val / 8, by omega⟩, ⟨q.val % 8 - 4, by omega⟩, Fin.ext (by dsimp only; omega)⟩
    rw [eight_none, along_none, f0]

theorem cols (o : ℕ) (ho : o + 512 ≤ 2824) (h : S128x4x2824.Slices ![0, 0, o] S128x4x512) (y : FVec Ideal S128x4x2824 .f32)
    (s : Fin 128) (i : Fin 4) (d : Fin 512) :
    (extractStridedSlice S128x4x512 ![0, 0, o] y h : FVec Ideal S128x4x512 .f32) (ix3 s i d) = y (ix3 s i ⟨o + d.val, by omega⟩) := by
  pointwise

theorem scaled (y : FVec Ideal S128x4x512 .f32) (s : Fin 128) (i : Fin 4) (d : Fin 512) :
    (mulf y (broadcastInDim S128x4x512 ![] bcast_S_S128x4x512 (constant (F := Ideal) S_ .f32 0x3DB504F3#32)) : FVec Ideal S128x4x512 .f32)
      (ix3 s i d) = y (ix3 s i d) * Scalar.ofBits (F := Ideal) .f32 0x3DB504F3#32 := by
  pointwise

/-- The reference's columns from `o` on. -/
abbrev part (o : ℕ) (h : S128x4x2824.Slices ![0, 0, o] S128x4x512) (x : FVec Ideal S128x4x1024 .f32) (w : FVec Ideal S1024x2824 .f32) :
    FVec Ideal S128x4x512 .f32 :=
  extractStridedSlice S128x4x512 ![0, 0, o]
    (Host.dotGeneral dot_S128x4x1024_S1024x2824_S128x4x2824_2_0_01_1_n_n none x w : FVec Ideal S128x4x2824 .f32) h

theorem part_apply (o : ℕ) (ho : o + 512 ≤ 2824) (h : S128x4x2824.Slices ![0, 0, o] S128x4x512) (x : FVec Ideal S128x4x1024 .f32)
    (w : FVec Ideal S1024x2824 .f32) (s : Fin 128) (i : Fin 4) (d : Fin 512) :
    part o h x w (ix3 s i d) = ∑ k : Fin 1024, x (ix3 s i k) * w (ix2 k ⟨o + d.val, by omega⟩) :=
  (cols o ho h _ s i d).trans (product x w s i _)

variable (m : (ℓ : Loc Cert.Kernel4Ideal.nD Cert.Kernel4Ideal.τ Cert.Kernel4Ideal.sig) → Buf (Elt Ideal) ℓ)
  (c : Dev Cert.Kernel4Ideal.nD)

theorem same_k : plain 512 slices_S128x4x2824_S128x4x128_0_0_512 (sx m c) (sw m c)
    = fresh ((Cert.Kernel4Ideal.Gen.dats m 0 c).arrAt 4 Cert.Kernel4Ideal.cfg0.N) := by
  funext j
  obtain ⟨s, i, a, d, rfl⟩ : ∃ (s : Fin 128) (i : Fin 4) (a : Fin 2) (d : Fin 64), j = ix4 s i a d :=
    ⟨j 0, j 1, j 2, j 3, by funext b; match b with | 0 => rfl | 1 => rfl | 2 => rfl | 3 => rfl⟩
  exact (plain_apply 512 (by omega) _ _ _ s i a d).trans ((fresh_apply _ s i a d).trans (keys m c s i a d)).symm

theorem same_v : plain 640 slices_S128x4x2824_S128x4x128_0_0_640 (sx m c) (sw m c)
    = fresh ((Cert.Kernel4Ideal.Gen.dats m 0 c).arrAt 5 Cert.Kernel4Ideal.cfg0.N) := by
  funext j
  obtain ⟨s, i, a, d, rfl⟩ : ∃ (s : Fin 128) (i : Fin 4) (a : Fin 2) (d : Fin 64), j = ix4 s i a d :=
    ⟨j 0, j 1, j 2, j 3, by funext b; match b with | 0 => rfl | 1 => rfl | 2 => rfl | 3 => rfl⟩
  exact (plain_apply 640 (by omega) _ _ _ s i a d).trans ((fresh_apply _ s i a d).trans (values m c s i a d)).symm

theorem same_3 : eight (part 0 slices_S128x4x2824_S128x4x512_0_0_0 (sx m c) (sw m c))
    = (Cert.Kernel4Ideal.Gen.dats m 0 c).arrAt 3 Cert.Kernel4Ideal.cfg0.N :=
  eight_eq (sx m c) (sw m c) _ _ 0 (by omega) id rfl (part_apply 0 (by omega) _ _ _) (arr3 m c)

theorem same_6 : eight (part 768 slices_S128x4x2824_S128x4x512_0_0_768 (sx m c) (sw m c))
    = (Cert.Kernel4Ideal.Gen.dats m 0 c).arrAt 6 Cert.Kernel4Ideal.cfg0.N :=
  eight_eq (sx m c) (sw m c) _ _ 768 (by omega) id rfl (part_apply 768 (by omega) _ _ _) (arr6 m c)

theorem same_7 : eight (mulf (part 1280 slices_S128x4x2824_S128x4x512_0_0_1280 (sx m c) (sw m c))
      (broadcastInDim S128x4x512 ![] bcast_S_S128x4x512 (constant (F := Ideal) S_ .f32 0x3DB504F3#32)))
    = (Cert.Kernel4Ideal.Gen.dats m 0 c).arrAt 7 Cert.Kernel4Ideal.cfg0.N :=
  eight_eq (sx m c) (sw m c) _ _ 1280 (by omega) (· * Scalar.ofBits (F := Ideal) .f32 0x3DB504F3#32) (zero_mul _)
    (fun s i d => (scaled _ s i d).trans (congrArg (· * _) (part_apply 1280 (by omega) _ _ _ s i d))) (arr7 m c)

theorem same_8 : eight (part 1792 slices_S128x4x2824_S128x4x512_0_0_1792 (sx m c) (sw m c))
    = (Cert.Kernel4Ideal.Gen.dats m 0 c).arrAt 8 Cert.Kernel4Ideal.cfg0.N :=
  eight_eq (sx m c) (sw m c) _ _ 1792 (by omega) id rfl (part_apply 1792 (by omega) _ _ _) (arr8 m c)

theorem same_9 : eight (part 2304 slices_S128x4x2824_S128x4x512_0_0_2304 (sx m c) (sw m c))
    = (Cert.Kernel4Ideal.Gen.dats m 0 c).arrAt 9 Cert.Kernel4Ideal.cfg0.N :=
  eight_eq (sx m c) (sw m c) _ _ 2304 (by omega) id rfl (part_apply 2304 (by omega) _ _ _) (arr9 m c)

end Cert.Sample
-- ==== Proof.Rows.Spec.lean ====
/-
  The state that four positions leave: of one sequence and one head, from the logs of the forget gates, the input gates, the
  keys and values of four positions and from the state before them. Both the kernel's grid point and the reference are shown
  to compute these.
-/
module

public import proofs.«01_k».proof.Proof.Mlstm.Spec

@[expose] public section

noncomputable section

namespace Cert.Rows

open Idealize.ShloMosaic

/-- What four positions of a head bring: input gates, logs of the forget gates, keys and values. -/
structure Four where
  ig : Fin 4 → EReal
  lf : Fin 4 → EReal
  k : Fin 4 → Fin 128 → EReal
  v : Fin 4 → Fin 128 → EReal

namespace Four

variable (x : Four)

/-- The log of the product of the forget gates up to and including position `t`. -/
def b (t : Fin 4) : EReal := ∑ u : Fin 4, if u ≤ t then x.lf u else 0

/-- The new running maximum. -/
def max' (m : EReal) : EReal :=
  max (x.b 3 + m) (Finset.univ.sup fun s : Fin 4 => x.b 3 - x.b s + x.ig s)

/-- The factor by which the state before decays. -/
def wc (m : EReal) : EReal := Ideal.exp (x.b 3 + m - x.max' m)

/-- The weight with which position `s` enters the new state. -/
def ws (m : EReal) (s : Fin 4) : EReal := Ideal.exp (x.b 3 - x.b s + x.ig s - x.max' m)

/-- The new matrix memory at value coordinate `d` and key coordinate `e`. -/
def newC (m C : EReal) (d e : Fin 128) : EReal :=
  x.wc m * C + ∑ s : Fin 4, x.v s d * x.ws m s * x.k s e

/-- The new normaliser at key coordinate `e`. -/
def newN (m n : EReal) (e : Fin 128) : EReal :=
  x.wc m * n + ∑ s : Fin 4, x.ws m s * x.k s e

end Four

/-- The four positions of sequence `q` and head `h`: the first four of the eight rows that the sequence has in the keys,
    values and gates. -/
def four (k v : Fin 1024 → Fin 512 → EReal) (g : Fin 1024 → Fin 128 → EReal) (b : Fin 8 → EReal) (q : Fin 128) (h : Fin 4) :
    Four where
  ig t := g ⟨8 * q.val + t.val, by omega⟩ ⟨h.val, by omega⟩ + b ⟨h.val, by omega⟩
  lf t := Cert.Mlstm.logsig (g ⟨8 * q.val + t.val, by omega⟩ ⟨4 + h.val, by omega⟩ + b ⟨4 + h.val, by omega⟩)
  k t e := k ⟨8 * q.val + t.val, by omega⟩ ⟨128 * h.val + e.val, by omega⟩
  v t e := v ⟨8 * q.val + t.val, by omega⟩ ⟨128 * h.val + e.val, by omega⟩

/-- A sum of numbers that are zero from the fifth on. -/
theorem sum_four {n : Nat} (hn : 4 ≤ n) (f : Fin n → EReal) (h : ∀ s : Fin n, 4 ≤ s.val → f s = 0) :
    ∑ s, f s = ∑ s : Fin 4, f ⟨s.val, by omega⟩ := by
  symm
  refine Finset.sum_of_injOn (fun s : Fin 4 => (⟨s.val, by omega⟩ : Fin n)) ?_ (fun _ _ => Finset.mem_coe.mpr (Finset.mem_univ _)) ?_ (fun _ _ => rfl)
  · intro a _ b _ e
    exact Fin.ext (Fin.mk.inj e)
  · intro s _ hs
    refine h s (Nat.le_of_not_lt fun hl => hs ?_)
    exact ⟨⟨s.val, hl⟩, Finset.mem_coe.mpr (Finset.mem_univ _), rfl⟩

/-- A maximum of numbers that are `-∞` from the fifth on. -/
theorem sup_four {n : Nat} (hn : 4 ≤ n) (f : Fin n → EReal) (h : ∀ s : Fin n, 4 ≤ s.val → f s = ⊥) :
    Finset.univ.sup f = Finset.univ.sup fun s : Fin 4 => f ⟨s.val, by omega⟩ := by
  refine le_antisymm (Finset.sup_le fun s _ => ?_) (Finset.sup_le fun s _ => Finset.le_sup (f := f) (Finset.mem_univ _))
  by_cases hs : s.val < 4
  · exact Finset.le_sup (f := fun s : Fin 4 => f ⟨s.val, by omega⟩) (Finset.mem_univ ⟨s.val, hs⟩)
  · rw [h s (by omega)]; exact bot_le

theorem bot_sub (a : EReal) : ⊥ - a = ⊥ := by rw [sub_eq_add_neg, EReal.bot_add]

theorem exp_bot : Ideal.exp ⊥ = 0 := rfl

theorem ninf_eq : Cert.Mlstm.ninf = ⊥ := by
  unfold Cert.Mlstm.ninf Ideal.ofBits Ideal.ieee
  simp

/-- A fold of maxima from `-∞` is the maximum. -/
theorem fold_max {n : Nat} (f : Fin n → EReal) : Finset.univ.fold max Cert.Mlstm.ninf f = Finset.univ.sup f := by
  rw [ninf_eq]; rfl

end Cert.Rows
-- ==== Proof.Rows.Pay.lean ====
/-
  What the body of the fifth call computes from the rows of sixteen sequences and from their states, entry by entry. Head
  `h` of sequence `s` stands at place `16 h + s` of the stack.
-/
module

public import proofs.«01_k».proof.Proof.Gen.Kernel5Ideal.Skeleton
public import proofs.«01_k».proof.Proof.Mlstm.PayIn
public import proofs.«01_k».proof.Proof.Rows.Spec

@[expose] public section

noncomputable section

namespace Cert.Rows

open Idealize.ShloMosaic Cert.Kernel5Ideal Cert.Kernel5Ideal.Gen

/-- The place of head `h` of sequence `s`. -/
abbrev at' (h : Fin 4) (s : Fin 16) : Fin 64 := ⟨16 * h.val + s.val, by omega⟩

/-- The keys of a head. -/
theorem pay15_apply (k : Vec Ideal S128x512 .f32) (h : Fin 4) (s : Fin 16) (t : Fin 8) (e : Fin 128) :
    k0_pay15 (F := Ideal) k (ix3 (at' h s) t e) = k (ix2 ⟨8 * s.val + t.val, by omega⟩ ⟨128 * h.val + e.val, by omega⟩) := by
  match h with
  | 0 => pointwise [k0_pay15]; exact congrArg (fun i => k (ix2 i _)) (Fin.ext (by dsimp only; omega))
  | 1 => pointwise [k0_pay15]; exact congrArg (fun i => k (ix2 i _)) (Fin.ext (by dsimp only; omega))
  | 2 =>
    pointwise [k0_pay15]
    rw [dif_neg (by omega), dif_neg (by omega), dif_pos (by omega)]
    exact congrArg (fun i => k (ix2 i _)) (Fin.ext (by dsimp only; omega))
  | 3 =>
    pointwise [k0_pay15]
    rw [dif_neg (by omega), dif_neg (by omega), dif_neg (by omega)]
    exact congrArg (fun i => k (ix2 i _)) (Fin.ext (by dsimp only; omega))

/-- The values of a head. -/
theorem pay16_apply (k : Vec Ideal S128x512 .f32) (h : Fin 4) (s : Fin 16) (t : Fin 8) (e : Fin 128) :
    k0_pay16 (F := Ideal) k (ix3 (at' h s) t e) = k (ix2 ⟨8 * s.val + t.val, by omega⟩ ⟨128 * h.val + e.val, by omega⟩) := by
  match h with
  | 0 => pointwise [k0_pay16]; exact congrArg (fun i => k (ix2 i _)) (Fin.ext (by dsimp only; omega))
  | 1 => pointwise [k0_pay16]; exact congrArg (fun i => k (ix2 i _)) (Fin.ext (by dsimp only; omega))
  | 2 =>
    pointwise [k0_pay16]
    rw [dif_neg (by omega), dif_neg (by omega), dif_pos (by omega)]
    exact congrArg (fun i => k (ix2 i _)) (Fin.ext (by dsimp only; omega))
  | 3 =>
    pointwise [k0_pay16]
    rw [dif_neg (by omega), dif_neg (by omega), dif_neg (by omega)]
    exact congrArg (fun i => k (ix2 i _)) (Fin.ext (by dsimp only; omega))

/-- The gates with their bias. -/
theorem pay6_apply (g : Vec Ideal S128x128 .f32) (b : Vec Ideal S1x128 .f32) (s : Fin 16) (t : Fin 8) (l : Fin 128) :
    k0_pay6 (F := Ideal) g b (ix3 s t l) = g (ix2 ⟨8 * s.val + t.val, by omega⟩ l) + b (ix2 0 l) := by
  pointwise [k0_pay6]
  exact congrArg (fun i => g (ix2 i l) + b (ix2 0 l)) (Fin.ext (by dsimp only; omega))

/-- The constant that the mask is made of. -/
theorem mask_eq : (Named.named (F := Ideal) Cert.Kernel5Ideal.κ "mask" (φ := .f32) 0xF149F2CA#32 : EReal) = ⊥ :=
  IdealRules.named_const.ideal_named_scalar _ _ _ _ rfl

/-- The gates of the first four rows, and `-∞` in the others. -/
theorem pay7_apply (g : Vec Ideal S128x128 .f32) (b : Vec Ideal S1x128 .f32) (s : Fin 16) (t : Fin 8) (l : Fin 128) :
    k0_pay7 (F := Ideal) g b (ix3 s t l)
      = if t.val < 4 then g (ix2 ⟨8 * s.val + t.val, by omega⟩ l) + b (ix2 0 l) else ⊥ := by
  rw [← pay6_apply, ← mask_eq]
  unfold k0_pay7
  generalize k0_pay6 (F := Ideal) g b = y
  pointwise
  rw [WordCmp.cmpi_slt_ofNat (by omega) (by omega), WordCmp.select_decide]

/-- The input gates, head by head. -/
theorem pay11_apply (g : FVec Ideal S16x8x128 .f32) (h : Fin 4) (s : Fin 16) (t : Fin 8) (z : Fin 1) :
    k0_pay11 g (ix3 (at' h s) t z) = g (ix3 s t ⟨h.val, by omega⟩) := by
  match h with
  | 0 => pointwise [k0_pay11]
  | 1 => pointwise [k0_pay11]
  | 2 =>
    pointwise [k0_pay11]
    rw [dif_neg (by omega), dif_neg (by omega), dif_pos (by omega)]
    exact congrArg (fun s => g (ix3 s t 2)) (Fin.ext (by dsimp only; omega))
  | 3 =>
    pointwise [k0_pay11]
    rw [dif_neg (by omega), dif_neg (by omega), dif_neg (by omega)]
    exact congrArg (fun s => g (ix3 s t 3)) (Fin.ext (by dsimp only; omega))

/-- The matrix memories, head by head. -/
theorem pay21_apply (c0 c1 c2 c3 : Vec Ideal S16x1x128x128 .f32) (C : Fin 4 → Fin 16 → Fin 128 → Fin 128 → EReal)
    (h0 : ∀ s d e, c0 (ix4 s 0 d e) = C 0 s d e) (h1 : ∀ s d e, c1 (ix4 s 0 d e) = C 1 s d e)
    (h2 : ∀ s d e, c2 (ix4 s 0 d e) = C 2 s d e) (h3 : ∀ s d e, c3 (ix4 s 0 d e) = C 3 s d e)
    (h : Fin 4) (s : Fin 16) (d e : Fin 128) : k0_pay21 c0 c1 c2 c3 (ix3 (at' h s) d e) = C h s d e := by
  match h with
  | 0 => rw [← h0]; pointwise [k0_pay21]
  | 1 => rw [← h1]; pointwise [k0_pay21]
  | 2 =>
    rw [← h2]; pointwise [k0_pay21]
    rw [dif_neg (by omega), dif_neg (by omega), dif_pos (by omega)]
    exact congrArg (fun s => c2 (ix4 s 0 d e)) (Fin.ext (by dsimp only; omega))
  | 3 =>
    rw [← h3]; pointwise [k0_pay21]
    rw [dif_neg (by omega), dif_neg (by omega), dif_neg (by omega)]
    exact congrArg (fun s => c3 (ix4 s 0 d e)) (Fin.ext (by dsimp only; omega))

/-- The normalisers, head by head. -/
theorem pay22_apply (c0 c1 c2 c3 : Vec Ideal S16x1x1x128 .f32) (n : Fin 4 → Fin 16 → Fin 128 → EReal)
    (h0 : ∀ s e, c0 (ix4 s 0 0 e) = n 0 s e) (h1 : ∀ s e, c1 (ix4 s 0 0 e) = n 1 s e)
    (h2 : ∀ s e, c2 (ix4 s 0 0 e) = n 2 s e) (h3 : ∀ s e, c3 (ix4 s 0 0 e) = n 3 s e)
    (h : Fin 4) (s : Fin 16) (z : Fin 1) (e : Fin 128) : k0_pay22 c0 c1 c2 c3 (ix3 (at' h s) z e) = n h s e := by
  match h with
  | 0 => rw [← h0]; pointwise [k0_pay22]
  | 1 => rw [← h1]; pointwise [k0_pay22]
  | 2 =>
    rw [← h2]; pointwise [k0_pay22]
    rw [dif_neg (by omega), dif_neg (by omega), dif_pos (by omega)]
    exact congrArg (fun s => c2 (ix4 s 0 0 e)) (Fin.ext (by dsimp only; omega))
  | 3 =>
    rw [← h3]; pointwise [k0_pay22]
    rw [dif_neg (by omega), dif_neg (by omega), dif_neg (by omega)]
    exact congrArg (fun s => c3 (ix4 s 0 0 e)) (Fin.ext (by dsimp only; omega))

/-- The logs of the weights of the state before. -/
theorem pay23_apply (b : FVec Ideal S64x8x1 .f32) (c0 c1 c2 c3 : Vec Ideal S16x1x1x128 .f32) (n : Fin 4 → Fin 16 → EReal)
    (h0 : ∀ s e, c0 (ix4 s 0 0 e) = n 0 s) (h1 : ∀ s e, c1 (ix4 s 0 0 e) = n 1 s)
    (h2 : ∀ s e, c2 (ix4 s 0 0 e) = n 2 s) (h3 : ∀ s e, c3 (ix4 s 0 0 e) = n 3 s)
    (h : Fin 4) (s : Fin 16) (t : Fin 8) (z : Fin 1) :
    k0_pay23 b c0 c1 c2 c3 (ix3 (at' h s) t z) = b (ix3 (at' h s) t 0) + n h s := by
  obtain rfl : z = 0 := Subsingleton.elim _ _
  match h with
  | 0 => rw [← h0 s 0]; pointwise [k0_pay23]
  | 1 => rw [← h1 s 0]; pointwise [k0_pay23]
  | 2 =>
    rw [← h2 s 0]; pointwise [k0_pay23]
    rw [dif_neg (by omega), dif_neg (by omega), dif_pos (by omega)]
    exact congrArg (fun s' => b (ix3 (at' 2 s) t 0) + c2 (ix4 s' 0 0 0)) (Fin.ext (by dsimp only; omega))
  | 3 =>
    rw [← h3 s 0]; pointwise [k0_pay23]
    rw [dif_neg (by omega), dif_neg (by omega), dif_neg (by omega)]
    exact congrArg (fun s' => b (ix3 (at' 3 s) t 0) + c3 (ix4 s' 0 0 0)) (Fin.ext (by dsimp only; omega))

/-- A sum over a column of the identity's mask is one entry, or zero past the eighth column. -/
theorem sum_eye (f : Fin 8 → EReal) (s : Fin 128) :
    (∑ x : Fin 8, Scalar.select (IntOp.cmpi CmpIPredicate.eq (BitVec.ofNat 32 x.val) (BitVec.ofNat 32 s.val)) (f x) 0)
      = if h : s.val < 8 then f ⟨s.val, h⟩ else 0 := by
  have e : ∀ x : Fin 8, Scalar.select (IntOp.cmpi CmpIPredicate.eq (BitVec.ofNat 32 x.val) (BitVec.ofNat 32 s.val)) (f x) 0
      = if x.val = s.val then f x else 0 := fun x => by
    rw [WordCmp.cmpi_eq_ofNat (by omega) (by omega), WordCmp.select_decide]
  simp only [e]
  split
  next h =>
    rw [Finset.sum_eq_single ⟨s.val, h⟩]
    · rw [if_pos rfl]
    · intro x _ hx
      exact if_neg fun k => hx (Fin.ext k)
    · simp
  next h => exact Finset.sum_eq_zero fun x _ => if_neg (by omega)

/-- The logs of the weights with which the rows enter the last one. -/
theorem pay20_apply (b ig : FVec Ideal S64x8x1 .f32) (i : Fin 64) (s : Fin 128) :
    k0_pay20 b ig k0_pay12 k0_pay13 (ix3 i 7 s)
      = if h : s.val < 8 then b (ix3 i 7 0) - b (ix3 i ⟨s.val, h⟩ 0) + ig (ix3 i ⟨s.val, h⟩ 0) else Cert.Mlstm.ninf := by
  pointwise [k0_pay20, k0_pay12, k0_pay13]
  rw [sum_eye (fun s => b (ix3 i s 0)), sum_eye (fun s => ig (ix3 i s 0))]
  have e : ∀ p q : EReal, Scalar.select (IntOp.cmpi CmpIPredicate.sle (BitVec.ofNat 32 s.val) 7#32) p q = if s.val < 8 then p else q := by
    intro p q
    rw [show (7#32 : BitVec 32) = BitVec.ofNat 32 7 from rfl, WordCmp.cmpi_sle_ofNat (by omega) (by omega), WordCmp.select_decide]
    exact if_congr (by omega) rfl rfl
  refine (e _ _).trans ?_
  split
  next h => rfl
  next h => rfl

/-- The running maximum of the last row. -/
theorem pay24_apply (b : FVec Ideal S64x8x1 .f32) (ld : FVec Ideal S64x8x128 .f32) (c0 c1 c2 c3 : Vec Ideal S16x1x1x128 .f32)
    (i : Fin 64) (t : Fin 8) (z : Fin 1) :
    k0_pay24 b ld c0 c1 c2 c3 (ix3 i t z)
      = max (k0_pay23 b c0 c1 c2 c3 (ix3 i t z)) (Finset.univ.fold max Cert.Mlstm.ninf fun s => ld (ix3 i t s)) := by
  unfold k0_pay24
  generalize k0_pay23 b c0 c1 c2 c3 = y
  pointwise
  rfl

theorem pay34_apply (m : FVec Ideal S64x8x1 .f32) (i : Fin 64) (z z' : Fin 1) : k0_pay34 m (ix3 i z z') = m (ix3 i 7 0) := by
  pointwise [k0_pay34]

/-- The factor by which the state before decays. -/
theorem pay35_apply (i' m : FVec Ideal S64x8x1 .f32) (i : Fin 64) (z z' : Fin 1) :
    k0_pay35 i' m (ix3 i z z') = Ideal.exp (i' (ix3 i 7 0) - m (ix3 i 7 0)) := by
  obtain rfl : z = 0 := Subsingleton.elim _ _
  obtain rfl : z' = 0 := Subsingleton.elim _ _
  rw [← pay34_apply m i 0 0]
  unfold k0_pay35
  generalize k0_pay34 m = y
  pointwise

/-- The weights of the rows. -/
theorem pay36_apply (b ig : FVec Ideal S64x8x1 .f32) (m : FVec Ideal S64x1x1 .f32) (i : Fin 64) (s : Fin 8) (z : Fin 1) :
    k0_pay36 b ig m (ix3 i s z) = Ideal.exp (b (ix3 i 7 0) - b (ix3 i s 0) + ig (ix3 i s 0) - m (ix3 i 0 0)) := by
  obtain rfl : z = 0 := Subsingleton.elim _ _
  pointwise [k0_pay36]

/-- The keys, padded with zeros to 128 rows. -/
theorem pay18_apply (k : Vec Ideal S128x512 .f32) (i : Fin 64) (s e : Fin 128) :
    k0_pay18 (F := Ideal) k (ix3 i s e) = if h : s.val < 8 then k0_pay15 (F := Ideal) k (ix3 i ⟨s.val, h⟩ e) else 0 := by
  unfold k0_pay18
  generalize k0_pay15 (F := Ideal) k = y
  pointwise

/-- The new matrix memories. -/
theorem pay37_apply (b ig : FVec Ideal S64x8x1 .f32) (v : FVec Ideal S64x8x128 .f32) (kb : FVec Ideal S64x128x128 .bf16)
    (C : FVec Ideal S64x128x128 .f32) (m wc : FVec Ideal S64x1x1 .f32) (i : Fin 64) (d e : Fin 128) :
    k0_pay37 b ig v kb C m wc (ix3 i d e)
      = wc (ix3 i 0 0) * C (ix3 i d e) + ∑ s : Fin 128,
          (if h : s.val < 8 then v (ix3 i ⟨s.val, h⟩ d) * k0_pay36 b ig m (ix3 i ⟨s.val, h⟩ 0) else 0) * kb (ix3 i s e) := by
  unfold k0_pay37
  generalize k0_pay36 b ig m = y
  pointwise

/-- The new normalisers. -/
theorem pay38_apply (b ig : FVec Ideal S64x8x1 .f32) (k : FVec Ideal S64x8x128 .f32) (n : FVec Ideal S64x1x128 .f32)
    (m wc : FVec Ideal S64x1x1 .f32) (i : Fin 64) (z : Fin 1) (e : Fin 128) :
    k0_pay38 b ig k n m wc (ix3 i z e)
      = wc (ix3 i 0 0) * n (ix3 i 0 e) + ∑ s : Fin 8, k0_pay36 b ig m (ix3 i s 0) * k (ix3 i s e) := by
  obtain rfl : z = 0 := Subsingleton.elim _ _
  unfold k0_pay38
  generalize k0_pay36 b ig m = y
  pointwise

/-- The new running maxima, spread over the lanes. -/
theorem pay39_apply (m : FVec Ideal S64x1x1 .f32) (i : Fin 64) (z : Fin 1) (e : Fin 128) :
    k0_pay39 m (ix3 i z e) = m (ix3 i 0 0) := by
  pointwise [k0_pay39]

end Cert.Rows
-- ==== Proof.Rows.PaySum.lean ====
/-
  The running sums of the logs of the forget gates in the fifth call: three steps, each of which adds what stands one, two or
  four rows back. The rows past the fourth are zeros there.
-/
module

public import proofs.«01_k».proof.Proof.Rows.Pay

@[expose] public section

noncomputable section

namespace Cert.Rows

open Idealize.ShloMosaic Cert.Kernel5Ideal Cert.Kernel5Ideal.Gen
open Cert.Mlstm (logsig)

/-- The sum of `f` over the `w` rows up to and including `t` (fewer at the start). -/
def rowSum (w : Nat) (f : Fin 8 → EReal) (t : Fin 8) : EReal :=
  ∑ u : Fin 8, if u.val ≤ t.val ∧ t.val < u.val + w then f u else 0

theorem rowSum_one (f : Fin 8 → EReal) (t : Fin 8) : rowSum 1 f t = f t := by
  unfold rowSum
  rw [Finset.sum_eq_single t]
  · simp
  · intro u _ hu
    rw [if_neg]
    rintro ⟨h1, h2⟩
    exact hu (Fin.ext (by omega))
  · simp

/-- Two neighbouring windows of the same length make one of twice the length. -/
theorem rowSum_double (w : Nat) (hw : w ≤ 8) (f : Fin 8 → EReal) (t : Fin 8) :
    rowSum w f t + (if w ≤ t.val then rowSum w f ⟨(t.val + 8 - w) % 8, Nat.mod_lt _ (by decide)⟩ else 0)
      = rowSum (w + w) f t := by
  have ht := t.isLt
  by_cases hwt : w ≤ t.val
  · rw [if_pos hwt]
    have e : (t.val + 8 - w) % 8 = t.val - w := by omega
    unfold rowSum
    rw [← Finset.sum_add_distrib]
    refine Finset.sum_congr rfl fun u _ => ?_
    simp only [e]
    by_cases h1 : u.val ≤ t.val ∧ t.val < u.val + w
    · rw [if_pos h1, if_neg (by omega), if_pos (by omega), add_zero]
    · by_cases h2 : u.val ≤ t.val - w ∧ t.val - w < u.val + w
      · rw [if_neg h1, if_pos h2, if_pos (by omega), zero_add]
      · rw [if_neg h1, if_neg h2, if_neg (by omega), add_zero]
  · rw [if_neg hwt, add_zero]
    unfold rowSum
    refine Finset.sum_congr rfl fun u _ => ?_
    exact if_congr (by omega) rfl rfl

/-- One step of the running sums: what is `n` rows back is added where there is such a row. -/
def rowAdd (n : BitVec 32) (x : FVec Ideal S16x8x128 .f32) : FVec Ideal S16x8x128 .f32 :=
  addf x (select (cmpi .sge (iota .tc S16x8x128 32 [1] iota_S16x8x128_d1_w32) (broadcast S16x8x128 n))
    (dynamicRotate 1 n none x rotates_S16x8x128_d1) (broadcast S16x8x128 (Scalar.ofBits .f32 0x00000000#32)))

/-- It turns the sums over `w` rows into those over `w + w`. -/
theorem rowAdd_apply (x : FVec Ideal S16x8x128 .f32) (n : BitVec 32) (w : Nat) (hn : n.toNat = w) (hw : w < 8)
    (f : Fin 16 → Fin 8 → Fin 128 → EReal)
    (hx : ∀ z t l, x (ix3 z t l) = rowSum w (fun u => f z u l) t) (z : Fin 16) (t : Fin 8) (l : Fin 128) :
    rowAdd n x (ix3 z t l) = rowSum (w + w) (fun u => f z u l) t := by
  rw [← rowSum_double w hw.le]
  obtain rfl : n = BitVec.ofNat 32 w := by
    apply BitVec.eq_of_toNat_eq
    rw [hn, BitVec.toNat_ofNat, Nat.mod_eq_of_lt (by omega)]
  have ht := t.isLt
  pointwise [rowAdd]
  rw [WordCmp.cmpi_sge_ofNat (by omega) (by omega), WordCmp.select_decide, hx, hx]
  simp only [hn, Nat.mod_eq_of_lt hw]

/-- The logs of the forget gates of the first four rows, and zeros in the others. -/
def logs (g : Vec Ideal S128x128 .f32) (b : Vec Ideal S1x128 .f32) : FVec Ideal S16x8x128 .f32 :=
  select (cmpi .slt (iota .tc S16x8x128 32 [1] iota_S16x8x128_d1_w32) (broadcast S16x8x128 4#32))
    (subf (minimumf (k0_pay6 g b) (broadcast S16x8x128 (Scalar.ofBits .f32 0x00000000#32)))
      (log1p (exp (subf (broadcast S16x8x128 (Scalar.ofBits .f32 0x00000000#32)) (absf (k0_pay6 g b))))))
    (broadcast S16x8x128 (Scalar.ofBits .f32 0x00000000#32))

/-- The log of the forget gate at row `t` of sequence `s`. -/
def lfRow (g : Vec Ideal S128x128 .f32) (b : Vec Ideal S1x128 .f32) (s : Fin 16) (t : Fin 8) (l : Fin 128) : EReal :=
  if t.val < 4 then logsig (g (ix2 ⟨8 * s.val + t.val, by omega⟩ l) + b (ix2 0 l)) else 0

theorem logs_apply (g : Vec Ideal S128x128 .f32) (b : Vec Ideal S1x128 .f32) (s : Fin 16) (t : Fin 8) (l : Fin 128) :
    logs g b (ix3 s t l) = lfRow g b s t l := by
  unfold lfRow logs
  rw [← pay6_apply]
  generalize k0_pay6 (F := Ideal) g b = y
  have e : ∀ p q : EReal, Scalar.select (IntOp.cmpi CmpIPredicate.slt (BitVec.ofNat 32 t.val) 4#32) p q = if t.val < 4 then p else q := by
    intro p q
    rw [show (4#32 : BitVec 32) = BitVec.ofNat 32 4 from rfl, WordCmp.cmpi_slt_ofNat (by omega) (by omega), WordCmp.select_decide]
  pointwise [logsig]
  exact e _ _

/-- Columns 4 to 7, one below the other. -/
def cols (x : FVec Ideal S16x8x128 .f32) : FVec Ideal S64x8x1 .f32 :=
  concatenate S64x8x1 0
    [⟨S16x8x1, extractStridedSlice S16x8x1 ![0, 0, 4] x slices_S16x8x128_o0_0_4_S16x8x1⟩,
      ⟨S16x8x1, extractStridedSlice S16x8x1 ![0, 0, 5] x slices_S16x8x128_o0_0_5_S16x8x1⟩,
      ⟨S16x8x1, extractStridedSlice S16x8x1 ![0, 0, 6] x slices_S16x8x128_o0_0_6_S16x8x1⟩,
      ⟨S16x8x1, extractStridedSlice S16x8x1 ![0, 0, 7] x slices_S16x8x128_o0_0_7_S16x8x1⟩]
    concatenates_S16x8x1_S16x8x1_S16x8x1_S16x8x1_S64x8x1_d0

theorem cols_apply (g : FVec Ideal S16x8x128 .f32) (h : Fin 4) (s : Fin 16) (t : Fin 8) (z : Fin 1) :
    cols g (ix3 (at' h s) t z) = g (ix3 s t ⟨4 + h.val, by omega⟩) := by
  match h with
  | 0 => pointwise [cols]
  | 1 => pointwise [cols]
  | 2 =>
    pointwise [cols]
    rw [dif_neg (by omega), dif_neg (by omega), dif_pos (by omega)]
    exact congrArg (fun s => g (ix3 s t 6)) (Fin.ext (by dsimp only; omega))
  | 3 =>
    pointwise [cols]
    rw [dif_neg (by omega), dif_neg (by omega), dif_neg (by omega)]
    exact congrArg (fun s => g (ix3 s t 7)) (Fin.ext (by dsimp only; omega))

theorem pay10_eq (g : Vec Ideal S128x128 .f32) (b : Vec Ideal S1x128 .f32) :
    k0_pay10 (iota .tc S16x8x128 32 [1] iota_S16x8x128_d1_w32) (k0_pay8 (F := Ideal) g b) (k0_pay9 g b)
      = cols (rowAdd 4#32 (rowAdd 2#32 (rowAdd 1#32 (logs g b)))) := rfl

/-- The running sums of the logs of the forget gates, head by head. -/
theorem pay10_apply (g : Vec Ideal S128x128 .f32) (b : Vec Ideal S1x128 .f32) (h : Fin 4) (s : Fin 16) (t : Fin 8) (z : Fin 1) :
    k0_pay10 (iota .tc S16x8x128 32 [1] iota_S16x8x128_d1_w32) (k0_pay8 (F := Ideal) g b) (k0_pay9 g b) (ix3 (at' h s) t z)
      = rowSum 8 (fun u => lfRow g b s u ⟨4 + h.val, by omega⟩) t := by
  rw [pay10_eq, cols_apply]
  exact rowAdd_apply _ 4#32 4 rfl (by decide) (lfRow g b) (rowAdd_apply _ 2#32 2 rfl (by decide) _
    (rowAdd_apply (logs g b) 1#32 1 rfl (by decide) _
      (fun z t l => (logs_apply g b z t l).trans (rowSum_one (fun u => lfRow g b z u l) t).symm))) s t _

end Cert.Rows
-- ==== Proof.Rows.KOut.lean ====
/-
  The body of the fifth call as a function of its blocks: the matrix memories, normalisers and maxima that a grid point
  leaves in its windows of the three outputs.
-/
module

public import proofs.«01_k».proof.Proof.Gen.Kernel5Ideal.Frame
public import proofs.«01_k».proof.Proof.Rows.PaySum
public import proofs.«01_k».proof.Proof.Mlstm.KPoint

@[expose] public section

noncomputable section

namespace Cert.Rows

open Idealize.ShloMosaic Cert.Kernel5Ideal Cert.Kernel5Ideal.Gen
open Cert.Mlstm (off2 off4 readCov_whole canon_drop5 canon_hit canon_miss ld_apply)

/-- Head 0's matrix memories in a block of sixteen sequences. -/
abbrev ldC0 (s : Vec Ideal S16x4x128x128 .f32) : Vec Ideal S16x1x128x128 .f32 :=
  View.ld s (Rect.unit ![0, 0, 0, 0] ![16, 1, 128, 128] inb_S16x4x128x128_S16x1x128x128_0_0_0_0)
/-- Head 1's matrix memories in a block of sixteen sequences. -/
abbrev ldC1 (s : Vec Ideal S16x4x128x128 .f32) : Vec Ideal S16x1x128x128 .f32 :=
  View.ld s (Rect.unit ![0, 1, 0, 0] ![16, 1, 128, 128] inb_S16x4x128x128_S16x1x128x128_0_1_0_0)
/-- Head 2's matrix memories in a block of sixteen sequences. -/
abbrev ldC2 (s : Vec Ideal S16x4x128x128 .f32) : Vec Ideal S16x1x128x128 .f32 :=
  View.ld s (Rect.unit ![0, 2, 0, 0] ![16, 1, 128, 128] inb_S16x4x128x128_S16x1x128x128_0_2_0_0)
/-- Head 3's matrix memories in a block of sixteen sequences. -/
abbrev ldC3 (s : Vec Ideal S16x4x128x128 .f32) : Vec Ideal S16x1x128x128 .f32 :=
  View.ld s (Rect.unit ![0, 3, 0, 0] ![16, 1, 128, 128] inb_S16x4x128x128_S16x1x128x128_0_3_0_0)
/-- Head 0's rows in a block of sixteen sequences. -/
abbrev ldR0 (s : Vec Ideal S16x4x1x128 .f32) : Vec Ideal S16x1x1x128 .f32 :=
  View.ld s (Rect.unit ![0, 0, 0, 0] ![16, 1, 1, 128] inb_S16x4x1x128_S16x1x1x128_0_0_0_0)
/-- Head 1's rows in a block of sixteen sequences. -/
abbrev ldR1 (s : Vec Ideal S16x4x1x128 .f32) : Vec Ideal S16x1x1x128 .f32 :=
  View.ld s (Rect.unit ![0, 1, 0, 0] ![16, 1, 1, 128] inb_S16x4x1x128_S16x1x1x128_0_1_0_0)
/-- Head 2's rows in a block of sixteen sequences. -/
abbrev ldR2 (s : Vec Ideal S16x4x1x128 .f32) : Vec Ideal S16x1x1x128 .f32 :=
  View.ld s (Rect.unit ![0, 2, 0, 0] ![16, 1, 1, 128] inb_S16x4x1x128_S16x1x1x128_0_2_0_0)
/-- Head 3's rows in a block of sixteen sequences. -/
abbrev ldR3 (s : Vec Ideal S16x4x1x128 .f32) : Vec Ideal S16x1x1x128 .f32 :=
  View.ld s (Rect.unit ![0, 3, 0, 0] ![16, 1, 1, 128] inb_S16x4x1x128_S16x1x1x128_0_3_0_0)

section

variable (x1 x2 : Vec Ideal S128x512 .f32) (x4 : Vec Ideal S128x128 .f32) (x5 : Vec Ideal S1x128 .f32)
  (x7 : Vec Ideal S16x4x128x128 .f32) (x8 x9 : Vec Ideal S16x4x1x128 .f32)

/-- The running sums of the logs of the forget gates. -/
def bK : FVec Ideal S64x8x1 .f32 :=
  k0_pay10 (iota .tc S16x8x128 32 [1] iota_S16x8x128_d1_w32) (k0_pay8 (F := Ideal) x4 x5) (k0_pay9 x4 x5)

/-- The input gates. -/
def igK : FVec Ideal S64x8x1 .f32 := k0_pay11 (k0_pay7 (F := Ideal) x4 x5)

/-- The logs of the weights among the rows. -/
def ldK : FVec Ideal S64x8x128 .f32 := k0_pay20 (bK x4 x5) (igK x4 x5) k0_pay12 k0_pay13

/-- The matrix memories and normalisers before. -/
def CK : FVec Ideal S64x128x128 .f32 := k0_pay21 (ldC0 x7) (ldC1 x7) (ldC2 x7) (ldC3 x7)
def nK : FVec Ideal S64x1x128 .f32 := k0_pay22 (ldR0 x8) (ldR1 x8) (ldR2 x8) (ldR3 x8)

/-- The logs of the weights of the state before. -/
def iK : FVec Ideal S64x8x1 .f32 := k0_pay23 (bK x4 x5) (ldR0 x9) (ldR1 x9) (ldR2 x9) (ldR3 x9)

/-- The running maxima. -/
def mK : FVec Ideal S64x8x1 .f32 := k0_pay24 (bK x4 x5) (ldK x4 x5) (ldR0 x9) (ldR1 x9) (ldR2 x9) (ldR3 x9)

/-- The new maxima and the decay. -/
def tK : FVec Ideal S64x1x1 .f32 := k0_pay34 (mK x4 x5 x9)
def wK : FVec Ideal S64x1x1 .f32 := k0_pay35 (iK x4 x5 x9) (mK x4 x5 x9)

/-- The new matrix memories, normalisers and maxima. -/
def cK : FVec Ideal S64x128x128 .f32 :=
  k0_pay37 (bK x4 x5) (igK x4 x5) (k0_pay16 x2) (k0_pay18 x1) (CK x7) (tK x4 x5 x9) (wK x4 x5 x9)
def rK : FVec Ideal S64x1x128 .f32 :=
  k0_pay38 (bK x4 x5) (igK x4 x5) (k0_pay15 x1) (nK x8) (tK x4 x5 x9) (wK x4 x5 x9)
def oK : FVec Ideal S64x1x128 .f32 := k0_pay39 (tK x4 x5 x9)

/-- What a grid point leaves in the matrix memories, -/
def newC : Vec Ideal S16x4x128x128 .f32 :=
  View.canon (Val := Elt Ideal) (e := .f32)
    [⟨Rect.unit (s := S16x4x128x128) ![0, 3, 0, 0] ![16, 1, 128, 128] inb_S16x4x128x128_S16x1x128x128_0_3_0_0,
        k0_pay50 (cK x1 x2 x4 x5 x7 x9)⟩,
      ⟨Rect.unit (s := S16x4x128x128) ![0, 2, 0, 0] ![16, 1, 128, 128] inb_S16x4x128x128_S16x1x128x128_0_2_0_0,
        k0_pay47 (cK x1 x2 x4 x5 x7 x9)⟩,
      ⟨Rect.unit (s := S16x4x128x128) ![0, 1, 0, 0] ![16, 1, 128, 128] inb_S16x4x128x128_S16x1x128x128_0_1_0_0,
        k0_pay44 (k0_pay43 (bK x4 x5) (igK x4 x5) (k0_pay16 x2) (k0_pay18 x1) (CK x7) (tK x4 x5 x9) (wK x4 x5 x9))⟩,
      ⟨Rect.unit (s := S16x4x128x128) ![0, 0, 0, 0] ![16, 1, 128, 128] inb_S16x4x128x128_S16x1x128x128_0_0_0_0,
        k0_pay40 (bK x4 x5) (igK x4 x5) (k0_pay16 x2) (k0_pay18 x1) (CK x7) (tK x4 x5 x9) (wK x4 x5 x9)⟩]

/-- in the normalisers -/
def newN : Vec Ideal S16x4x1x128 .f32 :=
  View.canon (Val := Elt Ideal) (e := .f32)
    [⟨Rect.unit (s := S16x4x1x128) ![0, 3, 0, 0] ![16, 1, 1, 128] inb_S16x4x1x128_S16x1x1x128_0_3_0_0,
        k0_pay1 (k0_pay51 (rK x1 x4 x5 x8 x9))⟩,
      ⟨Rect.unit (s := S16x4x1x128) ![0, 2, 0, 0] ![16, 1, 1, 128] inb_S16x4x1x128_S16x1x1x128_0_2_0_0,
        k0_pay48 (rK x1 x4 x5 x8 x9)⟩,
      ⟨Rect.unit (s := S16x4x1x128) ![0, 1, 0, 0] ![16, 1, 1, 128] inb_S16x4x1x128_S16x1x1x128_0_1_0_0,
        k0_pay45 (rK x1 x4 x5 x8 x9)⟩,
      ⟨Rect.unit (s := S16x4x1x128) ![0, 0, 0, 0] ![16, 1, 1, 128] inb_S16x4x1x128_S16x1x1x128_0_0_0_0,
        k0_pay41 (bK x4 x5) (igK x4 x5) (k0_pay15 x1) (nK x8) (tK x4 x5 x9) (wK x4 x5 x9)⟩]

/-- and in the maxima. -/
def newM : Vec Ideal S16x4x1x128 .f32 :=
  View.canon (Val := Elt Ideal) (e := .f32)
    [⟨Rect.unit (s := S16x4x1x128) ![0, 3, 0, 0] ![16, 1, 1, 128] inb_S16x4x1x128_S16x1x1x128_0_3_0_0,
        k0_pay2 (oK x4 x5 x9)⟩,
      ⟨Rect.unit (s := S16x4x1x128) ![0, 2, 0, 0] ![16, 1, 1, 128] inb_S16x4x1x128_S16x1x1x128_0_2_0_0,
        k0_pay49 (oK x4 x5 x9)⟩,
      ⟨Rect.unit (s := S16x4x1x128) ![0, 1, 0, 0] ![16, 1, 1, 128] inb_S16x4x1x128_S16x1x1x128_0_1_0_0,
        k0_pay46 (oK x4 x5 x9)⟩,
      ⟨Rect.unit (s := S16x4x1x128) ![0, 0, 0, 0] ![16, 1, 1, 128] inb_S16x4x1x128_S16x1x1x128_0_0_0_0,
        k0_pay42 (tK x4 x5 x9)⟩]

end

theorem pay3_eq (x : Vec Ideal S16x4x128x128 .f32) : k0_pay3 (F := Ideal) x = x := by
  simp only [k0_pay3, shapeCast_self]
theorem pay4_eq (x : Vec Ideal S16x4x1x128 .f32) : k0_pay4 (F := Ideal) x = x := by
  simp only [k0_pay4, shapeCast_self]
theorem pay5_eq (x : Vec Ideal S16x4x1x128 .f32) : k0_pay5 (F := Ideal) x = x := by
  simp only [k0_pay5, shapeCast_self]

section

variable
  (c : Dev nD) (i : grid0.Coords)
  (arg2 : Memref sig .tc .vmem S128x512 .f32) (harg2 : arg2.IsWhole)
  (arg3 : Memref sig .tc .vmem S128x512 .f32) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S1x512 .f32) (harg8 : arg8.IsWhole)
  (arg9 : Memref sig .tc .vmem S16x4x128x128 .f32) (harg9 : arg9.IsWhole)
  (arg10 : Memref sig .tc .vmem S16x4x1x128 .f32) (harg10 : arg10.IsWhole)
  (arg11 : Memref sig .tc .vmem S16x4x1x128 .f32) (harg11 : arg11.IsWhole)
  (arg12 : Memref sig .tc .vmem S128x512 .f32) (harg12 : arg12.IsWhole)
  (arg13 : Memref sig .tc .vmem S16x4x128x128 .f32) (harg13 : arg13.IsWhole)
  (arg14 : Memref sig .tc .vmem S16x4x1x128 .f32) (harg14 : arg14.IsWhole)
  (arg15 : Memref sig .tc .vmem S16x4x1x128 .f32) (harg15 : arg15.IsWhole)
  (arg16 : Memref sig .tc .vmem S16x4x128x128 .f32) (harg16 : arg16.IsWhole)
  (arg17 : Memref sig .tc .vmem S16x4x1x128 .f32) (harg17 : arg17.IsWhole)
  (arg18 : Memref sig .tc .vmem S16x4x1x128 .f32) (harg18 : arg18.IsWhole)
  (hc0 : cond0_0 i) (hc1 : cond0_1 i)
  (x0 : Vec Ideal S128x512 .f32)
  (x1 : Vec Ideal S128x512 .f32)
  (x2 : Vec Ideal S128x512 .f32)
  (x3 : Vec Ideal S128x512 .f32)
  (x4 : Vec Ideal S128x128 .f32)
  (x5 : Vec Ideal S1x128 .f32)
  (x6 : Vec Ideal S1x512 .f32)
  (x7 : Vec Ideal S16x4x128x128 .f32)
  (x8 : Vec Ideal S16x4x1x128 .f32)
  (x9 : Vec Ideal S16x4x1x128 .f32)

/-- What a grid point leaves in the matrix memories. -/
theorem out11_eq :
    out0_A_11 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9
      = newC x1 x2 x4 x5 x7 x9 := by
  unfold out0_A_11
  rw [View.read_writes_eq_canon _ _ _ (cover0_A_11
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9)]
  unfold kernelRun0_A
  dsimp only
  sl_unfold_words
  rw [View.canon_unit_zero (S := S16x4x128x128) off4]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x512) off2, View.ld_unit_zero (S := S128x128) off2, View.ld_unit_zero (S := S1x128) off2,
    View.ld_unit_zero (S := S16x4x128x128) off4, View.ld_unit_zero (S := S16x4x1x128) off4, readCov_whole (S := S16x4x128x128) _ off4, readCov_whole (S := S16x4x1x128) _ off4, pay3_eq, pay4_eq, pay5_eq]
  rw [View.readCov_eq_canon_ld (Val := Elt Ideal), View.ld_unit_zero off4]
  · rw [canon_drop5 _ _ _ _ _ (fun y => View.cover_of_tiledL (s := S16x4x128x128) _ S16x1x128x128.size (by sl_kernel_rfl) y)]
    rfl
  · intro y
    obtain ⟨q, hm, hy⟩ := View.cover_of_tiledL (s := S16x4x128x128) (List.take 4 _) S16x1x128x128.size (by sl_kernel_rfl) y
    exact ⟨q, List.mem_of_mem_take hm, hy⟩

/-- What a grid point leaves in the normalisers. -/
theorem out12_eq :
    out0_A_12 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9
      = newN x1 x4 x5 x8 x9 := by
  unfold out0_A_12
  rw [View.read_writes_eq_canon _ _ _ (cover0_A_12
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9)]
  unfold kernelRun0_A
  dsimp only
  sl_unfold_words
  rw [View.canon_unit_zero (S := S16x4x1x128) off4]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x512) off2, View.ld_unit_zero (S := S128x128) off2, View.ld_unit_zero (S := S1x128) off2,
    View.ld_unit_zero (S := S16x4x128x128) off4, View.ld_unit_zero (S := S16x4x1x128) off4, readCov_whole (S := S16x4x128x128) _ off4, readCov_whole (S := S16x4x1x128) _ off4, pay3_eq, pay4_eq, pay5_eq]
  rw [View.readCov_eq_canon_ld (Val := Elt Ideal), View.ld_unit_zero off4]
  · rw [canon_drop5 _ _ _ _ _ (fun y => View.cover_of_tiledL (s := S16x4x1x128) _ S16x1x1x128.size (by sl_kernel_rfl) y)]
    rfl
  · intro y
    obtain ⟨q, hm, hy⟩ := View.cover_of_tiledL (s := S16x4x1x128) (List.take 4 _) S16x1x1x128.size (by sl_kernel_rfl) y
    exact ⟨q, List.mem_of_mem_take hm, hy⟩

/-- What a grid point leaves in the maxima. -/
theorem out13_eq :
    out0_A_13 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9
      = newM x4 x5 x9 := by
  unfold out0_A_13
  rw [View.read_writes_eq_canon _ _ _ (cover0_A_13
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9)]
  unfold kernelRun0_A
  dsimp only
  sl_unfold_words
  rw [View.canon_unit_zero (S := S16x4x1x128) off4]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x512) off2, View.ld_unit_zero (S := S128x128) off2, View.ld_unit_zero (S := S1x128) off2,
    View.ld_unit_zero (S := S16x4x128x128) off4, View.ld_unit_zero (S := S16x4x1x128) off4, readCov_whole (S := S16x4x128x128) _ off4, readCov_whole (S := S16x4x1x128) _ off4, pay3_eq, pay4_eq, pay5_eq]
  rw [View.readCov_eq_canon_ld (Val := Elt Ideal), View.ld_unit_zero off4]
  · rw [canon_drop5 _ _ _ _ _ (fun y => View.cover_of_tiledL (s := S16x4x1x128) _ S16x1x1x128.size (by sl_kernel_rfl) y)]
    rfl
  · intro y
    obtain ⟨q, hm, hy⟩ := View.cover_of_tiledL (s := S16x4x1x128) (List.take 4 _) S16x1x1x128.size (by sl_kernel_rfl) y
    exact ⟨q, List.mem_of_mem_take hm, hy⟩

end

end Cert.Rows
-- ==== Proof.Rows.QOut.lean ====
/-
  The body of the fifth call as a function of its blocks: what a grid point leaves in its window of the outputs.
-/
module

public import proofs.«01_k».proof.Proof.Rows.KOut

@[expose] public section

noncomputable section

namespace Cert.Rows

open Idealize.ShloMosaic Cert.Kernel5Ideal Cert.Kernel5Ideal.Gen
open Cert.Mlstm (off2 off4 readCov_whole)

section

variable (x0 x1 x2 x3 : Vec Ideal S128x512 .f32) (x4 : Vec Ideal S128x128 .f32) (x5 : Vec Ideal S1x128 .f32)
  (x6 : Vec Ideal S1x512 .f32) (x7 : Vec Ideal S16x4x128x128 .f32) (x8 x9 : Vec Ideal S16x4x1x128 .f32)

/-- The weights of the states before. -/
def wiK : FVec Ideal S64x8x1 .f32 := k0_pay25 (bK x4 x5) (ldK x4 x5) (ldR0 x9) (ldR1 x9) (ldR2 x9) (ldR3 x9)

/-- The weights of the rows, with the products of queries and keys. -/
def aK : FVec Ideal S64x8x128 .f32 :=
  k0_pay26 (bK x4 x5) (k0_pay17 x0) (k0_pay18 x1) (ldK x4 x5) (ldR0 x9) (ldR1 x9) (ldR2 x9) (ldR3 x9)

/-- The normalised outputs. -/
def yK : FVec Ideal S64x8x128 .f32 :=
  k0_pay27 (k0_pay14 x0) (k0_pay17 x0) (k0_pay19 x2) (CK x7) (nK x8) (mK x4 x5 x9) (wiK x4 x5 x9) (aK x0 x1 x4 x5 x9)

/-- What a grid point leaves in the outputs. -/
def newO : Vec Ideal S128x512 .f32 :=
  View.canon (Val := Elt Ideal) (e := .f32)
    [⟨Rect.unit (s := S128x512) ![0, 384] ![128, 128] inb_S128x512_S128x128_0_384,
        k0_pay33 (yK x0 x1 x2 x4 x5 x7 x8 x9)
          (View.ld x6 (Rect.unit ![0, 384] ![1, 128] inb_S1x512_S1x128_0_384))
          (View.ld x3 (Rect.unit ![0, 384] ![128, 128] inb_S128x512_S128x128_0_384))⟩,
      ⟨Rect.unit (s := S128x512) ![0, 256] ![128, 128] inb_S128x512_S128x128_0_256,
        k0_pay32 (yK x0 x1 x2 x4 x5 x7 x8 x9)
          (View.ld x6 (Rect.unit ![0, 256] ![1, 128] inb_S1x512_S1x128_0_256))
          (View.ld x3 (Rect.unit ![0, 256] ![128, 128] inb_S128x512_S128x128_0_256))⟩,
      ⟨Rect.unit (s := S128x512) ![0, 128] ![128, 128] inb_S128x512_S128x128_0_128,
        k0_pay31 (yK x0 x1 x2 x4 x5 x7 x8 x9)
          (View.ld x6 (Rect.unit ![0, 128] ![1, 128] inb_S1x512_S1x128_0_128))
          (View.ld x3 (Rect.unit ![0, 128] ![128, 128] inb_S128x512_S128x128_0_128))⟩,
      ⟨Rect.unit (s := S128x512) ![0, 0] ![128, 128] inb_S128x512_S128x128_0_0,
        k0_pay30 (k0_pay28 (k0_pay14 x0) (k0_pay17 x0) (k0_pay19 x2) (CK x7) (nK x8) (mK x4 x5 x9) (wiK x4 x5 x9)
            (aK x0 x1 x4 x5 x9) (View.ld x6 (Rect.unit ![0, 0] ![1, 128] inb_S1x512_S1x128_0_0)))
          (k0_pay29 (View.ld x3 (Rect.unit ![0, 0] ![128, 128] inb_S128x512_S128x128_0_0)))⟩]

end

section

variable
  (c : Dev nD) (i : grid0.Coords)
  (arg2 : Memref sig .tc .vmem S128x512 .f32) (harg2 : arg2.IsWhole)
  (arg3 : Memref sig .tc .vmem S128x512 .f32) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S1x512 .f32) (harg8 : arg8.IsWhole)
  (arg9 : Memref sig .tc .vmem S16x4x128x128 .f32) (harg9 : arg9.IsWhole)
  (arg10 : Memref sig .tc .vmem S16x4x1x128 .f32) (harg10 : arg10.IsWhole)
  (arg11 : Memref sig .tc .vmem S16x4x1x128 .f32) (harg11 : arg11.IsWhole)
  (arg12 : Memref sig .tc .vmem S128x512 .f32) (harg12 : arg12.IsWhole)
  (arg13 : Memref sig .tc .vmem S16x4x128x128 .f32) (harg13 : arg13.IsWhole)
  (arg14 : Memref sig .tc .vmem S16x4x1x128 .f32) (harg14 : arg14.IsWhole)
  (arg15 : Memref sig .tc .vmem S16x4x1x128 .f32) (harg15 : arg15.IsWhole)
  (arg16 : Memref sig .tc .vmem S16x4x128x128 .f32) (harg16 : arg16.IsWhole)
  (arg17 : Memref sig .tc .vmem S16x4x1x128 .f32) (harg17 : arg17.IsWhole)
  (arg18 : Memref sig .tc .vmem S16x4x1x128 .f32) (harg18 : arg18.IsWhole)
  (hc0 : cond0_0 i) (hc1 : cond0_1 i)
  (x0 : Vec Ideal S128x512 .f32)
  (x1 : Vec Ideal S128x512 .f32)
  (x2 : Vec Ideal S128x512 .f32)
  (x3 : Vec Ideal S128x512 .f32)
  (x4 : Vec Ideal S128x128 .f32)
  (x5 : Vec Ideal S1x128 .f32)
  (x6 : Vec Ideal S1x512 .f32)
  (x7 : Vec Ideal S16x4x128x128 .f32)
  (x8 : Vec Ideal S16x4x1x128 .f32)
  (x9 : Vec Ideal S16x4x1x128 .f32)

/-- What a grid point leaves in the outputs. -/
theorem out10_eq :
    out0_A_10 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9
      = newO x0 x1 x2 x3 x4 x5 x6 x7 x8 x9 := by
  unfold out0_A_10
  rw [View.read_writes_eq_canon _ _ _ (cover0_A_10
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 hc0 hc1 x0
      x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S128x512) off2, View.ld_unit_zero (S := S128x128) off2, View.ld_unit_zero (S := S1x128) off2,
    View.ld_unit_zero (S := S16x4x128x128) off4, View.ld_unit_zero (S := S16x4x1x128) off4, readCov_whole (S := S16x4x128x128) _ off4, readCov_whole (S := S16x4x1x128) _ off4, pay3_eq, pay4_eq, pay5_eq]
  rfl

end

end Cert.Rows
-- ==== Proof.Rows.QSpec.lean ====
/-
  The outputs of four positions of one sequence and one head, from their queries and from the state before them.
-/
module

public import proofs.«01_k».proof.Proof.Rows.Spec

@[expose] public section

noncomputable section

namespace Cert.Rows

open Idealize.ShloMosaic

namespace Four

variable (x : Four)

/-- The log of the weight with which position `s` enters position `t`. -/
def ld (t s : Fin 4) : EReal := if s.val ≤ t.val then x.b t - x.b s + x.ig s else ⊥

/-- The running maximum at position `t`. -/
def mt (m : EReal) (t : Fin 4) : EReal := max (x.b t + m) (Finset.univ.sup fun s => x.ld t s)

/-- The weight of the state before. -/
def wi (m : EReal) (t : Fin 4) : EReal := Ideal.exp (x.b t + m - x.mt m t)

/-- The weight of position `s`, with the product of query and key. -/
def att (q : Fin 4 → Fin 128 → EReal) (m : EReal) (t s : Fin 4) : EReal :=
  Ideal.exp (x.ld t s - x.mt m t) * ∑ e : Fin 128, q t e * x.k s e

/-- The numerator at value coordinate `d`. -/
def num (q : Fin 4 → Fin 128 → EReal) (m : EReal) (C : Fin 128 → Fin 128 → EReal) (t : Fin 4) (d : Fin 128) : EReal :=
  (∑ s : Fin 4, x.att q m t s * x.v s d) + x.wi m t * ∑ e : Fin 128, q t e * C d e

/-- The denominator. -/
def den (q : Fin 4 → Fin 128 → EReal) (m : EReal) (n : Fin 128 → EReal) (t : Fin 4) : EReal :=
  (∑ s : Fin 4, x.att q m t s) + x.wi m t * ∑ e : Fin 128, q t e * n e

/-- The output. -/
def out (q : Fin 4 → Fin 128 → EReal) (m : EReal) (C : Fin 128 → Fin 128 → EReal) (n : Fin 128 → EReal) (t : Fin 4)
    (d : Fin 128) : EReal :=
  Ideal.div (x.num q m C t d) (max (max (x.den q m n t) (-(x.den q m n t))) (Ideal.exp (-(x.mt m t))))

end Four

end Cert.Rows
-- ==== Proof.Rows.QPay.lean ====
/-
  What the body of the fifth call computes for its outputs from the rows of sixteen sequences, entry by entry.
-/
module

public import proofs.«01_k».proof.Proof.Rows.Pay
public import proofs.«01_k».proof.Proof.Rows.QSpec

@[expose] public section

noncomputable section

namespace Cert.Rows

open Idealize.ShloMosaic Cert.Kernel5Ideal Cert.Kernel5Ideal.Gen

/-- The queries of a head. -/
theorem pay14_apply (k : Vec Ideal S128x512 .f32) (h : Fin 4) (s : Fin 16) (t : Fin 8) (e : Fin 128) :
    k0_pay14 (F := Ideal) k (ix3 (at' h s) t e) = k (ix2 ⟨8 * s.val + t.val, by omega⟩ ⟨128 * h.val + e.val, by omega⟩) := by
  match h with
  | 0 => pointwise [k0_pay14]; exact congrArg (fun i => k (ix2 i _)) (Fin.ext (by dsimp only; omega))
  | 1 => pointwise [k0_pay14]; exact congrArg (fun i => k (ix2 i _)) (Fin.ext (by dsimp only; omega))
  | 2 =>
    pointwise [k0_pay14]
    rw [dif_neg (by omega), dif_neg (by omega), dif_pos (by omega)]
    exact congrArg (fun i => k (ix2 i _)) (Fin.ext (by dsimp only; omega))
  | 3 =>
    pointwise [k0_pay14]
    rw [dif_neg (by omega), dif_neg (by omega), dif_neg (by omega)]
    exact congrArg (fun i => k (ix2 i _)) (Fin.ext (by dsimp only; omega))

theorem pay17_apply (k : Vec Ideal S128x512 .f32) (i : Fin 64) (t : Fin 8) (e : Fin 128) :
    k0_pay17 (F := Ideal) k (ix3 i t e) = k0_pay14 (F := Ideal) k (ix3 i t e) := rfl

/-- The values, padded with zeros to 128 rows. -/
theorem pay19_apply (k : Vec Ideal S128x512 .f32) (i : Fin 64) (s e : Fin 128) :
    k0_pay19 (F := Ideal) k (ix3 i s e) = if h : s.val < 8 then k0_pay16 (F := Ideal) k (ix3 i ⟨s.val, h⟩ e) else 0 := by
  unfold k0_pay19
  generalize k0_pay16 (F := Ideal) k = y
  pointwise

/-- The logs of the weights with which the rows enter row `t`. -/
theorem pay20_row (b ig : FVec Ideal S64x8x1 .f32) (i : Fin 64) (t : Fin 8) (s : Fin 128) :
    k0_pay20 b ig k0_pay12 k0_pay13 (ix3 i t s)
      = if h : s.val ≤ t.val then b (ix3 i t 0) - b (ix3 i ⟨s.val, by omega⟩ 0) + ig (ix3 i ⟨s.val, by omega⟩ 0)
        else Cert.Mlstm.ninf := by
  pointwise [k0_pay20, k0_pay12, k0_pay13]
  rw [sum_eye (fun s => b (ix3 i s 0)), sum_eye (fun s => ig (ix3 i s 0))]
  rw [WordCmp.cmpi_sle_ofNat (by omega) (by omega), WordCmp.select_decide]
  by_cases h : s.val ≤ t.val
  · rw [if_pos h, dif_pos h, dif_pos (show s.val < 8 by omega), dif_pos (show s.val < 8 by omega)]
  · rw [if_neg h, dif_neg h]
    rfl

theorem pay25_apply (b : FVec Ideal S64x8x1 .f32) (ld : FVec Ideal S64x8x128 .f32) (c0 c1 c2 c3 : Vec Ideal S16x1x1x128 .f32)
    (i : Fin 64) (t : Fin 8) (z : Fin 1) :
    k0_pay25 b ld c0 c1 c2 c3 (ix3 i t z)
      = Ideal.exp (k0_pay23 b c0 c1 c2 c3 (ix3 i t z) - k0_pay24 b ld c0 c1 c2 c3 (ix3 i t z)) := rfl

/-- The weights of the rows, with the products of queries and keys. -/
theorem pay26_apply (b : FVec Ideal S64x8x1 .f32) (q : FVec Ideal S64x8x128 .bf16) (k : FVec Ideal S64x128x128 .bf16)
    (ld : FVec Ideal S64x8x128 .f32) (c0 c1 c2 c3 : Vec Ideal S16x1x1x128 .f32) (i : Fin 64) (t : Fin 8) (s : Fin 128) :
    k0_pay26 b q k ld c0 c1 c2 c3 (ix3 i t s)
      = Ideal.exp (ld (ix3 i t s) - k0_pay24 b ld c0 c1 c2 c3 (ix3 i t 0)) * ∑ e : Fin 128, q (ix3 i t e) * k (ix3 i s e) := by
  unfold k0_pay26
  generalize k0_pay24 b ld c0 c1 c2 c3 = y
  pointwise

/-- The quotient before the normalisation. -/
def ratio (q : FVec Ideal S64x8x128 .f32) (qb : FVec Ideal S64x8x128 .bf16) (v : FVec Ideal S64x128x128 .bf16)
    (C : FVec Ideal S64x128x128 .f32) (n : FVec Ideal S64x1x128 .f32) (μ w : FVec Ideal S64x8x1 .f32)
    (a : FVec Ideal S64x8x128 .f32) (i : Fin 64) (t : Fin 8) (d : Fin 128) : EReal :=
  Ideal.div ((∑ s : Fin 128, a (ix3 i t s) * v (ix3 i s d)) + w (ix3 i t 0) * ∑ e : Fin 128, qb (ix3 i t e) * C (ix3 i d e))
    (max (max ((∑ s : Fin 128, a (ix3 i t s)) + w (ix3 i t 0) * ∑ e : Fin 128, q (ix3 i t e) * n (ix3 i 0 e))
      (-((∑ s : Fin 128, a (ix3 i t s)) + w (ix3 i t 0) * ∑ e : Fin 128, q (ix3 i t e) * n (ix3 i 0 e))))
      (Ideal.exp (-(μ (ix3 i t 0)))))

theorem pay27_apply (q : FVec Ideal S64x8x128 .f32) (qb : FVec Ideal S64x8x128 .bf16) (v : FVec Ideal S64x128x128 .bf16)
    (C : FVec Ideal S64x128x128 .f32) (n : FVec Ideal S64x1x128 .f32) (μ w : FVec Ideal S64x8x1 .f32)
    (a : FVec Ideal S64x8x128 .f32) (i : Fin 64) (t : Fin 8) (d : Fin 128) :
    k0_pay27 q qb v C n μ w a (ix3 i t d) = Cert.Mlstm.norm (ratio q qb v C n μ w a i t) d := by
  pointwise [k0_pay27]
  simp only [zero_sub]
  rfl

/-- The rows of head 0, weighted and gated. -/
theorem pay30_apply (y : FVec Ideal S128x128 .f32) (w : FVec Ideal S128x128 .f32) (i : S128x128.Idx) :
    k0_pay30 y w i = y i * w i := rfl

theorem pay28_apply (q : FVec Ideal S64x8x128 .f32) (qb : FVec Ideal S64x8x128 .bf16) (v : FVec Ideal S64x128x128 .bf16)
    (C : FVec Ideal S64x128x128 .f32) (n : FVec Ideal S64x1x128 .f32) (μ w : FVec Ideal S64x8x1 .f32)
    (a : FVec Ideal S64x8x128 .f32) (g : Vec Ideal S1x128 .f32) (s : Fin 16) (t : Fin 8) (d : Fin 128) :
    k0_pay28 q qb v C n μ w a g (ix2 ⟨8 * s.val + t.val, by omega⟩ d)
      = k0_pay27 q qb v C n μ w a (ix3 (at' 0 s) t d) * g (ix2 0 d) := by
  unfold k0_pay28
  generalize k0_pay27 q qb v C n μ w a = y
  pointwise
  exact congrArg₂ (fun i j => y (ix3 i j d) * g (ix2 0 d)) (Fin.ext (by dsimp only; omega)) (Fin.ext (by dsimp only))

/-- The rows of head 1, weighted and gated. -/
theorem pay31_apply (y : FVec Ideal S64x8x128 .f32) (g : Vec Ideal S1x128 .f32) (o : Vec Ideal S128x128 .f32)
    (s : Fin 16) (t : Fin 8) (d : Fin 128) :
    k0_pay31 y g o (ix2 ⟨8 * s.val + t.val, by omega⟩ d)
      = y (ix3 (at' 1 s) t d) * g (ix2 0 d) * Ideal.logistic (o (ix2 ⟨8 * s.val + t.val, by omega⟩ d)) := by
  pointwise [k0_pay31]
  exact congrArg₂ (fun i j => y (ix3 i j d) * g (ix2 0 d) * _) (Fin.ext (by dsimp only; omega)) (Fin.ext (by dsimp only))

/-- The rows of head 2, weighted and gated. -/
theorem pay32_apply (y : FVec Ideal S64x8x128 .f32) (g : Vec Ideal S1x128 .f32) (o : Vec Ideal S128x128 .f32)
    (s : Fin 16) (t : Fin 8) (d : Fin 128) :
    k0_pay32 y g o (ix2 ⟨8 * s.val + t.val, by omega⟩ d)
      = y (ix3 (at' 2 s) t d) * g (ix2 0 d) * Ideal.logistic (o (ix2 ⟨8 * s.val + t.val, by omega⟩ d)) := by
  pointwise [k0_pay32]
  exact congrArg₂ (fun i j => y (ix3 i j d) * g (ix2 0 d) * _) (Fin.ext (by dsimp only; omega)) (Fin.ext (by dsimp only))

/-- The rows of head 3, weighted and gated. -/
theorem pay33_apply (y : FVec Ideal S64x8x128 .f32) (g : Vec Ideal S1x128 .f32) (o : Vec Ideal S128x128 .f32)
    (s : Fin 16) (t : Fin 8) (d : Fin 128) :
    k0_pay33 y g o (ix2 ⟨8 * s.val + t.val, by omega⟩ d)
      = y (ix3 (at' 3 s) t d) * g (ix2 0 d) * Ideal.logistic (o (ix2 ⟨8 * s.val + t.val, by omega⟩ d)) := by
  pointwise [k0_pay33]
  exact congrArg₂ (fun i j => y (ix3 i j d) * g (ix2 0 d) * _) (Fin.ext (by dsimp only; omega)) (Fin.ext (by dsimp only))

end Cert.Rows
-- ==== Proof.Rows.KPoint.lean ====
/-
  One grid point of the fifth call advances the states of its sixteen sequences by four positions: what it stores into the
  three outputs are the numbers of `Four`. The last four of a sequence's eight rows have weight zero.
-/
module

public import proofs.«01_k».proof.Proof.Rows.KOut
public import proofs.«01_k».proof.Proof.Rows.Spec

@[expose] public section

noncomputable section

namespace Cert.Rows

open Idealize.ShloMosaic Cert.Kernel5Ideal Cert.Kernel5Ideal.Gen
open Cert.Mlstm (canon_hit canon_miss ld_apply)

/-- The four positions that sequence `s` and head `h` have in a block. -/
def blkFour (x1 x2 : Vec Ideal S128x512 .f32) (x4 : Vec Ideal S128x128 .f32) (x5 : Vec Ideal S1x128 .f32)
    (h : Fin 4) (s : Fin 16) : Four where
  ig t := x4 (ix2 ⟨8 * s.val + t.val, by omega⟩ ⟨h.val, by omega⟩) + x5 (ix2 0 ⟨h.val, by omega⟩)
  lf t := Cert.Mlstm.logsig (x4 (ix2 ⟨8 * s.val + t.val, by omega⟩ ⟨4 + h.val, by omega⟩) + x5 (ix2 0 ⟨4 + h.val, by omega⟩))
  k t e := x1 (ix2 ⟨8 * s.val + t.val, by omega⟩ ⟨128 * h.val + e.val, by omega⟩)
  v t e := x2 (ix2 ⟨8 * s.val + t.val, by omega⟩ ⟨128 * h.val + e.val, by omega⟩)

/-- Four blocks of matrices, read by head. -/
theorem canon_mats (p0 p1 p2 p3 : Vec Ideal S16x1x128x128 .f32) (f : Fin 4 → EReal) (s : Fin 16) (h : Fin 4) (d e : Fin 128)
    (h0 : p0 (ix4 s 0 d e) = f 0) (h1 : p1 (ix4 s 0 d e) = f 1) (h2 : p2 (ix4 s 0 d e) = f 2)
    (h3 : p3 (ix4 s 0 d e) = f 3) :
    View.canon (Val := Elt Ideal) (e := .f32)
      [⟨Rect.unit (s := S16x4x128x128) ![0, 3, 0, 0] ![16, 1, 128, 128] inb_S16x4x128x128_S16x1x128x128_0_3_0_0, p3⟩,
        ⟨Rect.unit (s := S16x4x128x128) ![0, 2, 0, 0] ![16, 1, 128, 128] inb_S16x4x128x128_S16x1x128x128_0_2_0_0, p2⟩,
        ⟨Rect.unit (s := S16x4x128x128) ![0, 1, 0, 0] ![16, 1, 128, 128] inb_S16x4x128x128_S16x1x128x128_0_1_0_0, p1⟩,
        ⟨Rect.unit (s := S16x4x128x128) ![0, 0, 0, 0] ![16, 1, 128, 128] inb_S16x4x128x128_S16x1x128x128_0_0_0_0, p0⟩]
      (ix4 s h d e) = f h := by
  match h with
  | 3 =>
    refine Eq.trans (b := p3 (ix4 s 0 d e)) (canon_hit (S := S16x4x128x128) _ _ _ _ _ _ _ fun a => ?_) h3
    fin_cases a <;> simp [ix4]
  | 2 =>
    refine Eq.trans (canon_miss (S := S16x4x128x128) _ _ _ _ _ _ (1 : Fin 4) (Or.inl (by show 2 < 3; omega))) ?_
    refine Eq.trans (b := p2 (ix4 s 0 d e)) (canon_hit (S := S16x4x128x128) _ _ _ _ _ _ _ fun a => ?_) h2
    fin_cases a <;> simp [ix4]
  | 1 =>
    refine Eq.trans (canon_miss (S := S16x4x128x128) _ _ _ _ _ _ (1 : Fin 4) (Or.inl (by show 1 < 3; omega))) ?_
    refine Eq.trans (canon_miss (S := S16x4x128x128) _ _ _ _ _ _ (1 : Fin 4) (Or.inl (by show 1 < 2; omega))) ?_
    refine Eq.trans (b := p1 (ix4 s 0 d e)) (canon_hit (S := S16x4x128x128) _ _ _ _ _ _ _ fun a => ?_) h1
    fin_cases a <;> simp [ix4]
  | 0 =>
    refine Eq.trans (canon_miss (S := S16x4x128x128) _ _ _ _ _ _ (1 : Fin 4) (Or.inl (by show 0 < 3; omega))) ?_
    refine Eq.trans (canon_miss (S := S16x4x128x128) _ _ _ _ _ _ (1 : Fin 4) (Or.inl (by show 0 < 2; omega))) ?_
    refine Eq.trans (canon_miss (S := S16x4x128x128) _ _ _ _ _ _ (1 : Fin 4) (Or.inl (by show 0 < 1; omega))) ?_
    refine Eq.trans (b := p0 (ix4 s 0 d e)) (canon_hit (S := S16x4x128x128) _ _ _ _ _ _ _ fun a => ?_) h0
    fin_cases a <;> simp [ix4]

/-- Four blocks of rows, read by head. -/
theorem canon_rows (p0 p1 p2 p3 : Vec Ideal S16x1x1x128 .f32) (f : Fin 4 → EReal) (s : Fin 16) (h : Fin 4) (e : Fin 128)
    (h0 : p0 (ix4 s 0 0 e) = f 0) (h1 : p1 (ix4 s 0 0 e) = f 1) (h2 : p2 (ix4 s 0 0 e) = f 2)
    (h3 : p3 (ix4 s 0 0 e) = f 3) :
    View.canon (Val := Elt Ideal) (e := .f32)
      [⟨Rect.unit (s := S16x4x1x128) ![0, 3, 0, 0] ![16, 1, 1, 128] inb_S16x4x1x128_S16x1x1x128_0_3_0_0, p3⟩,
        ⟨Rect.unit (s := S16x4x1x128) ![0, 2, 0, 0] ![16, 1, 1, 128] inb_S16x4x1x128_S16x1x1x128_0_2_0_0, p2⟩,
        ⟨Rect.unit (s := S16x4x1x128) ![0, 1, 0, 0] ![16, 1, 1, 128] inb_S16x4x1x128_S16x1x1x128_0_1_0_0, p1⟩,
        ⟨Rect.unit (s := S16x4x1x128) ![0, 0, 0, 0] ![16, 1, 1, 128] inb_S16x4x1x128_S16x1x1x128_0_0_0_0, p0⟩]
      (ix4 s h 0 e) = f h := by
  match h with
  | 3 =>
    refine Eq.trans (b := p3 (ix4 s 0 0 e)) (canon_hit (S := S16x4x1x128) _ _ _ _ _ _ _ fun a => ?_) h3
    fin_cases a <;> simp [ix4]
  | 2 =>
    refine Eq.trans (canon_miss (S := S16x4x1x128) _ _ _ _ _ _ (1 : Fin 4) (Or.inl (by show 2 < 3; omega))) ?_
    refine Eq.trans (b := p2 (ix4 s 0 0 e)) (canon_hit (S := S16x4x1x128) _ _ _ _ _ _ _ fun a => ?_) h2
    fin_cases a <;> simp [ix4]
  | 1 =>
    refine Eq.trans (canon_miss (S := S16x4x1x128) _ _ _ _ _ _ (1 : Fin 4) (Or.inl (by show 1 < 3; omega))) ?_
    refine Eq.trans (canon_miss (S := S16x4x1x128) _ _ _ _ _ _ (1 : Fin 4) (Or.inl (by show 1 < 2; omega))) ?_
    refine Eq.trans (b := p1 (ix4 s 0 0 e)) (canon_hit (S := S16x4x1x128) _ _ _ _ _ _ _ fun a => ?_) h1
    fin_cases a <;> simp [ix4]
  | 0 =>
    refine Eq.trans (canon_miss (S := S16x4x1x128) _ _ _ _ _ _ (1 : Fin 4) (Or.inl (by show 0 < 3; omega))) ?_
    refine Eq.trans (canon_miss (S := S16x4x1x128) _ _ _ _ _ _ (1 : Fin 4) (Or.inl (by show 0 < 2; omega))) ?_
    refine Eq.trans (canon_miss (S := S16x4x1x128) _ _ _ _ _ _ (1 : Fin 4) (Or.inl (by show 0 < 1; omega))) ?_
    refine Eq.trans (b := p0 (ix4 s 0 0 e)) (canon_hit (S := S16x4x1x128) _ _ _ _ _ _ _ fun a => ?_) h0
    fin_cases a <;> simp [ix4]

theorem at0 (s : Fin 16) (p : s.val < 64) : (⟨s.val, p⟩ : Fin 64) = at' 0 s := Fin.ext (by show s.val = 16 * 0 + s.val; omega)
theorem at1 (s : Fin 16) (p : 16 + s.val < 64) : (⟨16 + s.val, p⟩ : Fin 64) = at' 1 s := rfl
theorem at2 (s : Fin 16) (p : 32 + s.val < 64) : (⟨32 + s.val, p⟩ : Fin 64) = at' 2 s := rfl
theorem at3 (s : Fin 16) (p : 48 + s.val < 64) : (⟨48 + s.val, p⟩ : Fin 64) = at' 3 s := rfl

section Loads

variable (s0 : Vec Ideal S16x4x128x128 .f32) (s1 : Vec Ideal S16x4x1x128 .f32) (s : Fin 16) (d e : Fin 128)

theorem ldC0_apply : ldC0 s0 (ix4 s 0 d e) = s0 (ix4 s 0 d e) :=
  ld_apply (S := S16x4x128x128) _ _ _ _ _ _ fun a => by fin_cases a <;> simp [ix4]
theorem ldC1_apply : ldC1 s0 (ix4 s 0 d e) = s0 (ix4 s 1 d e) :=
  ld_apply (S := S16x4x128x128) _ _ _ _ _ _ fun a => by fin_cases a <;> simp [ix4]
theorem ldC2_apply : ldC2 s0 (ix4 s 0 d e) = s0 (ix4 s 2 d e) :=
  ld_apply (S := S16x4x128x128) _ _ _ _ _ _ fun a => by fin_cases a <;> simp [ix4]
theorem ldC3_apply : ldC3 s0 (ix4 s 0 d e) = s0 (ix4 s 3 d e) :=
  ld_apply (S := S16x4x128x128) _ _ _ _ _ _ fun a => by fin_cases a <;> simp [ix4]
theorem ldR0_apply : ldR0 s1 (ix4 s 0 0 e) = s1 (ix4 s 0 0 e) :=
  ld_apply (S := S16x4x1x128) _ _ _ _ _ _ fun a => by fin_cases a <;> simp [ix4]
theorem ldR1_apply : ldR1 s1 (ix4 s 0 0 e) = s1 (ix4 s 1 0 e) :=
  ld_apply (S := S16x4x1x128) _ _ _ _ _ _ fun a => by fin_cases a <;> simp [ix4]
theorem ldR2_apply : ldR2 s1 (ix4 s 0 0 e) = s1 (ix4 s 2 0 e) :=
  ld_apply (S := S16x4x1x128) _ _ _ _ _ _ fun a => by fin_cases a <;> simp [ix4]
theorem ldR3_apply : ldR3 s1 (ix4 s 0 0 e) = s1 (ix4 s 3 0 e) :=
  ld_apply (S := S16x4x1x128) _ _ _ _ _ _ fun a => by fin_cases a <;> simp [ix4]

end Loads

/-- The running sums: at row 7 they are what they are at row 3. -/
theorem rowSum_eq (f : Fin 8 → EReal) (hf : ∀ u : Fin 8, 4 ≤ u.val → f u = 0) (t : Fin 8) :
    rowSum 8 f t = ∑ u : Fin 4, if u.val ≤ t.val then f ⟨u.val, by omega⟩ else 0 := by
  unfold rowSum
  rw [sum_four (by decide) _ fun u hu => by rw [hf u hu]; exact ite_self _]
  refine Finset.sum_congr rfl fun u _ => if_congr ?_ rfl rfl
  have := u.isLt
  have := t.isLt
  constructor
  · intro k; exact k.1
  · intro k; exact ⟨k, by show t.val < u.val + 8; omega⟩

section Point

variable (x1 x2 : Vec Ideal S128x512 .f32) (x4 : Vec Ideal S128x128 .f32) (x5 : Vec Ideal S1x128 .f32)
  (x7 : Vec Ideal S16x4x128x128 .f32) (x8 x9 : Vec Ideal S16x4x1x128 .f32)
  (h : Fin 4) (s : Fin 16)

theorem lfRow_zero (u : Fin 8) (hu : 4 ≤ u.val) (l : Fin 128) : lfRow x4 x5 s u l = 0 := if_neg (by omega)

theorem lfRow_lf (u : Fin 4) :
    lfRow x4 x5 s ⟨u.val, by omega⟩ ⟨4 + h.val, by omega⟩ = (blkFour x1 x2 x4 x5 h s).lf u := if_pos u.isLt

theorem bK_apply (t : Fin 4) (z : Fin 1) :
    bK x4 x5 (ix3 (at' h s) ⟨t.val, by omega⟩ z) = (blkFour x1 x2 x4 x5 h s).b t := by
  refine (pay10_apply x4 x5 h s _ z).trans ?_
  rw [rowSum_eq _ fun u hu => lfRow_zero x4 x5 s u hu _]
  unfold Four.b
  refine Finset.sum_congr rfl fun u _ => ?_
  rw [lfRow_lf x1 x2]
  rfl

theorem bK_last (z : Fin 1) : bK x4 x5 (ix3 (at' h s) 7 z) = (blkFour x1 x2 x4 x5 h s).b 3 := by
  refine (pay10_apply x4 x5 h s _ z).trans ?_
  rw [rowSum_eq _ fun u hu => lfRow_zero x4 x5 s u hu _]
  unfold Four.b
  refine Finset.sum_congr rfl fun u _ => ?_
  rw [lfRow_lf x1 x2, if_pos (by show u.val ≤ 7; omega), if_pos (by rw [Fin.le_def]; show u.val ≤ 3; omega)]

theorem igK_apply (t : Fin 4) (z : Fin 1) :
    igK x4 x5 (ix3 (at' h s) ⟨t.val, by omega⟩ z) = (blkFour x1 x2 x4 x5 h s).ig t :=
  (pay11_apply _ h s _ z).trans ((pay7_apply x4 x5 s _ _).trans (if_pos t.isLt))

theorem igK_rest (t : Fin 8) (ht : 4 ≤ t.val) (z : Fin 1) : igK x4 x5 (ix3 (at' h s) t z) = ⊥ :=
  (pay11_apply _ h s _ z).trans ((pay7_apply x4 x5 s _ _).trans (if_neg (by omega)))

/-- The logs of the weights at the last row. -/
theorem ldK_apply (u : Fin 4) :
    ldK x4 x5 (ix3 (at' h s) 7 ⟨u.val, by omega⟩)
      = (blkFour x1 x2 x4 x5 h s).b 3 - (blkFour x1 x2 x4 x5 h s).b u + (blkFour x1 x2 x4 x5 h s).ig u := by
  refine (pay20_apply _ _ _ _).trans ?_
  rw [dif_pos (show u.val < 8 by omega), bK_last x1 x2, bK_apply x1 x2, igK_apply x1 x2]

theorem ldK_rest (u : Fin 128) (hu : 4 ≤ u.val) : ldK x4 x5 (ix3 (at' h s) 7 u) = ⊥ := by
  refine (pay20_apply _ _ _ _).trans ?_
  by_cases h8 : u.val < 8
  · rw [dif_pos h8, igK_rest x4 x5 h s ⟨u.val, h8⟩ hu, EReal.add_bot]
  · rw [dif_neg h8, ninf_eq]

theorem CK_apply (d e : Fin 128) : CK x7 (ix3 (at' h s) d e) = x7 (ix4 s h d e) :=
  pay21_apply _ _ _ _ (fun h s d e => x7 (ix4 s h d e)) (ldC0_apply x7) (ldC1_apply x7) (ldC2_apply x7) (ldC3_apply x7) h s d e

theorem nK_apply (z : Fin 1) (e : Fin 128) : nK x8 (ix3 (at' h s) z e) = x8 (ix4 s h 0 e) :=
  pay22_apply _ _ _ _ (fun h s e => x8 (ix4 s h 0 e)) (ldR0_apply x8) (ldR1_apply x8) (ldR2_apply x8) (ldR3_apply x8) h s z e

variable (μ : Fin 4 → Fin 16 → EReal) (hμ : ∀ h s e, x9 (ix4 s h 0 e) = μ h s)
include hμ

theorem iK_apply (z : Fin 1) : iK x4 x5 x9 (ix3 (at' h s) 7 z) = (blkFour x1 x2 x4 x5 h s).b 3 + μ h s := by
  refine (pay23_apply _ _ _ _ _ μ (fun s e => (ldR0_apply x9 s e).trans (hμ 0 s e))
    (fun s e => (ldR1_apply x9 s e).trans (hμ 1 s e)) (fun s e => (ldR2_apply x9 s e).trans (hμ 2 s e))
    (fun s e => (ldR3_apply x9 s e).trans (hμ 3 s e)) h s 7 z).trans ?_
  rw [bK_last x1 x2]

theorem mK_apply (z : Fin 1) : mK x4 x5 x9 (ix3 (at' h s) 7 z) = (blkFour x1 x2 x4 x5 h s).max' (μ h s) := by
  refine (pay24_apply _ _ _ _ _ _ _ _ _).trans ?_
  unfold Four.max'
  refine congrArg₂ max (iK_apply x1 x2 x4 x5 x9 h s μ hμ z) ?_
  rw [fold_max, sup_four (by decide) _ (ldK_rest x4 x5 h s)]
  exact congrArg (Finset.univ.sup) (funext (ldK_apply x1 x2 x4 x5 h s))

theorem tK_apply (z z' : Fin 1) : tK x4 x5 x9 (ix3 (at' h s) z z') = (blkFour x1 x2 x4 x5 h s).max' (μ h s) :=
  (pay34_apply _ _ z z').trans (mK_apply x1 x2 x4 x5 x9 h s μ hμ 0)

theorem wK_apply (z z' : Fin 1) : wK x4 x5 x9 (ix3 (at' h s) z z') = (blkFour x1 x2 x4 x5 h s).wc (μ h s) := by
  refine (pay35_apply _ _ _ z z').trans ?_
  rw [iK_apply x1 x2 x4 x5 x9 h s μ hμ, mK_apply x1 x2 x4 x5 x9 h s μ hμ]
  rfl

theorem sK_apply (u : Fin 4) (z : Fin 1) :
    k0_pay36 (bK x4 x5) (igK x4 x5) (tK x4 x5 x9) (ix3 (at' h s) ⟨u.val, by omega⟩ z) = (blkFour x1 x2 x4 x5 h s).ws (μ h s) u := by
  refine (pay36_apply _ _ _ _ _ z).trans ?_
  rw [bK_last x1 x2, bK_apply x1 x2, igK_apply x1 x2, tK_apply x1 x2 x4 x5 x9 h s μ hμ]
  rfl

omit hμ in
theorem sK_rest (u : Fin 8) (hu : 4 ≤ u.val) (z : Fin 1) :
    k0_pay36 (bK x4 x5) (igK x4 x5) (tK x4 x5 x9) (ix3 (at' h s) u z) = 0 := by
  refine (pay36_apply _ _ _ _ _ z).trans ?_
  rw [igK_rest x4 x5 h s u hu, EReal.add_bot, bot_sub, exp_bot]

/-- The new matrix memories. -/
theorem cK_apply (d e : Fin 128) :
    cK x1 x2 x4 x5 x7 x9 (ix3 (at' h s) d e) = (blkFour x1 x2 x4 x5 h s).newC (μ h s) (x7 (ix4 s h d e)) d e := by
  refine (pay37_apply _ _ _ _ _ _ _ _ _ _).trans ?_
  unfold Four.newC
  rw [wK_apply x1 x2 x4 x5 x9 h s μ hμ, CK_apply]
  refine congrArg₂ (· + ·) rfl ?_
  rw [sum_four (by decide) _ fun u hu => ?_]
  · refine Finset.sum_congr rfl fun u _ => ?_
    rw [dif_pos (show u.val < 8 by omega), pay18_apply, dif_pos (show u.val < 8 by omega), pay15_apply, pay16_apply,
      sK_apply x1 x2 x4 x5 x9 h s μ hμ]
    rfl
  · by_cases h8 : u.val < 8
    · rw [dif_pos h8, sK_rest x4 x5 x9 h s ⟨u.val, h8⟩ hu, mul_zero, zero_mul]
    · rw [dif_neg h8, zero_mul]

/-- The new normalisers. -/
theorem rK_apply (z : Fin 1) (e : Fin 128) :
    rK x1 x4 x5 x8 x9 (ix3 (at' h s) z e) = (blkFour x1 x2 x4 x5 h s).newN (μ h s) (x8 (ix4 s h 0 e)) e := by
  refine (pay38_apply _ _ _ _ _ _ _ _ _).trans ?_
  unfold Four.newN
  rw [wK_apply x1 x2 x4 x5 x9 h s μ hμ, nK_apply]
  refine congrArg₂ (· + ·) rfl ?_
  rw [sum_four (by decide) _ fun u hu => by rw [sK_rest x4 x5 x9 h s u hu, zero_mul]]
  refine Finset.sum_congr rfl fun u _ => ?_
  rw [pay15_apply, sK_apply x1 x2 x4 x5 x9 h s μ hμ]
  rfl

/-- The new maxima. -/
theorem oK_apply (z : Fin 1) (e : Fin 128) :
    oK x4 x5 x9 (ix3 (at' h s) z e) = (blkFour x1 x2 x4 x5 h s).max' (μ h s) :=
  (pay39_apply _ _ z e).trans (tK_apply x1 x2 x4 x5 x9 h s μ hμ 0 0)

theorem newC_apply (d e : Fin 128) :
    newC x1 x2 x4 x5 x7 x9 (ix4 s h d e) = (blkFour x1 x2 x4 x5 h s).newC (μ h s) (x7 (ix4 s h d e)) d e := by
  have k := fun h => cK_apply x1 x2 x4 x5 x7 x9 h s μ hμ d e
  refine canon_mats _ _ _ _ (fun h => (blkFour x1 x2 x4 x5 h s).newC (μ h s) (x7 (ix4 s h d e)) d e) s h d e ?_ ?_ ?_ ?_
  · refine Eq.trans ?_ (k 0)
    unfold cK
    pointwise [k0_pay40]
    exact congrArg (fun i => k0_pay37 (bK x4 x5) (igK x4 x5) (k0_pay16 x2) (k0_pay18 x1) (CK x7) (tK x4 x5 x9) (wK x4 x5 x9) (ix3 i d e)) (at0 s _)
  · refine Eq.trans ?_ (k 1)
    unfold cK
    pointwise [k0_pay44, k0_pay43]
    exact congrArg (fun i => k0_pay37 (bK x4 x5) (igK x4 x5) (k0_pay16 x2) (k0_pay18 x1) (CK x7) (tK x4 x5 x9) (wK x4 x5 x9) (ix3 i d e)) (at1 s _)
  · refine Eq.trans ?_ (k 2)
    generalize cK x1 x2 x4 x5 x7 x9 = y
    pointwise [k0_pay47]
    exact congrArg (fun i => y (ix3 i d e)) (at2 s _)
  · refine Eq.trans ?_ (k 3)
    generalize cK x1 x2 x4 x5 x7 x9 = y
    pointwise [k0_pay50]
    exact congrArg (fun i => y (ix3 i d e)) (at3 s _)

theorem newN_apply (e : Fin 128) :
    newN x1 x4 x5 x8 x9 (ix4 s h 0 e) = (blkFour x1 x2 x4 x5 h s).newN (μ h s) (x8 (ix4 s h 0 e)) e := by
  have k := fun h => rK_apply x1 x2 x4 x5 x8 x9 h s μ hμ 0 e
  refine canon_rows _ _ _ _ (fun h => (blkFour x1 x2 x4 x5 h s).newN (μ h s) (x8 (ix4 s h 0 e)) e) s h e ?_ ?_ ?_ ?_
  · refine Eq.trans ?_ (k 0)
    unfold rK
    pointwise [k0_pay41]
    exact congrArg (fun i => k0_pay38 (bK x4 x5) (igK x4 x5) (k0_pay15 x1) (nK x8) (tK x4 x5 x9) (wK x4 x5 x9) (ix3 i 0 e)) (at0 s _)
  · refine Eq.trans ?_ (k 1)
    generalize rK x1 x4 x5 x8 x9 = y
    pointwise [k0_pay45]
    exact congrArg (fun i => y (ix3 i 0 e)) (at1 s _)
  · refine Eq.trans ?_ (k 2)
    generalize rK x1 x4 x5 x8 x9 = y
    pointwise [k0_pay48]
    exact congrArg (fun i => y (ix3 i 0 e)) (at2 s _)
  · refine Eq.trans ?_ (k 3)
    generalize rK x1 x4 x5 x8 x9 = y
    pointwise [k0_pay1, k0_pay51]
    exact congrArg (fun i => y (ix3 i 0 e)) (at3 s _)

theorem newM_apply (e : Fin 128) :
    newM x4 x5 x9 (ix4 s h 0 e) = (blkFour x1 x2 x4 x5 h s).max' (μ h s) := by
  have k := fun h => oK_apply x1 x2 x4 x5 x9 h s μ hμ 0 e
  refine canon_rows _ _ _ _ (fun h => (blkFour x1 x2 x4 x5 h s).max' (μ h s)) s h e ?_ ?_ ?_ ?_
  · refine Eq.trans ?_ (k 0)
    unfold oK
    generalize tK x4 x5 x9 = y
    pointwise [k0_pay42]
    exact congrArg (fun i => k0_pay39 y (ix3 i 0 e)) (at0 s _)
  · refine Eq.trans ?_ (k 1)
    generalize oK x4 x5 x9 = y
    pointwise [k0_pay46]
    exact congrArg (fun i => y (ix3 i 0 e)) (at1 s _)
  · refine Eq.trans ?_ (k 2)
    generalize oK x4 x5 x9 = y
    pointwise [k0_pay49]
    exact congrArg (fun i => y (ix3 i 0 e)) (at2 s _)
  · refine Eq.trans ?_ (k 3)
    generalize oK x4 x5 x9 = y
    pointwise [k0_pay2]
    exact congrArg (fun i => y (ix3 i 0 e)) (at3 s _)

end Point

end Cert.Rows
-- ==== Proof.Rows.QPoint.lean ====
/-
  The outputs that one grid point of the fifth call stores: in the first four rows of a sequence, the outputs of `Four`,
  normalised, weighted and gated.
-/
module

public import proofs.«01_k».proof.Proof.Rows.QOut
public import proofs.«01_k».proof.Proof.Rows.QPay
public import proofs.«01_k».proof.Proof.Rows.KPoint

@[expose] public section

noncomputable section

namespace Cert.Rows

open Idealize.ShloMosaic Cert.Kernel5Ideal Cert.Kernel5Ideal.Gen
open Cert.Mlstm (ld_apply canon_cols)

section Cols

variable (x6 : Vec Ideal S1x512 .f32) (x3 : Vec Ideal S128x512 .f32) (t d : Fin 128)

theorem ldW0 : View.ld x6 (Rect.unit ![0, 0] ![1, 128] inb_S1x512_S1x128_0_0) (ix2 0 d) = x6 (ix2 0 ⟨128 * 0 + d.val, by omega⟩) :=
  ld_apply (S := S1x512) _ _ _ _ _ _ fun a => by fin_cases a <;> simp [ix2]
theorem ldW1 : View.ld x6 (Rect.unit ![0, 128] ![1, 128] inb_S1x512_S1x128_0_128) (ix2 0 d) = x6 (ix2 0 ⟨128 * 1 + d.val, by omega⟩) :=
  ld_apply (S := S1x512) _ _ _ _ _ _ fun a => by fin_cases a <;> simp [ix2]
theorem ldW2 : View.ld x6 (Rect.unit ![0, 256] ![1, 128] inb_S1x512_S1x128_0_256) (ix2 0 d) = x6 (ix2 0 ⟨128 * 2 + d.val, by omega⟩) :=
  ld_apply (S := S1x512) _ _ _ _ _ _ fun a => by fin_cases a <;> simp [ix2]
theorem ldW3 : View.ld x6 (Rect.unit ![0, 384] ![1, 128] inb_S1x512_S1x128_0_384) (ix2 0 d) = x6 (ix2 0 ⟨128 * 3 + d.val, by omega⟩) :=
  ld_apply (S := S1x512) _ _ _ _ _ _ fun a => by fin_cases a <;> simp [ix2]
theorem ldO0 : View.ld x3 (Rect.unit ![0, 0] ![128, 128] inb_S128x512_S128x128_0_0) (ix2 t d) = x3 (ix2 t ⟨128 * 0 + d.val, by omega⟩) :=
  ld_apply (S := S128x512) _ _ _ _ _ _ fun a => by fin_cases a <;> simp [ix2]
theorem ldO1 : View.ld x3 (Rect.unit ![0, 128] ![128, 128] inb_S128x512_S128x128_0_128) (ix2 t d) = x3 (ix2 t ⟨128 * 1 + d.val, by omega⟩) :=
  ld_apply (S := S128x512) _ _ _ _ _ _ fun a => by fin_cases a <;> simp [ix2]
theorem ldO2 : View.ld x3 (Rect.unit ![0, 256] ![128, 128] inb_S128x512_S128x128_0_256) (ix2 t d) = x3 (ix2 t ⟨128 * 2 + d.val, by omega⟩) :=
  ld_apply (S := S128x512) _ _ _ _ _ _ fun a => by fin_cases a <;> simp [ix2]
theorem ldO3 : View.ld x3 (Rect.unit ![0, 384] ![128, 128] inb_S128x512_S128x128_0_384) (ix2 t d) = x3 (ix2 t ⟨128 * 3 + d.val, by omega⟩) :=
  ld_apply (S := S128x512) _ _ _ _ _ _ fun a => by fin_cases a <;> simp [ix2]

end Cols

section Point

variable (x0 x1 x2 x3 : Vec Ideal S128x512 .f32) (x4 : Vec Ideal S128x128 .f32) (x5 : Vec Ideal S1x128 .f32)
  (x6 : Vec Ideal S1x512 .f32) (x7 : Vec Ideal S16x4x128x128 .f32) (x8 x9 : Vec Ideal S16x4x1x128 .f32)
  (h : Fin 4) (s : Fin 16)

/-- The queries of four positions. -/
abbrev qOf : Fin 4 → Fin 128 → EReal := fun t e => x0 (ix2 ⟨8 * s.val + t.val, by omega⟩ ⟨128 * h.val + e.val, by omega⟩)

/-- The logs of the weights at one of the first four rows. -/
theorem ldK_row (t u : Fin 4) :
    ldK x4 x5 (ix3 (at' h s) ⟨t.val, by omega⟩ ⟨u.val, by omega⟩) = (blkFour x1 x2 x4 x5 h s).ld t u := by
  refine (pay20_row _ _ _ _ _).trans ?_
  unfold Four.ld
  by_cases k : u.val ≤ t.val
  · rw [dif_pos k, if_pos k, bK_apply x1 x2 x4 x5 h s t, bK_apply x1 x2 x4 x5 h s u, igK_apply x1 x2 x4 x5 h s u]
  · rw [dif_neg k, if_neg k, ninf_eq]

theorem ldK_row_rest (t : Fin 4) (u : Fin 128) (hu : 4 ≤ u.val) :
    ldK x4 x5 (ix3 (at' h s) ⟨t.val, by omega⟩ u) = ⊥ := by
  refine (pay20_row _ _ _ _ _).trans ?_
  rw [dif_neg (by show ¬ u.val ≤ t.val; omega), ninf_eq]

variable (μ : Fin 4 → Fin 16 → EReal) (hμ : ∀ h s e, x9 (ix4 s h 0 e) = μ h s)
include hμ

theorem iK_row (t : Fin 4) (z : Fin 1) :
    k0_pay23 (bK x4 x5) (ldR0 x9) (ldR1 x9) (ldR2 x9) (ldR3 x9) (ix3 (at' h s) ⟨t.val, by omega⟩ z)
      = (blkFour x1 x2 x4 x5 h s).b t + μ h s := by
  refine (pay23_apply _ _ _ _ _ μ (fun s e => (ldR0_apply x9 s e).trans (hμ 0 s e))
    (fun s e => (ldR1_apply x9 s e).trans (hμ 1 s e)) (fun s e => (ldR2_apply x9 s e).trans (hμ 2 s e))
    (fun s e => (ldR3_apply x9 s e).trans (hμ 3 s e)) h s _ z).trans ?_
  rw [bK_apply x1 x2]

theorem mK_row (t : Fin 4) (z : Fin 1) :
    mK x4 x5 x9 (ix3 (at' h s) ⟨t.val, by omega⟩ z) = (blkFour x1 x2 x4 x5 h s).mt (μ h s) t := by
  refine (pay24_apply _ _ _ _ _ _ _ _ _).trans ?_
  unfold Four.mt
  refine congrArg₂ max (iK_row x1 x2 x4 x5 x9 h s μ hμ t z) ?_
  rw [fold_max, sup_four (by decide) _ (ldK_row_rest x4 x5 h s t)]
  exact congrArg (Finset.univ.sup) (funext (ldK_row x1 x2 x4 x5 h s t))

theorem wiK_row (t : Fin 4) (z : Fin 1) :
    wiK x4 x5 x9 (ix3 (at' h s) ⟨t.val, by omega⟩ z) = (blkFour x1 x2 x4 x5 h s).wi (μ h s) t := by
  refine (pay25_apply _ _ _ _ _ _ _ _ z).trans ?_
  exact congrArg Ideal.exp (congrArg₂ (· - ·) (iK_row x1 x2 x4 x5 x9 h s μ hμ t z) (mK_row x1 x2 x4 x5 x9 h s μ hμ t z))

theorem aK_row (t u : Fin 4) :
    aK x0 x1 x4 x5 x9 (ix3 (at' h s) ⟨t.val, by omega⟩ ⟨u.val, by omega⟩)
      = (blkFour x1 x2 x4 x5 h s).att (qOf x0 h s) (μ h s) t u := by
  refine (pay26_apply _ _ _ _ _ _ _ _ _ _ _).trans ?_
  unfold Four.att
  refine congrArg₂ (· * ·) (congrArg Ideal.exp (congrArg₂ (· - ·) (ldK_row x1 x2 x4 x5 h s t u)
    (mK_row x1 x2 x4 x5 x9 h s μ hμ t 0))) (Finset.sum_congr rfl fun e _ => ?_)
  rw [pay17_apply, pay14_apply, pay18_apply, dif_pos (show u.val < 8 by omega), pay15_apply]
  rfl

omit hμ in
theorem aK_rest (t : Fin 4) (u : Fin 128) (hu : 4 ≤ u.val) :
    aK x0 x1 x4 x5 x9 (ix3 (at' h s) ⟨t.val, by omega⟩ u) = 0 := by
  refine (pay26_apply _ _ _ _ _ _ _ _ _ _ _).trans ?_
  rw [ldK_row_rest x4 x5 h s t u hu, bot_sub, exp_bot, zero_mul]

/-- The normalised outputs. -/
theorem yK_row (t : Fin 4) (d : Fin 128) :
    yK x0 x1 x2 x4 x5 x7 x8 x9 (ix3 (at' h s) ⟨t.val, by omega⟩ d)
      = Cert.Mlstm.norm ((blkFour x1 x2 x4 x5 h s).out (qOf x0 h s) (μ h s) (fun d e => x7 (ix4 s h d e))
          (fun e => x8 (ix4 s h 0 e)) t) d := by
  refine (pay27_apply _ _ _ _ _ _ _ _ _ _ _).trans ?_
  refine congrArg (fun f => Cert.Mlstm.norm f d) (funext fun d => ?_)
  have den : (∑ u : Fin 128, aK x0 x1 x4 x5 x9 (ix3 (at' h s) ⟨t.val, by omega⟩ u))
      + wiK x4 x5 x9 (ix3 (at' h s) ⟨t.val, by omega⟩ 0) * (∑ e : Fin 128, k0_pay14 (F := Ideal) x0 (ix3 (at' h s) ⟨t.val, by omega⟩ e)
        * nK x8 (ix3 (at' h s) 0 e)) = (blkFour x1 x2 x4 x5 h s).den (qOf x0 h s) (μ h s) (fun e => x8 (ix4 s h 0 e)) t := by
    unfold Four.den
    rw [sum_four (by decide) _ (aK_rest x0 x1 x4 x5 x9 h s t), wiK_row x1 x2 x4 x5 x9 h s μ hμ]
    refine congrArg₂ (· + ·) (Finset.sum_congr rfl fun u _ => aK_row x0 x1 x2 x4 x5 x9 h s μ hμ t u)
      (congrArg₂ (· * ·) rfl (Finset.sum_congr rfl fun e _ => ?_))
    rw [pay14_apply, nK_apply]
  have num : (∑ u : Fin 128, aK x0 x1 x4 x5 x9 (ix3 (at' h s) ⟨t.val, by omega⟩ u) * k0_pay19 (F := Ideal) x2 (ix3 (at' h s) u d))
      + wiK x4 x5 x9 (ix3 (at' h s) ⟨t.val, by omega⟩ 0) * (∑ e : Fin 128, k0_pay17 (F := Ideal) x0 (ix3 (at' h s) ⟨t.val, by omega⟩ e)
        * CK x7 (ix3 (at' h s) d e))
      = (blkFour x1 x2 x4 x5 h s).num (qOf x0 h s) (μ h s) (fun d e => x7 (ix4 s h d e)) t d := by
    unfold Four.num
    rw [sum_four (by decide) _ (fun u hu => by rw [aK_rest x0 x1 x4 x5 x9 h s t u hu, zero_mul]),
      wiK_row x1 x2 x4 x5 x9 h s μ hμ]
    refine congrArg₂ (· + ·) (Finset.sum_congr rfl fun u _ => ?_)
      (congrArg₂ (· * ·) rfl (Finset.sum_congr rfl fun e _ => ?_))
    · rw [aK_row x0 x1 x2 x4 x5 x9 h s μ hμ t u, pay19_apply, dif_pos (show u.val < 8 by omega), pay16_apply]
      rfl
    · rw [pay17_apply, pay14_apply, CK_apply]
  unfold ratio Four.out
  exact congrArg₂ Ideal.div num (congrArg₂ max (congrArg₂ max den (congrArg (fun a : EReal => -a) den))
    (congrArg (fun a : EReal => Ideal.exp (-a)) (mK_row x1 x2 x4 x5 x9 h s μ hμ t 0)))

/-- The outputs. -/
theorem newO_apply (t : Fin 4) (d : Fin 128) :
    newO x0 x1 x2 x3 x4 x5 x6 x7 x8 x9 (ix2 ⟨8 * s.val + t.val, by omega⟩ ⟨128 * h.val + d.val, by omega⟩)
      = Cert.Mlstm.norm ((blkFour x1 x2 x4 x5 h s).out (qOf x0 h s) (μ h s) (fun d e => x7 (ix4 s h d e))
          (fun e => x8 (ix4 s h 0 e)) t) d * x6 (ix2 0 ⟨128 * h.val + d.val, by omega⟩)
        * Ideal.logistic (x3 (ix2 ⟨8 * s.val + t.val, by omega⟩ ⟨128 * h.val + d.val, by omega⟩)) := by
  have k := fun h => yK_row x0 x1 x2 x4 x5 x7 x8 x9 h s μ hμ t d
  refine canon_cols _ _ _ _ (fun h => Cert.Mlstm.norm ((blkFour x1 x2 x4 x5 h s).out (qOf x0 h s) (μ h s)
    (fun d e => x7 (ix4 s h d e)) (fun e => x8 (ix4 s h 0 e)) t) d * x6 (ix2 0 ⟨128 * h.val + d.val, by omega⟩)
        * Ideal.logistic (x3 (ix2 ⟨8 * s.val + t.val, by omega⟩ ⟨128 * h.val + d.val, by omega⟩))) h
    ⟨8 * s.val + t.val, by omega⟩ d ?_ ?_ ?_ ?_
  · refine (pay30_apply _ _ _).trans ?_
    refine congrArg₂ (· * ·) ((pay28_apply _ _ _ _ _ _ _ _ _ s ⟨t.val, by omega⟩ d).trans (congrArg₂ (· * ·) (k 0) (ldW0 x6 d)))
      (congrArg Ideal.logistic (ldO0 x3 _ d))
  · exact (pay31_apply _ _ _ s ⟨t.val, by omega⟩ d).trans (congrArg₂ (· * ·) (congrArg₂ (· * ·) (k 1) (ldW1 x6 d))
      (congrArg Ideal.logistic (ldO1 x3 _ d)))
  · exact (pay32_apply _ _ _ s ⟨t.val, by omega⟩ d).trans (congrArg₂ (· * ·) (congrArg₂ (· * ·) (k 2) (ldW2 x6 d))
      (congrArg Ideal.logistic (ldO2 x3 _ d)))
  · exact (pay33_apply _ _ _ s ⟨t.val, by omega⟩ d).trans (congrArg₂ (· * ·) (congrArg₂ (· * ·) (k 3) (ldW3 x6 d))
      (congrArg Ideal.logistic (ldO3 x3 _ d)))

end Point

end Cert.Rows
-- ==== Proof.Rows.KArr.lean ====
/-
  The arrays of states that the fifth call leaves, entry by entry: sequence `16 t + s` is what grid point `t` stores for its
  sequence `s`, and the blocks that a point reads are rows `128 t …` of the keys, values and gates, sequences `16 t …` of
  the states, and the padded bias row.
-/
module

public import proofs.«01_k».proof.Proof.Gen.Kernel5Ideal.Frame
public import proofs.«01_k».proof.Proof.Rows.QPoint
public import Idealize.ShloMosaic.Lib.Claim
public import Idealize.ShloMosaic.Lib.KernelVsHost
public import Idealize.ShloMosaic.Lib.Pipeline.ValueKit

@[expose] public section

noncomputable section

namespace Cert.Rows

open Idealize.ShloMosaic Idealize.ShloMosaic.TcCoe Cert.Kernel5Ideal Cert.Kernel5Ideal.Gen

variable (m : (ℓ : Loc nD τ sig) → Buf (Elt Ideal) ℓ) (c : Dev nD)

theorem lt8 (t : Fin cfg0.N) : t.val < 8 := lt_of_lt_of_eq t.isLt N_0

/-- What grid point `t` writes back to the outputs, and its block of the final array. -/
theorem flushed10 (t : Fin cfg0.N) :
    (dats m 0 c).flushed 10 t = (cfg0.win 10).cut (grid0.coords t) ((outsAt0 m c t).1) := by
  show (cfg0.win 10).cut (grid0.coords t) ((dats m 0 c).after 10 t) = _
  rw [after0_10]

theorem flushed10_A (t : Fin cfg0.N) :
    (dats m 0 c).flushed 10 t = (cfg0.win 10).cut (grid0.coords t) (out0_A_10 c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
      scM0_0 (Memref.isWhole_whole _) scM0_1 (Memref.isWhole_whole _) scM0_2 (Memref.isWhole_whole _) (hcond0_0 t) (hcond0_1 t)
      (iblk m c 0 t) (iblk m c 1 t) (iblk m c 2 t) (iblk m c 3 t) (iblk m c 4 t) (iblk m c 5 t) (iblk m c 6 t) (iblk m c 7 t) (iblk m c 8 t) (iblk m c 9 t)) := by
  simp only [flushed10, outsAt0]

theorem idx_inj10 : ∀ t t' : Fin cfg0.N, win0_10.index t = win0_10.index t' → t = t' :=
  (by decide +kernel : ∀ t t' : Fin grid0.N, win0_10.index t = win0_10.index t' → t = t')

theorem blocks10 (t : Fin cfg0.N) (hf : (cfg0.win 10).flush t = true) :
    ((cfg0.win 10).blk t).view.read (Elt Ideal) ((dats m 0 c).arrAt 10 cfg0.N) = (dats m 0 c).flushed 10 t :=
  (dats m 0 c).read_blk_arrAt_eq_flushed 10
    (fun t t' _ _ hne => (cfg0.win 10).disjoint_blk fun h => hne (idx_inj10 t t' h)) cfg0.N t t.isLt hf

/-- What grid point `t` writes back to the matrix memories, and its block of the final array. -/
theorem flushed11 (t : Fin cfg0.N) :
    (dats m 0 c).flushed 11 t = (cfg0.win 11).cut (grid0.coords t) ((outsAt0 m c t).2.1) := by
  show (cfg0.win 11).cut (grid0.coords t) ((dats m 0 c).after 11 t) = _
  rw [after0_11]

theorem flushed11_A (t : Fin cfg0.N) :
    (dats m 0 c).flushed 11 t = (cfg0.win 11).cut (grid0.coords t) (out0_A_11 c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
      scM0_0 (Memref.isWhole_whole _) scM0_1 (Memref.isWhole_whole _) scM0_2 (Memref.isWhole_whole _) (hcond0_0 t) (hcond0_1 t)
      (iblk m c 0 t) (iblk m c 1 t) (iblk m c 2 t) (iblk m c 3 t) (iblk m c 4 t) (iblk m c 5 t) (iblk m c 6 t) (iblk m c 7 t) (iblk m c 8 t) (iblk m c 9 t)) := by
  simp only [flushed11, outsAt0]

theorem idx_inj11 : ∀ t t' : Fin cfg0.N, win0_11.index t = win0_11.index t' → t = t' :=
  (by decide +kernel : ∀ t t' : Fin grid0.N, win0_11.index t = win0_11.index t' → t = t')

theorem blocks11 (t : Fin cfg0.N) (hf : (cfg0.win 11).flush t = true) :
    ((cfg0.win 11).blk t).view.read (Elt Ideal) ((dats m 0 c).arrAt 11 cfg0.N) = (dats m 0 c).flushed 11 t :=
  (dats m 0 c).read_blk_arrAt_eq_flushed 11
    (fun t t' _ _ hne => (cfg0.win 11).disjoint_blk fun h => hne (idx_inj11 t t' h)) cfg0.N t t.isLt hf

/-- What grid point `t` writes back to the normalisers, and its block of the final array. -/
theorem flushed12 (t : Fin cfg0.N) :
    (dats m 0 c).flushed 12 t = (cfg0.win 12).cut (grid0.coords t) ((outsAt0 m c t).2.2.1) := by
  show (cfg0.win 12).cut (grid0.coords t) ((dats m 0 c).after 12 t) = _
  rw [after0_12]

theorem flushed12_A (t : Fin cfg0.N) :
    (dats m 0 c).flushed 12 t = (cfg0.win 12).cut (grid0.coords t) (out0_A_12 c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
      scM0_0 (Memref.isWhole_whole _) scM0_1 (Memref.isWhole_whole _) scM0_2 (Memref.isWhole_whole _) (hcond0_0 t) (hcond0_1 t)
      (iblk m c 0 t) (iblk m c 1 t) (iblk m c 2 t) (iblk m c 3 t) (iblk m c 4 t) (iblk m c 5 t) (iblk m c 6 t) (iblk m c 7 t) (iblk m c 8 t) (iblk m c 9 t)) := by
  simp only [flushed12, outsAt0]

theorem idx_inj12 : ∀ t t' : Fin cfg0.N, win0_12.index t = win0_12.index t' → t = t' :=
  (by decide +kernel : ∀ t t' : Fin grid0.N, win0_12.index t = win0_12.index t' → t = t')

theorem blocks12 (t : Fin cfg0.N) (hf : (cfg0.win 12).flush t = true) :
    ((cfg0.win 12).blk t).view.read (Elt Ideal) ((dats m 0 c).arrAt 12 cfg0.N) = (dats m 0 c).flushed 12 t :=
  (dats m 0 c).read_blk_arrAt_eq_flushed 12
    (fun t t' _ _ hne => (cfg0.win 12).disjoint_blk fun h => hne (idx_inj12 t t' h)) cfg0.N t t.isLt hf

/-- What grid point `t` writes back to the maxima, and its block of the final array. -/
theorem flushed13 (t : Fin cfg0.N) :
    (dats m 0 c).flushed 13 t = (cfg0.win 13).cut (grid0.coords t) ((outsAt0 m c t).2.2.2) := by
  show (cfg0.win 13).cut (grid0.coords t) ((dats m 0 c).after 13 t) = _
  rw [after0_13]

theorem flushed13_A (t : Fin cfg0.N) :
    (dats m 0 c).flushed 13 t = (cfg0.win 13).cut (grid0.coords t) (out0_A_13 c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
      scM0_0 (Memref.isWhole_whole _) scM0_1 (Memref.isWhole_whole _) scM0_2 (Memref.isWhole_whole _) (hcond0_0 t) (hcond0_1 t)
      (iblk m c 0 t) (iblk m c 1 t) (iblk m c 2 t) (iblk m c 3 t) (iblk m c 4 t) (iblk m c 5 t) (iblk m c 6 t) (iblk m c 7 t) (iblk m c 8 t) (iblk m c 9 t)) := by
  simp only [flushed13, outsAt0]

theorem idx_inj13 : ∀ t t' : Fin cfg0.N, win0_13.index t = win0_13.index t' → t = t' :=
  (by decide +kernel : ∀ t t' : Fin grid0.N, win0_13.index t = win0_13.index t' → t = t')

theorem blocks13 (t : Fin cfg0.N) (hf : (cfg0.win 13).flush t = true) :
    ((cfg0.win 13).blk t).view.read (Elt Ideal) ((dats m 0 c).arrAt 13 cfg0.N) = (dats m 0 c).flushed 13 t :=
  (dats m 0 c).read_blk_arrAt_eq_flushed 13
    (fun t t' _ _ hne => (cfg0.win 13).disjoint_blk fun h => hne (idx_inj13 t t' h)) cfg0.N t t.isLt hf

/-- Sequence `s` of the group that grid point `t` handles. -/
abbrev seq (t : Fin cfg0.N) (s : Fin 16) : Fin 128 := ⟨16 * t.val + s.val, by have := lt8 t; omega⟩

theorem idxRow (t : Fin cfg0.N) :
    win0_1.index t = ![t.val, 0] ∧ win0_2.index t = ![t.val, 0] ∧ win0_4.index t = ![t.val, 0] ∧ win0_5.index t = ![0, 0] :=
  (by decide +kernel : ∀ t : Fin grid0.N, win0_1.index t = ![t.val, 0] ∧ win0_2.index t = ![t.val, 0]
    ∧ win0_4.index t = ![t.val, 0] ∧ win0_5.index t = ![0, 0]) t

theorem idxSt (t : Fin cfg0.N) :
    win0_7.index t = ![t.val, 0, 0, 0] ∧ win0_8.index t = ![t.val, 0, 0, 0] ∧ win0_9.index t = ![t.val, 0, 0, 0] :=
  (by decide +kernel : ∀ t : Fin grid0.N, win0_7.index t = ![t.val, 0, 0, 0] ∧ win0_8.index t = ![t.val, 0, 0, 0]
    ∧ win0_9.index t = ![t.val, 0, 0, 0]) t

/-- The block of the keys. -/
theorem blk1 (t : Fin cfg0.N) (r : Fin 128) (d : Fin 512) :
    (iblk m c 1 t : Vec Ideal S128x512 .f32) (ix2 r d)
      = m ((c : Thread nD τ).loc main_arg1) (ix2 ⟨128 * t.val + r.val, by have := lt8 t; omega⟩ d) := by
  obtain ⟨h, -, -, -⟩ := idxRow t
  blk_ext [iblk, V, h]

/-- The block of the values. -/
theorem blk2 (t : Fin cfg0.N) (r : Fin 128) (d : Fin 512) :
    (iblk m c 2 t : Vec Ideal S128x512 .f32) (ix2 r d)
      = m ((c : Thread nD τ).loc main_arg2) (ix2 ⟨128 * t.val + r.val, by have := lt8 t; omega⟩ d) := by
  obtain ⟨-, h, -, -⟩ := idxRow t
  blk_ext [iblk, V, h]

/-- The block of the gates. -/
theorem blk4 (t : Fin cfg0.N) (r : Fin 128) (d : Fin 128) :
    (iblk m c 4 t : Vec Ideal S128x128 .f32) (ix2 r d)
      = m ((c : Thread nD τ).loc main_arg4) (ix2 ⟨128 * t.val + r.val, by have := lt8 t; omega⟩ d) := by
  obtain ⟨-, -, h, -⟩ := idxRow t
  blk_ext [iblk, V, h]

theorem V_v2 (d : Fin 8) :
    (V m c main_v2 : Vec Ideal S1x128 .f32) (ix2 0 ⟨d.val, by omega⟩) = m ((c : Thread nD τ).loc main_arg5) (ix2 0 d) := by
  unfold V V0
  simp only [List.flatten_cons, List.flatten_nil, List.append_nil, StableHlo.after_append]
  after_results
  have hd := d.isLt
  pointwise
  refine Eq.trans (pad_apply_of_inside (s := S8) (t := S128) ![0] ![120] ![0] (fun i : S8.Idx =>
    (m ((c : Thread nD τ).loc main_arg5) (ix2 0 (i 0)) : EReal)) _ pads_S8_S128_01200 h_S_ (ix1 ⟨d.val, by omega⟩)
    (ix1 d) (fun a => ?_)) rfl
  fin_cases a
  show d.val = 0 + d.val * (0 + 1)
  omega

theorem V_v4 (q : Fin 128) (h : Fin 4) (e : Fin 128) :
    (V m c main_v4 : Vec Ideal S128x4x1x128 .f32) (ix4 q h 0 e) = m ((c : Thread nD τ).loc main_arg8) (ix3 q h e) := by
  unfold V V0
  simp only [List.flatten_cons, List.flatten_nil, List.append_nil, StableHlo.after_append]
  after_results
  pointwise

theorem V_v6 (q : Fin 128) (h : Fin 4) (e : Fin 128) :
    (V m c main_v6 : Vec Ideal S128x4x1x128 .f32) (ix4 q h 0 e) = m ((c : Thread nD τ).loc main_arg9) (ix2 q h) := by
  unfold V V0
  simp only [List.flatten_cons, List.flatten_nil, List.append_nil, StableHlo.after_append]
  after_results
  pointwise

/-- The block of the bias row, at its first eight lanes. -/
theorem blk5 (t : Fin cfg0.N) (d : Fin 8) :
    (iblk m c 5 t : Vec Ideal S1x128 .f32) (ix2 0 ⟨d.val, by omega⟩)
      = m ((c : Thread nD τ).loc main_arg5) (ix2 0 d) := by
  obtain ⟨-, -, -, h⟩ := idxRow t
  rw [← V_v2 m c d]
  blk_ext [iblk, h]

/-- The block of the matrix memories. -/
theorem blk7 (t : Fin cfg0.N) (s : Fin 16) (h : Fin 4) (d e : Fin 128) :
    (iblk m c 7 t : Vec Ideal S16x4x128x128 .f32) (ix4 s h d e)
      = m ((c : Thread nD τ).loc main_arg7) (ix4 (seq t s) h d e) := by
  obtain ⟨k, -, -⟩ := idxSt t
  blk_ext [iblk, V, k]

/-- The block of the normalisers. -/
theorem blk8 (t : Fin cfg0.N) (s : Fin 16) (h : Fin 4) (e : Fin 128) :
    (iblk m c 8 t : Vec Ideal S16x4x1x128 .f32) (ix4 s h 0 e)
      = m ((c : Thread nD τ).loc main_arg8) (ix3 (seq t s) h e) := by
  obtain ⟨-, k, -⟩ := idxSt t
  rw [← V_v4 m c (seq t s) h e]
  blk_ext [iblk, k]

/-- The block of the maxima. -/
theorem blk9 (t : Fin cfg0.N) (s : Fin 16) (h : Fin 4) (e : Fin 128) :
    (iblk m c 9 t : Vec Ideal S16x4x1x128 .f32) (ix4 s h 0 e)
      = m ((c : Thread nD τ).loc main_arg9) (ix2 (seq t s) h) := by
  obtain ⟨-, -, k⟩ := idxSt t
  rw [← V_v6 m c (seq t s) h e]
  blk_ext [iblk, k]

/-- The four positions that sequence `q` and head `h` have in the arguments. -/
abbrev fourK (q : Fin 128) (h : Fin 4) : Four :=
  four (fun r d => m ((c : Thread nD τ).loc main_arg1) (ix2 r d)) (fun r d => m ((c : Thread nD τ).loc main_arg2) (ix2 r d))
    (fun r d => m ((c : Thread nD τ).loc main_arg4) (ix2 r d)) (fun d => m ((c : Thread nD τ).loc main_arg5) (ix2 0 d)) q h

theorem Four.ext' {x y : Four} (h1 : x.ig = y.ig) (h2 : x.lf = y.lf) (h3 : x.k = y.k) (h4 : x.v = y.v) : x = y := by
  cases x; cases y; cases h1; cases h2; cases h3; cases h4; rfl

/-- A row of a block is a row of the array. -/
theorem row_eq {n : Nat} (f : Fin 1024 → Fin n → EReal) (t : Fin cfg0.N) (s : Fin 16) (u : Fin 4) (d : Fin n) :
    f ⟨128 * t.val + (8 * s.val + u.val), by have := lt8 t; omega⟩ d
      = f ⟨8 * (16 * t.val + s.val) + u.val, by have := lt8 t; omega⟩ d :=
  congrArg (fun i => f i d) (Fin.ext (by dsimp only; omega))

theorem blkFour_eq (t : Fin cfg0.N) (h : Fin 4) (s : Fin 16) :
    blkFour (iblk m c 1 t) (iblk m c 2 t) (iblk m c 4 t) (iblk m c 5 t) h s = fourK m c (seq t s) h := by
  apply Four.ext'
  · funext u
    exact congrArg₂ (· + ·) ((blk4 m c t _ _).trans (row_eq (fun r d => m ((c : Thread nD τ).loc main_arg4) (ix2 r d)) t s u _))
      (blk5 m c t ⟨h.val, by omega⟩)
  · funext u
    exact congrArg Cert.Mlstm.logsig (congrArg₂ (· + ·)
      ((blk4 m c t _ _).trans (row_eq (fun r d => m ((c : Thread nD τ).loc main_arg4) (ix2 r d)) t s u _))
      (blk5 m c t ⟨4 + h.val, by omega⟩))
  · funext u e
    exact (blk1 m c t _ _).trans (row_eq (fun r d => m ((c : Thread nD τ).loc main_arg1) (ix2 r d)) t s u _)
  · funext u e
    exact (blk2 m c t _ _).trans (row_eq (fun r d => m ((c : Thread nD τ).loc main_arg2) (ix2 r d)) t s u _)

abbrev mKq (q : Fin 128) (h : Fin 4) : EReal := m ((c : Thread nD τ).loc main_arg9) (ix2 q h)

theorem idxOut11 (t : Fin cfg0.N) : win0_11.index t = ![t.val, 0, 0, 0] ∧ (cfg0.win 11).flush t = true :=
  (by decide +kernel : ∀ t : Fin grid0.N, win0_11.index t = ![t.val, 0, 0, 0] ∧ win0_11.flush t = true) t

theorem arr11 (t : Fin cfg0.N) (s : Fin 16) (h : Fin 4) (d e : Fin 128) :
    ((dats m 0 c).arrAt 11 cfg0.N : Vec Ideal S128x4x128x128 .f32) (ix4 (seq t s) h d e)
      = newC (iblk m c 1 t) (iblk m c 2 t) (iblk m c 4 t) (iblk m c 5 t) (iblk m c 7 t) (iblk m c 9 t) (ix4 s h d e) := by
  obtain ⟨k, hf⟩ := idxOut11 t
  have E := congrFun (blocks11 m c t hf) (ix4 s h d e)
  rw [flushed11_A, out11_eq] at E
  refine Eq.trans (congrArg ((dats m 0 c).arrAt 11 cfg0.N) ?_) E
  have b0 : (((cfg0.win 11).blk t).view.emb (ix4 s h d e) 0).val = win0_11.index t (0 : Fin 4) * 16 + 1 * s.val := rfl
  have b1 : (((cfg0.win 11).blk t).view.emb (ix4 s h d e) 1).val = win0_11.index t (1 : Fin 4) * 4 + 1 * h.val := rfl
  have b2 : (((cfg0.win 11).blk t).view.emb (ix4 s h d e) 2).val = win0_11.index t (2 : Fin 4) * 128 + 1 * d.val := rfl
  have b3 : (((cfg0.win 11).blk t).view.emb (ix4 s h d e) 3).val = win0_11.index t (3 : Fin 4) * 128 + 1 * e.val := rfl
  rw [k] at b0 b1 b2 b3
  funext a
  apply Fin.ext
  match a with
  | 0 => refine Eq.trans ?_ b0.symm; show 16 * t.val + s.val = t.val * 16 + 1 * s.val; omega
  | 1 => refine Eq.trans ?_ b1.symm; show h.val = 0 * 4 + 1 * h.val; omega
  | 2 => refine Eq.trans ?_ b2.symm; show d.val = 0 * 128 + 1 * d.val; omega
  | 3 => refine Eq.trans ?_ b3.symm; show e.val = 0 * 128 + 1 * e.val; omega

theorem idxOut12 (t : Fin cfg0.N) : win0_12.index t = ![t.val, 0, 0, 0] ∧ (cfg0.win 12).flush t = true :=
  (by decide +kernel : ∀ t : Fin grid0.N, win0_12.index t = ![t.val, 0, 0, 0] ∧ win0_12.flush t = true) t

theorem arr12 (t : Fin cfg0.N) (s : Fin 16) (h : Fin 4) (e : Fin 128) :
    ((dats m 0 c).arrAt 12 cfg0.N : Vec Ideal S128x4x1x128 .f32) (ix4 (seq t s) h 0 e)
      = newN (iblk m c 1 t) (iblk m c 4 t) (iblk m c 5 t) (iblk m c 8 t) (iblk m c 9 t) (ix4 s h 0 e) := by
  obtain ⟨k, hf⟩ := idxOut12 t
  have E := congrFun (blocks12 m c t hf) (ix4 s h 0 e)
  rw [flushed12_A, out12_eq] at E
  refine Eq.trans (congrArg ((dats m 0 c).arrAt 12 cfg0.N) ?_) E
  have b0 : (((cfg0.win 12).blk t).view.emb (ix4 s h 0 e) 0).val = win0_12.index t (0 : Fin 4) * 16 + 1 * s.val := rfl
  have b1 : (((cfg0.win 12).blk t).view.emb (ix4 s h 0 e) 1).val = win0_12.index t (1 : Fin 4) * 4 + 1 * h.val := rfl
  have b2 : (((cfg0.win 12).blk t).view.emb (ix4 s h 0 e) 2).val = win0_12.index t (2 : Fin 4) * 1 + 1 * 0 := rfl
  have b3 : (((cfg0.win 12).blk t).view.emb (ix4 s h 0 e) 3).val = win0_12.index t (3 : Fin 4) * 128 + 1 * e.val := rfl
  rw [k] at b0 b1 b2 b3
  funext a
  apply Fin.ext
  match a with
  | 0 => refine Eq.trans ?_ b0.symm; show 16 * t.val + s.val = t.val * 16 + 1 * s.val; omega
  | 1 => refine Eq.trans ?_ b1.symm; show h.val = 0 * 4 + 1 * h.val; omega
  | 2 => refine Eq.trans ?_ b2.symm; show 0 = 0 * 1 + 1 * 0; omega
  | 3 => refine Eq.trans ?_ b3.symm; show e.val = 0 * 128 + 1 * e.val; omega

theorem idxOut13 (t : Fin cfg0.N) : win0_13.index t = ![t.val, 0, 0, 0] ∧ (cfg0.win 13).flush t = true :=
  (by decide +kernel : ∀ t : Fin grid0.N, win0_13.index t = ![t.val, 0, 0, 0] ∧ win0_13.flush t = true) t

theorem arr13 (t : Fin cfg0.N) (s : Fin 16) (h : Fin 4) (e : Fin 128) :
    ((dats m 0 c).arrAt 13 cfg0.N : Vec Ideal S128x4x1x128 .f32) (ix4 (seq t s) h 0 e)
      = newM (iblk m c 4 t) (iblk m c 5 t) (iblk m c 9 t) (ix4 s h 0 e) := by
  obtain ⟨k, hf⟩ := idxOut13 t
  have E := congrFun (blocks13 m c t hf) (ix4 s h 0 e)
  rw [flushed13_A, out13_eq] at E
  refine Eq.trans (congrArg ((dats m 0 c).arrAt 13 cfg0.N) ?_) E
  have b0 : (((cfg0.win 13).blk t).view.emb (ix4 s h 0 e) 0).val = win0_13.index t (0 : Fin 4) * 16 + 1 * s.val := rfl
  have b1 : (((cfg0.win 13).blk t).view.emb (ix4 s h 0 e) 1).val = win0_13.index t (1 : Fin 4) * 4 + 1 * h.val := rfl
  have b2 : (((cfg0.win 13).blk t).view.emb (ix4 s h 0 e) 2).val = win0_13.index t (2 : Fin 4) * 1 + 1 * 0 := rfl
  have b3 : (((cfg0.win 13).blk t).view.emb (ix4 s h 0 e) 3).val = win0_13.index t (3 : Fin 4) * 128 + 1 * e.val := rfl
  rw [k] at b0 b1 b2 b3
  funext a
  apply Fin.ext
  match a with
  | 0 => refine Eq.trans ?_ b0.symm; show 16 * t.val + s.val = t.val * 16 + 1 * s.val; omega
  | 1 => refine Eq.trans ?_ b1.symm; show h.val = 0 * 4 + 1 * h.val; omega
  | 2 => refine Eq.trans ?_ b2.symm; show 0 = 0 * 1 + 1 * 0; omega
  | 3 => refine Eq.trans ?_ b3.symm; show e.val = 0 * 128 + 1 * e.val; omega

/-- The matrix memories. -/
theorem resC (t : Fin cfg0.N) (s : Fin 16) (h : Fin 4) (d e : Fin 128) :
    ((dats m 0 c).arrAt 11 cfg0.N : Vec Ideal S128x4x128x128 .f32) (ix4 (seq t s) h d e)
      = (fourK m c (seq t s) h).newC (mKq m c (seq t s) h) (m ((c : Thread nD τ).loc main_arg7) (ix4 (seq t s) h d e)) d e := by
  rw [arr11, newC_apply _ _ _ _ _ _ h s (fun h s => mKq m c (seq t s) h) (fun h s e => blk9 m c t s h e), blkFour_eq, blk7]

/-- The normalisers. -/
theorem resN (t : Fin cfg0.N) (s : Fin 16) (h : Fin 4) (e : Fin 128) :
    ((dats m 0 c).arrAt 12 cfg0.N : Vec Ideal S128x4x1x128 .f32) (ix4 (seq t s) h 0 e)
      = (fourK m c (seq t s) h).newN (mKq m c (seq t s) h) (m ((c : Thread nD τ).loc main_arg8) (ix3 (seq t s) h e)) e := by
  rw [arr12, newN_apply _ (iblk m c 2 t) _ _ _ _ h s (fun h s => mKq m c (seq t s) h) (fun h s e => blk9 m c t s h e),
    blkFour_eq, blk8]

/-- The maxima, spread over the lanes. -/
theorem resM (t : Fin cfg0.N) (s : Fin 16) (h : Fin 4) (e : Fin 128) :
    ((dats m 0 c).arrAt 13 cfg0.N : Vec Ideal S128x4x1x128 .f32) (ix4 (seq t s) h 0 e)
      = (fourK m c (seq t s) h).max' (mKq m c (seq t s) h) := by
  rw [arr13, newM_apply (iblk m c 1 t) (iblk m c 2 t) _ _ _ h s (fun h s => mKq m c (seq t s) h)
    (fun h s e => blk9 m c t s h e), blkFour_eq]

theorem idxQ (t : Fin cfg0.N) :
    win0_0.index t = ![t.val, 0] ∧ win0_3.index t = ![t.val, 0] ∧ win0_6.index t = ![0, 0] :=
  (by decide +kernel : ∀ t : Fin grid0.N, win0_0.index t = ![t.val, 0] ∧ win0_3.index t = ![t.val, 0]
    ∧ win0_6.index t = ![0, 0]) t

/-- The block of the queries. -/
theorem blk0 (t : Fin cfg0.N) (r : Fin 128) (d : Fin 512) :
    (iblk m c 0 t : Vec Ideal S128x512 .f32) (ix2 r d)
      = m ((c : Thread nD τ).loc main_arg0) (ix2 ⟨128 * t.val + r.val, by have := lt8 t; omega⟩ d) := by
  obtain ⟨h, -, -⟩ := idxQ t
  blk_ext [iblk, V, h]

/-- The block of the output gates. -/
theorem blk3 (t : Fin cfg0.N) (r : Fin 128) (d : Fin 512) :
    (iblk m c 3 t : Vec Ideal S128x512 .f32) (ix2 r d)
      = m ((c : Thread nD τ).loc main_arg3) (ix2 ⟨128 * t.val + r.val, by have := lt8 t; omega⟩ d) := by
  obtain ⟨-, h, -⟩ := idxQ t
  blk_ext [iblk, V, h]

theorem V_v3 (h : Fin 4) (d : Fin 128) :
    (V m c main_v3 : Vec Ideal S1x512 .f32) (ix2 0 ⟨128 * h.val + d.val, by omega⟩)
      = m ((c : Thread nD τ).loc main_arg6) (ix2 h d) := by
  unfold V V0
  simp only [List.flatten_cons, List.flatten_nil, List.append_nil, StableHlo.after_append]
  after_results
  generalize m ((c : Thread nD τ).loc main_arg6) = w
  pointwise

/-- The block of the norm's weights. -/
theorem blk6 (t : Fin cfg0.N) (h : Fin 4) (d : Fin 128) :
    (iblk m c 6 t : Vec Ideal S1x512 .f32) (ix2 0 ⟨128 * h.val + d.val, by omega⟩)
      = m ((c : Thread nD τ).loc main_arg6) (ix2 h d) := by
  obtain ⟨-, -, k⟩ := idxQ t
  rw [← V_v3 m c h d]
  blk_ext [iblk, k]

theorem idxOut10 (t : Fin cfg0.N) : win0_10.index t = ![t.val, 0] ∧ (cfg0.win 10).flush t = true :=
  (by decide +kernel : ∀ t : Fin grid0.N, win0_10.index t = ![t.val, 0] ∧ win0_10.flush t = true) t

theorem arr10 (t : Fin cfg0.N) (r : Fin 128) (d : Fin 512) :
    ((dats m 0 c).arrAt 10 cfg0.N : Vec Ideal S1024x512 .f32) (ix2 ⟨128 * t.val + r.val, by have := lt8 t; omega⟩ d)
      = newO (iblk m c 0 t) (iblk m c 1 t) (iblk m c 2 t) (iblk m c 3 t) (iblk m c 4 t) (iblk m c 5 t) (iblk m c 6 t)
          (iblk m c 7 t) (iblk m c 8 t) (iblk m c 9 t) (ix2 r d) := by
  obtain ⟨k, hf⟩ := idxOut10 t
  have E := congrFun (blocks10 m c t hf) (ix2 r d)
  rw [flushed10_A, out10_eq] at E
  refine Eq.trans (congrArg ((dats m 0 c).arrAt 10 cfg0.N) ?_) E
  have b0 : (((cfg0.win 10).blk t).view.emb (ix2 r d) 0).val = win0_10.index t (0 : Fin 2) * 128 + 1 * r.val := rfl
  have b1 : (((cfg0.win 10).blk t).view.emb (ix2 r d) 1).val = win0_10.index t (1 : Fin 2) * 512 + 1 * d.val := rfl
  rw [k] at b0 b1
  funext a
  apply Fin.ext
  match a with
  | 0 => refine Eq.trans ?_ b0.symm; show 128 * t.val + r.val = t.val * 128 + 1 * r.val; omega
  | 1 => refine Eq.trans ?_ b1.symm; show d.val = 0 * 512 + 1 * d.val; omega

/-- The queries of four positions in the arguments. -/
abbrev qKq (q : Fin 128) (h : Fin 4) : Fin 4 → Fin 128 → EReal := fun t e =>
  m ((c : Thread nD τ).loc main_arg0) (ix2 ⟨8 * q.val + t.val, by omega⟩ ⟨128 * h.val + e.val, by omega⟩)

theorem qOf_eq (t : Fin cfg0.N) (h : Fin 4) (s : Fin 16) : qOf (iblk m c 0 t) h s = qKq m c (seq t s) h := by
  funext u e
  exact (blk0 m c t _ _).trans (row_eq (fun r d => m ((c : Thread nD τ).loc main_arg0) (ix2 r d)) t s u _)

/-- The outputs, in the first four rows of a sequence. -/
theorem resO (t : Fin cfg0.N) (s : Fin 16) (u h : Fin 4) (d : Fin 128) :
    ((dats m 0 c).arrAt 10 cfg0.N : Vec Ideal S1024x512 .f32)
        (ix2 ⟨8 * (seq t s).val + u.val, by omega⟩ ⟨128 * h.val + d.val, by omega⟩)
      = Cert.Mlstm.norm ((fourK m c (seq t s) h).out (qKq m c (seq t s) h) (mKq m c (seq t s) h)
            (fun d e => m ((c : Thread nD τ).loc main_arg7) (ix4 (seq t s) h d e))
            (fun e => m ((c : Thread nD τ).loc main_arg8) (ix3 (seq t s) h e)) u) d
          * m ((c : Thread nD τ).loc main_arg6) (ix2 h d)
          * Ideal.logistic (m ((c : Thread nD τ).loc main_arg3)
              (ix2 ⟨8 * (seq t s).val + u.val, by omega⟩ ⟨128 * h.val + d.val, by omega⟩)) := by
  have e7 : (fun d e => (iblk m c 7 t : Vec Ideal S16x4x128x128 .f32) (ix4 s h d e))
      = fun d e => m ((c : Thread nD τ).loc main_arg7) (ix4 (seq t s) h d e) := by
    funext d e; exact blk7 m c t s h d e
  have e8 : (fun e => (iblk m c 8 t : Vec Ideal S16x4x1x128 .f32) (ix4 s h 0 e))
      = fun e => m ((c : Thread nD τ).loc main_arg8) (ix3 (seq t s) h e) := by
    funext e; exact blk8 m c t s h e
  refine (row_eq (fun r d => ((dats m 0 c).arrAt 10 cfg0.N : Vec Ideal S1024x512 .f32) (ix2 r d)) t s u _).symm.trans ?_
  refine (arr10 m c t ⟨8 * s.val + u.val, by omega⟩ ⟨128 * h.val + d.val, by omega⟩).trans ?_
  rw [newO_apply _ _ _ _ _ _ _ _ _ _ h s (fun h s => mKq m c (seq t s) h) (fun h s e => blk9 m c t s h e), blkFour_eq,
    qOf_eq, e7, e8, blk6]
  refine congrArg₂ (· * ·) rfl (congrArg Ideal.logistic ?_)
  exact (blk3 m c t _ _).trans (row_eq (fun r d => m ((c : Thread nD τ).loc main_arg3) (ix2 r d)) t s u _)

end Cert.Rows
-- ==== Proof.Rows.KTail.lean ====
/-
  What the lines after the fifth call make of its outputs: of each group of eight rows, the first four.
-/
module

public import proofs.«01_k».proof.Proof.Gen.Kernel5Ideal.Frame
public import Idealize.ShloMosaic.Lib.Pointwise
public import Idealize.ShloMosaic.Lib.KernelVsHost

@[expose] public section

noncomputable section

namespace Cert.Rows

open Idealize.ShloMosaic Idealize.ShloMosaic.TcCoe Idealize.SL.Sem Cert.Kernel5Ideal Cert.Kernel5Ideal.Gen

/-- The first four of each eight rows. -/
def kept (a : FVec Ideal S1024x512 .f32) : FVec Ideal S512x512 .f32 :=
  shapeCast S512x512 (extractStridedSlice S128x4x512 ![0, 0, 0]
    (shapeCast S128x8x512 a shapeCasts_S1024x512_S128x8x512 : FVec Ideal S128x8x512 .f32)
    slices_S128x8x512_S128x4x512_0_0_0 : FVec Ideal S128x4x512 .f32) shapeCasts_S128x4x512_S512x512

theorem kept_apply (a : FVec Ideal S1024x512 .f32) (q : Fin 128) (t : Fin 4) (j : Fin 512) :
    kept a (ix2 ⟨4 * q.val + t.val, by omega⟩ j) = a (ix2 ⟨8 * q.val + t.val, by omega⟩ j) := by
  obtain ⟨q, hq⟩ := q
  obtain ⟨t, ht⟩ := t
  pointwise [kept]
  exact congrArg (fun r => a (ix2 r j)) (Fin.ext (by dsimp only; omega))

variable (m : (ℓ : Loc nD τ sig) → Buf (Elt Ideal) ℓ) (ρ : Dev nD → PrngReg) (c : Dev nD)

theorem arrs_inj : Function.Injective (Pipeline.arrRef spec0) := fun a b h =>
  (by decide : ∀ a b, Pipeline.arrRef spec0 a = Pipeline.arrRef spec0 b → a = b) a b h

theorem tail_o : Pipeline.afterTail₀ cfgs (dats m) 0 (V0 m) [hostOps1] c main_v10 = kept ((dats m 0 c).arrAt 10 cfg0.N) := by
  unfold Pipeline.afterTail₀
  generalize hW : Pipeline.withArrays (cfgs 0).spec c (V0 m c) (fun w => (dats m 0 c).arrAt w (cfgs 0).N) = W
  have h4 : W (Proc.devRef .tc main_v7_0) = (dats m 0 c).arrAt 10 cfg0.N := by
    rw [← hW]
    exact Pipeline.withArrays_arr spec0 arrs_inj c (V0 m c) (fun w => (dats m 0 c).arrAt w cfg0.N) 10
  rw [← h4]
  clear hW h4
  simp only [List.flatten_cons, List.flatten_nil, List.append_nil]
  after_results
  rfl

/-- The fifth call runs to its end with the rows kept and the states as its body left them, and leaves its arguments as they
    were. -/
theorem run_rows : θ_run defs (onTc (τ := τ) (main (F := Ideal))) ⟨m, fun _ => 0, ρ⟩ (fun r => ∀ c : Dev nD,
      r.2.mem ((c.tc : Thread nD τ).loc main_v10) = kept ((dats m 0 c).arrAt 10 cfg0.N)
      ∧ r.2.mem ((c.tc : Thread nD τ).loc main_v7_1) = (dats m 0 c).arrAt 11 cfg0.N
      ∧ r.2.mem ((c.tc : Thread nD τ).loc main_v7_2) = (dats m 0 c).arrAt 12 cfg0.N
      ∧ r.2.mem ((c.tc : Thread nD τ).loc main_v7_3) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v10 (Pipeline.mem_restRefs_of main_v10 (by decide) (by decide))).trans (tail_o m c),
      (h c).1 11, (h c).1 12, (h c).1 13,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Rows
-- ==== Proof.Rows.RArr.lean ====
/-
  The results of the fifth reference, entry by entry: the state that four positions leave.
-/
module

public import proofs.«01_k».proof.Proof.Gen.Reference5Ideal.Run
public import proofs.«01_k».proof.Proof.Mlstm.RSig
public import proofs.«01_k».proof.Proof.Mlstm.RBase
public import proofs.«01_k».proof.Proof.Rows.Spec
public import Idealize.ShloMosaic.Lib.Claim
public import Idealize.ShloMosaic.Lib.WordCmp

@[expose] public section

noncomputable section

namespace Cert.Rows.Ref

open Idealize.ShloMosaic Idealize.ShloMosaic.TcCoe Cert.Reference5Ideal Cert.Reference5Ideal.Gen Cert.Reference5Ideal.Value
open Cert.Mlstm (logsig)
open Cert.Mlstm.Ref (foldl_add logsig_eq)

/-- The running sum along the second axis, as jax writes it: a window of the whole length, padded low by one less. -/
theorem cumsum_apply (x : FVec Ideal S128x4x4 .f32) (init : Vec Ideal S_ .f32) (hi : init (Shape.Idx.first h_S_) = (0 : EReal))
    (q : Fin 128) (t h : Fin 4) :
    (Host.reduceWindowAdd (F := Ideal) (φ := .f32) (s := S128x4x4) (t := S128x4x4) ![1, 4, 1] ![1, 1, 1] ![0, 3, 0] ![0, 0, 0] x
      init reduceWindows_S128x4x4_S128x4x4_w1s1p0_0_w4s1p3_0_w1s1p0_0 h_S_) (ix3 q t h)
      = ∑ u : Fin 4, if u ≤ t then (x (ix3 q u h) : EReal) else 0 := by
  let W : Shape := ⟨3, ![1, 4, 1]⟩
  let p : W.Idx → Fin 3 → Nat := fun w a => ((ix3 q t h : S128x4x4.Idx) a).val * (![1, 1, 1] : Fin 3 → Nat) a + (w a).val
  let F : W.Idx → EReal := fun w =>
    if hin : ∀ a : Fin 3, (![0, 3, 0] : Fin 3 → Nat) a ≤ p w a ∧ p w a - (![0, 3, 0] : Fin 3 → Nat) a < S128x4x4.size a then
      x (fun a => ⟨p w a - (![0, 3, 0] : Fin 3 → Nat) a, (hin a).2⟩) else 0
  have e : (Host.reduceWindowAdd (F := Ideal) (φ := .f32) (s := S128x4x4) (t := S128x4x4) ![1, 4, 1] ![1, 1, 1] ![0, 3, 0] ![0, 0, 0] x
      init reduceWindows_S128x4x4_S128x4x4_w1s1p0_0_w4s1p3_0_w1s1p0_0 h_S_) (ix3 q t h)
      = (List.finRange W.numel).foldl (fun r n => r + F (W.rowMajor.symm n)) (0 : EReal) := by
    show Host.reduceWindow (· + ·) ![1, 4, 1] ![1, 1, 1] ![0, 3, 0] ![0, 0, 0] x (fun _ : S_.Idx => init (Shape.Idx.first h_S_))
      reduceWindows_S128x4x4_S128x4x4_w1s1p0_0_w4s1p3_0_w1s1p0_0 h_S_ (ix3 q t h) = _
    rw [hi]
    unfold Host.reduceWindow
    exact congrArg (fun f : EReal → Fin W.numel → EReal => List.foldl f 0 (List.finRange W.numel))
      (funext₂ fun r n => congrArg (r + ·) (dite_congr rfl (fun _ => rfl) (fun _ => rfl)))
  rw [e, foldl_add, zero_add, ← Fin.sum_univ_def, Equiv.sum_comp W.rowMajor.symm F, sum_idx3, Fintype.sum_unique]
  simp only [Fintype.sum_unique]
  refine Fintype.sum_equiv (Equiv.addRight (t + 1)) _ _ fun w => ?_
  have hq := q.isLt
  have ht := t.isLt
  have hw := w.isLt
  have hu : ((w + (t + 1) : Fin 4) : Nat) = (w.val + (t.val + 1) % 4) % 4 := rfl
  show F (ix3 0 w 0) = if w + (t + 1) ≤ t then (x (ix3 q (w + (t + 1)) h) : EReal) else 0
  by_cases hc : 3 ≤ t.val + w.val
  · have hv : ((w + (t + 1) : Fin 4) : Nat) = t.val + w.val - 3 := by rw [hu]; omega
    rw [if_pos (by rw [Fin.le_def, hv]; omega)]
    show dite _ _ _ = _
    rw [dif_pos (fun a => ?_)]
    · refine congrArg x (funext fun a => Fin.ext ?_)
      match a with
      | 0 => show q.val * 1 + 0 - 0 = q.val; omega
      | 1 => show t.val * 1 + w.val - 3 = ((w + (t + 1) : Fin 4) : Nat); omega
      | 2 => show h.val * 1 + 0 - 0 = h.val; omega
    · match a with
      | 0 => show 0 ≤ q.val * 1 + 0 ∧ q.val * 1 + 0 - 0 < 128; omega
      | 1 => show 3 ≤ t.val * 1 + w.val ∧ t.val * 1 + w.val - 3 < 4; omega
      | 2 => show 0 ≤ h.val * 1 + 0 ∧ h.val * 1 + 0 - 0 < 4; omega
  · have hv : ((w + (t + 1) : Fin 4) : Nat) = t.val + w.val + 1 := by rw [hu]; omega
    rw [if_neg (by rw [Fin.le_def, hv]; omega)]
    show dite _ _ _ = _
    rw [dif_neg (fun H => hc ?_)]
    have := (H 1).1
    change 3 ≤ t.val * 1 + w.val at this
    omega

/-- The logs of the logistic function of an array, as the reference writes them. -/
def lsig (x : FVec Ideal S128x4x4 .f32) : FVec Ideal S128x4x4 .f32 :=
  let z : FVec Ideal S128x4x4 .f32 := broadcastInDim S128x4x4 ![] bcast_S_S128x4x4 (constant (F := Ideal) S_ .f32 0x00000000#32)
  let d : FVec Ideal S128x4x4 .f32 := subf (Host.negf x) z
  Host.negf (select (cmpf .une d d) (addf (Host.negf x) z)
    (addf (maximumf (Host.negf x) z) (Host.log1p (Host.exp (Host.negf (Host.absf d))))))

theorem lsig_apply (x : FVec Ideal S128x4x4 .f32) (q : Fin 128) (t h : Fin 4) :
    lsig x (ix3 q t h) = logsig (x (ix3 q t h)) := by
  refine Eq.trans ?_ (logsig_eq _)
  pointwise [lsig]
  rw [if_neg (fun h => h rfl)]
  rfl

variable (m : (ℓ : Loc nD τ sig) → Buf (Elt Ideal) ℓ) (c : Dev nD)

/-- The forget gates of the first four rows of each sequence, with their bias, -/
def rawF : FVec Ideal S128x4x4 .f32 :=
  addf (extractStridedSlice S128x4x4 ![0, 0, 4] (extractStridedSlice S128x4x128 ![0, 0, 0] (shapeCast _ (m ((c.tc :
    Thread nD τ).loc main_arg4)) shapeCasts_S1024x128_S128x8x128) slices_S128x8x128_S128x4x128_0_0_0)
    slices_S128x4x128_S128x4x4_0_0_4) (broadcastInDim S128x4x4 ![0, 1, 2] bcast_S1x1x4_S128x4x4_0_1_2 (broadcastInDim
    S1x1x4 ![2] bcast_S4_S1x1x4_2 (shapeCast _ (extractStridedSlice S1x4 ![0, 4] (m ((c.tc : Thread nD τ).loc
    main_arg5)) slices_S1x8_S1x4_0_4) shapeCasts_S1x4_S4)))

/-- and the logs of their logistic function. -/
def lfT : FVec Ideal S128x4x4 .f32 :=
  lsig (rawF m c)

/-- The running sums of these. -/
def bT : FVec Ideal S128x4x4 .f32 :=
  transpose S128x4x4 [0, 2, 1] (Host.reduceWindowAdd ![1, 4, 1] ![1, 1, 1] ![0, 3, 0] ![0, 0, 0] (lfT m c)
    (broadcastInDim S_ ![] bcast_S_S_ (constant S_ .f32 0x00000000#32))
    reduceWindows_S128x4x4_S128x4x4_w1s1p0_0_w4s1p3_0_w1s1p0_0 h_S_) transposes_S128x4x4_S128x4x4_0_2_1

/-- The input gates. -/
def igT : FVec Ideal S128x4x4 .f32 :=
  transpose S128x4x4 [0, 2, 1] (addf (extractStridedSlice S128x4x4 ![0, 0, 0] (extractStridedSlice S128x4x128 ![0, 0,
    0] (shapeCast _ (m ((c.tc : Thread nD τ).loc main_arg4)) shapeCasts_S1024x128_S128x8x128)
    slices_S128x8x128_S128x4x128_0_0_0) slices_S128x4x128_S128x4x4_0_0_0) (broadcastInDim S128x4x4 ![0, 1, 2]
    bcast_S1x1x4_S128x4x4_0_1_2 (broadcastInDim S1x1x4 ![2] bcast_S4_S1x1x4_2 (shapeCast _ (extractStridedSlice S1x4
    ![0, 0] (m ((c.tc : Thread nD τ).loc main_arg5)) slices_S1x8_S1x4_0_0) shapeCasts_S1x4_S4))))
    transposes_S128x4x4_S128x4x4_0_2_1

/-- The logs of the weights among the rows. -/
def ldT : FVec Ideal S128x4x4x4 .f32 :=
  select (broadcastInDim S128x4x4x4 ![2, 3] bcast_S4x4_S128x4x4x4_2_3 (select (cmpi .sge (addi (iotaInDim S4x4 32 0)
    (broadcastInDim S4x4 ![] bcast_S_S4x4 (constantI S_ 32 0#32))) (iotaInDim S4x4 32 1)) (broadcastInDim S4x4 ![]
    bcast_S_S4x4 (constantI S_ 1 1#1)) (broadcastInDim S4x4 ![] bcast_S_S4x4 (constantI S_ 1 0#1)))) (addf (subf
    (broadcastInDim S128x4x4x4 ![0, 1, 2, 3] bcast_S128x4x4x1_S128x4x4x4_0_1_2_3 (broadcastInDim S128x4x4x1 ![0, 1, 2]
    bcast_S128x4x4_S128x4x4x1_0_1_2 (bT m c))) (broadcastInDim S128x4x4x4 ![0, 1, 2, 3]
    bcast_S128x4x1x4_S128x4x4x4_0_1_2_3 (broadcastInDim S128x4x1x4 ![0, 1, 3] bcast_S128x4x4_S128x4x1x4_0_1_3 (bT m
    c)))) (broadcastInDim S128x4x4x4 ![0, 1, 2, 3] bcast_S128x4x1x4_S128x4x4x4_0_1_2_3 (broadcastInDim S128x4x1x4 ![0,
    1, 3] bcast_S128x4x4_S128x4x1x4_0_1_3 (igT m c)))) (broadcastInDim S128x4x4x4 ![] bcast_S_S128x4x4x4 (id (constant
    S_ .f32 0xFF800000#32)))

/-- The logs of the weights of the state before. -/
def inT : FVec Ideal S128x4x4 .f32 :=
  addf (bT m c) (broadcastInDim S128x4x4 ![0, 1, 2] bcast_S128x4x1_S128x4x4_0_1_2 (broadcastInDim S128x4x1 ![0, 1]
    bcast_S128x4_S128x4x1_0_1 (m ((c.tc : Thread nD τ).loc main_arg9))))

/-- The running maxima. -/
def mT : FVec Ideal S128x4x4 .f32 :=
  maximumf (inT m c) (Host.reduce FloatOps.maximumf (ldT m c) (constant S_ .f32 0xFF800000#32)
    reducesTo_S128x4x4x4_S128x4x4_d3 h_S_)

/-- The new maxima. -/
def lastM : FVec Ideal S128x4 .f32 :=
  shapeCast _ (extractStridedSlice S128x4x1 ![0, 0, 3] (mT m c) slices_S128x4x4_S128x4x1_0_0_3)
    shapeCasts_S128x4x1_S128x4

/-- The factors of the state before. -/
def wcT : FVec Ideal S128x4 .f32 :=
  Host.exp (subf (shapeCast _ (extractStridedSlice S128x4x1 ![0, 0, 3] (inT m c) slices_S128x4x4_S128x4x1_0_0_3)
    shapeCasts_S128x4x1_S128x4) (lastM m c))

/-- The weights of the rows. -/
def wsT : FVec Ideal S128x4x4 .f32 :=
  Host.exp (subf (addf (subf (broadcastInDim S128x4x4 ![0, 1, 2] bcast_S128x4x1_S128x4x4_0_1_2 (extractStridedSlice
    S128x4x1 ![0, 0, 3] (bT m c) slices_S128x4x4_S128x4x1_0_0_3)) (bT m c)) (igT m c)) (broadcastInDim S128x4x4 ![0,
    1, 2] bcast_S128x4x1_S128x4x4_0_1_2 (broadcastInDim S128x4x1 ![0, 1] bcast_S128x4_S128x4x1_0_1 (lastM m c))))

/-- The keys -/
def kT : FVec Ideal S128x4x4x128 .f32 :=
  extractStridedSlice S128x4x4x128 ![0, 0, 0, 0] (shapeCast _ (m ((c.tc : Thread nD τ).loc main_arg1))
    shapeCasts_S1024x512_S128x8x4x128) slices_S128x8x4x128_S128x4x4x128_0_0_0_0

/-- and the values of the first four rows. -/
def vT : FVec Ideal S128x4x4x128 .f32 :=
  extractStridedSlice S128x4x4x128 ![0, 0, 0, 0] (shapeCast _ (m ((c.tc : Thread nD τ).loc main_arg2))
    shapeCasts_S1024x512_S128x8x4x128) slices_S128x8x4x128_S128x4x4x128_0_0_0_0

/-- The new matrix memories, -/
def termC : FVec Ideal S128x4x128x128 .f32 :=
  addf (mulf (broadcastInDim S128x4x128x128 ![0, 1, 2, 3] bcast_S128x4x1x1_S128x4x128x128_0_1_2_3 (broadcastInDim
    S128x4x1x1 ![0, 1] bcast_S128x4_S128x4x1x1_0_1 (wcT m c))) (m ((c.tc : Thread nD τ).loc main_arg7)))
    (Host.dotGeneral dot_S128x4x4x128_S128x4x4x128_S128x4x128x128_1_1_3_3_02_02 none (mulf (broadcastInDim
    S128x4x4x128 ![0, 1, 2, 3] bcast_S128x4x4x1_S128x4x4x128_0_1_2_3 (broadcastInDim S128x4x4x1 ![0, 1, 2]
    bcast_S128x4x4_S128x4x4x1_0_1_2 (transpose S128x4x4 [0, 2, 1] (wsT m c) transposes_S128x4x4_S128x4x4_0_2_1))) (vT
    m c)) (kT m c))

/-- normalisers -/
def termN : FVec Ideal S128x4x1x128 .f32 :=
  broadcastInDim S128x4x1x128 ![0, 1, 3] bcast_S128x4x128_S128x4x1x128_0_1_3 (addf (mulf (broadcastInDim S128x4x128
    ![0, 1, 2] bcast_S128x4x1_S128x4x128_0_1_2 (broadcastInDim S128x4x1 ![0, 1] bcast_S128x4_S128x4x1_0_1 (wcT m c)))
    (m ((c.tc : Thread nD τ).loc main_arg8))) (Host.dotGeneral dot_S128x4x4_S128x4x4x128_S128x4x128_2_1_n_3_01_02 none
    (wsT m c) (kT m c)))

/-- and maxima. -/
def termM : FVec Ideal S128x4x1x128 .f32 :=
  broadcastInDim S128x4x1x128 ![0, 1, 2, 3] bcast_S128x4x1x1_S128x4x1x128_0_1_2_3 (broadcastInDim S128x4x1x1 ![0, 1]
    bcast_S128x4_S128x4x1x1_0_1 (lastM m c))

/-- The four positions that sequence `q` and head `h` have in the arguments. -/
abbrev fourR (q : Fin 128) (h : Fin 4) : Four :=
  four (fun r d => m ((c.tc : Thread nD τ).loc main_arg1) (ix2 r d)) (fun r d => m ((c.tc : Thread nD τ).loc main_arg2) (ix2 r d))
    (fun r d => m ((c.tc : Thread nD τ).loc main_arg4) (ix2 r d)) (fun d => m ((c.tc : Thread nD τ).loc main_arg5) (ix2 0 d)) q h

abbrev mR (q : Fin 128) (h : Fin 4) : EReal := m ((c.tc : Thread nD τ).loc main_arg9) (ix2 q h)

variable (q : Fin 128) (h : Fin 4)

theorem rows_apply (y : FVec Ideal S1024x512 .f32) (t : Fin 4) (e : Fin 128) :
    extractStridedSlice S128x4x4x128 ![0, 0, 0, 0] (shapeCast _ y shapeCasts_S1024x512_S128x8x4x128)
      slices_S128x8x4x128_S128x4x4x128_0_0_0_0 (ix4 q t h e)
      = (y (ix2 ⟨8 * q.val + t.val, by omega⟩ ⟨128 * h.val + e.val, by omega⟩) : EReal) := by
  pointwise
  exact congrArg₂ (fun i j => y (ix2 i j)) (Fin.ext (by dsimp only; omega)) (Fin.ext (by dsimp only; omega))

theorem kT_apply (t : Fin 4) (e : Fin 128) : kT m c (ix4 q t h e) = (fourR m c q h).k t e := rows_apply q h _ t e

theorem vT_apply (t : Fin 4) (e : Fin 128) : vT m c (ix4 q t h e) = (fourR m c q h).v t e := rows_apply q h _ t e

theorem forget_apply (y : FVec Ideal S1024x128 .f32) (w : FVec Ideal S1x8 .f32) (t : Fin 4) :
    addf (F := Ideal) (φ := .f32) (extractStridedSlice S128x4x4 ![0, 0, 4] (extractStridedSlice S128x4x128 ![0, 0, 0] (shapeCast _ y shapeCasts_S1024x128_S128x8x128) slices_S128x8x128_S128x4x128_0_0_0)
    slices_S128x4x128_S128x4x4_0_0_4) (broadcastInDim S128x4x4 ![0, 1, 2] bcast_S1x1x4_S128x4x4_0_1_2 (broadcastInDim
    S1x1x4 ![2] bcast_S4_S1x1x4_2 (shapeCast _ (extractStridedSlice S1x4 ![0, 4] w slices_S1x8_S1x4_0_4) shapeCasts_S1x4_S4))) (ix3 q t h)
      = (y (ix2 ⟨8 * q.val + t.val, by omega⟩ ⟨4 + h.val, by omega⟩) + w (ix2 0 ⟨4 + h.val, by omega⟩) : EReal) := by
  pointwise
  exact congrArg (fun i => y (ix2 i ⟨4 + h.val, by omega⟩) + w (ix2 0 ⟨4 + h.val, by omega⟩)) (Fin.ext (by dsimp only; omega))

theorem input_apply (y : FVec Ideal S1024x128 .f32) (w : FVec Ideal S1x8 .f32) (t : Fin 4) :
    transpose S128x4x4 [0, 2, 1] (addf (extractStridedSlice S128x4x4 ![0, 0, 0] (extractStridedSlice S128x4x128 ![0, 0,
    0] (shapeCast _ y shapeCasts_S1024x128_S128x8x128)
    slices_S128x8x128_S128x4x128_0_0_0) slices_S128x4x128_S128x4x4_0_0_0) (broadcastInDim S128x4x4 ![0, 1, 2]
    bcast_S1x1x4_S128x4x4_0_1_2 (broadcastInDim S1x1x4 ![2] bcast_S4_S1x1x4_2 (shapeCast _ (extractStridedSlice S1x4
    ![0, 0] w slices_S1x8_S1x4_0_0) shapeCasts_S1x4_S4))))
    transposes_S128x4x4_S128x4x4_0_2_1 (ix3 q h t)
      = (y (ix2 ⟨8 * q.val + t.val, by omega⟩ ⟨h.val, by omega⟩) + w (ix2 0 ⟨h.val, by omega⟩) : EReal) := by
  pointwise
  exact congrArg (fun i => y (ix2 i ⟨h.val, by omega⟩) + w (ix2 0 ⟨h.val, by omega⟩)) (Fin.ext (by dsimp only; omega))

theorem lfT_apply (t : Fin 4) : lfT m c (ix3 q t h) = (fourR m c q h).lf t :=
  (lsig_apply _ q t h).trans (congrArg logsig (forget_apply q h _ _ t))

theorem igT_apply (t : Fin 4) : igT m c (ix3 q h t) = (fourR m c q h).ig t := input_apply q h _ _ t

theorem bT_apply (t : Fin 4) : bT m c (ix3 q h t) = (fourR m c q h).b t := by
  unfold bT
  have k := lfT_apply m c q h
  generalize lfT m c = y at *
  refine Eq.trans ?_ ((cumsum_apply y (broadcastInDim (α := Elt Ideal .f32) S_ ![] bcast_S_S_ (constant (F := Ideal) S_ .f32 0x00000000#32)) ?_ q t h).trans ?_)
  · generalize Host.reduceWindowAdd (F := Ideal) (φ := .f32) (s := S128x4x4) (t := S128x4x4) _ _ _ _ _ _ _ _ = z
    pointwise
  · pointwise
  · unfold Four.b
    simp only [k]

theorem inT_apply (t : Fin 4) : inT m c (ix3 q h t) = (fourR m c q h).b t + mR m c q h := by
  unfold inT
  rw [← bT_apply]
  generalize bT m c = y
  pointwise

theorem mask_apply (t s : Fin 4) (x : EReal) :
    Scalar.select (Scalar.select (IntOp.cmpi .sge (IntOp.addi (BitVec.ofNat 32 t.val) 0#32)
      (BitVec.ofNat 32 s.val)) 1#1 0#1) x Cert.Mlstm.ninf = if s ≤ t then x else Cert.Mlstm.ninf := by
  have ht := t.isLt
  have hs := s.isLt
  rw [show IntOp.addi (BitVec.ofNat 32 t.val) 0#32 = BitVec.ofNat 32 t.val from BitVec.add_zero _,
    WordCmp.cmpi_sge_ofNat (by omega) (by omega)]
  by_cases h : s.val ≤ t.val
  · rw [if_pos (show s ≤ t from h)]; simp [h, Scalar.select]
  · rw [if_neg (show ¬ s ≤ t from h)]; simp [h, Scalar.select]

theorem ldT_apply (s : Fin 4) :
    ldT m c (ix4 q h 3 s) = (fourR m c q h).b 3 - (fourR m c q h).b s + (fourR m c q h).ig s := by
  unfold ldT
  rw [← bT_apply, ← bT_apply, ← igT_apply]
  generalize bT m c = y
  generalize igT m c = z
  pointwise
  refine (mask_apply 3 s _).trans (if_pos ?_)
  rw [Fin.le_def]; show s.val ≤ 3; omega

theorem mT_apply : mT m c (ix3 q h 3) = (fourR m c q h).max' (mR m c q h) := by
  unfold Four.max'
  rw [← fold_max, ← inT_apply]
  simp only [← ldT_apply]
  unfold mT
  generalize inT m c = y
  generalize ldT m c = z
  pointwise
  rfl

theorem lastM_apply : lastM m c (ix2 q h) = (fourR m c q h).max' (mR m c q h) := by
  unfold lastM
  rw [← mT_apply]
  generalize mT m c = y
  pointwise

theorem wcT_apply : wcT m c (ix2 q h) = (fourR m c q h).wc (mR m c q h) := by
  unfold wcT Four.wc
  rw [← lastM_apply, ← inT_apply]
  generalize lastM m c = y
  generalize inT m c = z
  pointwise

theorem wsT_apply (s : Fin 4) : wsT m c (ix3 q h s) = (fourR m c q h).ws (mR m c q h) s := by
  unfold wsT Four.ws
  rw [← lastM_apply, ← bT_apply, ← bT_apply, ← igT_apply]
  generalize lastM m c = y
  generalize bT m c = z
  generalize igT m c = w
  pointwise

/-- The maxima, spread over the lanes. -/
theorem out_m (z : Fin 1) (e : Fin 128) :
    termM m c (ix4 q h z e) = (fourR m c q h).max' (mR m c q h) := by
  unfold termM
  rw [← lastM_apply]
  generalize lastM m c = y
  pointwise

/-- The normalisers. -/
theorem out_n (z : Fin 1) (e : Fin 128) :
    termN m c (ix4 q h z e)
      = (fourR m c q h).newN (mR m c q h) (m ((c.tc : Thread nD τ).loc main_arg8) (ix3 q h e)) e := by
  unfold termN Four.newN
  simp only [← wcT_apply, ← wsT_apply, ← kT_apply]
  generalize wcT m c = x
  generalize wsT m c = y
  generalize kT m c = w
  pointwise

/-- The matrix memories. -/
theorem out_C (d e : Fin 128) :
    termC m c (ix4 q h d e)
      = (fourR m c q h).newC (mR m c q h) (m ((c.tc : Thread nD τ).loc main_arg7) (ix4 q h d e)) d e := by
  unfold termC Four.newC
  simp only [← wcT_apply, ← wsT_apply, ← kT_apply, ← vT_apply, mul_comm (vT m c _)]
  generalize wcT m c = x
  generalize wsT m c = y
  generalize kT m c = w
  generalize vT m c = u
  pointwise

end Cert.Rows.Ref
-- ==== Proof.Rows.QRef.lean ====
/-
  The outputs of the fifth reference, entry by entry.
-/
module

public import proofs.«01_k».proof.Proof.Rows.RArr
public import proofs.«01_k».proof.Proof.Rows.QSpec

@[expose] public section

noncomputable section

namespace Cert.Rows.Ref

open Idealize.ShloMosaic Idealize.ShloMosaic.TcCoe Cert.Reference5Ideal Cert.Reference5Ideal.Gen Cert.Reference5Ideal.Value
open Cert.Mlstm (mean)

/-- The rows that are kept of an array, head by head. -/
def rows (y : FVec Ideal S1024x512 .f32) : FVec Ideal S128x4x4x128 .f32 :=
  extractStridedSlice S128x4x4x128 ![0, 0, 0, 0] (shapeCast _ y shapeCasts_S1024x512_S128x8x4x128)
    slices_S128x8x4x128_S128x4x4x128_0_0_0_0

/-- The quotient, out of the weights and the state before. -/
def hOf (a : FVec Ideal S128x4x4x4 .f32) (v : FVec Ideal S128x4x4x128 .f32) (w : FVec Ideal S128x4x4 .f32)
    (x : FVec Ideal S128x4x4x128 .f32) (C : FVec Ideal S128x4x128x128 .f32) (n : FVec Ideal S128x4x128 .f32)
    (μ : FVec Ideal S128x4x4 .f32) : FVec Ideal S128x4x4x128 .f32 :=
  transpose S128x4x4x128 [0, 2, 1, 3] (Host.divf (addf (Host.dotGeneral
    dot_S128x4x4x4_S128x4x4x128_S128x4x4x128_3_1_2_3_01_02 none a v) (mulf (broadcastInDim S128x4x4x128 ![0, 1, 2, 3]
    bcast_S128x4x4x1_S128x4x4x128_0_1_2_3 (broadcastInDim S128x4x4x1 ![0, 1, 2] bcast_S128x4x4_S128x4x4x1_0_1_2 w))
    (Host.dotGeneral dot_S128x4x4x128_S128x4x128x128_S128x4x4x128_3_3_1_2_02_01 none x C))) (broadcastInDim
    S128x4x4x128 ![0, 1, 2, 3] bcast_S128x4x4x1_S128x4x4x128_0_1_2_3 (broadcastInDim S128x4x4x1 ![0, 1, 2]
    bcast_S128x4x4_S128x4x4x1_0_1_2 (maximumf (Host.absf (addf (Host.reduceAdd a (constant S_ .f32 0x00000000#32)
    reducesTo_S128x4x4x4_S128x4x4_d3 h_S_) (mulf w (Host.dotGeneral dot_S128x4x128_S128x4x4x128_S128x4x4_2_3_n_1_01_02
    none n x)))) (Host.exp (Host.negf μ)))))) transposes_S128x4x4x128_S128x4x4x128_0_2_1_3

theorem hOf_apply (a : FVec Ideal S128x4x4x4 .f32) (v : FVec Ideal S128x4x4x128 .f32) (w : FVec Ideal S128x4x4 .f32)
    (x : FVec Ideal S128x4x4x128 .f32) (C : FVec Ideal S128x4x128x128 .f32) (n : FVec Ideal S128x4x128 .f32)
    (μ : FVec Ideal S128x4x4 .f32) (q : Fin 128) (t h : Fin 4) (d : Fin 128) :
    hOf a v w x C n μ (ix4 q t h d)
      = Ideal.div ((∑ s : Fin 4, a (ix4 q h t s) * v (ix4 q s h d))
          + w (ix3 q h t) * ∑ e : Fin 128, x (ix4 q t h e) * C (ix4 q h d e))
        (max (max ((∑ s : Fin 4, a (ix4 q h t s)) + w (ix3 q h t) * ∑ e : Fin 128, n (ix3 q h e) * x (ix4 q t h e))
          (-((∑ s : Fin 4, a (ix4 q h t s)) + w (ix3 q h t) * ∑ e : Fin 128, n (ix3 q h e) * x (ix4 q t h e))))
          (Ideal.exp (-(μ (ix3 q h t))))) := by
  pointwise [hOf]
  rfl

/-- Each head's mean. -/
def mu (y : FVec Ideal S128x4x4x128 .f32) : FVec Ideal S128x4x4x1 .f32 :=
  Host.divf (broadcastInDim S128x4x4x1 ![0, 1, 2] bcast_S128x4x4_S128x4x4x1_0_1_2 (Host.reduceAdd y (constant S_ .f32
    0x00000000#32) reducesTo_S128x4x4x128_S128x4x4_d3 h_S_)) (broadcastInDim S128x4x4x1 ![] bcast_S_S128x4x4x1
    (constant S_ .f32 0x43000000#32))

theorem mu_apply (y : FVec Ideal S128x4x4x128 .f32) (q : Fin 128) (t h : Fin 4) :
    mu y (ix4 q t h 0) = mean fun d => y (ix4 q t h d) := by
  pointwise [mu]
  rfl

/-- The distance from the mean. -/
def dev (y : FVec Ideal S128x4x4x128 .f32) : FVec Ideal S128x4x4x128 .f32 :=
  subf y (broadcastInDim S128x4x4x128 ![0, 1, 2, 3] bcast_S128x4x4x1_S128x4x4x128_0_1_2_3 (mu y))

theorem dev_apply (y : FVec Ideal S128x4x4x128 .f32) (q : Fin 128) (t h : Fin 4) (d : Fin 128) :
    dev y (ix4 q t h d) = y (ix4 q t h d) - mean fun d => y (ix4 q t h d) := by
  rw [← mu_apply]
  unfold dev
  generalize mu y = u
  pointwise

/-- The normalised heads. -/
def nrm (y : FVec Ideal S128x4x4x128 .f32) : FVec Ideal S128x4x4x128 .f32 :=
  mulf (dev y) (broadcastInDim S128x4x4x128 ![0, 1, 2, 3] bcast_S128x4x4x1_S128x4x4x128_0_1_2_3 (Host.rsqrt (addf (mu
    (mulf (dev y) (dev y))) (broadcastInDim S128x4x4x1 ![] bcast_S_S128x4x4x1 (constant S_ .f32 0x3727C5AC#32)))))

theorem nrm_apply (y : FVec Ideal S128x4x4x128 .f32) (q : Fin 128) (t h : Fin 4) (d : Fin 128) :
    nrm y (ix4 q t h d) = Cert.Mlstm.norm (fun d => y (ix4 q t h d)) d := by
  have k := mu_apply (mulf (dev y) (dev y)) q t h
  have e : (fun d => mulf (dev y) (dev y) (ix4 q t h d)) = fun d => ((y (ix4 q t h d) - mean fun d => y (ix4 q t h d)) * (y (ix4 q t h d) - mean fun d => y (ix4 q t h d)) : EReal) := by
    funext d
    rw [← dev_apply]
    rfl
  rw [e] at k
  unfold nrm Cert.Mlstm.norm
  rw [← dev_apply, ← k]
  generalize mu (mulf (dev y) (dev y)) = u
  generalize dev y = z
  pointwise

/-- The gated output. -/
def gated (z : FVec Ideal S128x4x4x128 .f32) (w : FVec Ideal S4x128 .f32) (o : FVec Ideal S128x4x4x128 .f32) :
    FVec Ideal S512x512 .f32 :=
  shapeCast _ (shapeCast _ (mulf (mulf z (broadcastInDim S128x4x4x128 ![0, 1, 2, 3]
    bcast_S1x1x4x128_S128x4x4x128_0_1_2_3 (broadcastInDim S1x1x4x128 ![2, 3] bcast_S4x128_S1x1x4x128_2_3 w)))
    (Host.divf (broadcastInDim S128x4x4x128 ![] bcast_S_S128x4x4x128 (constant S_ .f32 0x3F800000#32)) (addf
    (broadcastInDim S128x4x4x128 ![] bcast_S_S128x4x4x128 (constant S_ .f32 0x3F800000#32)) (Host.exp (Host.negf
    o))))) shapeCasts_S128x4x4x128_S128x4x512) shapeCasts_S128x4x512_S512x512

theorem gated_apply (z : FVec Ideal S128x4x4x128 .f32) (w : FVec Ideal S4x128 .f32) (o : FVec Ideal S128x4x4x128 .f32)
    (q : Fin 128) (t h : Fin 4) (d : Fin 128) :
    gated z w o (ix2 ⟨4 * q.val + t.val, by omega⟩ ⟨128 * h.val + d.val, by omega⟩)
      = z (ix4 q t h d) * w (ix2 h d) * Ideal.logistic (o (ix4 q t h d)) := by
  have e1 : ∀ p, (⟨(128 * h.val + d.val) / 128, p⟩ : Fin 4) = h := fun _ => Fin.ext (by dsimp only; omega)
  have e2 : ∀ p, (⟨(128 * h.val + d.val) % 128, p⟩ : Fin 128) = d := fun _ => Fin.ext (by dsimp only; omega)
  have e3 : ∀ p, (⟨(4 * q.val + t.val) / 4, p⟩ : Fin 128) = q := fun _ => Fin.ext (by dsimp only; omega)
  have e4 : ∀ p, (⟨(4 * q.val + t.val) % 4, p⟩ : Fin 4) = t := fun _ => Fin.ext (by dsimp only; omega)
  pointwise [gated]
  rfl

variable (m : (ℓ : Loc nD τ sig) → Buf (Elt Ideal) ℓ) (c : Dev nD)

/-- The queries. -/
def qT : FVec Ideal S128x4x4x128 .f32 := rows (m ((c.tc : Thread nD τ).loc main_arg0))

/-- The weights of the states before, -/
def wiT : FVec Ideal S128x4x4 .f32 := Host.exp (subf (inT m c) (mT m c))

/-- and of the rows, with the products of queries and keys. -/
def attT : FVec Ideal S128x4x4x4 .f32 :=
  mulf (Host.exp (subf (ldT m c) (broadcastInDim S128x4x4x4 ![0, 1, 2, 3] bcast_S128x4x4x1_S128x4x4x4_0_1_2_3
    (broadcastInDim S128x4x4x1 ![0, 1, 2] bcast_S128x4x4_S128x4x4x1_0_1_2 (mT m c))))) (Host.dotGeneral
    dot_S128x4x4x128_S128x4x4x128_S128x4x4x4_3_3_1_1_02_02 none (qT m c) (kT m c))

/-- The quotients. -/
def hT : FVec Ideal S128x4x4x128 .f32 :=
  hOf (attT m c) (vT m c) (wiT m c) (qT m c) (m ((c.tc : Thread nD τ).loc main_arg7))
    (m ((c.tc : Thread nD τ).loc main_arg8)) (mT m c)

/-- The outputs. -/
def termO : FVec Ideal S512x512 .f32 :=
  gated (nrm (hT m c)) (m ((c.tc : Thread nD τ).loc main_arg6)) (rows (m ((c.tc : Thread nD τ).loc main_arg3)))

/-- The queries of four positions in the arguments. -/
abbrev qR (q : Fin 128) (h : Fin 4) : Fin 4 → Fin 128 → EReal := fun t e =>
  m ((c.tc : Thread nD τ).loc main_arg0) (ix2 ⟨8 * q.val + t.val, by omega⟩ ⟨128 * h.val + e.val, by omega⟩)

variable (q : Fin 128) (h : Fin 4)

theorem qT_apply (t : Fin 4) (e : Fin 128) : qT m c (ix4 q t h e) = qR m c q h t e := rows_apply q h _ t e

theorem ldT_row (t s : Fin 4) : ldT m c (ix4 q h t s) = (fourR m c q h).ld t s := by
  unfold ldT Four.ld
  rw [← bT_apply, ← bT_apply, ← igT_apply, ← ninf_eq]
  generalize bT m c = y
  generalize igT m c = z
  pointwise
  exact mask_apply t s _

theorem mT_row (t : Fin 4) : mT m c (ix3 q h t) = (fourR m c q h).mt (mR m c q h) t := by
  unfold Four.mt
  rw [← fold_max, ← inT_apply]
  simp only [← ldT_row]
  unfold mT
  generalize inT m c = y
  generalize ldT m c = z
  pointwise
  rfl

theorem wiT_apply (t : Fin 4) : wiT m c (ix3 q h t) = (fourR m c q h).wi (mR m c q h) t := by
  unfold wiT Four.wi
  rw [← mT_row, ← inT_apply]
  generalize mT m c = y
  generalize inT m c = z
  pointwise

theorem attT_apply (t s : Fin 4) :
    attT m c (ix4 q h t s) = (fourR m c q h).att (qR m c q h) (mR m c q h) t s := by
  unfold attT Four.att
  rw [← mT_row, ← ldT_row]
  have e : (∑ e : Fin 128, qR m c q h t e * (fourR m c q h).k s e) = ∑ e : Fin 128, qT m c (ix4 q t h e) * kT m c (ix4 q s h e) :=
    Finset.sum_congr rfl fun e _ => by rw [qT_apply, kT_apply]
  rw [e]
  generalize mT m c = y
  generalize ldT m c = z
  generalize qT m c = x
  generalize kT m c = w
  pointwise

theorem hT_apply (t : Fin 4) (d : Fin 128) :
    hT m c (ix4 q t h d) = (fourR m c q h).out (qR m c q h) (mR m c q h)
      (fun d e => m ((c.tc : Thread nD τ).loc main_arg7) (ix4 q h d e))
      (fun e => m ((c.tc : Thread nD τ).loc main_arg8) (ix3 q h e)) t d := by
  refine (hOf_apply _ _ _ _ _ _ _ q t h d).trans ?_
  have den : ∀ n : Fin 128 → EReal, (∑ s : Fin 4, attT m c (ix4 q h t s)) + wiT m c (ix3 q h t)
      * (∑ e : Fin 128, n e * qT m c (ix4 q t h e))
      = (fourR m c q h).den (qR m c q h) (mR m c q h) n t := by
    intro n
    unfold Four.den
    rw [wiT_apply]
    refine congrArg₂ (· + ·) (Finset.sum_congr rfl fun s _ => attT_apply m c q h t s)
      (congrArg₂ (· * ·) rfl (Finset.sum_congr rfl fun e _ => ?_))
    rw [qT_apply]
    exact mul_comm _ _
  have num : ∀ C : Fin 128 → Fin 128 → EReal, (∑ s : Fin 4, attT m c (ix4 q h t s) * vT m c (ix4 q s h d)) + wiT m c (ix3 q h t)
      * (∑ e : Fin 128, qT m c (ix4 q t h e) * C d e)
      = (fourR m c q h).num (qR m c q h) (mR m c q h) C t d := by
    intro C
    unfold Four.num
    rw [wiT_apply]
    refine congrArg₂ (· + ·) (Finset.sum_congr rfl fun s _ => ?_)
      (congrArg₂ (· * ·) rfl (Finset.sum_congr rfl fun e _ => ?_))
    · rw [attT_apply, vT_apply]
    · rw [qT_apply]
  have den := den fun e => m ((c.tc : Thread nD τ).loc main_arg8) (ix3 q h e)
  exact congrArg₂ Ideal.div (num fun d e => m ((c.tc : Thread nD τ).loc main_arg7) (ix4 q h d e)) (congrArg₂ max (congrArg₂ max den (congrArg (fun a : EReal => -a) den))
    (congrArg (fun a : EReal => Ideal.exp (-a)) (mT_row m c q h t)))

/-- The outputs. -/
theorem out_o (t : Fin 4) (d : Fin 128) :
    termO m c (ix2 ⟨4 * q.val + t.val, by omega⟩ ⟨128 * h.val + d.val, by omega⟩)
      = Cert.Mlstm.norm ((fourR m c q h).out (qR m c q h) (mR m c q h)
          (fun d e => m ((c.tc : Thread nD τ).loc main_arg7) (ix4 q h d e))
          (fun e => m ((c.tc : Thread nD τ).loc main_arg8) (ix3 q h e)) t) d
        * m ((c.tc : Thread nD τ).loc main_arg6) (ix2 h d)
        * Ideal.logistic (m ((c.tc : Thread nD τ).loc main_arg3)
            (ix2 ⟨8 * q.val + t.val, by omega⟩ ⟨128 * h.val + d.val, by omega⟩)) := by
  refine (gated_apply _ _ _ q t h d).trans ?_
  rw [nrm_apply]
  refine congrArg₂ (· * ·) (congrArg₂ (· * ·) (congrArg (fun f => Cert.Mlstm.norm f d) (funext fun d => hT_apply m c q h t d)) rfl)
    (congrArg Ideal.logistic (rows_apply q h _ t d))

end Cert.Rows.Ref
-- ==== Proof.Rows.Both.lean ====
/-
  The kernel's and the reference's outputs and states after four positions are the same arrays.
-/
module

public import proofs.«01_k».proof.Proof.Rows.KArr
public import proofs.«01_k».proof.Proof.Rows.KTail
public import proofs.«01_k».proof.Proof.Rows.QRef

@[expose] public section

noncomputable section

namespace Cert.Rows

open Idealize.ShloMosaic Idealize.ShloMosaic.TcCoe
open Cert.Rows.Ref (termO termC termN termM)

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ)
  (c : Dev Cert.Kernel5Ideal.nD)

/-- The two memories hold the same positions, norm weights and states before them. -/
structure Same : Prop where
  four : ∀ q h, Ref.fourR m' c q h = fourK m c q h
  top : ∀ q h, Ref.mR m' c q h = mKq m c q h
  qr : ∀ q h, Ref.qR m' c q h = qKq m c q h
  C : ∀ q h d e, m' ((c.tc : Thread Cert.Reference5Ideal.nD Cert.Reference5Ideal.τ).loc Cert.Reference5Ideal.main_arg7) (ix4 q h d e)
    = m ((c.tc : Thread Cert.Kernel5Ideal.nD Cert.Kernel5Ideal.τ).loc Cert.Kernel5Ideal.main_arg7) (ix4 q h d e)
  n : ∀ q h e, m' ((c.tc : Thread Cert.Reference5Ideal.nD Cert.Reference5Ideal.τ).loc Cert.Reference5Ideal.main_arg8) (ix3 q h e)
    = m ((c.tc : Thread Cert.Kernel5Ideal.nD Cert.Kernel5Ideal.τ).loc Cert.Kernel5Ideal.main_arg8) (ix3 q h e)
  o : ∀ r d, m' ((c.tc : Thread Cert.Reference5Ideal.nD Cert.Reference5Ideal.τ).loc Cert.Reference5Ideal.main_arg3) (ix2 r d)
    = m ((c.tc : Thread Cert.Kernel5Ideal.nD Cert.Kernel5Ideal.τ).loc Cert.Kernel5Ideal.main_arg3) (ix2 r d)
  w : ∀ h d, m' ((c.tc : Thread Cert.Reference5Ideal.nD Cert.Reference5Ideal.τ).loc Cert.Reference5Ideal.main_arg6) (ix2 h d)
    = m ((c.tc : Thread Cert.Kernel5Ideal.nD Cert.Kernel5Ideal.τ).loc Cert.Kernel5Ideal.main_arg6) (ix2 h d)

/-- A sequence is one of a grid point's sixteen. -/
theorem exists_seq (q : Fin 128) : ∃ (t : Fin Cert.Kernel5Ideal.cfg0.N) (s : Fin 16), q = seq t s :=
  ⟨⟨q.val / 16, lt_of_lt_of_eq (by omega) Cert.Kernel5Ideal.Gen.N_0.symm⟩, ⟨q.val % 16, by omega⟩, Fin.ext (by
    show q.val = 16 * (q.val / 16) + q.val % 16
    omega)⟩

variable {m m' c} (S : Same m m' c)
include S

theorem same_C : (termC m' c : Vec Ideal ⟨4, ![128, 4, 128, 128]⟩ .f32)
    = (Cert.Kernel5Ideal.Gen.dats m 0 c).arrAt 11 Cert.Kernel5Ideal.cfg0.N := by
  funext i
  obtain ⟨q, h, d, e, rfl⟩ : ∃ (q : Fin 128) (h : Fin 4) (d e : Fin 128), i = ix4 q h d e :=
    ⟨i 0, i 1, i 2, i 3, by funext a; match a with | 0 => rfl | 1 => rfl | 2 => rfl | 3 => rfl⟩
  obtain ⟨t, s, rfl⟩ := exists_seq q
  refine (Ref.out_C m' c _ h d e).trans (Eq.trans ?_ (resC m c t s h d e).symm)
  rw [S.four, S.top, S.C]

theorem same_n : (termN m' c : Vec Ideal ⟨4, ![128, 4, 1, 128]⟩ .f32)
    = (Cert.Kernel5Ideal.Gen.dats m 0 c).arrAt 12 Cert.Kernel5Ideal.cfg0.N := by
  funext i
  obtain ⟨q, h, z, e, rfl⟩ : ∃ (q : Fin 128) (h : Fin 4) (z : Fin 1) (e : Fin 128), i = ix4 q h z e :=
    ⟨i 0, i 1, i 2, i 3, by funext a; match a with | 0 => rfl | 1 => rfl | 2 => rfl | 3 => rfl⟩
  obtain rfl : z = 0 := Subsingleton.elim _ _
  obtain ⟨t, s, rfl⟩ := exists_seq q
  refine (Ref.out_n m' c _ h 0 e).trans (Eq.trans ?_ (resN m c t s h e).symm)
  rw [S.four, S.top, S.n]

theorem same_m : (termM m' c : Vec Ideal ⟨4, ![128, 4, 1, 128]⟩ .f32)
    = (Cert.Kernel5Ideal.Gen.dats m 0 c).arrAt 13 Cert.Kernel5Ideal.cfg0.N := by
  funext i
  obtain ⟨q, h, z, e, rfl⟩ : ∃ (q : Fin 128) (h : Fin 4) (z : Fin 1) (e : Fin 128), i = ix4 q h z e :=
    ⟨i 0, i 1, i 2, i 3, by funext a; match a with | 0 => rfl | 1 => rfl | 2 => rfl | 3 => rfl⟩
  obtain rfl : z = 0 := Subsingleton.elim _ _
  obtain ⟨t, s, rfl⟩ := exists_seq q
  refine (Ref.out_m m' c _ h 0 e).trans (Eq.trans ?_ (resM m c t s h e).symm)
  rw [S.four, S.top]

theorem same_o : (termO m' c : Vec Ideal ⟨2, ![512, 512]⟩ .f32)
    = kept ((Cert.Kernel5Ideal.Gen.dats m 0 c).arrAt 10 Cert.Kernel5Ideal.cfg0.N) := by
  funext i
  obtain ⟨q, u, h, d, rfl⟩ : ∃ (q : Fin 128) (u h : Fin 4) (d : Fin 128),
      i = ix2 ⟨4 * q.val + u.val, by omega⟩ ⟨128 * h.val + d.val, by omega⟩ := by
    have h0 : (i 0).val < 512 := (i 0).isLt
    have h1 : (i 1).val < 512 := (i 1).isLt
    refine ⟨⟨(i 0).val / 4, by omega⟩, ⟨(i 0).val % 4, by omega⟩, ⟨(i 1).val / 128, by omega⟩, ⟨(i 1).val % 128, by omega⟩, ?_⟩
    funext a
    apply Fin.ext
    match a with
    | 0 => show (i 0).val = 4 * ((i 0).val / 4) + (i 0).val % 4; omega
    | 1 => show (i 1).val = 128 * ((i 1).val / 128) + (i 1).val % 128; omega
  obtain ⟨t, s, rfl⟩ := exists_seq q
  refine (Ref.out_o m' c _ h u d).trans (Eq.trans ?_ ((kept_apply _ (seq t s) u _).trans (resO m c t s u h d)).symm)
  have eC : (fun d e => (m' ((c.tc : Thread Cert.Reference5Ideal.nD Cert.Reference5Ideal.τ).loc Cert.Reference5Ideal.main_arg7)
      (ix4 (seq t s) h d e) : EReal)) = fun d e => m ((c.tc : Thread Cert.Kernel5Ideal.nD Cert.Kernel5Ideal.τ).loc
      Cert.Kernel5Ideal.main_arg7) (ix4 (seq t s) h d e) := by
    funext d e; exact S.C _ h d e
  have en : (fun e => (m' ((c.tc : Thread Cert.Reference5Ideal.nD Cert.Reference5Ideal.τ).loc Cert.Reference5Ideal.main_arg8)
      (ix3 (seq t s) h e) : EReal)) = fun e => m ((c.tc : Thread Cert.Kernel5Ideal.nD Cert.Kernel5Ideal.τ).loc
      Cert.Kernel5Ideal.main_arg8) (ix3 (seq t s) h e) := by
    funext e; exact S.n _ h e
  rw [S.four, S.top, S.qr, S.o, S.w]
  exact congrArg₂ (fun C n => Cert.Mlstm.norm ((fourK m c (seq t s) h).out (qKq m c (seq t s) h) (mKq m c (seq t s) h) C n u) d
    * m ((c.tc : Thread Cert.Kernel5Ideal.nD Cert.Kernel5Ideal.τ).loc Cert.Kernel5Ideal.main_arg6) (ix2 h d)
    * Ideal.logistic (m ((c.tc : Thread Cert.Kernel5Ideal.nD Cert.Kernel5Ideal.τ).loc Cert.Kernel5Ideal.main_arg3)
      (ix2 ⟨8 * (seq t s).val + u.val, by omega⟩ ⟨128 * h.val + d.val, by omega⟩))) eC en

end Cert.Rows
-- ==== Proof.lean ====
/-
  The claim, of five calls of the layer: the kernel and the reference both run from any memory and leave their arguments as
  they were, and over the extended reals the kernel's results are the reference's, entry by entry. The second call's are, of
  an input and gates' columns that are numbers; of the third call the first result is; of the fourth, the two windows that
  the lines after it make of its second and third results; of the fifth, the three arrays of states.
-/
module

public import proofs.«01_k».proof.Proof.Gen.KernelIdeal.Value
public import proofs.«01_k».proof.Proof.Mlstm.Both
public import proofs.«01_k».proof.Proof.Proj.Both
public import proofs.«01_k».proof.Proof.Mid.PFrame
public import proofs.«01_k».proof.Proof.Mid.Both
public import proofs.«01_k».proof.Proof.Sample.Both
public import proofs.«01_k».proof.Proof.Rows.Both
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite_gates
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

open Idealize.ShloMosaic Idealize.SL.Sem Cert.Kernel

/-- The reference runs to its end and leaves its arguments as they were. -/
theorem reference_frame : quiescent_ReferenceIdeal (hReferenceIdeal := Cert.ReferenceIdeal.Gen.facts) := fun m ρ _ =>
  (θ_run _ _ _).mono (fun r h => ⟨fun c => (h c).2.2.2.2, Idealize.ShloMosaic.sem_eq_zero_of_no_sems (by decide) r.2⟩)
    (Cert.ReferenceIdeal.Value.run m ρ)

/-- Over the extended reals the kernel and the reference end with the same results. -/
theorem same_results : algebraic_KernelIdeal_ReferenceIdeal (hKernelIdeal := Cert.KernelIdeal.Gen.facts)
    (hReferenceIdeal := Cert.ReferenceIdeal.Gen.facts) := by
  intro m g m' g' _ ha
  have S : ∀ c, Cert.Mlstm.Same m m' c := fun c =>
    ⟨funext₂ fun r d => congrFun (ha c).1 (ix2 r d), funext₂ fun r d => congrFun (ha c).2.1 (ix2 r d),
      funext₂ fun r d => congrFun (ha c).2.2.1 (ix2 r d), funext₂ fun r d => congrFun (ha c).2.2.2.1 (ix2 r d),
      funext₂ fun r d => congrFun (ha c).2.2.2.2.1 (ix2 r d), funext fun d => congrFun (ha c).2.2.2.2.2.1 (ix2 0 d),
      funext₂ fun h d => congrFun (ha c).2.2.2.2.2.2 (ix3 0 h d)⟩
  refine ⟨fun c => Cert.KernelIdeal.Value.G10 m c, fun c => Cert.KernelIdeal.Value.G11 m c,
    fun c => Cert.KernelIdeal.Value.G12 m c, fun c => Cert.KernelIdeal.Value.G13 m c,
    Cert.KernelIdeal.Value.run m g, ?_⟩
  refine (θ_run _ _ _).mono (fun _ h c => ?_) (Cert.ReferenceIdeal.Value.run m' g')
  obtain ⟨h0, h1, h2, h3, hr⟩ := h c
  exact ⟨h0.trans (Cert.Mlstm.same_out (S c)), h1.trans (Cert.Mlstm.same_C (S c)), h2.trans (Cert.Mlstm.same_n (S c)),
    h3.trans (Cert.Mlstm.same_m (S c)), hr⟩

/-- The second reference runs to its end and leaves its arguments as they were. -/
theorem reference2_frame : quiescent_Reference2Ideal (hReference2Ideal := Cert.Reference2Ideal.Gen.facts) := fun m ρ _ =>
  (θ_run _ _ _).mono (fun r h => ⟨fun c => (h c).2.2.2.2.2.2.2.2, Idealize.ShloMosaic.sem_eq_zero_of_no_sems (by decide) r.2⟩)
    (Cert.Reference2Ideal.Value.run m ρ)

/-- Over the extended reals the second kernel and reference end with the same results. -/
theorem same_results2 : algebraic_Kernel2Ideal_Reference2Ideal_pre_finite_gates
    (hKernel2Ideal := Cert.Kernel2Ideal.Gen.facts) (hReference2Ideal := Cert.Reference2Ideal.Gen.facts)
    (hPre_finite_gates := Cert.Pre_finite_gates.Gen.facts) := by
  intro m g m' g' hp ha
  refine ⟨_, _, _, _, _, _, _, _, Cert.Kernel2Ideal.Value.run_blocks m g, ?_⟩
  refine (θ_run _ _ _).mono (fun _ h c => ?_) (Cert.Reference2Ideal.Value.run m' g')
  obtain ⟨h0, h1, h2, h3, h4, h5, h6, h7, hr⟩ := h c
  obtain ⟨e0, e1⟩ := ha c
  rw [e0, e1] at h0 h1 h2 h3 h4 h5 h6 h7
  exact ⟨h0.trans (Cert.Proj.same3 m c), h1.trans (Cert.Proj.same4 m c), h2.trans (Cert.Proj.same5 m c),
    h3.trans (Cert.Proj.same6 m c), h4.trans (Cert.Proj.same7 m c), h5.trans (Cert.Proj.same8 m c),
    h6.trans (Cert.Proj.same9 m c), h7.trans (Cert.Proj.same10 m c (hp c)), hr⟩

/-- The third reference runs to its end and leaves its arguments as they were. -/
theorem reference3_frame : quiescent_Reference3Ideal (hReference3Ideal := Cert.Reference3Ideal.Gen.facts) := fun m ρ _ =>
  (θ_run _ _ _).mono (fun r h => ⟨fun c => (h c).2, Idealize.ShloMosaic.sem_eq_zero_of_no_sems (by decide) r.2⟩)
    (Cert.Reference3Ideal.Value.run m ρ)

/-- Over the extended reals the third kernel's first result is the reference's. -/
theorem same_results3 : algebraic_Kernel3Ideal_Reference3Ideal (hKernel3Ideal := Cert.Kernel3Ideal.Gen.facts)
    (hReference3Ideal := Cert.Reference3Ideal.Gen.facts) := by
  intro m g m' g' _ ha
  refine ⟨_, (θ_run _ _ _).mono (fun _ h => h.1) (Cert.Kernel3Ideal.Mid.run_result m g), ?_⟩
  refine (θ_run _ _ _).mono (fun _ h c => ?_) (Cert.Reference3Ideal.Value.run m' g')
  obtain ⟨h0, hr⟩ := h c
  obtain ⟨e0, e1, e2, e3, e4, e5, -⟩ := ha c
  refine ⟨(h0.trans (Cert.Mid.Ref.res_eq m' c)).trans ?_, hr⟩
  rw [e0, e1, e2, e3, e4, e5]
  exact Cert.Mid.same_hid m c

/-- The fourth reference runs to its end and leaves its arguments as they were. -/
theorem reference4_frame : quiescent_Reference4Ideal (hReference4Ideal := Cert.Reference4Ideal.Gen.facts) := fun m ρ _ =>
  (θ_run _ _ _).mono (fun r h => ⟨fun c => (h c).2.2.2.2.2.2.2, Idealize.ShloMosaic.sem_eq_zero_of_no_sems (by decide) r.2⟩)
    (Cert.Reference4Ideal.Value.run m ρ)

/-- Over the extended reals the fourth kernel and reference end with the same windows and arrays. -/
theorem same_results4 : algebraic_Kernel4Ideal_Reference4Ideal (hKernel4Ideal := Cert.Kernel4Ideal.Gen.facts)
    (hReference4Ideal := Cert.Reference4Ideal.Gen.facts) := by
  intro m g m' g' _ ha
  refine ⟨_, _, _, _, _, _, _, Cert.Sample.run_windows m g, ?_⟩
  refine (θ_run _ _ _).mono (fun _ h c => ?_) (Cert.Reference4Ideal.Value.run m' g')
  obtain ⟨h0, h1, h2, h3, h4, h5, h6, hr⟩ := h c
  obtain ⟨e0, e1, e2, e3⟩ := ha c
  rw [e0, e1, e3] at h0
  rw [e0, e2, e3] at h1
  rw [e0, e3] at h2
  rw [e0, e3] at h3
  rw [e0, e3] at h4
  rw [e0, e3] at h5
  rw [e0, e3] at h6
  exact ⟨h0.trans (congrArg (Cert.Sample.window _) (Cert.Sample.same_k m c)),
    h1.trans (congrArg (Cert.Sample.window _) (Cert.Sample.same_v m c)), h2.trans (Cert.Sample.same_3 m c),
    h3.trans (Cert.Sample.same_6 m c), h4.trans (Cert.Sample.same_7 m c), h5.trans (Cert.Sample.same_8 m c),
    h6.trans (Cert.Sample.same_9 m c), hr⟩

/-- The fifth reference runs to its end and leaves its arguments as they were. -/
theorem reference5_frame : quiescent_Reference5Ideal (hReference5Ideal := Cert.Reference5Ideal.Gen.facts) := fun m ρ _ =>
  (θ_run _ _ _).mono (fun r h => ⟨fun c => (h c).2.2.2.2, Idealize.ShloMosaic.sem_eq_zero_of_no_sems (by decide) r.2⟩)
    (Cert.Reference5Ideal.Value.run m ρ)

/-- Over the extended reals the fifth kernel and reference end with the same outputs and states. -/
theorem same_results5 : algebraic_Kernel5Ideal_Reference5Ideal (hKernel5Ideal := Cert.Kernel5Ideal.Gen.facts)
    (hReference5Ideal := Cert.Reference5Ideal.Gen.facts) := by
  intro m g m' g' _ ha
  have S : ∀ c, Cert.Rows.Same m m' c := fun c => by
    obtain ⟨e0, e1, e2, e3, e4, e5, e6, e7, e8, e9⟩ := ha c
    refine ⟨fun q h => ?_, fun q h => congrFun e9 (ix2 q h), fun q h => ?_,
      fun q h d e => congrFun e7 (ix4 q h d e), fun q h e => congrFun e8 (ix3 q h e), fun r d => congrFun e3 (ix2 r d),
      fun h d => congrFun e6 (ix2 h d)⟩
    · unfold Cert.Rows.Ref.fourR
      rw [e1, e2, e4, e5]
    · unfold Cert.Rows.Ref.qR
      rw [e0]
  refine ⟨_, _, _, _, Cert.Rows.run_rows m g, ?_⟩
  refine (θ_run _ _ _).mono (fun _ h c => ?_) (Cert.Reference5Ideal.Value.run m' g')
  obtain ⟨h0, h1, h2, h3, hr⟩ := h c
  exact ⟨h0.trans (Cert.Rows.same_o (S c)), h1.trans (Cert.Rows.same_C (S c)), h2.trans (Cert.Rows.same_n (S c)),
    h3.trans (Cert.Rows.same_m (S c)), hr⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_gates.Gen.facts,
    fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ,
    fun m ρ _ => Cert.Kernel2Ideal.Gen.frame m ρ, reference2_frame, fun m ρ _ => reference2_frame m ρ trivial,
    fun m ρ _ => (θ_run _ _ _).mono (fun _ h => ⟨fun c => (h.1 c).2, h.2⟩) (Cert.Kernel3.Mid.run_result m ρ),
    fun m ρ _ => (θ_run _ _ _).mono (fun _ h => ⟨fun c => (h.1 c).2, h.2⟩) (Cert.Kernel3Ideal.Mid.run_result m ρ),
    reference3_frame, fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    trivial, same_results, trivial, same_results2, trivial, same_results3, trivial, same_results4,
    IdealRules.named_const.statement Cert.Kernel5Ideal.κ "mask" .f32 0xF149F2CA#32 ⊥ rfl, same_results5⟩

end Cert.Proof

end
